-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_keys_finite [hPre_queries_keys_finite : Cert.Pre_queries_keys_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_queries_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_keys_finite [hPre_queries_keys_finite : Cert.Pre_queries_keys_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_queries_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_queries_keys_finite [hKernelIdeal : Cert.KernelIdeal.Facts] [hPre_queries_keys_finite : Cert.Pre_queries_keys_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_keys_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_queries_keys_finite [hReferenceIdeal : Cert.ReferenceIdeal.Facts] [hPre_queries_keys_finite : Cert.Pre_queries_keys_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_keys_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def preserves_Kernel_KernelIdeal : Prop :=
  True

def algebraic_KernelIdeal_ReferenceIdeal_pre_queries_keys_finite [hKernelIdeal : Cert.KernelIdeal.Facts] [hReferenceIdeal : Cert.ReferenceIdeal.Facts] [hPre_queries_keys_finite : Cert.Pre_queries_keys_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_keys_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v5) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v10_0)) (v1 : (c : Dev Cert.Kernel7Ideal.nD) → Buf (Elt Ideal) ((c.tc : Thread Cert.Kernel7Ideal.nD Cert.Kernel7Ideal.τ).loc Cert.Kernel7Ideal.main_v11)) (v2 : (c : Dev Cert.Kernel7Ideal.nD) → Buf (Elt Ideal) ((c.tc : Thread Cert.Kernel7Ideal.nD Cert.Kernel7Ideal.τ).loc Cert.Kernel7Ideal.main_v10_2)) (v3 : (c : Dev Cert.Kernel7Ideal.nD) → Buf (Elt Ideal) ((c.tc : Thread Cert.Kernel7Ideal.nD Cert.Kernel7Ideal.τ).loc Cert.Kernel7Ideal.main_v10_3)) (v4 : (c : Dev Cert.Kernel7Ideal.nD) → Buf (Elt Ideal) ((c.tc : Thread Cert.Kernel7Ideal.nD Cert.Kernel7Ideal.τ).loc Cert.Kernel7Ideal.main_v10_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10_0) = v0 c
          ∧ r.2.mem ((c.tc : Thread Cert.Kernel7Ideal.nD Cert.Kernel7Ideal.τ).loc Cert.Kernel7Ideal.main_v11) = v1 c
          ∧ r.2.mem ((c.tc : Thread Cert.Kernel7Ideal.nD Cert.Kernel7Ideal.τ).loc Cert.Kernel7Ideal.main_v10_2) = v2 c
          ∧ r.2.mem ((c.tc : Thread Cert.Kernel7Ideal.nD Cert.Kernel7Ideal.τ).loc Cert.Kernel7Ideal.main_v10_3) = v3 c
          ∧ r.2.mem ((c.tc : Thread Cert.Kernel7Ideal.nD Cert.Kernel7Ideal.τ).loc Cert.Kernel7Ideal.main_v10_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_v50) = v1 c
          ∧ r.2.mem ((c.tc : Thread Cert.Reference7Ideal.nD Cert.Reference7Ideal.τ).loc Cert.Reference7Ideal.main_v52) = v2 c
          ∧ r.2.mem ((c.tc : Thread Cert.Reference7Ideal.nD Cert.Reference7Ideal.τ).loc Cert.Reference7Ideal.main_v53) = v3 c
          ∧ r.2.mem ((c.tc : Thread Cert.Reference7Ideal.nD Cert.Reference7Ideal.τ).loc Cert.Reference7Ideal.main_v54) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v1)) (v1 : (c : Dev Cert.Kernel8Ideal.nD) → Buf (Elt Ideal) ((c.tc : Thread Cert.Kernel8Ideal.nD Cert.Kernel8Ideal.τ).loc Cert.Kernel8Ideal.main_v2)) (v2 : (c : Dev Cert.Kernel8Ideal.nD) → Buf (Elt Ideal) ((c.tc : Thread Cert.Kernel8Ideal.nD Cert.Kernel8Ideal.τ).loc Cert.Kernel8Ideal.main_v4)) (v3 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_v2) = v1 c
          ∧ r.2.mem ((c.tc : Thread Cert.Kernel8Ideal.nD Cert.Kernel8Ideal.τ).loc Cert.Kernel8Ideal.main_v4) = v2 c
          ∧ r.2.mem ((c.tc : Thread Cert.Kernel8Ideal.nD Cert.Kernel8Ideal.τ).loc Cert.Kernel8Ideal.main_v6) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_v27) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_v15) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)) →
    ∃ (v0 : (c : Dev Cert.Kernel12Ideal.nD) → Buf (Elt Ideal) ((c.tc : Thread Cert.Kernel12Ideal.nD Cert.Kernel12Ideal.τ).loc Cert.Kernel12Ideal.main_v10_0)) (v1 : (c : Dev Cert.Kernel12Ideal.nD) → Buf (Elt Ideal) ((c.tc : Thread Cert.Kernel12Ideal.nD Cert.Kernel12Ideal.τ).loc Cert.Kernel12Ideal.main_v10_1)) (v2 : (c : Dev Cert.Kernel12Ideal.nD) → Buf (Elt Ideal) ((c.tc : Thread Cert.Kernel12Ideal.nD Cert.Kernel12Ideal.τ).loc Cert.Kernel12Ideal.main_v10_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v10_0) = v0 c
          ∧ r.2.mem ((c.tc : Thread Cert.Kernel12Ideal.nD Cert.Kernel12Ideal.τ).loc Cert.Kernel12Ideal.main_v10_1) = v1 c
          ∧ r.2.mem ((c.tc : Thread Cert.Kernel12Ideal.nD Cert.Kernel12Ideal.τ).loc Cert.Kernel12Ideal.main_v10_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v26) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v5)) (v1 : (c : Dev Cert.Kernel14Ideal.nD) → Buf (Elt Ideal) ((c.tc : Thread Cert.Kernel14Ideal.nD Cert.Kernel14Ideal.τ).loc Cert.Kernel14Ideal.main_v6)) (v2 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_v6) = v1 c
          ∧ r.2.mem ((c.tc : Thread Cert.Kernel14Ideal.nD Cert.Kernel14Ideal.τ).loc Cert.Kernel14Ideal.main_v7) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v5)) (v1 : (c : Dev Cert.Kernel15Ideal.nD) → Buf (Elt Ideal) ((c.tc : Thread Cert.Kernel15Ideal.nD Cert.Kernel15Ideal.τ).loc Cert.Kernel15Ideal.main_v6)) (v2 : (c : Dev Cert.Kernel15Ideal.nD) → Buf (Elt Ideal) ((c.tc : Thread Cert.Kernel15Ideal.nD Cert.Kernel15Ideal.τ).loc Cert.Kernel15Ideal.main_v7)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_v6) = v1 c
          ∧ r.2.mem ((c.tc : Thread Cert.Kernel15Ideal.nD Cert.Kernel15Ideal.τ).loc Cert.Kernel15Ideal.main_v7) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v5)) (v1 : (c : Dev Cert.Kernel16Ideal.nD) → Buf (Elt Ideal) ((c.tc : Thread Cert.Kernel16Ideal.nD Cert.Kernel16Ideal.τ).loc Cert.Kernel16Ideal.main_v6)) (v2 : (c : Dev Cert.Kernel16Ideal.nD) → Buf (Elt Ideal) ((c.tc : Thread Cert.Kernel16Ideal.nD Cert.Kernel16Ideal.τ).loc Cert.Kernel16Ideal.main_v7)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5) = v0 c
          ∧ r.2.mem ((c.tc : Thread Cert.Kernel16Ideal.nD Cert.Kernel16Ideal.τ).loc Cert.Kernel16Ideal.main_v6) = v1 c
          ∧ r.2.mem ((c.tc : Thread Cert.Kernel16Ideal.nD Cert.Kernel16Ideal.τ).loc Cert.Kernel16Ideal.main_v7) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v5)) (v1 : (c : Dev Cert.Kernel17Ideal.nD) → Buf (Elt Ideal) ((c.tc : Thread Cert.Kernel17Ideal.nD Cert.Kernel17Ideal.τ).loc Cert.Kernel17Ideal.main_v6)) (v2 : (c : Dev Cert.Kernel17Ideal.nD) → Buf (Elt Ideal) ((c.tc : Thread Cert.Kernel17Ideal.nD Cert.Kernel17Ideal.τ).loc Cert.Kernel17Ideal.main_v7)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5) = v0 c
          ∧ r.2.mem ((c.tc : Thread Cert.Kernel17Ideal.nD Cert.Kernel17Ideal.τ).loc Cert.Kernel17Ideal.main_v6) = v1 c
          ∧ r.2.mem ((c.tc : Thread Cert.Kernel17Ideal.nD Cert.Kernel17Ideal.τ).loc Cert.Kernel17Ideal.main_v7) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v4)) (v1 : (c : Dev Cert.Kernel18Ideal.nD) → Buf (Elt Ideal) ((c.tc : Thread Cert.Kernel18Ideal.nD Cert.Kernel18Ideal.τ).loc Cert.Kernel18Ideal.main_v1_0)) (v2 : (c : Dev Cert.Kernel18Ideal.nD) → Buf (Elt Ideal) ((c.tc : Thread Cert.Kernel18Ideal.nD Cert.Kernel18Ideal.τ).loc Cert.Kernel18Ideal.main_v5)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_v1_0) = v1 c
          ∧ r.2.mem ((c.tc : Thread Cert.Kernel18Ideal.nD Cert.Kernel18Ideal.τ).loc Cert.Kernel18Ideal.main_v5) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v26) = v0 c
          ∧ r.2.mem ((c.tc : Thread Cert.Reference18Ideal.nD Cert.Reference18Ideal.τ).loc Cert.Reference18Ideal.main_v50) = v1 c
          ∧ r.2.mem ((c.tc : Thread Cert.Reference18Ideal.nD Cert.Reference18Ideal.τ).loc Cert.Reference18Ideal.main_v38) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v13) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v17) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_queries_keys_finite : Cert.Pre_queries_keys_finite.Facts),
    quiescent_Kernel (hKernel := hKernel)
    ∧ quiescent_KernelIdeal (hKernelIdeal := hKernelIdeal)
    ∧ quiescent_KernelIdeal_pre_queries_keys_finite (hKernelIdeal := hKernelIdeal) (hPre_queries_keys_finite := hPre_queries_keys_finite)
    ∧ quiescent_ReferenceIdeal (hReferenceIdeal := hReferenceIdeal)
    ∧ quiescent_ReferenceIdeal_pre_queries_keys_finite (hReferenceIdeal := hReferenceIdeal) (hPre_queries_keys_finite := hPre_queries_keys_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_queries_keys_finite (hKernelIdeal := hKernelIdeal) (hReferenceIdeal := hReferenceIdeal) (hPre_queries_keys_finite := hPre_queries_keys_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_queries_keys_finite.lean ====
abbrev S8192x7168 : Shape := ⟨2, ![8192, 7168]⟩
abbrev S1024x1024 : Shape := ⟨2, ![1024, 1024]⟩
abbrev S8192x512 : Shape := ⟨2, ![8192, 512]⟩
abbrev S1024x512 : Shape := ⟨2, ![1024, 512]⟩
abbrev S_ : Shape := ⟨0, ![]⟩

class Facts : Prop where
  slices_S8192x7168_S8192x512_0_3584 : S8192x7168.Slices ![0, 3584] S8192x512
  bitsLt_bf16_f32 : FTy.bits .bf16 < FTy.bits .f32
  slices_S1024x1024_S1024x512_0_0 : S1024x1024.Slices ![0, 0] S1024x512
  bcast_S_S8192x512 : S_.BroadcastsInDim S8192x512 (![] : Fin 0 → Fin S8192x512.rank)
  bcast_S_S1024x512 : S_.BroadcastsInDim S1024x512 (![] : Fin 0 → Fin S1024x512.rank)

variable [Facts]

def fn {F : FTy → Type} [FloatOps F] (main_arg0 : FVec F S8192x7168 .bf16) (main_arg1 : FVec F S1024x1024 .bf16) (main_arg2 : FVec F S8192x512 .bf16) (main_arg3 : FVec F S8192x7168 .bf16) : IVec S8192x512 1 × IVec S1024x512 1 :=
  let main_v0 : FVec F S8192x512 .bf16 := (extractStridedSlice S8192x512 ![0, 3584] · slices_S8192x7168_S8192x512_0_3584) main_arg0
  let main_v1 : FVec F S8192x512 .f32 := (extf .f32 · bitsLt_bf16_f32) main_v0
  let main_v2 : FVec F S1024x512 .bf16 := (extractStridedSlice S1024x512 ![0, 0] · slices_S1024x1024_S1024x512_0_0) main_arg1
  let main_v3 : FVec F S1024x512 .f32 := (extf .f32 · bitsLt_bf16_f32) main_v2
  let main_v4 : FVec F S8192x512 .f32 := Host.absf main_v1
  let main_cst : FVec F S_ .f32 := constant S_ .f32 0x7F800000#32
  let main_v5 : FVec F S8192x512 .f32 := broadcastInDim S8192x512 ![] bcast_S_S8192x512 main_cst
  let main_v6 : IVec S8192x512 1 := cmpf .olt main_v4 main_v5
  let main_v7 : FVec F S1024x512 .f32 := Host.absf main_v3
  let main_cst_0 : FVec F S_ .f32 := constant S_ .f32 0x7F800000#32
  let main_v8 : FVec F S1024x512 .f32 := broadcastInDim S1024x512 ![] bcast_S_S1024x512 main_cst_0
  let main_v9 : IVec S1024x512 1 := cmpf .olt main_v7 main_v8
  (main_v6, main_v9)
-- ==== Kernel.lean ====
abbrev S8192x7168 : Shape := ⟨2, ![8192, 7168]⟩
abbrev S1024x1024 : Shape := ⟨2, ![1024, 1024]⟩
abbrev S8192x512 : Shape := ⟨2, ![8192, 512]⟩
abbrev S512x512 : Shape := ⟨2, ![512, 512]⟩
abbrev S256x1024 : Shape := ⟨2, ![256, 1024]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x7168, .bf16⟩
  | .hbm, ⟨1, _⟩ => ⟨S1024x1024, .bf16⟩
  | .hbm, ⟨2, _⟩ => ⟨S8192x512, .bf16⟩
  | .hbm, ⟨3, _⟩ => ⟨S8192x7168, .bf16⟩
  | .hbm, ⟨4, _⟩ => ⟨S8192x7168, .bf16⟩
  | .hbm, ⟨5, _⟩ => ⟨S1024x1024, .f32⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S256x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S256x1024, .f32⟩
  | .local _ .vmem, ⟨9, _⟩ => ⟨S256x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v34 : BitVec 1 := Scalar.cmpi .eq arg1 c0_i32
  let v35 : BitVec 32 := Scalar.extui v34
  let c0_i32_19 : BitVec 32 := 0#32
  let v36 : BitVec 1 := Scalar.cmpi .ne v35 c0_i32_19
  v36

def k0_cond2 (i : grid0.Coords) : BitVec 1 :=
  let arg1 : BitVec 32 := BitVec.ofNat 32 (i 1).val
  let c0_i32_20 : BitVec 32 := 0#32
  let v37 : BitVec 1 := Scalar.cmpi .sgt arg1 c0_i32_20
  let v38 : BitVec 32 := Scalar.extui v37
  let c0_i32_21 : BitVec 32 := 0#32
  let v39 : BitVec 1 := Scalar.cmpi .ne v38 c0_i32_21
  v39

def k0_cond3 (i : grid0.Coords) : BitVec 1 :=
  let arg1 : BitVec 32 := BitVec.ofNat 32 (i 1).val
  let c0_i32_42 : BitVec 32 := 0#32
  let v74 : BitVec 1 := Scalar.cmpi .eq arg1 c0_i32_42
  let v75 : BitVec 32 := Scalar.extui v74
  let c0_i32_43 : BitVec 32 := 0#32
  let v76 : BitVec 1 := Scalar.cmpi .ne v75 c0_i32_43
  v76

def k0_cond4 (i : grid0.Coords) : BitVec 1 :=
  let arg1 : BitVec 32 := BitVec.ofNat 32 (i 1).val
  let c0_i32_44 : BitVec 32 := 0#32
  let v77 : BitVec 1 := Scalar.cmpi .sgt arg1 c0_i32_44
  let v78 : BitVec 32 := Scalar.extui v77
  let c0_i32_45 : BitVec 32 := 0#32
  let v79 : BitVec 1 := Scalar.cmpi .ne v78 c0_i32_45
  v79

def k0_cond5 (i : grid0.Coords) : BitVec 1 :=
  let arg1 : BitVec 32 := BitVec.ofNat 32 (i 1).val
  let c0_i32_66 : BitVec 32 := 0#32
  let v114 : BitVec 1 := Scalar.cmpi .eq arg1 c0_i32_66
  let v115 : BitVec 32 := Scalar.extui v114
  let c0_i32_67 : BitVec 32 := 0#32
  let v116 : BitVec 1 := Scalar.cmpi .ne v115 c0_i32_67
  v116

def k0_cond6 (i : grid0.Coords) : BitVec 1 :=
  let arg1 : BitVec 32 := BitVec.ofNat 32 (i 1).val
  let c0_i32_68 : BitVec 32 := 0#32
  let v117 : BitVec 1 := Scalar.cmpi .sgt arg1 c0_i32_68
  let v118 : BitVec 32 := Scalar.extui v117
  let c0_i32_69 : BitVec 32 := 0#32
  let v119 : BitVec 1 := Scalar.cmpi .ne v118 c0_i32_69
  v119

def k0_cond7 (i : grid0.Coords) : BitVec 1 :=
  let arg1 : BitVec 32 := BitVec.ofNat 32 (i 1).val
  let c0_i32_90 : BitVec 32 := 0#32
  let v154 : BitVec 1 := Scalar.cmpi .eq arg1 c0_i32_90
  let v155 : BitVec 32 := Scalar.extui v154
  let c0_i32_91 : BitVec 32 := 0#32
  let v156 : BitVec 1 := Scalar.cmpi .ne v155 c0_i32_91
  v156

def k0_cond8 (i : grid0.Coords) : BitVec 1 :=
  let arg1 : BitVec 32 := BitVec.ofNat 32 (i 1).val
  let c0_i32_92 : BitVec 32 := 0#32
  let v157 : BitVec 1 := Scalar.cmpi .sgt arg1 c0_i32_92
  let v158 : BitVec 32 := Scalar.extui v157
  let c0_i32_93 : BitVec 32 := 0#32
  let v159 : BitVec 1 := Scalar.cmpi .ne v158 c0_i32_93
  v159

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let c0_i32 : BitVec 32 := 0#32
  ![v1.toNat, c7_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let c0_i32 : BitVec 32 := 0#32
  ![v1.toNat, c7_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S8192x7168 : Shape := ⟨2, ![8192, 7168]⟩
abbrev S1024x1024 : Shape := ⟨2, ![1024, 1024]⟩
abbrev S8192x512 : Shape := ⟨2, ![8192, 512]⟩
abbrev S4x2048x512 : Shape := ⟨3, ![4, 2048, 512]⟩
abbrev S4x256x1024 : Shape := ⟨3, ![4, 256, 1024]⟩
abbrev S4x2048x4x128 : Shape := ⟨4, ![4, 2048, 4, 128]⟩
abbrev S4x256x512 : Shape := ⟨3, ![4, 256, 512]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x4x128x256 : Shape := ⟨4, ![4, 4, 128, 256]⟩
abbrev S4x4x256x128 : Shape := ⟨4, ![4, 4, 256, 128]⟩
abbrev S4x4x2048x128 : Shape := ⟨4, ![4, 4, 2048, 128]⟩
abbrev S8192x3584 : Shape := ⟨2, ![8192, 3584]⟩
abbrev S8192x3072 : Shape := ⟨2, ![8192, 3072]⟩

abbrev nBuf : Space → Nat
  | .hbm => 97
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S1024x1024, .bf16⟩
  | .hbm, ⟨2, _⟩ => ⟨S8192x512, .bf16⟩
  | .hbm, ⟨3, _⟩ => ⟨S8192x7168, .bf16⟩
  | .hbm, ⟨4, _⟩ => ⟨S8192x512, .bf16⟩
  | .hbm, ⟨5, _⟩ => ⟨S8192x512, .f32⟩
  | .hbm, ⟨6, _⟩ => ⟨S4x2048x512, .f32⟩
  | .hbm, ⟨7, _⟩ => ⟨S1024x1024, .f32⟩
  | .hbm, ⟨8, _⟩ => ⟨S4x256x1024, .f32⟩
  | .hbm, ⟨9, _⟩ => ⟨S4x2048x4x128, .f32⟩
  | .hbm, ⟨10, _⟩ => ⟨S4x256x512, .f32⟩
  | .hbm, ⟨11, _⟩ => ⟨S4x256x512, .f32⟩
  | .hbm, ⟨12, _⟩ => ⟨S4x256x4x128, .f32⟩
  | .hbm, ⟨13, _⟩ => ⟨S4x256x4x128, .f32⟩
  | .hbm, ⟨14, _⟩ => ⟨S4x4x2048x256, .f32⟩
  | .hbm, ⟨15, _⟩ => ⟨S_, .f32⟩
  | .hbm, ⟨16, _⟩ => ⟨S4x4x2048x256, .f32⟩
  | .hbm, ⟨17, _⟩ => ⟨S4x4x2048x256, .f32⟩
  | .hbm, ⟨18, _⟩ => ⟨S_, .f32⟩
  | .hbm, ⟨19, _⟩ => ⟨S4x4x2048, .f32⟩
  | .hbm, ⟨20, _⟩ => ⟨S4x4x2048x1, .f32⟩
  | .hbm, ⟨21, _⟩ => ⟨S4x4x2048x256, .f32⟩
  | .hbm, ⟨22, _⟩ => ⟨S4x4x2048x256, .i1⟩
  | .hbm, ⟨23, _⟩ => ⟨S4x4x2048x256, .f32⟩
  | .hbm, ⟨24, _⟩ => ⟨S_, .f32⟩
  | .hbm, ⟨25, _⟩ => ⟨S4x4x2048, .f32⟩
  | .hbm, ⟨26, _⟩ => ⟨S_, .f32⟩
  | .hbm, ⟨27, _⟩ => ⟨S4x4x2048, .f32⟩
  | .hbm, ⟨28, _⟩ => ⟨S4x4x2048, .f32⟩
  | .hbm, ⟨29, _⟩ => ⟨S_, .f32⟩
  | .hbm, ⟨30, _⟩ => ⟨S4x4x2048, .f32⟩
  | .hbm, ⟨31, _⟩ => ⟨S4x4x2048, .i1⟩
  | .hbm, ⟨32, _⟩ => ⟨S_, .f32⟩
  | .hbm, ⟨33, _⟩ => ⟨S4x4x2048, .f32⟩
  | .hbm, ⟨34, _⟩ => ⟨S4x4x2048, .i1⟩
  | .hbm, ⟨35, _⟩ => ⟨S_, .f32⟩
  | .hbm, ⟨36, _⟩ => ⟨S4x4x2048, .f32⟩
  | .hbm, ⟨37, _⟩ => ⟨S_, .f32⟩
  | .hbm, ⟨38, _⟩ => ⟨S4x4x2048, .f32⟩
  | .hbm, ⟨39, _⟩ => ⟨S_, .f32⟩
  | .hbm, ⟨40, _⟩ => ⟨S4x4x2048, .f32⟩
  | .hbm, ⟨41, _⟩ => ⟨S4x4x2048, .f32⟩
  | .hbm, ⟨42, _⟩ => ⟨S4x4x2048, .f32⟩
  | .hbm, ⟨43, _⟩ => ⟨S4x4x2048x1, .f32⟩
  | .hbm, ⟨44, _⟩ => ⟨S4x4x2048x256, .f32⟩
  | .hbm, ⟨45, _⟩ => ⟨S4x4x2048x256, .f32⟩
  | .hbm, ⟨46, _⟩ => ⟨S4x4x2048x256, .f32⟩
  | .hbm, ⟨47, _⟩ => ⟨S_, .f32⟩
  | .hbm, ⟨48, _⟩ => ⟨S4x4x2048, .f32⟩
  | .hbm, ⟨49, _⟩ => ⟨S4x4x2048x1, .f32⟩
  | .hbm, ⟨50, _⟩ => ⟨S4x4x2048x256, .f32⟩
  | .hbm, ⟨51, _⟩ => ⟨S4x4x2048x256, .f32⟩
  | .hbm, ⟨52, _⟩ => ⟨S4x4x2048x1, .f32⟩
  | .hbm, ⟨53, _⟩ => ⟨S_, .f32⟩
  | .hbm, ⟨54, _⟩ => ⟨S4x4x2048x1, .f32⟩
  | .hbm, ⟨55, _⟩ => ⟨S4x4x2048x1, .f32⟩
  | .hbm, ⟨56, _⟩ => ⟨S4x4x128x2048, .f32⟩
  | .hbm, ⟨57, _⟩ => ⟨S4x2048x4x128, .f32⟩
  | .hbm, ⟨58, _⟩ => ⟨S4x2048x512, .f32⟩
  | .hbm, ⟨59, _⟩ => ⟨S8192x512, .f32⟩
  | .hbm, ⟨60, _⟩ => ⟨S4x2048x512, .f32⟩
  | .hbm, ⟨61, _⟩ => ⟨S4x2048x4x128, .f32⟩
  | .hbm, ⟨62, _⟩ => ⟨S4x4x128x2048, .f32⟩
  | .hbm, ⟨63, _⟩ => ⟨S4x4x2048x256, .f32⟩
  | .hbm, ⟨64, _⟩ => ⟨S4x4x128x256, .f32⟩
  | .hbm, ⟨65, _⟩ => ⟨S4x256x4x128, .f32⟩
  | .hbm, ⟨66, _⟩ => ⟨S4x4x2048x256, .f32⟩
  | .hbm, ⟨67, _⟩ => ⟨S4x4x2048x256, .f32⟩
  | .hbm, ⟨68, _⟩ => ⟨S4x4x2048x256, .f32⟩
  | .hbm, ⟨69, _⟩ => ⟨S_, .f32⟩
  | .hbm, ⟨70, _⟩ => ⟨S4x4x2048, .f32⟩
  | .hbm, ⟨71, _⟩ => ⟨S4x4x2048x1, .f32⟩
  | .hbm, ⟨72, _⟩ => ⟨S4x4x2048x1, .f32⟩
  | .hbm, ⟨73, _⟩ => ⟨S4x4x2048x256, .f32⟩
  | .hbm, ⟨74, _⟩ => ⟨S4x4x2048x256, .f32⟩
  | .hbm, ⟨75, _⟩ => ⟨S_, .f32⟩
  | .hbm, ⟨76, _⟩ => ⟨S4x4x2048, .f32⟩
  | .hbm, ⟨77, _⟩ => ⟨S4x4x2048x256, .f32⟩
  | .hbm, ⟨78, _⟩ => ⟨S4x4x2048x256, .f32⟩
  | .hbm, ⟨79, _⟩ => ⟨S4x4x2048x256, .f32⟩
  | .hbm, ⟨80, _⟩ => ⟨S_, .f32⟩
  | .hbm, ⟨81, _⟩ => ⟨S4x4x2048x256, .f32⟩
  | .hbm, ⟨82, _⟩ => ⟨S4x4x2048x256, .f32⟩
  | .hbm, ⟨83, _⟩ => ⟨S4x4x256x128, .f32⟩
  | .hbm, ⟨84, _⟩ => ⟨S4x256x4x128, .f32⟩
  | .hbm, ⟨85, _⟩ => ⟨S4x4x2048x128, .f32⟩
  | .hbm, ⟨86, _⟩ => ⟨S4x2048x4x128, .f32⟩
  | .hbm, ⟨87, _⟩ => ⟨S4x256x512, .f32⟩
  | .hbm, ⟨88, _⟩ => ⟨S4x256x512, .f32⟩
  | .hbm, ⟨89, _⟩ => ⟨S4x256x1024, .f32⟩
  | .hbm, ⟨90, _⟩ => ⟨S4x2048x512, .f32⟩
  | .hbm, ⟨91, _⟩ => ⟨S8192x512, .f32⟩
  | .hbm, ⟨92, _⟩ => ⟨S8192x512, .bf16⟩
  | .hbm, ⟨93, _⟩ => ⟨S8192x3584, .bf16⟩
  | .hbm, ⟨94, _⟩ => ⟨S8192x3072, .bf16⟩
  | .hbm, ⟨95, _⟩ => ⟨S8192x7168, .bf16⟩
  | .hbm, ⟨96, _⟩ => ⟨S1024x1024, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩

abbrev nD : Nat := 1
abbrev τ : Topo := Topo.v7x

variable {F : FTy → Type} [FloatOps F]
-- ==== Kernel2.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S1024x4x1024 : Shape := ⟨3, ![1024, 4, 1024]⟩
abbrev S4x1024x1024 : Shape := ⟨3, ![4, 1024, 1024]⟩
abbrev S1x1024 : Shape := ⟨2, ![1, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S1x1024, .f32⟩
  | .hbm, ⟨9, _⟩ => ⟨S8192x1024, .f32⟩
  | .hbm, ⟨10, _⟩ => ⟨S1x1024, .f32⟩
  | .hbm, ⟨11, _⟩ => ⟨S1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_30 : BitVec 32 := 0#32
  let v52 : BitVec 1 := Scalar.cmpi .ne v51 c0_i32_30
  v52

def k0_cond2 (i : grid0.Coords) : BitVec 1 :=
  let arg0 : BitVec 32 := BitVec.ofNat 32 (i 0).val
  let c0_i32_31 : BitVec 32 := 0#32
  let v53 : BitVec 1 := Scalar.cmpi .sgt arg0 c0_i32_31
  let v54 : BitVec 32 := Scalar.extui v53
  let c0_i32_32 : BitVec 32 := 0#32
  let v55 : BitVec 1 := Scalar.cmpi .ne v54 c0_i32_32
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x4096, .f32⟩
  | .hbm, ⟨29, _⟩ => ⟨S8192x4096, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel3.lean ====
abbrev S8192x1024 : Shape := ⟨2, ![8192, 1024]⟩
abbrev S8192x4096 : Shape := ⟨2, ![8192, 4096]⟩
abbrev S4096x1024 : Shape := ⟨2, ![4096, 1024]⟩
abbrev S4x1024x1024 : Shape := ⟨3, ![4, 1024, 1024]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S4096x1024, .f32⟩
  | .hbm, ⟨3, _⟩ => ⟨S4096x1024, .bf16⟩
  | .hbm, ⟨4, _⟩ => ⟨S4x1024x1024, .bf16⟩
  | .hbm, ⟨5, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4x1024x1024, .bf16⟩
  | .local _ .vmem, ⟨5, _⟩ => ⟨S512x4096, .bf16⟩
  | .local _ .vmem, ⟨6, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S4096x1024, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel4.lean ====
abbrev S8192x1024 : Shape := ⟨2, ![8192, 1024]⟩
abbrev S8192x4096 : Shape := ⟨2, ![8192, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩
abbrev S4096x1024 : Shape := ⟨2, ![4096, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S4x1024x1024, .bf16⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference4Ideal.lean ====
abbrev S8192x1024 : Shape := ⟨2, ![8192, 1024]⟩
abbrev S8192x4096 : Shape := ⟨2, ![8192, 4096]⟩
abbrev S_ : Shape := ⟨0, ![]⟩
abbrev S4096x1024 : Shape := ⟨2, ![4096, 1024]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩
abbrev S1024x4x1024 : Shape := ⟨3, ![1024, 4, 1024]⟩
abbrev S1024x4096 : Shape := ⟨2, ![1024, 4096]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x1024x1024, .bf16⟩
  | .hbm, ⟨3, _⟩ => ⟨S1024x4x1024, .bf16⟩
  | .hbm, ⟨4, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference5Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S8192x7168 : Shape := ⟨2, ![8192, 7168]⟩
abbrev S4x1024x1792 : Shape := ⟨3, ![4, 1024, 1792]⟩
abbrev S2048x1024 : Shape := ⟨2, ![2048, 1024]⟩
abbrev S2048x1792 : Shape := ⟨2, ![2048, 1792]⟩
abbrev S1x1024x1792 : Shape := ⟨3, ![1, 1024, 1792]⟩
abbrev S1024x1792 : Shape := ⟨2, ![1024, 1792]⟩
abbrev S1024x4x1792 : Shape := ⟨3, ![1024, 4, 1792]⟩
abbrev S1024x7168 : Shape := ⟨2, ![1024, 7168]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S4x1024x1792, .bf16⟩
  | .hbm, ⟨3, _⟩ => ⟨S1024x4x1792, .bf16⟩
  | .hbm, ⟨4, _⟩ => ⟨S1024x7168, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference6Ideal.lean ====
abbrev S8192x1024 : Shape := ⟨2, ![8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S_, .f32⟩
  | .hbm, ⟨3, _⟩ => ⟨S1024x7168, .f32⟩
  | .hbm, ⟨4, _⟩ => ⟨S8192x1024, .f32⟩
  | .hbm, ⟨5, _⟩ => ⟨S8192x7168, .f32⟩
  | .hbm, ⟨6, _⟩ => ⟨S8192x7168, .f32⟩
  | .hbm, ⟨7, _⟩ => ⟨S7168x1024, .f32⟩
  | .hbm, ⟨8, _⟩ => ⟨S1024x7168, .f32⟩
  | .hbm, ⟨9, _⟩ => ⟨S1024x7168, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S8192x7168 : Shape := ⟨2, ![8192, 7168]⟩
abbrev S8192x3072 : Shape := ⟨2, ![8192, 3072]⟩
abbrev S1024x1024 : Shape := ⟨2, ![1024, 1024]⟩
abbrev S512x1024 : Shape := ⟨2, ![512, 1024]⟩
abbrev S4x256x1024 : Shape := ⟨3, ![4, 256, 1024]⟩
abbrev S512x4x256 : Shape := ⟨3, ![512, 4, 256]⟩
abbrev S4x512x256 : Shape := ⟨3, ![4, 512, 256]⟩
abbrev S8192x512 : Shape := ⟨2, ![8192, 512]⟩
abbrev S512x3072 : Shape := ⟨2, ![512, 3072]⟩
abbrev S512x3584 : Shape := ⟨2, ![512, 3584]⟩
abbrev S512x512 : Shape := ⟨2, ![512, 512]⟩
abbrev S1x256x1024 : Shape := ⟨3, ![1, 256, 1024]⟩
abbrev S256x1024 : Shape := ⟨2, ![256, 1024]⟩
abbrev S512x256 : Shape := ⟨2, ![512, 256]⟩
abbrev S1x512x256 : Shape := ⟨3, ![1, 512, 256]⟩
abbrev S8192x3584 : Shape := ⟨2, ![8192, 3584]⟩

abbrev nBuf : Space → Nat
  | .hbm => 23
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x7168, .bf16⟩
  | .hbm, ⟨2, _⟩ => ⟨S8192x3072, .bf16⟩
  | .hbm, ⟨3, _⟩ => ⟨S1024x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024x1024, .bf16⟩
  | .hbm, ⟨8, _⟩ => ⟨S4x256x1024, .bf16⟩
  | .hbm, ⟨9, _⟩ => ⟨S512x1024, .bf16⟩
  | .hbm, ⟨10, _⟩ => ⟨S512x4x256, .bf16⟩
  | .hbm, ⟨11, _⟩ => ⟨S4x512x256, .bf16⟩
  | .hbm, ⟨12, _⟩ => ⟨S512x1024, .bf16⟩
  | .hbm, ⟨13, _⟩ => ⟨S512x4x256, .bf16⟩
  | .hbm, ⟨14, _⟩ => ⟨S4x512x256, .bf16⟩
  | .hbm, ⟨15, _⟩ => ⟨S1024x1024, .bf16⟩
  | .hbm, ⟨16, _⟩ => ⟨S4x256x1024, .bf16⟩
  | .hbm, ⟨17, _⟩ => ⟨S8192x3072, .bf16⟩
  | .hbm, ⟨18, _⟩ => ⟨S8192x7168, .bf16⟩
  | .hbm, ⟨19, _⟩ => ⟨S8192x1024, .bf16⟩
  | .hbm, ⟨20, _⟩ => ⟨S8192x512, .bf16⟩
  | .hbm, ⟨21, _⟩ => ⟨S8192x512, .bf16⟩
  | .hbm, ⟨22, _⟩ => ⟨S8192x3584, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x3072, .bf16⟩
  | .local _ .vmem, ⟨9, _⟩ => ⟨S512x3072, .bf16⟩
  | .local _ .vmem, ⟨10, _⟩ => ⟨S4x256x1024, .bf16⟩
  | .local _ .vmem, ⟨11, _⟩ => ⟨S4x512x256, .bf16⟩
  | .local _ .vmem, ⟨12, _⟩ => ⟨S4x512x256, .bf16⟩
  | .local _ .vmem, ⟨13, _⟩ => ⟨S4x256x1024, .bf16⟩
  | .local _ .vmem, ⟨14, _⟩ => ⟨S512x3072, .bf16⟩
  | .local _ .vmem, ⟨15, _⟩ => ⟨S512x3072, .bf16⟩
  | .local _ .vmem, ⟨16, _⟩ => ⟨S512x3584, .bf16⟩
  | .local _ .vmem, ⟨17, _⟩ => ⟨S512x3584, .bf16⟩
  | .local _ .vmem, ⟨18, _⟩ => ⟨S512x1024, .bf16⟩
  | .local _ .vmem, ⟨19, _⟩ => ⟨S512x1024, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3584 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S8192x1024 : Shape := ⟨2, ![8192, 1024]⟩
abbrev S8192x7168 : Shape := ⟨2, ![8192, 7168]⟩
abbrev S8192x3072 : Shape := ⟨2, ![8192, 3072]⟩
abbrev S1024x1024 : Shape := ⟨2, ![1024, 1024]⟩
abbrev S512x1024 : Shape := ⟨2, ![512, 1024]⟩
abbrev S_ : Shape := ⟨0, ![]⟩
abbrev S8192x512 : Shape := ⟨2, ![8192, 512]⟩
abbrev S8192x3584 : Shape := ⟨2, ![8192, 3584]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x7168, .bf16⟩
  | .hbm, ⟨2, _⟩ => ⟨S8192x3072, .bf16⟩
  | .hbm, ⟨3, _⟩ => ⟨S1024x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x3072, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x3072, .bf16⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S_, .f32⟩
  | .hbm, ⟨19, _⟩ => ⟨S8192x3072, .f32⟩
  | .hbm, ⟨20, _⟩ => ⟨S8192x3072, .f32⟩
  | .hbm, ⟨21, _⟩ => ⟨S_, .f32⟩
  | .hbm, ⟨22, _⟩ => ⟨S8192x3072, .f32⟩
  | .hbm, ⟨23, _⟩ => ⟨S8192x3072, .f32⟩
  | .hbm, ⟨24, _⟩ => ⟨S8192x3072, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x3072, .f32⟩
  | .hbm, ⟨42, _⟩ => ⟨S8192x3072, .f32⟩
  | .hbm, ⟨43, _⟩ => ⟨S8192x1024, .bf16⟩
  | .hbm, ⟨44, _⟩ => ⟨S8192x1024, .bf16⟩
  | .hbm, ⟨45, _⟩ => ⟨S8192x1024, .bf16⟩
  | .hbm, ⟨46, _⟩ => ⟨S_, .f32⟩
  | .hbm, ⟨47, _⟩ => ⟨S8192x1024, .f32⟩
  | .hbm, ⟨48, _⟩ => ⟨S_, .f32⟩
  | .hbm, ⟨49, _⟩ => ⟨S8192x512, .f32⟩
  | .hbm, ⟨50, _⟩ => ⟨S_, .f32⟩
  | .hbm, ⟨51, _⟩ => ⟨S8192x512, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x512, .f32⟩
  | .hbm, ⟨59, _⟩ => ⟨S8192x512, .f32⟩
  | .hbm, ⟨60, _⟩ => ⟨S8192x1024, .f32⟩
  | .hbm, ⟨61, _⟩ => ⟨S_, .bf16⟩
  | .hbm, ⟨62, _⟩ => ⟨S8192x512, .bf16⟩
  | .hbm, ⟨63, _⟩ => ⟨S8192x3072, .bf16⟩
  | .hbm, ⟨64, _⟩ => ⟨S8192x3584, .bf16⟩
  | .hbm, ⟨65, _⟩ => ⟨S8192x3072, .bf16⟩
  | .hbm, ⟨66, _⟩ => ⟨S8192x1024, .bf16⟩
  | .hbm, ⟨67, _⟩ => ⟨S8192x512, .bf16⟩
  | .hbm, ⟨68, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Kernel8.lean ====
abbrev S8192x1024 : Shape := ⟨2, ![8192, 1024]⟩
abbrev S8192x512 : Shape := ⟨2, ![8192, 512]⟩
abbrev S8192x3072 : Shape := ⟨2, ![8192, 3072]⟩
abbrev S4x256x1024 : Shape := ⟨3, ![4, 256, 1024]⟩
abbrev S4x512x256 : Shape := ⟨3, ![4, 512, 256]⟩
abbrev S512x1024 : Shape := ⟨2, ![512, 1024]⟩
abbrev S512x512 : Shape := ⟨2, ![512, 512]⟩
abbrev S512x3072 : Shape := ⟨2, ![512, 3072]⟩
abbrev S1024x1024 : Shape := ⟨2, ![1024, 1024]⟩
abbrev S256x1024 : Shape := ⟨2, ![256, 1024]⟩
abbrev S1x256x1024 : Shape := ⟨3, ![1, 256, 1024]⟩
abbrev S512x256 : Shape := ⟨2, ![512, 256]⟩
abbrev S1x512x256 : Shape := ⟨3, ![1, 512, 256]⟩
abbrev S512x4x256 : Shape := ⟨3, ![512, 4, 256]⟩

abbrev nBuf : Space → Nat
  | .hbm => 16
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S8192x1024, .f32⟩
  | .hbm, ⟨5, _⟩ => ⟨S8192x3072, .bf16⟩
  | .hbm, ⟨6, _⟩ => ⟨S4x256x1024, .bf16⟩
  | .hbm, ⟨7, _⟩ => ⟨S4x256x1024, .bf16⟩
  | .hbm, ⟨8, _⟩ => ⟨S4x512x256, .bf16⟩
  | .hbm, ⟨9, _⟩ => ⟨S4x512x256, .bf16⟩
  | .hbm, ⟨10, _⟩ => ⟨S1024x1024, .bf16⟩
  | .hbm, ⟨11, _⟩ => ⟨S1024x1024, .bf16⟩
  | .hbm, ⟨12, _⟩ => ⟨S512x4x256, .bf16⟩
  | .hbm, ⟨13, _⟩ => ⟨S512x1024, .bf16⟩
  | .hbm, ⟨14, _⟩ => ⟨S512x4x256, .bf16⟩
  | .hbm, ⟨15, _⟩ => ⟨S512x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S512x3072, .bf16⟩
  | .local _ .vmem, ⟨11, _⟩ => ⟨S512x3072, .bf16⟩
  | .local _ .vmem, ⟨12, _⟩ => ⟨S4x256x1024, .bf16⟩
  | .local _ .vmem, ⟨13, _⟩ => ⟨S4x256x1024, .bf16⟩
  | .local _ .vmem, ⟨14, _⟩ => ⟨S4x512x256, .bf16⟩
  | .local _ .vmem, ⟨15, _⟩ => ⟨S4x512x256, .bf16⟩
  | .local _ .vmem, ⟨16, _⟩ => ⟨S1024x1024, .f32⟩
  | .local _ .vmem, ⟨17, _⟩ => ⟨S1024x1024, .f32⟩
  | .local _ .vmem, ⟨18, _⟩ => ⟨S512x1024, .f32⟩
  | .local _ .vmem, ⟨19, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond9 (i : grid0.Coords) : BitVec 1 :=
  let arg0 : BitVec 32 := BitVec.ofNat 32 (i 0).val
  let c15_i32 : BitVec 32 := 15#32
  let v37 : BitVec 1 := Scalar.cmpi .eq arg0 c15_i32
  let v38 : BitVec 32 := Scalar.extui v37
  let c0_i32_31 : BitVec 32 := 0#32
  let v39 : BitVec 1 := Scalar.cmpi .ne v38 c0_i32_31
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S8192x1024 : Shape := ⟨2, ![8192, 1024]⟩
abbrev S8192x512 : Shape := ⟨2, ![8192, 512]⟩
abbrev S8192x3072 : Shape := ⟨2, ![8192, 3072]⟩
abbrev S_ : Shape := ⟨0, ![]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S8192x1024, .f32⟩
  | .hbm, ⟨5, _⟩ => ⟨S8192x3072, .bf16⟩
  | .hbm, ⟨6, _⟩ => ⟨S_, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S_, .f32⟩
  | .hbm, ⟨11, _⟩ => ⟨S512x1024, .f32⟩
  | .hbm, ⟨12, _⟩ => ⟨S_, .f32⟩
  | .hbm, ⟨13, _⟩ => ⟨S512x1024, .f32⟩
  | .hbm, ⟨14, _⟩ => ⟨S8192x3072, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x512, .f32⟩
  | .hbm, ⟨23, _⟩ => ⟨S8192x1024, .f32⟩
  | .hbm, ⟨24, _⟩ => ⟨S8192x512, .f32⟩
  | .hbm, ⟨25, _⟩ => ⟨S8192x1024, .f32⟩
  | .hbm, ⟨26, _⟩ => ⟨S1024x512, .f32⟩
  | .hbm, ⟨27, _⟩ => ⟨S512x1024, .f32⟩
  | .hbm, ⟨28, _⟩ => ⟨S1024x512, .f32⟩
  | .hbm, ⟨29, _⟩ => ⟨S512x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .bf16⟩
  | .hbm, ⟨35, _⟩ => ⟨S1024x1024, .bf16⟩
  | .hbm, ⟨36, _⟩ => ⟨S512x1024, .bf16⟩
  | .hbm, ⟨37, _⟩ => ⟨S512x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x7168 : Shape := ⟨2, ![1024, 7168]⟩
abbrev S1x1024 : Shape := ⟨2, ![1, 1024]⟩
abbrev S1024x4x1792 : Shape := ⟨3, ![1024, 4, 1792]⟩
abbrev S4x1024x1792 : Shape := ⟨3, ![4, 1024, 1792]⟩
abbrev S8192x7168 : Shape := ⟨2, ![8192, 7168]⟩
abbrev S512x1024 : Shape := ⟨2, ![512, 1024]⟩
abbrev S512x7168 : Shape := ⟨2, ![512, 7168]⟩
abbrev S512 : Shape := ⟨1, ![512]⟩
abbrev S512x1 : Shape := ⟨2, ![512, 1]⟩
abbrev S1x1024x1792 : Shape := ⟨3, ![1, 1024, 1792]⟩
abbrev S1024x1792 : Shape := ⟨2, ![1024, 1792]⟩
abbrev S512x1792 : Shape := ⟨2, ![512, 1792]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S1x1024, .f32⟩
  | .hbm, ⟨4, _⟩ => ⟨S1024x7168, .bf16⟩
  | .hbm, ⟨5, _⟩ => ⟨S1024x4x1792, .bf16⟩
  | .hbm, ⟨6, _⟩ => ⟨S4x1024x1792, .bf16⟩
  | .hbm, ⟨7, _⟩ => ⟨S8192x7168, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1792, .bf16⟩
  | .local _ .vmem, ⟨4, _⟩ => ⟨S512x7168, .bf16⟩
  | .local _ .vmem, ⟨5, _⟩ => ⟨S512x7168, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8192x1024 : Shape := ⟨2, ![8192, 1024]⟩
abbrev S1024 : Shape := ⟨1, ![1024]⟩
abbrev S1024x7168 : Shape := ⟨2, ![1024, 7168]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x7168 : Shape := ⟨2, ![8192, 7168]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x7168, .f32⟩
  | .hbm, ⟨20, _⟩ => ⟨S8192x7168, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel10.lean ====
abbrev S8192x1024 : Shape := ⟨2, ![8192, 1024]⟩
abbrev S1024 : Shape := ⟨1, ![1024]⟩
abbrev S1024x4096 : Shape := ⟨2, ![1024, 4096]⟩
abbrev S1x1024 : Shape := ⟨2, ![1, 1024]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4096, .bf16⟩
  | .hbm, ⟨5, _⟩ => ⟨S1024x4x1024, .bf16⟩
  | .hbm, ⟨6, _⟩ => ⟨S4x1024x1024, .bf16⟩
  | .hbm, ⟨7, _⟩ => ⟨S8192x4096, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1024, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x4096, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel11.lean ====
abbrev S8192x1024 : Shape := ⟨2, ![8192, 1024]⟩
abbrev S8192x4096 : Shape := ⟨2, ![8192, 4096]⟩
abbrev S4096x1024 : Shape := ⟨2, ![4096, 1024]⟩
abbrev S4x1024x1024 : Shape := ⟨3, ![4, 1024, 1024]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S4096x1024, .f32⟩
  | .hbm, ⟨3, _⟩ => ⟨S4096x1024, .bf16⟩
  | .hbm, ⟨4, _⟩ => ⟨S4x1024x1024, .bf16⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4x1024x1024, .bf16⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S4096x1024, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel12.lean ====
abbrev S8192x1024 : Shape := ⟨2, ![8192, 1024]⟩
abbrev S8192x7168 : Shape := ⟨2, ![8192, 7168]⟩
abbrev S8192x512 : Shape := ⟨2, ![8192, 512]⟩
abbrev S1024x1024 : Shape := ⟨2, ![1024, 1024]⟩
abbrev S512x1024 : Shape := ⟨2, ![512, 1024]⟩
abbrev S4x256x1024 : Shape := ⟨3, ![4, 256, 1024]⟩
abbrev S512x4x256 : Shape := ⟨3, ![512, 4, 256]⟩
abbrev S4x512x256 : Shape := ⟨3, ![4, 512, 256]⟩
abbrev S8192x3072 : Shape := ⟨2, ![8192, 3072]⟩
abbrev S512x512 : Shape := ⟨2, ![512, 512]⟩
abbrev S512x3072 : Shape := ⟨2, ![512, 3072]⟩
abbrev S512x256 : Shape := ⟨2, ![512, 256]⟩
abbrev S1x256x1024 : Shape := ⟨3, ![1, 256, 1024]⟩
abbrev S256x1024 : Shape := ⟨2, ![256, 1024]⟩
abbrev S1x512x256 : Shape := ⟨3, ![1, 512, 256]⟩

abbrev nBuf : Space → Nat
  | .hbm => 22
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x7168, .bf16⟩
  | .hbm, ⟨2, _⟩ => ⟨S8192x1024, .bf16⟩
  | .hbm, ⟨3, _⟩ => ⟨S8192x512, .bf16⟩
  | .hbm, ⟨4, _⟩ => ⟨S8192x512, .bf16⟩
  | .hbm, ⟨5, _⟩ => ⟨S1024x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024x1024, .bf16⟩
  | .hbm, ⟨10, _⟩ => ⟨S4x256x1024, .bf16⟩
  | .hbm, ⟨11, _⟩ => ⟨S512x1024, .bf16⟩
  | .hbm, ⟨12, _⟩ => ⟨S512x4x256, .bf16⟩
  | .hbm, ⟨13, _⟩ => ⟨S4x512x256, .bf16⟩
  | .hbm, ⟨14, _⟩ => ⟨S512x1024, .bf16⟩
  | .hbm, ⟨15, _⟩ => ⟨S512x4x256, .bf16⟩
  | .hbm, ⟨16, _⟩ => ⟨S4x512x256, .bf16⟩
  | .hbm, ⟨17, _⟩ => ⟨S1024x1024, .bf16⟩
  | .hbm, ⟨18, _⟩ => ⟨S4x256x1024, .bf16⟩
  | .hbm, ⟨19, _⟩ => ⟨S8192x1024, .f32⟩
  | .hbm, ⟨20, _⟩ => ⟨S8192x1024, .bf16⟩
  | .hbm, ⟨21, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S4x256x1024, .bf16⟩
  | .local _ .vmem, ⟨15, _⟩ => ⟨S4x512x256, .bf16⟩
  | .local _ .vmem, ⟨16, _⟩ => ⟨S4x512x256, .bf16⟩
  | .local _ .vmem, ⟨17, _⟩ => ⟨S4x256x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x3072, .bf16⟩
  | .local _ .vmem, ⟨23, _⟩ => ⟨S512x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference12Ideal.lean ====
abbrev S8192x1024 : Shape := ⟨2, ![8192, 1024]⟩
abbrev S8192x7168 : Shape := ⟨2, ![8192, 7168]⟩
abbrev S8192x512 : Shape := ⟨2, ![8192, 512]⟩
abbrev S1024x1024 : Shape := ⟨2, ![1024, 1024]⟩
abbrev S512x1024 : Shape := ⟨2, ![512, 1024]⟩
abbrev S8192x3072 : Shape := ⟨2, ![8192, 3072]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x7168, .bf16⟩
  | .hbm, ⟨2, _⟩ => ⟨S8192x1024, .bf16⟩
  | .hbm, ⟨3, _⟩ => ⟨S8192x512, .bf16⟩
  | .hbm, ⟨4, _⟩ => ⟨S8192x512, .bf16⟩
  | .hbm, ⟨5, _⟩ => ⟨S1024x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S8192x512, .f32⟩
  | .hbm, ⟨12, _⟩ => ⟨S8192x1024, .f32⟩
  | .hbm, ⟨13, _⟩ => ⟨S8192x512, .f32⟩
  | .hbm, ⟨14, _⟩ => ⟨S8192x1024, .f32⟩
  | .hbm, ⟨15, _⟩ => ⟨S8192x3072, .bf16⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S_, .f32⟩
  | .hbm, ⟨23, _⟩ => ⟨S8192x3072, .f32⟩
  | .hbm, ⟨24, _⟩ => ⟨S8192x3072, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | .hbm, ⟨36, _⟩ => ⟨S8192x3072, .f32⟩
  | .hbm, ⟨37, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel13.lean ====
abbrev S8192x7168 : Shape := ⟨2, ![8192, 7168]⟩
abbrev S1024x1024 : Shape := ⟨2, ![1024, 1024]⟩
abbrev S8192x512 : Shape := ⟨2, ![8192, 512]⟩
abbrev S512x512 : Shape := ⟨2, ![512, 512]⟩
abbrev S256x1024 : Shape := ⟨2, ![256, 1024]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x7168, .bf16⟩
  | .hbm, ⟨1, _⟩ => ⟨S1024x1024, .bf16⟩
  | .hbm, ⟨2, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S256x1024, .bf16⟩
  | .local _ .vmem, ⟨4, _⟩ => ⟨S512x512, .bf16⟩
  | .local _ .vmem, ⟨5, _⟩ => ⟨S512x512, .bf16⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let c0_i32 : BitVec 32 := 0#32
  ![v1.toNat, c7_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x7168 : Shape := ⟨2, ![8192, 7168]⟩
abbrev S1024x1024 : Shape := ⟨2, ![1024, 1024]⟩
abbrev S8192x512 : Shape := ⟨2, ![8192, 512]⟩
abbrev S4x2048x4x128 : Shape := ⟨4, ![4, 2048, 4, 128]⟩
abbrev S4x256x1024 : Shape := ⟨3, ![4, 256, 1024]⟩
abbrev S4x256x512 : Shape := ⟨3, ![4, 256, 512]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S1024x1024, .bf16⟩
  | .hbm, ⟨2, _⟩ => ⟨S8192x512, .bf16⟩
  | .hbm, ⟨3, _⟩ => ⟨S8192x512, .f32⟩
  | .hbm, ⟨4, _⟩ => ⟨S4x2048x4x128, .f32⟩
  | .hbm, ⟨5, _⟩ => ⟨S1024x1024, .f32⟩
  | .hbm, ⟨6, _⟩ => ⟨S4x256x1024, .f32⟩
  | .hbm, ⟨7, _⟩ => ⟨S4x256x512, .f32⟩
  | .hbm, ⟨8, _⟩ => ⟨S4x256x512, .f32⟩
  | .hbm, ⟨9, _⟩ => ⟨S4x256x4x128, .f32⟩
  | .hbm, ⟨10, _⟩ => ⟨S4x256x4x128, .f32⟩
  | .hbm, ⟨11, _⟩ => ⟨S4x4x2048x256, .f32⟩
  | .hbm, ⟨12, _⟩ => ⟨S_, .f32⟩
  | .hbm, ⟨13, _⟩ => ⟨S4x4x2048x256, .f32⟩
  | .hbm, ⟨14, _⟩ => ⟨S4x4x2048x256, .f32⟩
  | .hbm, ⟨15, _⟩ => ⟨S_, .f32⟩
  | .hbm, ⟨16, _⟩ => ⟨S4x4x2048, .f32⟩
  | .hbm, ⟨17, _⟩ => ⟨S_, .f32⟩
  | .hbm, ⟨18, _⟩ => ⟨S4x4x2048, .f32⟩
  | .hbm, ⟨19, _⟩ => ⟨S4x4x2048, .f32⟩
  | .hbm, ⟨20, _⟩ => ⟨S4x4x2048x1, .f32⟩
  | .hbm, ⟨21, _⟩ => ⟨S4x4x2048x256, .f32⟩
  | .hbm, ⟨22, _⟩ => ⟨S4x4x2048x256, .f32⟩
  | .hbm, ⟨23, _⟩ => ⟨S4x4x2048x256, .f32⟩
  | .hbm, ⟨24, _⟩ => ⟨S_, .f32⟩
  | .hbm, ⟨25, _⟩ => ⟨S4x4x2048, .f32⟩
  | .hbm, ⟨26, _⟩ => ⟨S4x4x2048x1, .f32⟩
  | .hbm, ⟨27, _⟩ => ⟨S4x4x2048x256, .f32⟩
  | .hbm, ⟨28, _⟩ => ⟨S4x4x2048x256, .f32⟩
  | .hbm, ⟨29, _⟩ => ⟨S4x4x128x2048, .f32⟩
  | .hbm, ⟨30, _⟩ => ⟨S4x2048x4x128, .f32⟩
  | .hbm, ⟨31, _⟩ => ⟨S8192x512, .f32⟩
  | .hbm, ⟨32, _⟩ => ⟨S8192x512, .bf16⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel14.lean ====
abbrev S4x1024x1792 : Shape := ⟨3, ![4, 1024, 1792]⟩
abbrev S4096x1792 : Shape := ⟨2, ![4096, 1792]⟩
abbrev S128x1792 : Shape := ⟨2, ![128, 1792]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1792, .f32⟩
  | .hbm, ⟨1, _⟩ => ⟨S4x1024x1792, .f32⟩
  | .hbm, ⟨2, _⟩ => ⟨S4x1024x1792, .f32⟩
  | .hbm, ⟨3, _⟩ => ⟨S4x1024x1792, .f32⟩
  | .hbm, ⟨4, _⟩ => ⟨S4096x1792, .f32⟩
  | .hbm, ⟨5, _⟩ => ⟨S4096x1792, .f32⟩
  | .hbm, ⟨6, _⟩ => ⟨S4096x1792, .f32⟩
  | .hbm, ⟨7, _⟩ => ⟨S4096x1792, .f32⟩
  | .hbm, ⟨8, _⟩ => ⟨S4096x1792, .f32⟩
  | .hbm, ⟨9, _⟩ => ⟨S4096x1792, .f32⟩
  | .hbm, ⟨10, _⟩ => ⟨S4096x1792, .f32⟩
  | .hbm, ⟨11, _⟩ => ⟨S4x1024x1792, .f32⟩
  | .hbm, ⟨12, _⟩ => ⟨S4x1024x1792, .f32⟩
  | .hbm, ⟨13, _⟩ => ⟨S4x1024x1792, .f32⟩
  | .local _ .vmem, ⟨0, _⟩ => ⟨S128x1792, .f32⟩
  | .local _ .vmem, ⟨1, _⟩ => ⟨S128x1792, .f32⟩
  | .local _ .vmem, ⟨2, _⟩ => ⟨S128x1792, .f32⟩
  | .local _ .vmem, ⟨3, _⟩ => ⟨S128x1792, .f32⟩
  | .local _ .vmem, ⟨4, _⟩ => ⟨S128x1792, .f32⟩
  | .local _ .vmem, ⟨5, _⟩ => ⟨S128x1792, .f32⟩
  | .local _ .vmem, ⟨6, _⟩ => ⟨S128x1792, .f32⟩
  | .local _ .vmem, ⟨7, _⟩ => ⟨S128x1792, .f32⟩
  | .local _ .vmem, ⟨8, _⟩ => ⟨S128x1792, .f32⟩
  | .local _ .vmem, ⟨9, _⟩ => ⟨S128x1792, .f32⟩
  | .local _ .vmem, ⟨10, _⟩ => ⟨S128x1792, .f32⟩
  | .local _ .vmem, ⟨11, _⟩ => ⟨S128x1792, .f32⟩
  | .local _ .vmem, ⟨12, _⟩ => ⟨S128x1792, .f32⟩
  | .local _ .vmem, ⟨13, _⟩ => ⟨S128x1792, .f32⟩
  | _, _ => ⟨S4x1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S4x1024x1792 : Shape := ⟨3, ![4, 1024, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1792, .f32⟩
  | .hbm, ⟨1, _⟩ => ⟨S4x1024x1792, .f32⟩
  | .hbm, ⟨2, _⟩ => ⟨S4x1024x1792, .f32⟩
  | .hbm, ⟨3, _⟩ => ⟨S4x1024x1792, .f32⟩
  | .hbm, ⟨4, _⟩ => ⟨S_, .f32⟩
  | .hbm, ⟨5, _⟩ => ⟨S4x1024x1792, .f32⟩
  | .hbm, ⟨6, _⟩ => ⟨S4x1024x1792, .f32⟩
  | .hbm, ⟨7, _⟩ => ⟨S_, .f32⟩
  | .hbm, ⟨8, _⟩ => ⟨S4x1024x1792, .f32⟩
  | .hbm, ⟨9, _⟩ => ⟨S4x1024x1792, .f32⟩
  | .hbm, ⟨10, _⟩ => ⟨S4x1024x1792, .f32⟩
  | .hbm, ⟨11, _⟩ => ⟨S_, .f32⟩
  | .hbm, ⟨12, _⟩ => ⟨S4x1024x1792, .f32⟩
  | .hbm, ⟨13, _⟩ => ⟨S4x1024x1792, .f32⟩
  | .hbm, ⟨14, _⟩ => ⟨S4x1024x1792, .f32⟩
  | .hbm, ⟨15, _⟩ => ⟨S_, .f32⟩
  | .hbm, ⟨16, _⟩ => ⟨S4x1024x1792, .f32⟩
  | .hbm, ⟨17, _⟩ => ⟨S4x1024x1792, .f32⟩
  | .hbm, ⟨18, _⟩ => ⟨S4x1024x1792, .f32⟩
  | .hbm, ⟨19, _⟩ => ⟨S_, .f32⟩
  | .hbm, ⟨20, _⟩ => ⟨S4x1024x1792, .f32⟩
  | .hbm, ⟨21, _⟩ => ⟨S4x1024x1792, .f32⟩
  | .hbm, ⟨22, _⟩ => ⟨S_, .f32⟩
  | .hbm, ⟨23, _⟩ => ⟨S4x1024x1792, .f32⟩
  | .hbm, ⟨24, _⟩ => ⟨S4x1024x1792, .f32⟩
  | .hbm, ⟨25, _⟩ => ⟨S4x1024x1792, .f32⟩
  | .hbm, ⟨26, _⟩ => ⟨S_, .f32⟩
  | .hbm, ⟨27, _⟩ => ⟨S4x1024x1792, .f32⟩
  | .hbm, ⟨28, _⟩ => ⟨S4x1024x1792, .f32⟩
  | .hbm, ⟨29, _⟩ => ⟨S4x1024x1792, .f32⟩
  | .hbm, ⟨30, _⟩ => ⟨S_, .f32⟩
  | .hbm, ⟨31, _⟩ => ⟨S4x1024x1792, .f32⟩
  | .hbm, ⟨32, _⟩ => ⟨S4x1024x1792, .f32⟩
  | .hbm, ⟨33, _⟩ => ⟨S4x1024x1792, .f32⟩
  | .hbm, ⟨34, _⟩ => ⟨S_, .f32⟩
  | .hbm, ⟨35, _⟩ => ⟨S4x1024x1792, .f32⟩
  | .hbm, ⟨36, _⟩ => ⟨S4x1024x1792, .f32⟩
  | _, _ => ⟨S4x1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S4x1024x1024 : Shape := ⟨3, ![4, 1024, 1024]⟩
abbrev S4096x1024 : Shape := ⟨2, ![4096, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4x1024x1024, .f32⟩
  | .hbm, ⟨12, _⟩ => ⟨S4x1024x1024, .f32⟩
  | .hbm, ⟨13, _⟩ => ⟨S4x1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S4x1024x1024 : Shape := ⟨3, ![4, 1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S_, .f32⟩
  | .hbm, ⟨5, _⟩ => ⟨S4x1024x1024, .f32⟩
  | .hbm, ⟨6, _⟩ => ⟨S4x1024x1024, .f32⟩
  | .hbm, ⟨7, _⟩ => ⟨S_, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S_, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S4x256x1024, .f32⟩
  | .hbm, ⟨12, _⟩ => ⟨S4x256x1024, .f32⟩
  | .hbm, ⟨13, _⟩ => ⟨S4x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S4x256x1024 : Shape := ⟨3, ![4, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S4x512x256 : Shape := ⟨3, ![4, 512, 256]⟩
abbrev S2048x256 : Shape := ⟨2, ![2048, 256]⟩
abbrev S1024x256 : Shape := ⟨2, ![1024, 256]⟩

abbrev nBuf : Space → Nat
  | .hbm => 14
  | .vmem => 14
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S4x512x256, .f32⟩
  | .hbm, ⟨12, _⟩ => ⟨S4x512x256, .f32⟩
  | .hbm, ⟨13, _⟩ => ⟨S4x512x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S4x512x256 : Shape := ⟨3, ![4, 512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S_, .f32⟩
  | .hbm, ⟨5, _⟩ => ⟨S4x512x256, .f32⟩
  | .hbm, ⟨6, _⟩ => ⟨S4x512x256, .f32⟩
  | .hbm, ⟨7, _⟩ => ⟨S_, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S_, .f32⟩
  | .hbm, ⟨12, _⟩ => ⟨S4x512x256, .f32⟩
  | .hbm, ⟨13, _⟩ => ⟨S4x512x256, .f32⟩
  | .hbm, ⟨14, _⟩ => ⟨S4x512x256, .f32⟩
  | .hbm, ⟨15, _⟩ => ⟨S_, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512x256, .f32⟩
  | .hbm, ⟨21, _⟩ => ⟨S4x512x256, .f32⟩
  | .hbm, ⟨22, _⟩ => ⟨S_, .f32⟩
  | .hbm, ⟨23, _⟩ => ⟨S4x512x256, .f32⟩
  | .hbm, ⟨24, _⟩ => ⟨S4x512x256, .f32⟩
  | .hbm, ⟨25, _⟩ => ⟨S4x512x256, .f32⟩
  | .hbm, ⟨26, _⟩ => ⟨S_, .f32⟩
  | .hbm, ⟨27, _⟩ => ⟨S4x512x256, .f32⟩
  | .hbm, ⟨28, _⟩ => ⟨S4x512x256, .f32⟩
  | .hbm, ⟨29, _⟩ => ⟨S4x512x256, .f32⟩
  | .hbm, ⟨30, _⟩ => ⟨S_, .f32⟩
  | .hbm, ⟨31, _⟩ => ⟨S4x512x256, .f32⟩
  | .hbm, ⟨32, _⟩ => ⟨S4x512x256, .f32⟩
  | .hbm, ⟨33, _⟩ => ⟨S4x512x256, .f32⟩
  | .hbm, ⟨34, _⟩ => ⟨S_, .f32⟩
  | .hbm, ⟨35, _⟩ => ⟨S4x512x256, .f32⟩
  | .hbm, ⟨36, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S_ : Shape := ⟨0, ![]⟩

abbrev nBuf : Space → Nat
  | .hbm => 14
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_14 : BitVec 32 := 0#32
  let v40 : BitVec 1 := Scalar.cmpi .ne v39 c0_i32_14
  v40

def k0_cond2 (i : grid0.Coords) : BitVec 1 :=
  let arg0 : BitVec 32 := BitVec.ofNat 32 (i 0).val
  let c0_i32_15 : BitVec 32 := 0#32
  let v41 : BitVec 1 := Scalar.cmpi .sgt arg0 c0_i32_15
  let v42 : BitVec 32 := Scalar.extui v41
  let c0_i32_16 : BitVec 32 := 0#32
  let v43 : BitVec 1 := Scalar.cmpi .ne v42 c0_i32_16
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference18Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_cst_9 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_cst_11 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Kernel19.lean ====
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1x1024, .f32⟩
  | .hbm, ⟨3, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x1024, .f32⟩
  | .hbm, ⟨14, _⟩ => ⟨S1024x1024, .f32⟩
  | .hbm, ⟨15, _⟩ => ⟨S1x1024, .f32⟩
  | .hbm, ⟨16, _⟩ => ⟨S1024x1024, .f32⟩
  | .hbm, ⟨17, _⟩ => ⟨S1024x1024, .f32⟩
  | .hbm, ⟨18, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel20.lean ====
abbrev S1024x1024 : Shape := ⟨2, ![1024, 1024]⟩
abbrev S4x256x1024 : Shape := ⟨3, ![4, 256, 1024]⟩
abbrev S512x256 : Shape := ⟨2, ![512, 256]⟩
abbrev S1x256x1024 : Shape := ⟨3, ![1, 256, 1024]⟩
abbrev S512x1024 : Shape := ⟨2, ![512, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .f32⟩
  | .hbm, ⟨2, _⟩ => ⟨S1024x1024, .bf16⟩
  | .hbm, ⟨3, _⟩ => ⟨S4x256x1024, .bf16⟩
  | .hbm, ⟨4, _⟩ => ⟨S1024x1024, .bf16⟩
  | .local _ .vmem, ⟨0, _⟩ => ⟨S512x256, .bf16⟩
  | .local _ .vmem, ⟨1, _⟩ => ⟨S512x256, .bf16⟩
  | .local _ .vmem, ⟨2, _⟩ => ⟨S1x256x1024, .bf16⟩
  | .local _ .vmem, ⟨3, _⟩ => ⟨S1x256x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference20Ideal.lean ====
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S1024x1024 : Shape := ⟨2, ![1024, 1024]⟩
abbrev S4x256x1024 : Shape := ⟨3, ![4, 256, 1024]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .f32⟩
  | .hbm, ⟨2, _⟩ => ⟨S4x256x1024, .bf16⟩
  | .hbm, ⟨3, _⟩ => ⟨S1024x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .f32⟩
  | .local _ .vmem, ⟨3, _⟩ => ⟨S1x256x1024, .bf16⟩
  | .local _ .vmem, ⟨4, _⟩ => ⟨S1x256x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference21Ideal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .f32⟩
  | .hbm, ⟨2, _⟩ => ⟨S_, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S1024x1024 : Shape := ⟨2, ![1024, 1024]⟩
abbrev S4x256x1024 : Shape := ⟨3, ![4, 256, 1024]⟩
abbrev S512x1024 : Shape := ⟨2, ![512, 1024]⟩
abbrev S1x256x1024 : Shape := ⟨3, ![1, 256, 1024]⟩
abbrev S512x256 : Shape := ⟨2, ![512, 256]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .bf16⟩
  | .hbm, ⟨3, _⟩ => ⟨S4x256x1024, .bf16⟩
  | .hbm, ⟨4, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S512x256, .f32⟩
  | .local _ .vmem, ⟨5, _⟩ => ⟨S512x256, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S_, .f32⟩
  | .hbm, ⟨3, _⟩ => ⟨S1024x1024, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel23.lean ====
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x1024, .f32⟩
  | .hbm, ⟨3, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference23Ideal.lean ====
abbrev S1024x1024 : Shape := ⟨2, ![1024, 1024]⟩
abbrev S_ : Shape := ⟨0, ![]⟩
abbrev S1024 : Shape := ⟨1, ![1024]⟩
abbrev S1024x1 : Shape := ⟨2, ![1024, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S_, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S_, .f32⟩
  | .hbm, ⟨25, _⟩ => ⟨S1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Reals.lean ====
/- Extended reals: what the calls' equations take from arithmetic. A factor that is a nonnegative real number goes
   through sums, differences and sums over a finite set, whatever infinities the terms hold. -/
module

public import Idealize.ShloMosaic.Lib.Pointwise

@[expose] public section

noncomputable section

namespace Cert.Reals

open Idealize.ShloMosaic

/-- A nonnegative real factor goes through a sum of two extended reals. -/
theorem mul_add {a : ℝ} (ha : 0 ≤ a) (x y : EReal) : (a : EReal) * (x + y) = a * x + a * y :=
  EReal.left_distrib_of_nonneg_of_ne_top (by exact_mod_cast ha) (EReal.coe_ne_top a) x y

/-- A nonnegative real factor goes through a difference of two extended reals. -/
theorem mul_sub {a : ℝ} (ha : 0 ≤ a) (x y : EReal) : (a : EReal) * (x - y) = a * x - a * y := by
  rw [sub_eq_add_neg, sub_eq_add_neg, mul_add ha, mul_neg]

/-- A nonnegative real factor goes through a finite sum of extended reals. -/
theorem mul_sum {ι : Type*} {a : ℝ} (ha : 0 ≤ a) (s : Finset ι) (f : ι → EReal) :
    (a : EReal) * ∑ i ∈ s, f i = ∑ i ∈ s, (a : EReal) * f i := by
  classical
  induction s using Finset.induction_on with
  | empty => simp
  | insert i s hi ih => rw [Finset.sum_insert hi, Finset.sum_insert hi, mul_add ha, ih]

/-- A finite sum of reals is the real sum. -/
theorem sum_coe {ι : Type*} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- The printed word of minus infinity is the least extended real. -/
theorem ofBits_neg_inf : Ideal.ofBits .f32 0xFF800000#32 = ⊥ := by simp [Ideal.ofBits, Ideal.ieee]

/-- The printed word of plus infinity is the greatest extended real. -/
theorem ofBits_inf : Ideal.ofBits .f32 0x7F800000#32 = ⊤ := by simp [Ideal.ofBits, Ideal.ieee]

/-- The printed word of `128 ^ (-1/2)` is a real number. -/
theorem scale_real : ∃ r : ℝ, Ideal.ofBits .f32 0x3DB504F3#32 = r := by
  simp only [Ideal.ofBits, Ideal.ieee]
  norm_num
  exact ⟨_, rfl⟩

/-- An extended real whose absolute value is below plus infinity is a real number. -/
theorem real_of_abs_lt {x : EReal} (h : max x (-x) < ⊤) : ∃ r : ℝ, x = r := by
  induction x using EReal.rec with
  | bot => simp at h
  | coe r => exact ⟨r, rfl⟩
  | top => simp at h

/-- A finite sum of products of real numbers is a real number. -/
theorem real_sum_mul {ι : Type*} (s : Finset ι) {f g : ι → EReal} (hf : ∀ i, ∃ r : ℝ, f i = r) (hg : ∀ i, ∃ r : ℝ, g i = r) :
    ∃ r : ℝ, ∑ i ∈ s, f i * g i = r := by
  choose F hF using hf
  choose G hG using hg
  exact ⟨∑ i ∈ s, F i * G i, by rw [← sum_coe]; exact Finset.sum_congr rfl fun i _ => by rw [hF, hG, EReal.coe_mul]⟩

end Cert.Reals

end
-- ==== Proof.MemMath.lean ====
/- The softmax's gradient along one row of scores. The kernel multiplies the weights by the weights' gradient less its
   weighted mean; the reference differentiates the quotient of the exponentials by their sum. The two agree for every
   gradient, infinite entries included, when the scores are real numbers. -/
module

public import proofs.«01_k».proof.Proof.Reals

@[expose] public section

noncomputable section

namespace Cert.Mem

open Idealize.ShloMosaic

variable {n : ℕ}

/-- The factor of the scores, the word of `128 ^ (-1/2)`. -/
abbrev scale : EReal := Ideal.ofBits .f32 0x3DB504F3#32

/-- The largest score of a row. -/
def rowMax (s : Fin n → EReal) : EReal := Finset.univ.fold max (Ideal.ofBits .f32 0xFF800000#32) s

/-- The exponential of a score less the row's largest. -/
def ex (s : Fin n → EReal) (m : Fin n) : EReal := Ideal.exp (s m - rowMax s)

/-- The attention weight: the exponential over the row's sum of exponentials. -/
def att (s : Fin n → EReal) (m : Fin n) : EReal := Ideal.div (ex s m) (∑ j, ex s j)

/-- The scores' gradient as the kernel computes it, `g` the weights' gradient. -/
def ds (s g : Fin n → EReal) (m : Fin n) : EReal := att s m * (g m - ∑ j, att s j * g j) * scale

/-- The scores' gradient as differentiating the quotient gives it. -/
def dsQuot (s g : Fin n → EReal) (m : Fin n) : EReal :=
  (Ideal.div (g m) (∑ j, ex s j)
    + -(∑ j, g j * Ideal.div 1 ((∑ i, ex s i) * ∑ i, ex s i) * ex s j)) * ex s m * scale

/-- The largest of a nonempty row of real scores is a real number. -/
theorem rowMax_real [NeZero n] {s : Fin n → EReal} (hs : ∀ m, ∃ r : ℝ, s m = r) : ∃ r : ℝ, rowMax s = r := by
  have h1 : rowMax s < ⊤ := by
    unfold rowMax
    rw [Finset.fold_max_lt]
    refine ⟨by rw [Reals.ofBits_neg_inf]; exact bot_lt_top, fun m _ => ?_⟩
    obtain ⟨r, hr⟩ := hs m
    rw [hr]; exact EReal.coe_lt_top r
  have h2 : ⊥ < rowMax s := by
    unfold rowMax
    rw [Finset.lt_fold_max]
    obtain ⟨r, hr⟩ := hs 0
    exact .inr ⟨0, Finset.mem_univ _, by rw [hr]; exact EReal.bot_lt_coe r⟩
  exact ⟨(rowMax s).toReal, (EReal.coe_toReal h1.ne h2.ne').symm⟩

/-- The exponentials of a nonempty row of real scores are positive real numbers. -/
theorem ex_real [NeZero n] {s : Fin n → EReal} (hs : ∀ m, ∃ r : ℝ, s m = r) :
    ∃ e : Fin n → ℝ, (∀ m, 0 < e m) ∧ ∀ m, ex s m = e m := by
  obtain ⟨M, hM⟩ := rowMax_real hs
  choose x hx using hs
  refine ⟨fun m => Real.exp (x m - M), fun m => Real.exp_pos _, fun m => ?_⟩
  rw [ex, hx, hM, ← EReal.coe_sub, Ideal.exp_coe]

/-- The two gradients of the scores are equal. -/
theorem dsQuot_eq [NeZero n] {s : Fin n → EReal} (hs : ∀ m, ∃ r : ℝ, s m = r) (g : Fin n → EReal) (m : Fin n) :
    dsQuot s g m = ds s g m := by
  obtain ⟨e, he, hex⟩ := ex_real hs
  have hL : 0 < ∑ j, e j := Finset.sum_pos (fun j _ => he j) Finset.univ_nonempty
  set L : ℝ := ∑ j, e j with hLdef
  have hsum : ∑ j, ex s j = (L : EReal) := by rw [hLdef, ← Reals.sum_coe]; exact Finset.sum_congr rfl fun j _ => hex j
  have hatt : ∀ j, att s j = ((e j * (1 / L) : ℝ) : EReal) := fun j => by
    rw [att, hsum, hex, Ideal.div_coe hL.ne', EReal.coe_mul]
  have hw : Ideal.div 1 ((L : EReal) * L) = ((1 / L * (1 / L) : ℝ) : EReal) := by
    rw [← EReal.coe_mul, Ideal.div_coe (mul_pos hL hL).ne', one_mul, one_div_mul_one_div]
  have hLi : 0 ≤ 1 / L := by positivity
  have hmean : ∑ j, g j * ((1 / L * (1 / L) : ℝ) : EReal) * (e j : EReal) = ((1 / L : ℝ) : EReal) * ∑ j, att s j * g j := by
    rw [Reals.mul_sum hLi]
    refine Finset.sum_congr rfl fun j _ => ?_
    rw [hatt, ← mul_assoc, ← EReal.coe_mul, mul_assoc, ← EReal.coe_mul, mul_comm]
    congr 2; ring
  rw [dsQuot, ds, hsum, hw]
  simp only [hex]
  rw [hmean, Ideal.div_coe hL.ne', hatt m, mul_comm (g m), ← mul_neg, ← Reals.mul_add hLi, ← sub_eq_add_neg,
    mul_comm (_ * _) (e m : EReal), ← mul_assoc, ← EReal.coe_mul]

end Cert.Mem

end
-- ==== Proof.MemPay.lean ====
/- What the body of the memory attention's gradient computes from one head's blocks, read at an index: the scores'
   gradient and the three products taken with it and with the attention weights. The four heads' operations are the
   same operations, so each head's named terms are the first head's. -/
module

public import proofs.«01_k».proof.Proof.Gen.KernelIdeal.Skeleton
public import proofs.«01_k».proof.Proof.MemMath

@[expose] public section

noncomputable section

namespace Cert.Mem

open Idealize.ShloMosaic Cert.KernelIdeal Cert.KernelIdeal.Gen

variable (q d : Vec Ideal S512x128 .bf16) (k v : Vec Ideal S256x128 .bf16)

/-- The scores of row `r` of one head: the query's product with every key, scaled. -/
def score (r : Fin 512) : Fin 256 → EReal := fun m => (∑ e, q (ix2 r e) * k (ix2 m e)) * scale

/-- The weights' gradient of row `r` of one head: the output's gradient with every value row. -/
def wgrad (r : Fin 512) : Fin 256 → EReal := fun m => ∑ e, d (ix2 r e) * v (ix2 m e)

theorem att_apply (r : Fin 512) (m : Fin 256) : k0_pay7 q k (ix2 r m) = att (score q k r) m := by
  unfold k0_pay7
  pointwise
  rfl

theorem ds_apply (r : Fin 512) (m : Fin 256) : k0_pay8 q k d v (ix2 r m) = ds (score q k r) (wgrad d v r) m := by
  unfold k0_pay8
  pointwise
  simp only [att_apply]
  rfl

/-- The queries' gradient of one head's rows. -/
theorem dq_apply (r : Fin 512) (e : Fin 128) :
    k0_pay9 q k d v k (ix2 r e) = ∑ m, ds (score q k r) (wgrad d v r) m * k (ix2 m e) := by
  unfold k0_pay9
  pointwise
  simp only [ds_apply]

/-- The rows' contribution to the keys' gradient of one head. -/
theorem dk_apply (m : Fin 256) (e : Fin 128) :
    k0_pay10 q k d v (ix2 m e) = ∑ r, ds (score q k r) (wgrad d v r) m * q (ix2 r e) := by
  unfold k0_pay10
  pointwise
  simp only [ds_apply]

/-- The rows' contribution to the values' gradient of one head. -/
theorem dv_apply (m : Fin 256) (e : Fin 128) : k0_pay11 q k d (ix2 m e) = ∑ r, att (score q k r) m * d (ix2 r e) := by
  unfold k0_pay11
  pointwise
  simp only [att_apply]

/-- A contribution is added to what the block holds. -/
theorem acc_apply (new : FVec Ideal S256x128 .f32) (old : Vec Ideal S256x128 .f32) (m : Fin 256) (e : Fin 128) :
    k0_pay12 new old (ix2 m e) = old (ix2 m e) + new (ix2 m e) := by
  unfold k0_pay12
  pointwise

/-! The other heads' terms, and the adding terms, in the first head's vocabulary. -/

theorem dq_head1 : k0_pay16 q k d v k = k0_pay9 q k d v k := rfl
theorem dk_head1 : k0_pay17 q (k0_pay15 q k d v) = k0_pay10 q k d v := rfl
theorem dv_head1 : k0_pay18 (k0_pay14 q k) d = k0_pay11 q k d := rfl
theorem dq_head2 : k0_pay23 (k0_pay22 q k d v) k = k0_pay9 q k d v k := rfl
theorem dk_head2 : k0_pay24 q (k0_pay22 q k d v) = k0_pay10 q k d v := rfl
theorem dv_head2 : k0_pay25 (k0_pay21 q k) d = k0_pay11 q k d := rfl
theorem dq_head3 : k0_pay2 (k0_pay28 q k) (k0_pay29 d v) (k0_pay30 q k d v) k = k0_pay9 q k d v k := rfl
theorem dk_head3 : k0_pay3 q (k0_pay28 q k) (k0_pay29 d v) (k0_pay30 q k d v) = k0_pay10 q k d v := rfl
theorem dv_head3 : k0_pay4 (k0_pay28 q k) d = k0_pay11 q k d := rfl

variable (old : Vec Ideal S256x128 .f32)

theorem accv_head0 : k0_pay13 (k0_pay11 q k d) old = k0_pay12 (k0_pay11 q k d) old := rfl
theorem acck_head1 : k0_pay19 q (k0_pay15 q k d v) old = k0_pay12 (k0_pay10 q k d v) old := rfl
theorem accv_head1 : k0_pay20 (k0_pay14 q k) d old = k0_pay12 (k0_pay11 q k d) old := rfl
theorem acck_head2 : k0_pay26 q (k0_pay22 q k d v) old = k0_pay12 (k0_pay10 q k d v) old := rfl
theorem accv_head2 : k0_pay27 (k0_pay21 q k) d old = k0_pay12 (k0_pay11 q k d) old := rfl
theorem acck_head3 : k0_pay5 q (k0_pay28 q k) (k0_pay29 d v) (k0_pay30 q k d v) old = k0_pay12 (k0_pay10 q k d v) old := rfl
theorem accv_head3 : k0_pay6 (k0_pay28 q k) d old = k0_pay12 (k0_pay11 q k d) old := rfl

end Cert.Mem

end
-- ==== Proof.MemSpec.lean ====
/- The gradient of the memory attention as one function of the call's argument arrays: `X0` the projections with the
   queries in their columns 3584–4095, `X1` the keys and the values of the memory, `X2` the output's gradient, `X3` the
   projections' gradient that the queries' gradient is put into. A row is a batch element and a position; a column of
   the queries, keys or values is a head and an entry. -/
module

public import proofs.«01_k».proof.Proof.MemMath

@[expose] public section

noncomputable section

namespace Cert.Mem

open Idealize.ShloMosaic

/-- Head `h`'s column `e` among the 512 columns of the heads. -/
abbrev qcol (h : Fin 4) (e : Fin 128) : Fin 512 := ⟨128 * h.val + e.val, by omega⟩

/-- Head `h`'s key column `e` among the 1024 columns of keys and values. -/
abbrev kcol (h : Fin 4) (e : Fin 128) : Fin 1024 := ⟨128 * h.val + e.val, by omega⟩

/-- Head `h`'s value column `e` among the 1024 columns of keys and values. -/
abbrev vcol (h : Fin 4) (e : Fin 128) : Fin 1024 := ⟨512 + 128 * h.val + e.val, by omega⟩

/-- Head `h`'s query column `e` among the 7168 columns of the projections. -/
abbrev pcol (h : Fin 4) (e : Fin 128) : Fin 7168 := ⟨3584 + 128 * h.val + e.val, by omega⟩

/-- Position `s` of batch element `b` among the 8192 rows. -/
abbrev row (b : Fin 4) (s : Fin 2048) : Fin 8192 := ⟨2048 * b.val + s.val, by omega⟩

/-- Memory position `m` of batch element `b` among the 1024 rows. -/
abbrev mrow (b : Fin 4) (m : Fin 256) : Fin 1024 := ⟨256 * b.val + m.val, by omega⟩

variable (X0 : (⟨2, ![8192, 7168]⟩ : Shape).Idx → EReal) (X1 : (⟨2, ![1024, 1024]⟩ : Shape).Idx → EReal)
  (X2 : (⟨2, ![8192, 512]⟩ : Shape).Idx → EReal) (X3 : (⟨2, ![8192, 7168]⟩ : Shape).Idx → EReal)

/-- The scores of one head's query at one position. -/
def scoreA (b h : Fin 4) (s : Fin 2048) : Fin 256 → EReal :=
  fun m => (∑ e, X0 (ix2 (row b s) (pcol h e)) * X1 (ix2 (mrow b m) (kcol h e))) * scale

/-- The weights' gradient of one head at one position. -/
def wgradA (b h : Fin 4) (s : Fin 2048) : Fin 256 → EReal :=
  fun m => ∑ e, X2 (ix2 (row b s) (qcol h e)) * X1 (ix2 (mrow b m) (vcol h e))

/-- The scores' gradient of one head at one position. -/
def dsA (b h : Fin 4) (s : Fin 2048) : Fin 256 → EReal := ds (scoreA X0 X1 b h s) (wgradA X1 X2 b h s)

/-- The queries' gradient. -/
def dqA (b h : Fin 4) (s : Fin 2048) (e : Fin 128) : EReal := ∑ m, dsA X0 X1 X2 b h s m * X1 (ix2 (mrow b m) (kcol h e))

/-- The keys' gradient. -/
def dkA (b h : Fin 4) (m : Fin 256) (e : Fin 128) : EReal := ∑ s, dsA X0 X1 X2 b h s m * X0 (ix2 (row b s) (pcol h e))

/-- The values' gradient. -/
def dvA (b h : Fin 4) (m : Fin 256) (e : Fin 128) : EReal := ∑ s, att (scoreA X0 X1 b h s) m * X2 (ix2 (row b s) (qcol h e))

/-- The projections' gradient with the queries' gradient in its place. -/
def dproj : (⟨2, ![8192, 7168]⟩ : Shape).Idx → EReal := fun i =>
  if hi : 3584 ≤ (i 1).val ∧ (i 1).val < 4096 then
    dqA X0 X1 X2 ⟨(i 0).val / 2048, by have := (i 0).isLt; change (i 0).val < 8192 at this; omega⟩
      ⟨((i 1).val - 3584) / 128, by omega⟩ ⟨(i 0).val % 2048, by omega⟩ ⟨((i 1).val - 3584) % 128, by omega⟩
  else X3 i

/-- The gradient of the memory's keys and values. -/
def dkv : (⟨2, ![1024, 1024]⟩ : Shape).Idx → EReal := fun i =>
  if hi : (i 1).val < 512 then
    dkA X0 X1 X2 ⟨(i 0).val / 256, by have := (i 0).isLt; change (i 0).val < 1024 at this; omega⟩
      ⟨(i 1).val / 128, by omega⟩ ⟨(i 0).val % 256, by omega⟩ ⟨(i 1).val % 128, by omega⟩
  else
    dvA X0 X1 X2 ⟨(i 0).val / 256, by have := (i 0).isLt; change (i 0).val < 1024 at this; omega⟩
      ⟨((i 1).val - 512) / 128, by have := (i 1).isLt; change (i 1).val < 1024 at this; omega⟩ ⟨(i 0).val % 256, by omega⟩
      ⟨((i 1).val - 512) % 128, by omega⟩

theorem dproj_query (b h : Fin 4) (s : Fin 2048) (e : Fin 128) (i : (⟨2, ![8192, 7168]⟩ : Shape).Idx)
    (h0 : (i 0).val = 2048 * b.val + s.val) (h1 : (i 1).val = 3584 + 128 * h.val + e.val) :
    dproj X0 X1 X2 X3 i = dqA X0 X1 X2 b h s e := by
  have := h.isLt; have := e.isLt; have := s.isLt
  rw [dproj, dif_pos (by omega)]
  exact congr (congr (congr (congrArg (dqA X0 X1 X2) (Fin.ext (by dsimp only; omega))) (Fin.ext (by dsimp only; omega)))
    (Fin.ext (by dsimp only; omega))) (Fin.ext (by dsimp only; omega))

theorem dproj_other (i : (⟨2, ![8192, 7168]⟩ : Shape).Idx) (h1 : ¬(3584 ≤ (i 1).val ∧ (i 1).val < 4096)) :
    dproj X0 X1 X2 X3 i = X3 i := by
  rw [dproj, dif_neg h1]

theorem dkv_key (b h : Fin 4) (m : Fin 256) (e : Fin 128) (i : (⟨2, ![1024, 1024]⟩ : Shape).Idx)
    (h0 : (i 0).val = 256 * b.val + m.val) (h1 : (i 1).val = 128 * h.val + e.val) :
    dkv X0 X1 X2 i = dkA X0 X1 X2 b h m e := by
  have := h.isLt; have := e.isLt; have := m.isLt
  rw [dkv, dif_pos (by omega)]
  exact congr (congr (congr (congrArg (dkA X0 X1 X2) (Fin.ext (by dsimp only; omega))) (Fin.ext (by dsimp only; omega)))
    (Fin.ext (by dsimp only; omega))) (Fin.ext (by dsimp only; omega))

theorem dkv_value (b h : Fin 4) (m : Fin 256) (e : Fin 128) (i : (⟨2, ![1024, 1024]⟩ : Shape).Idx)
    (h0 : (i 0).val = 256 * b.val + m.val) (h1 : (i 1).val = 512 + 128 * h.val + e.val) :
    dkv X0 X1 X2 i = dvA X0 X1 X2 b h m e := by
  have := h.isLt; have := e.isLt; have := m.isLt
  rw [dkv, dif_neg (by omega)]
  exact congr (congr (congr (congrArg (dvA X0 X1 X2) (Fin.ext (by dsimp only; omega))) (Fin.ext (by dsimp only; omega)))
    (Fin.ext (by dsimp only; omega))) (Fin.ext (by dsimp only; omega))

end Cert.Mem

end
-- ==== Proof.MemBlocks.lean ====
/- What one grid point of the memory attention's gradient leaves in its two output blocks, entry by entry: the queries'
   gradient of its rows, and its rows' contributions to the keys' and the values' gradients — the block itself at the
   first point of a batch element, added to what the block holds at the others. -/
module

public import proofs.«01_k».proof.Proof.Gen.KernelIdeal.Frame
public import proofs.«01_k».proof.Proof.MemPay
public import proofs.«01_k».proof.Proof.MemSpec
public import Idealize.ShloMosaic.Lib.Pipeline.ValueKit

@[expose] public section

noncomputable section

namespace Cert.Mem

open Idealize.ShloMosaic Idealize.ShloMosaic.TcCoe Idealize.SL.Sem Cert.KernelIdeal Cert.KernelIdeal.Gen

/-- One head's columns of a block of rows. -/
def headQ (x : Vec Ideal S512x512 .bf16) (h : Fin 4) : Vec Ideal S512x128 .bf16 := fun y => x (ix2 (y 0) (qcol h (y 1)))

/-- One head's keys. -/
def headK (x : Vec Ideal S256x1024 .bf16) (h : Fin 4) : Vec Ideal S256x128 .bf16 := fun y => x (ix2 (y 0) (kcol h (y 1)))

/-- One head's values. -/
def headV (x : Vec Ideal S256x1024 .bf16) (h : Fin 4) : Vec Ideal S256x128 .bf16 := fun y => x (ix2 (y 0) (vcol h (y 1)))

theorem ld_headQ (x : Vec Ideal S512x512 .bf16) (h : Fin 4) (o : ℕ) (inb) (ho : o = 128 * h.val) :
    View.ld x (Rect.unit ![0, o] ![512, 128] inb) = headQ x h := by
  funext y
  refine View.ld_unit_apply_of x _ _ inb y _ (Fin.forall_fin_two.mpr ⟨?_, ?_⟩)
  · exact (Nat.zero_add _).symm
  · subst ho; rfl

theorem ld_headK (x : Vec Ideal S256x1024 .bf16) (h : Fin 4) (o : ℕ) (inb) (ho : o = 128 * h.val) :
    View.ld x (Rect.unit ![0, o] ![256, 128] inb) = headK x h := by
  funext y
  refine View.ld_unit_apply_of x _ _ inb y _ (Fin.forall_fin_two.mpr ⟨?_, ?_⟩)
  · exact (Nat.zero_add _).symm
  · subst ho; rfl

theorem ld_headV (x : Vec Ideal S256x1024 .bf16) (h : Fin 4) (o : ℕ) (inb) (ho : o = 512 + 128 * h.val) :
    View.ld x (Rect.unit ![0, o] ![256, 128] inb) = headV x h := by
  funext y
  refine View.ld_unit_apply_of x _ _ inb y _ (Fin.forall_fin_two.mpr ⟨?_, ?_⟩)
  · exact (Nat.zero_add _).symm
  · subst ho; rfl

variable (x0 : Vec Ideal S512x512 .bf16) (x1 : Vec Ideal S256x1024 .bf16) (x2 : Vec Ideal S512x512 .bf16)

/-- The scores' gradient of one head's row, from the point's blocks. -/
def dsB (h : Fin 4) (r : Fin 512) : Fin 256 → EReal :=
  ds (score (headQ x0 h) (headK x1 h) r) (wgrad (headQ x2 h) (headV x1 h) r)

/-- The point's entries of the queries' gradient. -/
def dqB (h : Fin 4) (r : Fin 512) (e : Fin 128) : EReal := ∑ m, dsB x0 x1 x2 h r m * x1 (ix2 m (kcol h e))

/-- The point's contribution to the keys' gradient. -/
def dkB (h : Fin 4) (m : Fin 256) (e : Fin 128) : EReal := ∑ r, dsB x0 x1 x2 h r m * x0 (ix2 r (qcol h e))

/-- The point's contribution to the values' gradient. -/
def dvB (h : Fin 4) (m : Fin 256) (e : Fin 128) : EReal :=
  ∑ r, att (score (headQ x0 h) (headK x1 h) r) m * x2 (ix2 r (qcol h e))

theorem dq_head (h : Fin 4) (r : Fin 512) (e : Fin 128) :
    k0_pay9 (headQ x0 h) (headK x1 h) (headQ x2 h) (headV x1 h) (headK x1 h) (ix2 r e) = dqB x0 x1 x2 h r e := dq_apply ..

theorem dk_head (h : Fin 4) (m : Fin 256) (e : Fin 128) :
    k0_pay10 (headQ x0 h) (headK x1 h) (headQ x2 h) (headV x1 h) (ix2 m e) = dkB x0 x1 x2 h m e := dk_apply ..

theorem dv_head (h : Fin 4) (m : Fin 256) (e : Fin 128) :
    k0_pay11 (headQ x0 h) (headK x1 h) (headQ x2 h) (ix2 m e) = dvB x0 x1 x2 h m e := dv_apply ..

theorem idx2_eq {a b : ℕ} (x : (⟨2, ![a, b]⟩ : Shape).Idx) (r : Fin a) (e : Fin b) (h0 : r.val = (x 0).val) (h1 : e.val = (x 1).val) : x = ix2 r e := by
  funext i
  fin_cases i
  · exact Fin.ext h0.symm
  · exact Fin.ext h1.symm

/-- At the first point of a batch element, the queries' gradient block. -/
theorem out3_A (c : Dev nD) (i : grid0.Coords) (arg2 : Memref sig .tc .vmem S512x512 .bf16) (harg2 : arg2.IsWhole) (arg3 : Memref sig .tc .vmem S256x1024 .bf16) (harg3 : arg3.IsWhole) (arg4 : Memref sig .tc .vmem S512x512 .bf16) (harg4 : arg4.IsWhole) (arg6 : Memref sig .tc .vmem S512x512 .bf16) (harg6 : arg6.IsWhole) (arg7 : Memref sig .tc .vmem S256x1024 .f32) (harg7 : arg7.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i)
    (h : Fin 4) (r : Fin 512) (e : Fin 128) :
    out0_A_3 c i arg2 harg2 arg3 harg3 arg4 harg4 arg6 harg6 arg7 harg7 hc0 hc1 hc2 hc3 hc4 hc5 hc6 hc7 x0 x1 x2 (ix2 r (qcol h e)) = dqB x0 x1 x2 h r e := by
  frame_out
  canon_tiles x w
  · obtain rfl : h = 3 := Fin.ext (by simp at w1 ⊢; omega)
    rw [idx2_eq x r e (by simpa using w0) (by simpa using w1)]
    simp only [ld_headQ _ 3 384 _ rfl, ld_headK _ 3 384 _ rfl, ld_headV _ 3 896 _ rfl, dq_head3, dq_head]
  · obtain rfl : h = 2 := Fin.ext (by simp at w1 ⊢; omega)
    rw [idx2_eq x r e (by simpa using w0) (by simpa using w1)]
    simp only [ld_headQ _ 2 256 _ rfl, ld_headK _ 2 256 _ rfl, ld_headV _ 2 768 _ rfl, dq_head2, dq_head]
  · obtain rfl : h = 1 := Fin.ext (by simp at w1 ⊢; omega)
    rw [idx2_eq x r e (by simpa using w0) (by simpa using w1)]
    simp only [ld_headQ _ 1 128 _ rfl, ld_headK _ 1 128 _ rfl, ld_headV _ 1 640 _ rfl, dq_head1, dq_head]
  · obtain rfl : h = 0 := Fin.ext (by simp at w1 ⊢; omega)
    rw [idx2_eq x r e (by simpa using w0) (by simpa using w1)]
    simp only [ld_headQ _ 0 0 _ rfl, ld_headK _ 0 0 _ rfl, ld_headV _ 0 512 _ rfl, dq_head]

/-- At the first point of a batch element, the keys' gradient columns of the second block. -/
theorem out4k_A (c : Dev nD) (i : grid0.Coords) (arg2 : Memref sig .tc .vmem S512x512 .bf16) (harg2 : arg2.IsWhole) (arg3 : Memref sig .tc .vmem S256x1024 .bf16) (harg3 : arg3.IsWhole) (arg4 : Memref sig .tc .vmem S512x512 .bf16) (harg4 : arg4.IsWhole) (arg6 : Memref sig .tc .vmem S512x512 .bf16) (harg6 : arg6.IsWhole) (arg7 : Memref sig .tc .vmem S256x1024 .f32) (harg7 : arg7.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i)
    (h : Fin 4) (m : Fin 256) (e : Fin 128) :
    out0_A_4 c i arg2 harg2 arg3 harg3 arg4 harg4 arg6 harg6 arg7 harg7 hc0 hc1 hc2 hc3 hc4 hc5 hc6 hc7 x0 x1 x2 (ix2 m (kcol h e)) = dkB x0 x1 x2 h m e := by
  frame_out
  canon_tiles x w
  · exfalso; simp at w1; omega
  · obtain rfl : h = 3 := Fin.ext (by simp at w1 ⊢; omega)
    rw [idx2_eq x m e (by simpa using w0) (by simpa using w1)]
    simp only [ld_headQ _ 3 384 _ rfl, ld_headK _ 3 384 _ rfl, ld_headV _ 3 896 _ rfl, dk_head3, dk_head]
  · exfalso; simp at w1; omega
  · obtain rfl : h = 2 := Fin.ext (by simp at w1 ⊢; omega)
    rw [idx2_eq x m e (by simpa using w0) (by simpa using w1)]
    simp only [ld_headQ _ 2 256 _ rfl, ld_headK _ 2 256 _ rfl, ld_headV _ 2 768 _ rfl, dk_head2, dk_head]
  · exfalso; simp at w1; omega
  · obtain rfl : h = 1 := Fin.ext (by simp at w1 ⊢; omega)
    rw [idx2_eq x m e (by simpa using w0) (by simpa using w1)]
    simp only [ld_headQ _ 1 128 _ rfl, ld_headK _ 1 128 _ rfl, ld_headV _ 1 640 _ rfl, dk_head1, dk_head]
  · exfalso; simp at w1; omega
  · obtain rfl : h = 0 := Fin.ext (by simp at w1 ⊢; omega)
    rw [idx2_eq x m e (by simpa using w0) (by simpa using w1)]
    simp only [ld_headQ _ 0 0 _ rfl, ld_headK _ 0 0 _ rfl, ld_headV _ 0 512 _ rfl, dk_head]

/-- At the first point of a batch element, the values' gradient columns of the second block. -/
theorem out4v_A (c : Dev nD) (i : grid0.Coords) (arg2 : Memref sig .tc .vmem S512x512 .bf16) (harg2 : arg2.IsWhole) (arg3 : Memref sig .tc .vmem S256x1024 .bf16) (harg3 : arg3.IsWhole) (arg4 : Memref sig .tc .vmem S512x512 .bf16) (harg4 : arg4.IsWhole) (arg6 : Memref sig .tc .vmem S512x512 .bf16) (harg6 : arg6.IsWhole) (arg7 : Memref sig .tc .vmem S256x1024 .f32) (harg7 : arg7.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i)
    (h : Fin 4) (m : Fin 256) (e : Fin 128) :
    out0_A_4 c i arg2 harg2 arg3 harg3 arg4 harg4 arg6 harg6 arg7 harg7 hc0 hc1 hc2 hc3 hc4 hc5 hc6 hc7 x0 x1 x2 (ix2 m (vcol h e)) = dvB x0 x1 x2 h m e := by
  frame_out
  canon_tiles x w
  · obtain rfl : h = 3 := Fin.ext (by simp at w1 ⊢; omega)
    rw [idx2_eq x m e (by simpa using w0) (by simpa using w1)]
    simp only [ld_headQ _ 3 384 _ rfl, ld_headK _ 3 384 _ rfl, ld_headV _ 3 896 _ rfl, dv_head3, dv_head]
  · exfalso; simp at w1; omega
  · obtain rfl : h = 2 := Fin.ext (by simp at w1 ⊢; omega)
    rw [idx2_eq x m e (by simpa using w0) (by simpa using w1)]
    simp only [ld_headQ _ 2 256 _ rfl, ld_headK _ 2 256 _ rfl, ld_headV _ 2 768 _ rfl, dv_head2, dv_head]
  · exfalso; simp at w1; omega
  · obtain rfl : h = 1 := Fin.ext (by simp at w1 ⊢; omega)
    rw [idx2_eq x m e (by simpa using w0) (by simpa using w1)]
    simp only [ld_headQ _ 1 128 _ rfl, ld_headK _ 1 128 _ rfl, ld_headV _ 1 640 _ rfl, dv_head1, dv_head]
  · exfalso; simp at w1; omega
  · obtain rfl : h = 0 := Fin.ext (by simp at w1 ⊢; omega)
    rw [idx2_eq x m e (by simpa using w0) (by simpa using w1)]
    simp only [ld_headQ _ 0 0 _ rfl, ld_headK _ 0 0 _ rfl, ld_headV _ 0 512 _ rfl, dv_head]
  · exfalso; simp at w1; omega

/-- At a later point, the queries' gradient block. -/
theorem out3_B (c : Dev nD) (i : grid0.Coords) (arg2 : Memref sig .tc .vmem S512x512 .bf16) (harg2 : arg2.IsWhole) (arg3 : Memref sig .tc .vmem S256x1024 .bf16) (harg3 : arg3.IsWhole) (arg4 : Memref sig .tc .vmem S512x512 .bf16) (harg4 : arg4.IsWhole) (arg6 : Memref sig .tc .vmem S512x512 .bf16) (harg6 : arg6.IsWhole) (arg7 : Memref sig .tc .vmem S256x1024 .f32) (harg7 : arg7.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (xo : Vec Ideal S256x1024 .f32)
    (h : Fin 4) (r : Fin 512) (e : Fin 128) :
    out0_B_3 c i arg2 harg2 arg3 harg3 arg4 harg4 arg6 harg6 arg7 harg7 hc0 hc1 hc2 hc3 hc4 hc5 hc6 hc7 x0 x1 x2 xo (ix2 r (qcol h e)) = dqB x0 x1 x2 h r e := by
  frame_out
  canon_tiles x w
  · obtain rfl : h = 3 := Fin.ext (by simp at w1 ⊢; omega)
    rw [idx2_eq x r e (by simpa using w0) (by simpa using w1)]
    simp only [ld_headQ _ 3 384 _ rfl, ld_headK _ 3 384 _ rfl, ld_headV _ 3 896 _ rfl, dq_head3, dq_head]
  · obtain rfl : h = 2 := Fin.ext (by simp at w1 ⊢; omega)
    rw [idx2_eq x r e (by simpa using w0) (by simpa using w1)]
    simp only [ld_headQ _ 2 256 _ rfl, ld_headK _ 2 256 _ rfl, ld_headV _ 2 768 _ rfl, dq_head2, dq_head]
  · obtain rfl : h = 1 := Fin.ext (by simp at w1 ⊢; omega)
    rw [idx2_eq x r e (by simpa using w0) (by simpa using w1)]
    simp only [ld_headQ _ 1 128 _ rfl, ld_headK _ 1 128 _ rfl, ld_headV _ 1 640 _ rfl, dq_head1, dq_head]
  · obtain rfl : h = 0 := Fin.ext (by simp at w1 ⊢; omega)
    rw [idx2_eq x r e (by simpa using w0) (by simpa using w1)]
    simp only [ld_headQ _ 0 0 _ rfl, ld_headK _ 0 0 _ rfl, ld_headV _ 0 512 _ rfl, dq_head]

/-- At a later point, the keys' gradient columns of the second block. -/
theorem out4k_B (c : Dev nD) (i : grid0.Coords) (arg2 : Memref sig .tc .vmem S512x512 .bf16) (harg2 : arg2.IsWhole) (arg3 : Memref sig .tc .vmem S256x1024 .bf16) (harg3 : arg3.IsWhole) (arg4 : Memref sig .tc .vmem S512x512 .bf16) (harg4 : arg4.IsWhole) (arg6 : Memref sig .tc .vmem S512x512 .bf16) (harg6 : arg6.IsWhole) (arg7 : Memref sig .tc .vmem S256x1024 .f32) (harg7 : arg7.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (xo : Vec Ideal S256x1024 .f32)
    (h : Fin 4) (m : Fin 256) (e : Fin 128) :
    out0_B_4 c i arg2 harg2 arg3 harg3 arg4 harg4 arg6 harg6 arg7 harg7 hc0 hc1 hc2 hc3 hc4 hc5 hc6 hc7 x0 x1 x2 xo (ix2 m (kcol h e)) = xo (ix2 m (kcol h e)) + dkB x0 x1 x2 h m e := by
  frame_out
  canon_tiles x w
  · exfalso; simp at w1; omega
  · obtain rfl : h = 3 := Fin.ext (by simp at w1 ⊢; omega)
    rw [idx2_eq x m e (by simpa using w0) (by simpa using w1)]
    simp only [ld_headQ _ 3 384 _ rfl, ld_headK _ 3 384 _ rfl, ld_headV _ 3 896 _ rfl, acck_head3, acc_apply, dk_head]
    rfl
  · exfalso; simp at w1; omega
  · obtain rfl : h = 2 := Fin.ext (by simp at w1 ⊢; omega)
    rw [idx2_eq x m e (by simpa using w0) (by simpa using w1)]
    simp only [ld_headQ _ 2 256 _ rfl, ld_headK _ 2 256 _ rfl, ld_headV _ 2 768 _ rfl, acck_head2, acc_apply, dk_head]
    rfl
  · exfalso; simp at w1; omega
  · obtain rfl : h = 1 := Fin.ext (by simp at w1 ⊢; omega)
    rw [idx2_eq x m e (by simpa using w0) (by simpa using w1)]
    simp only [ld_headQ _ 1 128 _ rfl, ld_headK _ 1 128 _ rfl, ld_headV _ 1 640 _ rfl, acck_head1, acc_apply, dk_head]
    rfl
  · exfalso; simp at w1; omega
  · obtain rfl : h = 0 := Fin.ext (by simp at w1 ⊢; omega)
    rw [idx2_eq x m e (by simpa using w0) (by simpa using w1)]
    simp only [ld_headQ _ 0 0 _ rfl, ld_headK _ 0 0 _ rfl, ld_headV _ 0 512 _ rfl, acc_apply, dk_head]
    rfl

/-- At a later point, the values' gradient columns of the second block. -/
theorem out4v_B (c : Dev nD) (i : grid0.Coords) (arg2 : Memref sig .tc .vmem S512x512 .bf16) (harg2 : arg2.IsWhole) (arg3 : Memref sig .tc .vmem S256x1024 .bf16) (harg3 : arg3.IsWhole) (arg4 : Memref sig .tc .vmem S512x512 .bf16) (harg4 : arg4.IsWhole) (arg6 : Memref sig .tc .vmem S512x512 .bf16) (harg6 : arg6.IsWhole) (arg7 : Memref sig .tc .vmem S256x1024 .f32) (harg7 : arg7.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (xo : Vec Ideal S256x1024 .f32)
    (h : Fin 4) (m : Fin 256) (e : Fin 128) :
    out0_B_4 c i arg2 harg2 arg3 harg3 arg4 harg4 arg6 harg6 arg7 harg7 hc0 hc1 hc2 hc3 hc4 hc5 hc6 hc7 x0 x1 x2 xo (ix2 m (vcol h e)) = xo (ix2 m (vcol h e)) + dvB x0 x1 x2 h m e := by
  frame_out
  canon_tiles x w
  · obtain rfl : h = 3 := Fin.ext (by simp at w1 ⊢; omega)
    rw [idx2_eq x m e (by simpa using w0) (by simpa using w1)]
    simp only [ld_headQ _ 3 384 _ rfl, ld_headK _ 3 384 _ rfl, ld_headV _ 3 896 _ rfl, accv_head3, acc_apply, dv_head]
    rfl
  · exfalso; simp at w1; omega
  · obtain rfl : h = 2 := Fin.ext (by simp at w1 ⊢; omega)
    rw [idx2_eq x m e (by simpa using w0) (by simpa using w1)]
    simp only [ld_headQ _ 2 256 _ rfl, ld_headK _ 2 256 _ rfl, ld_headV _ 2 768 _ rfl, accv_head2, acc_apply, dv_head]
    rfl
  · exfalso; simp at w1; omega
  · obtain rfl : h = 1 := Fin.ext (by simp at w1 ⊢; omega)
    rw [idx2_eq x m e (by simpa using w0) (by simpa using w1)]
    simp only [ld_headQ _ 1 128 _ rfl, ld_headK _ 1 128 _ rfl, ld_headV _ 1 640 _ rfl, accv_head1, acc_apply, dv_head]
    rfl
  · exfalso; simp at w1; omega
  · obtain rfl : h = 0 := Fin.ext (by simp at w1 ⊢; omega)
    rw [idx2_eq x m e (by simpa using w0) (by simpa using w1)]
    simp only [ld_headQ _ 0 0 _ rfl, ld_headK _ 0 0 _ rfl, ld_headV _ 0 512 _ rfl, accv_head0, acc_apply, dv_head]
    rfl
  · exfalso; simp at w1; omega

end Cert.Mem

end
-- ==== Proof.MemOut.lean ====
/- What the memory attention's gradient leaves in its two result arrays: the functions of the argument arrays that
   `MemSpec` states. -/
module

public import proofs.«01_k».proof.Proof.Gen.KernelIdeal.Value
public import proofs.«01_k».proof.Proof.MemBlocks

@[expose] public section

noncomputable section

namespace Cert.Mem

open Idealize.ShloMosaic Idealize.ShloMosaic.TcCoe Idealize.SL.Sem Cert.KernelIdeal Cert.KernelIdeal.Gen

variable (m : (ℓ : Loc nD τ sig) → Buf (Elt Ideal) ℓ) (c : Dev nD)

/-- The argument arrays as launched. -/
abbrev A0 : (⟨2, ![8192, 7168]⟩ : Shape).Idx → EReal := m ((c : Thread nD τ).loc main_arg0)
abbrev A1 : (⟨2, ![1024, 1024]⟩ : Shape).Idx → EReal := m ((c : Thread nD τ).loc main_arg1)
abbrev A2 : (⟨2, ![8192, 512]⟩ : Shape).Idx → EReal := m ((c : Thread nD τ).loc main_arg2)
abbrev A3 : (⟨2, ![8192, 7168]⟩ : Shape).Idx → EReal := m ((c : Thread nD τ).loc main_arg3)

/-- Where each window's block of a point lies: batch element `t / 4`, row tile `t`. -/
theorem idx : ∀ t : Fin cfg0.N, win0_0.index t = ![t.val, 7] ∧ win0_1.index t = ![t.val / 4, 0] ∧ win0_2.index t = ![t.val, 0]
    ∧ win0_3.index t = ![t.val, 7] ∧ win0_4.index t = ![t.val / 4, 0] :=
  (by decide +kernel : ∀ t : Fin grid0.N, win0_0.index t = ![t.val, 7] ∧ win0_1.index t = ![t.val / 4, 0] ∧ win0_2.index t = ![t.val, 0]
    ∧ win0_3.index t = ![t.val, 7] ∧ win0_4.index t = ![t.val / 4, 0])

/-- The query block of a point holds its rows of the query columns. -/
theorem iblk0 (t : Fin cfg0.N) (r : Fin 512) (j : Fin 512) (R : Fin 8192) (J : Fin 7168) (hR : R.val = 512 * t.val + r.val)
    (hJ : J.val = 3584 + j.val) : iblk m c 0 t (ix2 r j) = A0 m c (ix2 R J) := by
  obtain ⟨e0, -⟩ := idx t
  blk_ext [iblk, V, e0]

theorem iblk1 (t : Fin cfg0.N) (r : Fin 256) (j : Fin 1024) (R : Fin 1024) (hR : R.val = 256 * (t.val / 4) + r.val) :
    iblk m c 1 t (ix2 r j) = A1 m c (ix2 R j) := by
  obtain ⟨-, e0, -⟩ := idx t
  blk_ext [iblk, V, e0]

theorem iblk2 (t : Fin cfg0.N) (r : Fin 512) (j : Fin 512) (R : Fin 8192) (hR : R.val = 512 * t.val + r.val) :
    iblk m c 2 t (ix2 r j) = A2 m c (ix2 R j) := by
  obtain ⟨-, -, e0, -⟩ := idx t
  blk_ext [iblk, V, e0]

theorem N16 (t : Fin cfg0.N) : t.val < 16 := lt_of_lt_of_eq t.isLt N_0

/-- The batch element of a point, and the position of a row of its tile. -/
abbrev bat (t : Fin cfg0.N) : Fin 4 := ⟨t.val / 4, by have := N16 t; omega⟩
abbrev pos (t : Fin cfg0.N) (r : Fin 512) : Fin 2048 := ⟨512 * (t.val % 4) + r.val, by omega⟩

theorem score_eq (t : Fin cfg0.N) (h : Fin 4) (r : Fin 512) :
    score (headQ (iblk m c 0 t) h) (headK (iblk m c 1 t) h) r = scoreA (A0 m c) (A1 m c) (bat t) h (pos t r) := by
  funext x
  refine congrArg (· * scale) (Finset.sum_congr rfl fun e _ => ?_)
  refine congr_arg₂ (· * ·) (iblk0 m c t r (qcol h e) _ _ ?_ ?_) (iblk1 m c t x (kcol h e) _ ?_) <;> dsimp only <;> omega

theorem wgrad_eq (t : Fin cfg0.N) (h : Fin 4) (r : Fin 512) :
    wgrad (headQ (iblk m c 2 t) h) (headV (iblk m c 1 t) h) r = wgradA (A1 m c) (A2 m c) (bat t) h (pos t r) := by
  funext x
  refine Finset.sum_congr rfl fun e _ => ?_
  refine congr_arg₂ (· * ·) (iblk2 m c t r (qcol h e) _ ?_) (iblk1 m c t x (vcol h e) _ ?_) <;> dsimp only <;> omega

theorem dsB_eq (t : Fin cfg0.N) (h : Fin 4) (r : Fin 512) :
    dsB (iblk m c 0 t) (iblk m c 1 t) (iblk m c 2 t) h r = dsA (A0 m c) (A1 m c) (A2 m c) (bat t) h (pos t r) := by
  rw [dsB, score_eq, wgrad_eq]; rfl

theorem dqB_eq (t : Fin cfg0.N) (h : Fin 4) (r : Fin 512) (e : Fin 128) :
    dqB (iblk m c 0 t) (iblk m c 1 t) (iblk m c 2 t) h r e = dqA (A0 m c) (A1 m c) (A2 m c) (bat t) h (pos t r) e := by
  refine Finset.sum_congr rfl fun x _ => ?_
  rw [dsB_eq]
  exact congrArg (_ * ·) (iblk1 m c t x (kcol h e) _ (by dsimp only))

theorem dkB_eq (t : Fin cfg0.N) (h : Fin 4) (x : Fin 256) (e : Fin 128) :
    dkB (iblk m c 0 t) (iblk m c 1 t) (iblk m c 2 t) h x e
      = ∑ r, dsA (A0 m c) (A1 m c) (A2 m c) (bat t) h (pos t r) x * A0 m c (ix2 (row (bat t) (pos t r)) (pcol h e)) := by
  refine Finset.sum_congr rfl fun r _ => ?_
  rw [dsB_eq]
  refine congrArg (_ * ·) (iblk0 m c t r (qcol h e) _ _ ?_ ?_) <;> dsimp only <;> omega

theorem dvB_eq (t : Fin cfg0.N) (h : Fin 4) (x : Fin 256) (e : Fin 128) :
    dvB (iblk m c 0 t) (iblk m c 1 t) (iblk m c 2 t) h x e
      = ∑ r, att (scoreA (A0 m c) (A1 m c) (bat t) h (pos t r)) x * A2 m c (ix2 (row (bat t) (pos t r)) (qcol h e)) := by
  refine Finset.sum_congr rfl fun r _ => ?_
  rw [score_eq]
  refine congrArg (_ * ·) (iblk2 m c t r (qcol h e) _ ?_) <;> dsimp only <;> omega

/-- What a point leaves in the queries' gradient block. -/
theorem left3 (t : Fin cfg0.N) (h : Fin 4) (r : Fin 512) (e : Fin 128) :
    (outsAt0 m c t.val t.isLt).1 (ix2 r (qcol h e)) = dqA (A0 m c) (A1 m c) (A2 m c) (bat t) h (pos t r) e := by
  rw [← dqB_eq]
  by_cases h0 : t.val % 4 = 0
  · have h1 : ¬1 ≤ t.val % 4 := by omega
    rw [outsAt0_A m c t h0 h1 h0 h1 h0 h1 h0 h1]
    dsimp only
    rw [out3_A]
  · have h1 : 1 ≤ t.val % 4 := by omega
    rw [outsAt0_B m c t h0 h1 h0 h1 h0 h1 h0 h1]
    dsimp only
    rw [out3_B]

/-- The first point of a batch element leaves its contribution to the keys' gradient. -/
theorem first4k (t : Fin cfg0.N) (h0 : t.val % 4 = 0) (h : Fin 4) (x : Fin 256) (e : Fin 128) :
    (outsAt0 m c t.val t.isLt).2 (ix2 x (kcol h e)) = dkB (iblk m c 0 t) (iblk m c 1 t) (iblk m c 2 t) h x e := by
  have h1 : ¬1 ≤ t.val % 4 := by omega
  rw [outsAt0_A m c t h0 h1 h0 h1 h0 h1 h0 h1]
  dsimp only
  rw [out4k_A]

/-- A later point adds its contribution to the keys' gradient. -/
theorem next4k (t : Fin cfg0.N) (h0 : ¬t.val % 4 = 0) (h : Fin 4) (x : Fin 256) (e : Fin 128) :
    (outsAt0 m c t.val t.isLt).2 (ix2 x (kcol h e))
      = (outsAt0 m c (t.val - 1) (Nat.lt_of_le_of_lt (Nat.sub_le _ _) t.isLt)).2 (ix2 x (kcol h e))
        + dkB (iblk m c 0 t) (iblk m c 1 t) (iblk m c 2 t) h x e := by
  have h1 : 1 ≤ t.val % 4 := by omega
  rw [outsAt0_B m c t h0 h1 h0 h1 h0 h1 h0 h1]
  dsimp only
  rw [out4k_B]

/-- The first point of a batch element leaves its contribution to the values' gradient. -/
theorem first4v (t : Fin cfg0.N) (h0 : t.val % 4 = 0) (h : Fin 4) (x : Fin 256) (e : Fin 128) :
    (outsAt0 m c t.val t.isLt).2 (ix2 x (vcol h e)) = dvB (iblk m c 0 t) (iblk m c 1 t) (iblk m c 2 t) h x e := by
  have h1 : ¬1 ≤ t.val % 4 := by omega
  rw [outsAt0_A m c t h0 h1 h0 h1 h0 h1 h0 h1]
  dsimp only
  rw [out4v_A]

/-- A later point adds its contribution to the values' gradient. -/
theorem next4v (t : Fin cfg0.N) (h0 : ¬t.val % 4 = 0) (h : Fin 4) (x : Fin 256) (e : Fin 128) :
    (outsAt0 m c t.val t.isLt).2 (ix2 x (vcol h e))
      = (outsAt0 m c (t.val - 1) (Nat.lt_of_le_of_lt (Nat.sub_le _ _) t.isLt)).2 (ix2 x (vcol h e))
        + dvB (iblk m c 0 t) (iblk m c 1 t) (iblk m c 2 t) h x e := by
  have h1 : 1 ≤ t.val % 4 := by omega
  rw [outsAt0_B m c t h0 h1 h0 h1 h0 h1 h0 h1]
  dsimp only
  rw [out4v_B]

/-- A batch element's sum over its positions, taken a tile of 512 at a time. -/
theorem sum_tiles (f : Fin 2048 → EReal) :
    ∑ k ∈ Finset.range 4, ∑ r : Fin 512, f ⟨(512 * k + r.val) % 2048, Nat.mod_lt _ (by decide)⟩ = ∑ s, f s := by
  have := Fin.sum_univ_univ_mul_add 4 512 (fun n => f ⟨n % 2048, Nat.mod_lt _ (by decide)⟩)
  rw [Finset.sum_range]
  simp only [mul_comm _ 512] at this
  refine this.trans (Finset.sum_congr rfl fun s _ => congrArg f (Fin.ext (Nat.mod_eq_of_lt s.isLt)))

/-- A quantity that each batch element's first point sets to its tile's sum and the others add theirs to is, after the
    last point, the sum over all positions. -/
theorem sum_run (g : (n : ℕ) → n < cfg0.N → EReal) (f : Fin 4 → Fin 2048 → EReal)
    (h0 : ∀ t : Fin cfg0.N, t.val % 4 = 0 → g t.val t.isLt = ∑ r, f (bat t) (pos t r))
    (hs : ∀ t : Fin cfg0.N, ¬t.val % 4 = 0 →
      g t.val t.isLt = g (t.val - 1) (Nat.lt_of_le_of_lt (Nat.sub_le _ _) t.isLt) + ∑ r, f (bat t) (pos t r))
    (t : Fin cfg0.N) (ht : t.val % 4 = 3) : g t.val t.isLt = ∑ s, f (bat t) s := by
  have e : ∀ (t : Fin cfg0.N), ∑ r, f (bat t) (pos t r)
      = ∑ r : Fin 512, f ⟨t.val / 4 % 4, Nat.mod_lt _ (by decide)⟩ ⟨(512 * (t.val % 4) + r.val) % 2048, Nat.mod_lt _ (by decide)⟩ := fun t => by
    have := N16 t
    refine Finset.sum_congr rfl fun r _ => congr_arg₂ f (Fin.ext ?_) (Fin.ext ?_) <;> dsimp only <;> omega
  rw [Pipeline.eq_sum_of_reset_step_of_mod g 4 0
    (fun n => ∑ r : Fin 512, f ⟨n / 4 % 4, Nat.mod_lt _ (by decide)⟩ ⟨(512 * (n % 4) + r.val) % 2048, Nat.mod_lt _ (by decide)⟩)
    (fun t h => by rw [h0 t h, zero_add, e]) (fun t h => by rw [hs t h, e]) t ht, zero_add, ← sum_tiles]
  have := N16 t
  refine Finset.sum_congr rfl fun k hk => Finset.sum_congr rfl fun r _ => congr_arg₂ f (Fin.ext ?_) (Fin.ext ?_) <;>
    have := Finset.mem_range.mp hk <;> dsimp only <;> omega

/-- What the last point of a batch element leaves in the keys' gradient columns. -/
theorem left4k (t : Fin cfg0.N) (ht : t.val % 4 = 3) (h : Fin 4) (x : Fin 256) (e : Fin 128) :
    (outsAt0 m c t.val t.isLt).2 (ix2 x (kcol h e)) = dkA (A0 m c) (A1 m c) (A2 m c) (bat t) h x e :=
  sum_run (fun n hn => (outsAt0 m c n hn).2 (ix2 x (kcol h e)))
    (fun b s => dsA (A0 m c) (A1 m c) (A2 m c) b h s x * A0 m c (ix2 (row b s) (pcol h e)))
    (fun t h0 => (first4k m c t h0 h x e).trans (dkB_eq m c t h x e))
    (fun t h0 => (next4k m c t h0 h x e).trans (congrArg (_ + ·) (dkB_eq m c t h x e))) t ht

/-- What the last point of a batch element leaves in the values' gradient columns. -/
theorem left4v (t : Fin cfg0.N) (ht : t.val % 4 = 3) (h : Fin 4) (x : Fin 256) (e : Fin 128) :
    (outsAt0 m c t.val t.isLt).2 (ix2 x (vcol h e)) = dvA (A0 m c) (A1 m c) (A2 m c) (bat t) h x e :=
  sum_run (fun n hn => (outsAt0 m c n hn).2 (ix2 x (vcol h e)))
    (fun b s => att (scoreA (A0 m c) (A1 m c) b h s) x * A2 m c (ix2 (row b s) (qcol h e)))
    (fun t h0 => (first4v m c t h0 h x e).trans (dvB_eq m c t h x e))
    (fun t h0 => (next4v m c t h0 h x e).trans (congrArg (_ + ·) (dvB_eq m c t h x e))) t ht

/-- The first result array as the call finds it is a copy of the last argument. -/
theorem entry_dproj : V m c main_v0_0 = A3 m c := by
  unfold V
  after_results
  rfl

/-- The first result array after the run. -/
theorem out_dproj : (dats m 0 c).arrAt 3 cfg0.N = dproj (A0 m c) (A1 m c) (A2 m c) (A3 m c) := by
  refine (dats m 0 c).arrAt_eq_of_coversWhere_of_agree 3 _ (fun β => β (1 : Fin 2) = 7) (by decide +kernel)
    (fun t hf y => ?_) (fun j hj => ?_)
  · obtain ⟨-, -, -, e3, -⟩ := idx t
    rw [after0_3]
    have hy0 : (y 0).val < 512 := (y 0).isLt
    have hy1 : (y 1).val < 512 := (y 1).isLt
    have := N16 t
    have key := left3 m c t ⟨(y 1).val / 128, by omega⟩ ⟨(y 0).val, hy0⟩ ⟨(y 1).val % 128, by omega⟩
    rw [dproj_query (A0 m c) (A1 m c) (A2 m c) (A3 m c) (bat t) ⟨(y 1).val / 128, by omega⟩ (pos t ⟨(y 0).val, hy0⟩)
      ⟨(y 1).val % 128, by omega⟩ _ (by blk_simp [e3]; dsimp only [bat, pos]; omega) (by blk_simp [e3]; dsimp only [bat, pos]; omega), ← key]
    blk_simp
    blk_ext
  · rw [dproj_other]
    · exact congrFun ((A_eq m c 3).trans (entry_dproj m c)) _
    · blk_simp [Pipeline.Window.cell_apply] at hj ⊢
      omega

/-- The second result array after the run. -/
theorem out_dkv : (dats m 0 c).arrAt 4 cfg0.N = dkv (A0 m c) (A1 m c) (A2 m c) := by
  refine (dats m 0 c).arrAt_eq_of_covers 4 _ (by decide +kernel) fun t hf y => ?_
  obtain ⟨-, -, -, -, e4⟩ := idx t
  have ht : t.val % 4 = 3 := (flush0_4 t).mp hf
  rw [after0_4]
  have hy0 : (y 0).val < 256 := (y 0).isLt
  have hy1 : (y 1).val < 1024 := (y 1).isLt
  have := N16 t
  by_cases hv : (y 1).val < 512
  · have key := left4k m c t ht ⟨(y 1).val / 128, by omega⟩ ⟨(y 0).val, hy0⟩ ⟨(y 1).val % 128, by omega⟩
    rw [dkv_key (A0 m c) (A1 m c) (A2 m c) (bat t) ⟨(y 1).val / 128, by omega⟩ ⟨(y 0).val, hy0⟩
      ⟨(y 1).val % 128, by omega⟩ _ (by blk_simp [e4]; dsimp only [bat]; omega) (by blk_simp [e4]; dsimp only [bat]; omega), ← key]
    blk_simp
    blk_ext
  · have key := left4v m c t ht ⟨((y 1).val - 512) / 128, by omega⟩ ⟨(y 0).val, hy0⟩ ⟨((y 1).val - 512) % 128, by omega⟩
    rw [dkv_value (A0 m c) (A1 m c) (A2 m c) (bat t) ⟨((y 1).val - 512) / 128, by omega⟩ ⟨(y 0).val, hy0⟩
      ⟨((y 1).val - 512) % 128, by omega⟩ _ (by blk_simp [e4]; dsimp only [bat]; omega) (by blk_simp [e4]; dsimp only [bat]; omega), ← key]
    blk_simp
    blk_ext

end Cert.Mem

end
-- ==== Proof.MemRef.lean ====
/- The reference's side: each of its values at an index, from the queries, keys and values read off the arguments to
   the two results. The reference differentiates the softmax as a quotient; with real scores its two results are the
   arrays `dproj` and `dkv`. -/
module

public import proofs.«01_k».proof.Proof.Gen.ReferenceIdeal.Read
public import proofs.«01_k».proof.Proof.MemSpec
public import Idealize.ShloMosaic.Lib.Pipeline.ValueKit
public import Idealize.ShloMosaic.Lib.IdealHost

@[expose] public section

noncomputable section

namespace Cert.Mem

open Idealize.ShloMosaic Cert.ReferenceIdeal Cert.ReferenceIdeal.Read

variable (x0 : (⟨S8192x7168, .bf16⟩ : BufTy).Contents (Elt Ideal))
  (x1 : (⟨S1024x1024, .bf16⟩ : BufTy).Contents (Elt Ideal))
  (x2 : (⟨S8192x512, .bf16⟩ : BufTy).Contents (Elt Ideal))
  (x3 : (⟨S8192x7168, .bf16⟩ : BufTy).Contents (Elt Ideal))

/-- The reference's queries. -/
theorem ref_q (b : Fin 4) (s : Fin 2048) (h : Fin 4) (e : Fin 128) :
    val_main_v5 x0 (ix4 b s h e) = x0 (ix2 (row b s) (pcol h e)) := by
  unfold val_main_v5 val_main_v2 val_main_v1 val_main_v0
  pointwise
  blk_ext

/-- The reference's keys. -/
theorem ref_k (b : Fin 4) (m : Fin 256) (h : Fin 4) (e : Fin 128) :
    val_main_v8 x1 (ix4 b m h e) = x1 (ix2 (mrow b m) (kcol h e)) := by
  unfold val_main_v8 val_main_v6 val_main_v4 val_main_v3
  pointwise
  blk_ext

/-- The reference's values. -/
theorem ref_v (b : Fin 4) (m : Fin 256) (h : Fin 4) (e : Fin 128) :
    val_main_v9 x1 (ix4 b m h e) = x1 (ix2 (mrow b m) (vcol h e)) := by
  unfold val_main_v9 val_main_v7 val_main_v4 val_main_v3
  pointwise
  blk_ext

/-- The output's gradient, head by head. -/
theorem ref_do (b h : Fin 4) (e : Fin 128) (s : Fin 2048) :
    val_main_v47 x2 (ix4 b h e s) = x2 (ix2 (row b s) (qcol h e)) := by
  unfold val_main_v47 val_main_v46 val_main_v45 val_main_v44
  pointwise
  blk_ext

/-- The reference's scores. -/
theorem ref_score (b h : Fin 4) (s : Fin 2048) (m : Fin 256) :
    val_main_v12 x0 x1 (ix4 b h s m) = scoreA x0 x1 b h s m := by
  unfold val_main_v12 val_main_v11 val_main_v10 val_main_cst scoreA
  pointwise
  simp only [ref_q, ref_k]

/-- The largest score of each row, as the maximum over the row. -/
theorem ref_fold (b h : Fin 4) (s : Fin 2048) : val_main_v13 x0 x1 (ix3 b h s) = rowMax (scoreA x0 x1 b h s) := by
  unfold val_main_v13 val_main_cst_0
  pointwise
  exact congrArg (Finset.univ.fold max (Ideal.ofBits .f32 0xFF800000#32)) (funext (ref_score x0 x1 b h s))

/-- The maximum with a vector of minus infinities changes nothing. -/
theorem max_bot {S : Shape} (u v : FVec Ideal S .f32) (hu : ∀ i, u i = (⊥ : EReal)) : maximumf u v = v :=
  funext fun i => (congrArg (fun z : EReal => max z (v i)) (hu i)).trans (max_eq_right bot_le)

/-- The vector of minus infinities. -/
theorem ref_bot (i : S4x4x2048.Idx) : val_main_v19 (F := Ideal) i = ⊥ := by
  unfold val_main_v19 val_main_cst_2
  pointwise
  exact Reals.ofBits_neg_inf

/-- The largest score of each row, not less than minus infinity. -/
theorem ref_max (b h : Fin 4) (s : Fin 2048) : val_main_v20 x0 x1 (ix3 b h s) = rowMax (scoreA x0 x1 b h s) := by
  rw [← ref_fold]
  unfold val_main_v20
  rw [max_bot _ _ ref_bot]

/-- The exponentials. -/
theorem ref_ex (b h : Fin 4) (s : Fin 2048) (m : Fin 256) :
    val_main_v33 x0 x1 (ix4 b h s m) = ex (scoreA x0 x1 b h s) m := by
  unfold val_main_v33 val_main_v32 val_main_v31 val_main_v30 ex
  pointwise
  simp only [ref_score, ref_max]

/-- The sums of the exponentials. -/
theorem ref_sum (b h : Fin 4) (s : Fin 2048) (u : Fin 1) :
    val_main_v35 x0 x1 (ix4 b h s u) = ∑ m, ex (scoreA x0 x1 b h s) m := by
  unfold val_main_v35 val_main_v34 val_main_cst_8
  pointwise
  simp only [ref_ex]

/-- The attention weights. -/
theorem ref_att (b h : Fin 4) (s : Fin 2048) (m : Fin 256) :
    val_main_v37 x0 x1 (ix4 b h s m) = att (scoreA x0 x1 b h s) m := by
  unfold val_main_v37 val_main_v36 att
  pointwise
  simp only [ref_ex, ref_sum]

/-- The weights' gradient. -/
theorem ref_wgrad (b h : Fin 4) (s : Fin 2048) (m : Fin 256) :
    val_main_v48 x1 x2 (ix4 b h s m) = wgradA x1 x2 b h s m := by
  unfold val_main_v48 wgradA
  pointwise
  simp only [ref_do, ref_v]

/-- The scores' gradient, the quotient's. -/
theorem ref_dsQuot (b h : Fin 4) (s : Fin 2048) (m : Fin 256) :
    val_main_v64 x0 x1 x2 (ix4 b h s m) = dsQuot (scoreA x0 x1 b h s) (wgradA x1 x2 b h s) m := by
  unfold val_main_v64 val_main_v63 val_main_cst_12 val_main_v62 val_main_v61 val_main_v60 val_main_v59 val_main_cst_11
    val_main_v58 val_main_v57 val_main_v56 val_main_v55 val_main_v54 val_main_cst_10 val_main_v53 val_main_v52 val_main_v51
    val_main_v40 val_main_v39 val_main_cst_9 val_main_v38 dsQuot
  pointwise
  simp only [ref_wgrad, ref_ex, ref_sum, Fin.sum_univ_one]

/-- The values' gradient. -/
theorem ref_dv (b : Fin 4) (m : Fin 256) (h : Fin 4) (e : Fin 128) :
    val_main_v50 x0 x1 x2 (ix4 b m h e) = dvA x0 x1 x2 b h m e := by
  unfold val_main_v50 val_main_v49 dvA
  pointwise
  simp only [ref_do, ref_att]
  exact Finset.sum_congr rfl fun s _ => mul_comm _ _

variable (hs : ∀ b h s m, ∃ r : ℝ, scoreA x0 x1 b h s m = r)
include hs

/-- The scores' gradient, the kernel's. -/
theorem ref_ds (b h : Fin 4) (s : Fin 2048) (m : Fin 256) :
    val_main_v64 x0 x1 x2 (ix4 b h s m) = dsA x0 x1 x2 b h s m := by
  rw [ref_dsQuot, dsQuot_eq (hs b h s), dsA]

/-- The keys' gradient. -/
theorem ref_dk (b : Fin 4) (m : Fin 256) (h : Fin 4) (e : Fin 128) :
    val_main_v66 x0 x1 x2 (ix4 b m h e) = dkA x0 x1 x2 b h m e := by
  unfold val_main_v66 val_main_v65 dkA
  pointwise
  simp only [ref_ds x0 x1 x2 hs, ref_q]

/-- The queries' gradient. -/
theorem ref_dq (b : Fin 4) (s : Fin 2048) (h : Fin 4) (e : Fin 128) :
    val_main_v68 x0 x1 x2 (ix4 b s h e) = dqA x0 x1 x2 b h s e := by
  unfold val_main_v68 val_main_v67 dqA
  pointwise
  simp only [ref_ds x0 x1 x2 hs, ref_k]

/-- The queries' gradient as the columns of its 8192 rows. -/
theorem ref_dq_rows (b : Fin 4) (s : Fin 2048) (h : Fin 4) (e : Fin 128) :
    val_main_v74 x0 x1 x2 (ix2 (row b s) (qcol h e)) = dqA x0 x1 x2 b h s e := by
  rw [← ref_dq x0 x1 x2 hs]
  unfold val_main_v74 val_main_v73 val_main_v72
  pointwise
  blk_ext

/-- The reference's first result. -/
theorem ref_dproj : val_main_v77 x0 x1 x2 x3 = dproj x0 x1 x2 x3 := by
  funext i
  have hi0 : (i 0).val < 8192 := (i 0).isLt
  have hi1 : (i 1).val < 7168 := (i 1).isLt
  unfold val_main_v77 val_main_v75 val_main_v76
  pointwise
  split
  · rw [dproj_other _ _ _ _ _ (by omega)]
  split
  · rw [dproj_query x0 x1 x2 x3 ⟨(i 0).val / 2048, by omega⟩ ⟨((i 1).val - 3584) / 128, by omega⟩
      ⟨(i 0).val % 2048, by omega⟩ ⟨((i 1).val - 3584) % 128, by omega⟩ i (by dsimp only; omega) (by dsimp only; omega),
      ← ref_dq_rows x0 x1 x2 hs]
    blk_ext
  · rw [dproj_other _ _ _ _ _ (by omega)]
    blk_ext

/-- The reference's second result. -/
theorem ref_dkv : val_main_v78 x0 x1 x2 = dkv x0 x1 x2 := by
  funext i
  have hi0 : (i 0).val < 1024 := (i 0).isLt
  have hi1 : (i 1).val < 1024 := (i 1).isLt
  unfold val_main_v78 val_main_v71 val_main_v70 val_main_v69
  pointwise
  split
  · rw [ref_dk x0 x1 x2 hs]
    exact (dkv_key x0 x1 x2 _ _ _ _ i (by dsimp only; omega) (by dsimp only; omega)).symm
  · rw [ref_dv]
    exact (dkv_value x0 x1 x2 _ _ _ _ i (by dsimp only; omega) (by dsimp only; omega)).symm

end Cert.Mem

end
-- ==== Proof.MemClaim.lean ====
/- The memory attention's gradient: kernel and reference return equal arrays when the queries and the keys are finite. -/
module

public import proofs.«01_k».proof.Defs
public import proofs.«01_k».proof.Proof.MemOut
public import proofs.«01_k».proof.Proof.MemRef
public import proofs.«01_k».proof.Proof.Gen.ReferenceIdeal.Run
public import Idealize.ShloMosaic.Adequacy
public import Idealize.ShloMosaic.Init

@[expose] public section

noncomputable section

namespace Cert.Mem

open Idealize.ShloMosaic

/-- The side conditions of the precondition's operations. -/
instance pre_facts : Cert.Pre_queries_keys_finite.Facts := by
  constructor <;> decide

/-- A comparison of an absolute value with plus infinity that came out true: the number compared is real. -/
theorem real_of_cmp {x : EReal} (h : Ideal.cmp .olt (max x (-x)) (Ideal.ofBits .f32 0x7F800000#32) = 1#1) :
    ∃ r : ℝ, x = r := by
  apply Reals.real_of_abs_lt
  rw [← Reals.ofBits_inf]
  by_contra hn
  simp [Ideal.cmp, hn] at h

section Pre

open Cert.Pre_queries_keys_finite

variable (x0 : FVec Ideal S8192x7168 .bf16) (x1 : FVec Ideal S1024x1024 .bf16) (x2 : FVec Ideal S8192x512 .bf16)
  (x3 : FVec Ideal S8192x7168 .bf16)

/-- The precondition's first array at an index: the comparison of a query. -/
theorem pre_query (b : Fin 4) (s : Fin 2048) (h : Fin 4) (e : Fin 128) :
    (fn x0 x1 x2 x3).1 (ix2 (row b s) (qcol h e))
      = Ideal.cmp .olt (max (x0 (ix2 (row b s) (pcol h e))) (-x0 (ix2 (row b s) (pcol h e)))) (Ideal.ofBits .f32 0x7F800000#32) := by
  have hi : x0 (ix2 (row b s) ⟨3584 + (qcol h e).val, by omega⟩) = x0 (ix2 (row b s) (pcol h e)) := by blk_ext
  rw [← hi]
  unfold fn
  dsimp only
  pointwise
  rfl

/-- The precondition's second array at an index: the comparison of a key. -/
theorem pre_key (b : Fin 4) (m : Fin 256) (h : Fin 4) (e : Fin 128) :
    (fn x0 x1 x2 x3).2 (ix2 (mrow b m) (qcol h e))
      = Ideal.cmp .olt (max (x1 (ix2 (mrow b m) (kcol h e))) (-x1 (ix2 (mrow b m) (kcol h e)))) (Ideal.ofBits .f32 0x7F800000#32) := by
  unfold fn
  dsimp only
  pointwise
  rfl

end Pre

/-- Under the precondition every score is a real number. -/
theorem real_scores (m : (ℓ : Loc Cert.KernelIdeal.nD Cert.KernelIdeal.τ Cert.KernelIdeal.sig) → Buf (Elt Ideal) ℓ)
    (hpre : Pre_KernelIdeal_queries_keys_finite m) (c : Dev Cert.KernelIdeal.nD) (b h : Fin 4) (s : Fin 2048) (k : Fin 256) :
    ∃ r : ℝ, scoreA (A0 m c) (A1 m c) b h s k = r := by
  obtain ⟨h0, h1⟩ := hpre c
  obtain ⟨r, hr⟩ := Reals.real_sum_mul Finset.univ
    (fun e => real_of_cmp ((pre_query _ _ _ _ b s h e).symm.trans (congrFun h0 (ix2 (row b s) (qcol h e)))))
    (fun e => real_of_cmp ((pre_key _ _ _ _ b k h e).symm.trans (congrFun h1 (ix2 (mrow b k) (qcol h e)))))
  obtain ⟨u, hu⟩ := Reals.scale_real
  refine ⟨r * u, ?_⟩
  rw [scoreA, hr, scale, hu, EReal.coe_mul]

/-- The reference runs and leaves its arguments as they were. -/
theorem frame_reference : quiescent_ReferenceIdeal := fun m g _ =>
  (θ_run _ _ _).mono (fun r h => ⟨fun c => (h c).2.2, sem_eq_zero_of_no_sems (by decide) r.2⟩)
    (Cert.ReferenceIdeal.Value.run m g)

/-- Kernel and reference end with equal results. -/
theorem value : algebraic_KernelIdeal_ReferenceIdeal_pre_queries_keys_finite := by
  pair_intro
  · run_from Cert.KernelIdeal.Value.run_blocks m g
  · run_from Cert.ReferenceIdeal.Value.run m' g'
    · rw [out_dproj, Cert.ReferenceIdeal.Read.val_main_v77_eq, (hagree c).1, (hagree c).2.1, (hagree c).2.2.1, (hagree c).2.2.2]
      exact ref_dproj _ _ _ _ (real_scores m hpre c)
    · rw [out_dkv, Cert.ReferenceIdeal.Read.val_main_v78_eq, (hagree c).1, (hagree c).2.1, (hagree c).2.2.1]
      exact ref_dkv _ _ _ (real_scores m hpre c)

end Cert.Mem

end
-- ==== Proof.Loads.lean ====
/- A load of a rectangle of a block, read at an index: the block at the rectangle's place plus the index. An index of two
   or three axes is the list of its coordinates. -/
module

public import Idealize.ShloMosaic.Lib.Pipeline.ValueKit
public import Idealize.ShloMosaic.Lib.Pointwise

@[expose] public section

noncomputable section

namespace Cert.Loads

open Idealize.ShloMosaic

/-- A load from a block of two axes. -/
theorem ld2 {a b a' b' : ℕ} {η : EltTy} (x : Vec Ideal ⟨2, ![a, b]⟩ η) (o0 o1 : ℕ) (inb)
    (y0 : Fin a') (y1 : Fin b') (i0 : Fin a) (i1 : Fin b) (h0 : i0.val = o0 + y0.val) (h1 : i1.val = o1 + y1.val) :
    View.ld x (Rect.unit (s := ⟨2, ![a, b]⟩) ![o0, o1] ![a', b'] inb) (ix2 y0 y1) = x (ix2 i0 i1) :=
  View.ld_unit_apply_of x _ _ inb _ _ (Fin.forall_fin_two.mpr ⟨h0, h1⟩)

/-- A load from a block of three axes. -/
theorem ld3 {a b d a' b' d' : ℕ} {η : EltTy} (x : Vec Ideal ⟨3, ![a, b, d]⟩ η) (o0 o1 o2 : ℕ) (inb)
    (y0 : Fin a') (y1 : Fin b') (y2 : Fin d') (i0 : Fin a) (i1 : Fin b) (i2 : Fin d) (h0 : i0.val = o0 + y0.val)
    (h1 : i1.val = o1 + y1.val) (h2 : i2.val = o2 + y2.val) :
    View.ld x (Rect.unit (s := ⟨3, ![a, b, d]⟩) ![o0, o1, o2] ![a', b', d'] inb) (ix3 y0 y1 y2) = x (ix3 i0 i1 i2) :=
  View.ld_unit_apply_of x _ _ inb _ _ fun q => match q with
    | ⟨0, _⟩ => h0
    | ⟨1, _⟩ => h1
    | ⟨2, _⟩ => h2

/-- An index of two axes with given coordinates. -/
theorem idx2 {a b : ℕ} (x : (⟨2, ![a, b]⟩ : Shape).Idx) (r : Fin a) (e : Fin b) (h0 : (x 0).val = r.val) (h1 : (x 1).val = e.val) :
    x = ix2 r e :=
  funext fun q => match q with
    | ⟨0, _⟩ => Fin.ext h0
    | ⟨1, _⟩ => Fin.ext h1

/-- An index of three axes with given coordinates. -/
theorem idx3 {a b d : ℕ} (x : (⟨3, ![a, b, d]⟩ : Shape).Idx) (p : Fin a) (r : Fin b) (e : Fin d) (h0 : (x 0).val = p.val)
    (h1 : (x 1).val = r.val) (h2 : (x 2).val = e.val) : x = ix3 p r e :=
  funext fun q => match q with
    | ⟨0, _⟩ => Fin.ext h0
    | ⟨1, _⟩ => Fin.ext h1
    | ⟨2, _⟩ => Fin.ext h2

/-- A stack of arrays read as one array of rows. -/
theorem castRows {α : Type} {a b n N : ℕ} (x : (⟨3, ![a, b, n]⟩ : Shape).Idx → α) (h : (⟨3, ![a, b, n]⟩ : Shape).ShapeCasts ⟨2, ![N, n]⟩)
    (I : Fin N) (J : Fin n) (k : Fin a) (i : Fin b) (hI : I.val = b * k.val + i.val) :
    shapeCast (⟨2, ![N, n]⟩ : Shape) x h (ix2 I J) = x (ix3 k i J) := by
  refine shapeCast_apply x h (ix2 I J) (ix3 k i J) ?_
  rw [Shape.rowMajor_val_three, Shape.rowMajor_val_two]
  show (k.val * b + i.val) * n + J.val = I.val * n + J.val
  rw [hI, mul_comm b]

end Cert.Loads

end
-- ==== Proof.RmsMath.lean ====
/- The gradient of a row's root-mean-square norm in two forms, equal at all extended reals: the reciprocal root `ρ` of the
   row's mean square plus a positive constant is a nonnegative real number, so it goes through sums and differences. -/
module

public import proofs.«01_k».proof.Proof.Reals
public import Idealize.ShloMosaic.Lib.IdealHost
public import Idealize.ShloMosaic.Lib.Pointwise

@[expose] public section

noncomputable section

namespace Cert.Rms

open Idealize.ShloMosaic

/-- The printed words of 1024, of the norm's constant, of -1/2 and of 2. -/
abbrev K : EReal := Ideal.ofBits .f32 0x44800000#32
abbrev eps : EReal := Ideal.ofBits .f32 0x358637BD#32
abbrev mhalf : EReal := Ideal.ofBits .f32 0xBF000000#32
abbrev two : EReal := Ideal.ofBits .f32 0x40000000#32

theorem K_eq : K = ((1024 : ℝ) : EReal) := by
  simp [K, Ideal.ofBits, Ideal.ieee, -EReal.coe_mul]; norm_num

theorem two_eq : two = ((2 : ℝ) : EReal) := by
  simp [two, Ideal.ofBits, Ideal.ieee, -EReal.coe_mul]; norm_num

theorem mhalf_eq : mhalf = ((-(1 / 2) : ℝ) : EReal) := by
  simp [mhalf, Ideal.ofBits, Ideal.ieee, -EReal.coe_mul]; norm_num

theorem eps_eq : ∃ e : ℝ, 0 < e ∧ eps = (e : EReal) := by
  simp [eps, Ideal.ofBits, Ideal.ieee, -EReal.coe_mul]

/-- Division by 1024 is multiplication by a real number. -/
theorem div_K (x : EReal) : Ideal.div x K = x * ((1024⁻¹ : ℝ) : EReal) := by
  rw [K_eq, Ideal.div_coe (by norm_num), one_div]

theorem mul_self_nonneg (x : EReal) : 0 ≤ x * x := by
  induction x using EReal.rec with
  | bot => simp
  | coe r => exact_mod_cast _root_.mul_self_nonneg r
  | top => simp

/-- A row's mean square plus the constant, and its reciprocal root. -/
def var (x : Fin 1024 → EReal) : EReal := Ideal.div (∑ e, x e * x e) K + eps
def rstd (x : Fin 1024 → EReal) : EReal := Ideal.rsqrt (var x)

/-- A row's norm, scaled: the forward pass. -/
def normRow (x g : Fin 1024 → EReal) (e : Fin 1024) : EReal := x e * rstd x * g e

theorem var_pos (x : Fin 1024 → EReal) : 0 < var x := by
  obtain ⟨e, he, h⟩ := eps_eq
  have h0 : 0 ≤ Ideal.div (∑ e, x e * x e) K := by
    rw [div_K]
    refine mul_nonneg (Finset.sum_nonneg fun i _ => mul_self_nonneg _) ?_
    exact_mod_cast (by norm_num : (0 : ℝ) ≤ 1024⁻¹)
  rw [var, h]
  have : (0 : EReal) < (e : EReal) := by exact_mod_cast he
  exact lt_of_lt_of_le this (le_add_of_nonneg_left h0)

/-- The reciprocal root is a nonnegative real number, and divided by the mean square it is its cube. -/
theorem rstd_real (x : Fin 1024 → EReal) :
    ∃ ρ : ℝ, 0 ≤ ρ ∧ rstd x = ρ ∧ Ideal.div (rstd x) (var x) = ((ρ * ρ * ρ : ℝ) : EReal) := by
  have hv := var_pos x
  unfold rstd
  induction hx : var x using EReal.rec with
  | bot => rw [hx] at hv; exact absurd hv (by simp)
  | top => exact ⟨0, le_rfl, by simp, by simp [Ideal.div]⟩
  | coe a =>
    have ha : 0 < a := by rw [hx] at hv; exact_mod_cast hv
    have hs : 0 < Real.sqrt a := Real.sqrt_pos.mpr ha
    refine ⟨(Real.sqrt a)⁻¹, inv_nonneg.mpr hs.le, ?_, ?_⟩
    · rw [Ideal.rsqrt_coe, if_neg (not_lt.mpr ha.le), if_neg ha.ne']
    · rw [Ideal.rsqrt_coe, if_neg (not_lt.mpr ha.le), if_neg ha.ne', Ideal.div_coe ha.ne', one_div, ← EReal.coe_mul]
      congr 1
      have : a⁻¹ = (Real.sqrt a)⁻¹ * (Real.sqrt a)⁻¹ := by rw [← mul_inv, Real.mul_self_sqrt ha.le]
      rw [this, mul_assoc]

/-- The gradient of a row's norm at entry `j`, from the gradient `h` of its scaled output, the scale `g`, the row `x` and the
    gradient `d` arriving beside it. -/
def dxRow (h g x : Fin 1024 → EReal) (d : EReal) (j : Fin 1024) : EReal :=
  d + rstd x * (h j * g j - x j * rstd x * Ideal.div (∑ e, h e * g e * (x e * rstd x)) K)

/-- The form differentiation by the chain rule gives. -/
theorem dx_eq (h g x : Fin 1024 → EReal) (d : EReal) (j : Fin 1024) :
    d + h j * g j * rstd x + Ideal.div ((∑ e, x e * (h e * g e)) * (mhalf * Ideal.div (rstd x) (var x))) K * (two * x j)
      = dxRow h g x d j := by
  obtain ⟨ρ, h0, h1, h2⟩ := rstd_real x
  unfold dxRow
  rw [h1] at h2 ⊢
  have hs : ∑ e, h e * g e * (x e * (ρ : EReal)) = ρ * ∑ e, x e * (h e * g e) := by
    rw [Reals.mul_sum h0]
    exact Finset.sum_congr rfl fun e _ => by
      rw [mul_comm (x e) (ρ : EReal), mul_left_comm, mul_comm (h e * g e)]
  rw [h2, hs, div_K, div_K, mhalf_eq, two_eq, Reals.mul_sub h0, sub_eq_add_neg, add_assoc, mul_comm (h j * g j)]
  congr 2
  generalize ∑ e, x e * (h e * g e) = S
  have e1 : S * (((-(1 / 2) : ℝ) : EReal) * ((ρ * ρ * ρ : ℝ) : EReal)) * ((1024⁻¹ : ℝ) : EReal) * (((2 : ℝ) : EReal) * x j)
      = S * x j * ((((-(1 / 2) : ℝ) : EReal) * ((ρ * ρ * ρ : ℝ) : EReal)) * ((1024⁻¹ : ℝ) : EReal) * ((2 : ℝ) : EReal)) := by ac_rfl
  have e2 : (ρ : EReal) * (x j * ρ * (ρ * S * ((1024⁻¹ : ℝ) : EReal))) = S * x j * ((ρ : EReal) * ρ * ρ * ((1024⁻¹ : ℝ) : EReal)) := by ac_rfl
  rw [e1, e2, ← mul_neg]
  congr 1
  simp only [← EReal.coe_mul, ← EReal.coe_neg]
  congr 1
  ring

end Cert.Rms

end
-- ==== Proof.Ff1Out.lean ====
/- The gradient through the feed-forward layer's first product and its norm, kernel's side. With `H i e = ∑ n, U i n * W e n` the gradient
   of the scaled, normed row, the first result is the norm's gradient of row `i` plus the gradient arriving beside it, and the second
   is `∑ i, H i e * (X i e * rstd (X i))`, the scale's gradient. The grid walks 16 tiles of 512 rows and adds the tiles' parts of
   the second result in its block. -/
module

public import proofs.«01_k».proof.Proof.Gen.Kernel2Ideal.Run
public import proofs.«01_k».proof.Proof.Loads
public import proofs.«01_k».proof.Proof.RmsMath

@[expose] public section

noncomputable section

namespace Cert.Ff1

open Cert.Loads Cert.Rms Idealize.ShloMosaic Idealize.ShloMosaic.TcCoe Idealize.SL.Sem Cert.Kernel2Ideal Cert.Kernel2Ideal.Gen

/-- The reciprocal root of a row of a block. -/
theorem rstd_apply (x : Vec Ideal S512x1024 .f32) (r : Fin 512) : k0_pay5 x (ix2 r 0) = rstd fun e => x (ix2 r e) := by
  unfold k0_pay5
  pointwise
  rfl

/-- A block's normed rows. -/
theorem normed_apply (x : Vec Ideal S512x1024 .f32) (r : Fin 512) (e : Fin 1024) :
    k0_pay6 x (ix2 r e) = x (ix2 r e) * rstd fun e => x (ix2 r e) := by
  rw [← rstd_apply]; unfold k0_pay6; pointwise

/-- The norm's gradient of a block's row. -/
theorem dx_apply (h : Vec Ideal S512x1024 .f32) (x : Vec Ideal S512x1024 .f32) (g : Vec Ideal S1x1024 .f32) (d : Vec Ideal S512x1024 .f32)
    (r : Fin 512) (e : Fin 1024) : k0_pay1 h (k0_pay5 x) (k0_pay6 x) g d (ix2 r e)
      = dxRow (fun e => h (ix2 r e)) (fun e => g (ix2 0 e)) (fun e => x (ix2 r e)) (d (ix2 r e)) e := by
  unfold dxRow
  simp only [← rstd_apply]
  unfold k0_pay1 k0_pay6
  pointwise

/-- A tile's part of the scale's gradient. -/
theorem part_apply (h x : Vec Ideal S512x1024 .f32) (e : Fin 1024) :
    k0_pay2 h (k0_pay6 x) (ix2 0 e) = ∑ r : Fin 512, h (ix2 r e) * (x (ix2 r e) * rstd fun e => x (ix2 r e)) := by
  simp only [← rstd_apply]
  unfold k0_pay2 k0_pay6
  pointwise

theorem next_apply (h x : Vec Ideal S512x1024 .f32) (a : Vec Ideal S1x1024 .f32) (e : Fin 1024) :
    k0_pay3 h (k0_pay6 x) a (ix2 0 e) = a (ix2 0 e) + ∑ r : Fin 512, h (ix2 r e) * (x (ix2 r e) * rstd fun e => x (ix2 r e)) := by
  rw [← part_apply]; unfold k0_pay3; pointwise

/-- A block's product with the four chips' columns of the weight. -/
theorem prod_apply (u0 : Vec Ideal S512x1024 .bf16) (w0 : Vec Ideal S1x1024x1024 .bf16) (u1 : Vec Ideal S512x1024 .bf16)
    (w1 : Vec Ideal S1x1024x1024 .bf16) (u2 : Vec Ideal S512x1024 .bf16) (w2 : Vec Ideal S1x1024x1024 .bf16)
    (u3 : Vec Ideal S512x1024 .bf16) (w3 : Vec Ideal S1x1024x1024 .bf16) (r : Fin 512) (e : Fin 1024) :
    k0_pay4 u0 w0 u1 w1 u2 w2 u3 w3 (ix2 r e) = (∑ j, u0 (ix2 r j) * w0 (ix3 0 e j)) + (∑ j, u1 (ix2 r j) * w1 (ix3 0 e j))
      + (∑ j, u2 (ix2 r j) * w2 (ix3 0 e j)) + (∑ j, u3 (ix2 r j) * w3 (ix3 0 e j)) := by
  unfold k0_pay4
  pointwise

/-- The gradient of a block's scaled, normed rows. -/
abbrev hidden (x0 : Vec Ideal S512x4096 .bf16) (x1 : Vec Ideal S4x1024x1024 .bf16) : Vec Ideal S512x1024 .f32 :=
  k0_pay4 (View.ld x0 (Rect.unit ![0, 0] ![512, 1024] inb_S512x4096_S512x1024_0_0))
    (View.ld x1 (Rect.unit ![0, 0, 0] ![1, 1024, 1024] inb_S4x1024x1024_S1x1024x1024_0_0_0))
    (View.ld x0 (Rect.unit ![0, 1024] ![512, 1024] inb_S512x4096_S512x1024_0_1024))
    (View.ld x1 (Rect.unit ![1, 0, 0] ![1, 1024, 1024] inb_S4x1024x1024_S1x1024x1024_1_0_0))
    (View.ld x0 (Rect.unit ![0, 2048] ![512, 1024] inb_S512x4096_S512x1024_0_2048))
    (View.ld x1 (Rect.unit ![2, 0, 0] ![1, 1024, 1024] inb_S4x1024x1024_S1x1024x1024_2_0_0))
    (View.ld x0 (Rect.unit ![0, 3072] ![512, 1024] inb_S512x4096_S512x1024_0_3072))
    (View.ld x1 (Rect.unit ![3, 0, 0] ![1, 1024, 1024] inb_S4x1024x1024_S1x1024x1024_3_0_0))

/-- It is one sum over all 4096 hidden units, read from the chips' parts. -/
theorem hidden_apply (x0 : Vec Ideal S512x4096 .bf16) (x1 : Vec Ideal S4x1024x1024 .bf16) (r : Fin 512) (e : Fin 1024)
    (u w : Fin 4096 → EReal) (hu : ∀ n, x0 (ix2 r n) = u n)
    (hw : ∀ (k : Fin 4) (j : Fin 1024) (n : Fin 4096), n.val = 1024 * k.val + j.val → x1 (ix3 k e j) = w n) :
    hidden x0 x1 (ix2 r e) = ∑ n, u n * w n := by
  have h4 : ∑ n, u n * w n = ∑ k : Fin 4, ∑ j : Fin 1024, u ⟨1024 * k.val + j.val, by omega⟩ * w ⟨1024 * k.val + j.val, by omega⟩ :=
    (Fin.sum_mul_add_congr (S := 4) (n := 1024) fun s r h => by
      simp only [Nat.mul_comm 1024]).symm
  rw [h4, Fin.sum_univ_four, hidden, prod_apply]
  refine congr_arg₂ (· + ·) (congr_arg₂ (· + ·) (congr_arg₂ (· + ·) ?_ ?_) ?_) ?_ <;>
    refine Finset.sum_congr rfl fun j _ => congr_arg₂ (· * ·) ?_ ?_
  · exact (ld2 x0 0 0 _ r j r ⟨1024 * (0 : Fin 4).val + j.val, by simp; omega⟩ (by simp) (by simp)).trans (hu _)
  · exact (ld3 x1 0 0 0 _ 0 e j 0 e j (by simp) (by simp) (by simp)).trans (hw _ _ _ rfl)
  · exact (ld2 x0 0 1024 _ r j r ⟨1024 * (1 : Fin 4).val + j.val, by simp; omega⟩ (by simp) (by simp)).trans (hu _)
  · exact (ld3 x1 1 0 0 _ 0 e j 1 e j (by simp) (by simp) (by simp)).trans (hw _ _ _ rfl)
  · exact (ld2 x0 0 2048 _ r j r ⟨1024 * (2 : Fin 4).val + j.val, by simp; omega⟩ (by simp) (by simp)).trans (hu _)
  · exact (ld3 x1 2 0 0 _ 0 e j 2 e j (by simp) (by simp) (by simp)).trans (hw _ _ _ rfl)
  · exact (ld2 x0 0 3072 _ r j r ⟨1024 * (3 : Fin 4).val + j.val, by simp; omega⟩ (by simp) (by simp)).trans (hu _)
  · exact (ld3 x1 3 0 0 _ 0 e j 3 e j (by simp) (by simp) (by simp)).trans (hw _ _ _ rfl)

variable (m : (ℓ : Loc nD τ sig) → Buf (Elt Ideal) ℓ) (c : Dev nD)

/-- The argument arrays as launched: the hidden units' gradient, the weight, the norm's input, its scale, and the gradient beside. -/
abbrev A0 : (⟨2, ![8192, 4096]⟩ : Shape).Idx → EReal := m ((c : Thread nD τ).loc main_arg0)
abbrev A1 : (⟨2, ![1024, 4096]⟩ : Shape).Idx → EReal := m ((c : Thread nD τ).loc main_arg1)
abbrev A2 : (⟨2, ![8192, 1024]⟩ : Shape).Idx → EReal := m ((c : Thread nD τ).loc main_arg2)
abbrev A3 : (⟨1, ![1024]⟩ : Shape).Idx → EReal := m ((c : Thread nD τ).loc main_arg3)
abbrev A4 : (⟨2, ![8192, 1024]⟩ : Shape).Idx → EReal := m ((c : Thread nD τ).loc main_arg4)

/-- The weight's array as the host lays it out: one part of its columns per chip. -/
theorem entry_w (k : Fin 4) (e j : Fin 1024) (n : Fin 4096) (hn : n.val = 1024 * k.val + j.val) :
    V m c main_v2 (ix3 k e j) = A1 m c (ix2 e n) := by
  unfold V V0
  simp only [hostOps0, List.flatten_cons, List.flatten_nil, List.append_nil]
  after_results
  dsimp only
  pointwise
  blk_ext

/-- The scale's array as the host lays it out: one row. -/
theorem entry_g (e : Fin 1024) : V m c main_v3 (ix2 0 e) = A3 m c (ix1 e) := by
  unfold V V0
  simp only [hostOps0, List.flatten_cons, List.flatten_nil, List.append_nil]
  after_results
  dsimp only
  pointwise
  all_goals blk_ext

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0])

/-- The blocks a point holds. -/
abbrev X0 (t : Fin cfg0.N) : Vec Ideal S512x4096 .bf16 := iblk m c 0 t
abbrev X1 (t : Fin cfg0.N) : Vec Ideal S4x1024x1024 .bf16 := iblk m c 1 t
abbrev X2 (t : Fin cfg0.N) : Vec Ideal S512x1024 .f32 := iblk m c 2 t
abbrev X3 (t : Fin cfg0.N) : Vec Ideal S1x1024 .f32 := iblk m c 3 t
abbrev X4 (t : Fin cfg0.N) : Vec Ideal S512x1024 .f32 := iblk m c 4 t

theorem iblk0 (t : Fin cfg0.N) (r : Fin 512) (n : Fin 4096) (R : Fin 8192) (hR : R.val = 512 * t.val + r.val) :
    X0 m c t (ix2 r n) = A0 m c (ix2 R n) := by
  obtain ⟨e0, -⟩ := idx t
  blk_ext [iblk, V, e0]

theorem iblk1 (t : Fin cfg0.N) (k : Fin 4) (e j : Fin 1024) (n : Fin 4096) (hn : n.val = 1024 * k.val + j.val) :
    X1 m c t (ix3 k e j) = A1 m c (ix2 e n) := by
  obtain ⟨-, e0, -⟩ := idx t
  rw [← entry_w m c k e j n hn]
  blk_ext [iblk, e0]

theorem iblk2 (t : Fin cfg0.N) (r : Fin 512) (e : Fin 1024) (R : Fin 8192) (hR : R.val = 512 * t.val + r.val) :
    X2 m c t (ix2 r e) = A2 m c (ix2 R e) := by
  obtain ⟨-, -, e0, -⟩ := idx t
  blk_ext [iblk, V, e0]

theorem iblk3 (t : Fin cfg0.N) (e : Fin 1024) : X3 m c t (ix2 0 e) = A3 m c (ix1 e) := by
  obtain ⟨-, -, -, e0, -⟩ := idx t
  rw [← entry_g m c e]
  blk_ext [iblk, e0]

theorem iblk4 (t : Fin cfg0.N) (r : Fin 512) (e : Fin 1024) (R : Fin 8192) (hR : R.val = 512 * t.val + r.val) :
    X4 m c t (ix2 r e) = A4 m c (ix2 R e) := by
  obtain ⟨-, -, -, -, e0, -⟩ := idx t
  blk_ext [iblk, V, e0]

/-- The gradient of the scaled, normed rows, over the argument arrays. -/
def hid (A0 : (⟨2, ![8192, 4096]⟩ : Shape).Idx → EReal) (A1 : (⟨2, ![1024, 4096]⟩ : Shape).Idx → EReal) (R : Fin 8192) (e : Fin 1024) : EReal :=
  ∑ n : Fin 4096, A0 (ix2 R n) * A1 (ix2 e n)

theorem hidden_block (t : Fin cfg0.N) (r : Fin 512) (e : Fin 1024) (R : Fin 8192) (hR : R.val = 512 * t.val + r.val) :
    hidden (X0 m c t) (X1 m c t) (ix2 r e) = hid (A0 m c) (A1 m c) R e :=
  hidden_apply _ _ r e (fun n => A0 m c (ix2 R n)) (fun n => A1 m c (ix2 e n)) (fun n => iblk0 m c t r n R hR)
    fun k j n h => iblk1 m c t k e j n h

/-- What a point leaves in its block of the first result. -/
theorem first (t : Fin cfg0.N) (r : Fin 512) (e : Fin 1024) : (outsAt0 m c t.val t.isLt).1 (ix2 r e)
    = k0_pay1 (hidden (X0 m c t) (X1 m c t)) (k0_pay5 (X2 m c t)) (k0_pay6 (X2 m c t)) (X3 m c t) (X4 m c t) (ix2 r e) := by
  have ht : t.val < 16 := lt_of_lt_of_eq t.isLt N_0
  by_cases h0 : t.val % 16 = 0
  · rw [outsAt0_A m c t h0 (by omega)]
    dsimp only
    frame_out
  · rw [outsAt0_B m c t h0 (by omega)]
    dsimp only
    frame_out

/-- A point's part of the second result. -/
def term (t : Fin cfg0.N) (e : Fin 1024) : EReal :=
  ∑ r : Fin 512, hidden (X0 m c t) (X1 m c t) (ix2 r e) * (X2 m c t (ix2 r e) * rstd fun e => X2 m c t (ix2 r e))

/-- The first tile sets the second result's block, -/
theorem second_A (t : Fin cfg0.N) (h0 : t.val % 16 = 0) (e : Fin 1024) : (outsAt0 m c t.val t.isLt).2 (ix2 0 e) = term m c t e := by
  have ht : t.val < 16 := lt_of_lt_of_eq t.isLt N_0
  rw [outsAt0_A m c t h0 (by omega), term, ← part_apply]
  (try dsimp only)
  frame_out

/-- a later one adds to it. -/
theorem second_S (t : Fin cfg0.N) (h0 : ¬t.val % 16 = 0) (e : Fin 1024) : (outsAt0 m c t.val t.isLt).2 (ix2 0 e)
    = (outsAt0 m c (t.val - 1) (Nat.lt_of_le_of_lt (Nat.sub_le _ _) t.isLt)).2 (ix2 0 e) + term m c t e := by
  have ht : t.val < 16 := lt_of_lt_of_eq t.isLt N_0
  rw [outsAt0_B m c t h0 (by omega), term, ← next_apply]
  (try dsimp only)
  frame_out

/-- The two results as functions of the argument arrays. -/
def dxEntry (A0 : (⟨2, ![8192, 4096]⟩ : Shape).Idx → EReal) (A1 : (⟨2, ![1024, 4096]⟩ : Shape).Idx → EReal)
    (A2 : (⟨2, ![8192, 1024]⟩ : Shape).Idx → EReal) (A3 : (⟨1, ![1024]⟩ : Shape).Idx → EReal) (A4 : (⟨2, ![8192, 1024]⟩ : Shape).Idx → EReal)
    (R : Fin 8192) (e : Fin 1024) : EReal :=
  dxRow (hid A0 A1 R) (fun e => A3 (ix1 e)) (fun e => A2 (ix2 R e)) (A4 (ix2 R e)) e

def dgEntry (A0 : (⟨2, ![8192, 4096]⟩ : Shape).Idx → EReal) (A1 : (⟨2, ![1024, 4096]⟩ : Shape).Idx → EReal)
    (A2 : (⟨2, ![8192, 1024]⟩ : Shape).Idx → EReal) (e : Fin 1024) : EReal :=
  ∑ R : Fin 8192, hid A0 A1 R e * (A2 (ix2 R e) * rstd fun e => A2 (ix2 R e))

theorem first_entry (t : Fin cfg0.N) (r : Fin 512) (e : Fin 1024) (R : Fin 8192) (hR : R.val = 512 * t.val + r.val) :
    (outsAt0 m c t.val t.isLt).1 (ix2 r e) = dxEntry (A0 m c) (A1 m c) (A2 m c) (A3 m c) (A4 m c) R e := by
  rw [first, dx_apply, dxEntry, iblk4 m c t r e R hR]
  congr 1
  · exact funext fun e => hidden_block m c t r e R hR
  · exact funext fun e => iblk3 m c t e
  · exact funext fun e => iblk2 m c t r e R hR

theorem second_entry (t : Fin cfg0.N) (h2 : t.val % 16 = 15) (e : Fin 1024) :
    (outsAt0 m c t.val t.isLt).2 (ix2 0 e) = dgEntry (A0 m c) (A1 m c) (A2 m c) e := by
  have ht : t.val < 16 := lt_of_lt_of_eq t.isLt N_0
  rw [Pipeline.eq_sum_fin_of_reset_step_of_flush (fun n h => (outsAt0 m c n h).2 (ix2 0 e)) 16 0
    (fun t => term m c t e) (fun t h => by rw [zero_add]; exact second_A m c t h e) (fun t h => second_S m c t h e) t h2, zero_add]
  unfold term dgEntry
  refine Fin.sum_mul_add_congr fun s r h => ?_
  refine congr_arg₂ (· * ·) (hidden_block m c _ r e _ ?_) (congr_arg₂ (· * ·) (iblk2 m c _ r e _ ?_) (congrArg rstd (funext fun e =>
    iblk2 m c _ r e _ ?_))) <;> (try dsimp only) <;> omega

/-- The result arrays after the run. -/
theorem out_dx : (dats m 0 c).arrAt 5 cfg0.N = fun y => dxEntry (A0 m c) (A1 m c) (A2 m c) (A3 m c) (A4 m c) (y 0) (y 1) := by
  refine (dats m 0 c).arrAt_eq_of_covers 5 _ (by decide +kernel) fun t hf y => ?_
  obtain ⟨-, -, -, -, -, e5, -⟩ := idx t
  rw [after0_5]
  have hy0 : (y 0).val < 512 := (y 0).isLt
  have hy1 : (y 1).val < 1024 := (y 1).isLt
  have ht : t.val < 16 := lt_of_lt_of_eq t.isLt N_0
  have hi : (((cfg0.win 5).blk t).view.emb y) = ix2 (⟨512 * t.val + (y 0).val, by omega⟩ : Fin 8192) (⟨(y 1).val, hy1⟩ : Fin 1024) := by
    refine idx2 _ _ _ ?_ ?_ <;> blk_simp [e5] <;> (try dsimp only) <;> omega
  rw [hi]
  refine Eq.trans ?_ (first_entry m c t ⟨(y 0).val, hy0⟩ ⟨(y 1).val, hy1⟩ _ rfl)
  blk_simp
  blk_ext

theorem out_dg : (dats m 0 c).arrAt 6 cfg0.N = fun y => dgEntry (A0 m c) (A1 m c) (A2 m c) (y 1) := by
  refine (dats m 0 c).arrAt_eq_of_covers 6 _ (by decide +kernel) fun t hf y => ?_
  obtain ⟨-, -, -, -, -, -, e6⟩ := idx t
  rw [after0_6]
  have hy0 : (y 0).val < 1 := (y 0).isLt
  have hy1 : (y 1).val < 1024 := (y 1).isLt
  have hi : (((cfg0.win 6).blk t).view.emb y) = ix2 (0 : Fin 1) (⟨(y 1).val, hy1⟩ : Fin 1024) := by
    refine idx2 _ _ _ ?_ ?_ <;> blk_simp [e6] <;> (try dsimp only) <;> omega
  rw [hi]
  refine Eq.trans ?_ (second_entry m c t ((flush0_6 t).mp hf) ⟨(y 1).val, hy1⟩)
  blk_simp
  blk_ext

end Cert.Ff1

end
-- ==== Proof.Ff1Claim.lean ====
/- The gradient through the feed-forward layer's first product and its norm: kernel and reference end with the same two arrays, with no
   condition on the arguments. -/
module

public import proofs.«01_k».proof.Defs
public import proofs.«01_k».proof.Proof.Ff1Out
public import proofs.«01_k».proof.Proof.Gen.Reference2Ideal.Read
public import proofs.«01_k».proof.Proof.Gen.Reference2Ideal.Run
public import Idealize.ShloMosaic.Adequacy
public import Idealize.ShloMosaic.Init

@[expose] public section

noncomputable section

namespace Cert.Ff1

open Idealize.ShloMosaic Cert.Rms

/-- The two results as functions of the argument arrays: the gradient of the norm's input and of its scale. -/
@[irreducible] def dx (A0 : (⟨2, ![8192, 4096]⟩ : Shape).Idx → EReal) (A1 : (⟨2, ![1024, 4096]⟩ : Shape).Idx → EReal)
    (A2 : (⟨2, ![8192, 1024]⟩ : Shape).Idx → EReal) (A3 : (⟨1, ![1024]⟩ : Shape).Idx → EReal) (A4 : (⟨2, ![8192, 1024]⟩ : Shape).Idx → EReal) :
    (⟨2, ![8192, 1024]⟩ : Shape).Idx → EReal := fun y => dxEntry A0 A1 A2 A3 A4 (y 0) (y 1)
@[irreducible] def dg (A0 : (⟨2, ![8192, 4096]⟩ : Shape).Idx → EReal) (A1 : (⟨2, ![1024, 4096]⟩ : Shape).Idx → EReal)
    (A2 : (⟨2, ![8192, 1024]⟩ : Shape).Idx → EReal) : (⟨1, ![1024]⟩ : Shape).Idx → EReal := fun y => dgEntry A0 A1 A2 (y 0)

section Ref

open Cert.Reference2Ideal Cert.Reference2Ideal.Read

variable (x0 : (⟨S8192x4096, .bf16⟩ : BufTy).Contents (Elt Ideal)) (x1 : (⟨S1024x4096, .f32⟩ : BufTy).Contents (Elt Ideal))
  (x2 : (⟨S8192x1024, .f32⟩ : BufTy).Contents (Elt Ideal)) (x3 : (⟨S1024, .f32⟩ : BufTy).Contents (Elt Ideal))
  (x4 : (⟨S8192x1024, .f32⟩ : BufTy).Contents (Elt Ideal))

theorem ref_hid (R : Fin 8192) (e : Fin 1024) : val_main_v20 x0 x1 (ix2 R e) = hid x0 x1 R e := by
  unfold val_main_v20 val_main_v19
  pointwise
  rfl

theorem ref_var (R : Fin 8192) : val_main_v8 x2 (ix2 R 0) = var fun e => x2 (ix2 R e) := by
  unfold val_main_v8 val_main_v7 val_main_cst_2 val_main_v6 val_main_v5 val_main_cst_1 val_main_v4 val_main_v3 val_main_cst_0 val_main_v0
  pointwise
  rfl

theorem ref_rstd (R : Fin 8192) : val_main_v9 x2 (ix2 R 0) = rstd fun e => x2 (ix2 R e) := by
  rw [rstd, ← ref_var]
  unfold val_main_v9
  pointwise

/-- The reference's first result at one entry. -/
theorem ref_dx_entry (R : Fin 8192) (e : Fin 1024) : val_main_v39 x0 x1 x2 x3 x4 (ix2 R e) = dxEntry x0 x1 x2 x3 x4 R e := by
  rw [dxEntry, ← dx_eq]
  simp only [← ref_hid, ← ref_var, ← ref_rstd]
  unfold val_main_v39 val_main_v38 val_main_v37 val_main_v36 val_main_cst_8 val_main_v35 val_main_v34 val_main_cst_7 val_main_v33
    val_main_v32 val_main_v31 val_main_v30 val_main_v29 val_main_v28 val_main_cst_6 val_main_v27 val_main_v25 val_main_v24 val_main_v15
    val_main_v12 val_main_v11 val_main_cst_3 val_main_v10 val_main_v2 val_main_v1 val_main_cst
  pointwise
  rw [Fin.sum_univ_one]

/-- The reference's second result at one entry. -/
theorem ref_dg_entry (e : Fin 1024) : val_main_v26 x0 x1 x2 (ix1 e) = dgEntry x0 x1 x2 e := by
  unfold dgEntry
  simp only [← ref_hid, ← ref_rstd]
  unfold val_main_v26 val_main_cst_5 val_main_v23 val_main_v22 val_main_cst_4 val_main_v21 val_main_v14 val_main_v13
  pointwise
  rw [Fin.sum_univ_one]
  exact Finset.sum_congr rfl fun R _ => mul_comm _ _

/-- The reference's results. -/
theorem ref_dx : val_main_v39 x0 x1 x2 x3 x4 = dx x0 x1 x2 x3 x4 := by
  funext y
  obtain ⟨R, e, rfl⟩ : ∃ (R : Fin 8192) (e : Fin 1024), y = ix2 R e := ⟨y 0, y 1, Loads.idx2 _ _ _ rfl rfl⟩
  unfold dx
  exact ref_dx_entry x0 x1 x2 x3 x4 R e

theorem ref_dg : val_main_v26 x0 x1 x2 = dg x0 x1 x2 := by
  funext y
  obtain ⟨e, rfl⟩ : ∃ e : Fin 1024, y = ix1 e := ⟨y 0, by funext q; obtain rfl : q = 0 := Subsingleton.elim _ _; rfl⟩
  unfold dg
  exact ref_dg_entry x0 x1 x2 e

end Ref

section Kernel

open Cert.Kernel2Ideal Cert.Kernel2Ideal.Gen Idealize.ShloMosaic.TcCoe Idealize.SL.Sem

variable (m : (ℓ : Loc nD τ sig) → Buf (Elt Ideal) ℓ) (c : Dev nD)

/-- The kernel's results. -/
theorem dx_laid : Value.reg_main_v4_0 m c = dx (A0 m c) (A1 m c) (A2 m c) (A3 m c) (A4 m c) := by
  unfold dx
  exact out_dx m c

theorem dg_laid : shapeCast _ (Value.reg_main_v4_1 m c) shapeCasts_S1x1024_S1024 = dg (A0 m c) (A1 m c) (A2 m c) := by
  funext y
  obtain ⟨e, rfl⟩ : ∃ e : Fin 1024, y = ix1 e := ⟨y 0, by funext q; obtain rfl : q = 0 := Subsingleton.elim _ _; rfl⟩
  unfold dg
  refine Eq.trans ?_ (congrFun (out_dg m c) (ix2 0 e))
  unfold Value.reg_main_v4_1
  pointwise
  all_goals blk_ext

/-- The kernel runs and ends with those two arrays, its arguments unchanged. -/
theorem run (g : Dev nD → PrngReg) :
    θ_run defs (onTc (τ := τ) (main (F := Ideal))) ⟨m, fun _ => 0, g⟩ fun r => ∀ c : Dev nD,
      r.2.mem ((c.tc : Thread nD τ).loc main_v4_0) = dx (A0 m c) (A1 m c) (A2 m c) (A3 m c) (A4 m c)
      ∧ r.2.mem ((c.tc : Thread nD τ).loc main_v5) = dg (A0 m c) (A1 m c) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans (dx_laid m c), (h c).2.1.trans (dg_laid m c), (h c).2.2⟩) (Value.run m g)

end Kernel

/-- The reference runs and leaves its arguments as they were. -/
theorem frame_reference : quiescent_Reference2Ideal := fun m g _ =>
  (θ_run _ _ _).mono (fun r h => ⟨fun c => (h c).2.2, sem_eq_zero_of_no_sems (by decide) r.2⟩)
    (Cert.Reference2Ideal.Value.run m g)

/-- Kernel and reference end with equal results. -/
theorem value : algebraic_Kernel2Ideal_Reference2Ideal := by
  pair_intro
  · run_from run m g
  · refine θ_run_mono (Cert.Reference2Ideal.Value.run m' g') fun r hr c => ?_
    obtain ⟨h0, h1, h2⟩ := hr c
    refine ⟨h0.trans ?_, h1.trans ?_, h2⟩
    · rw [(hagree c).1, (hagree c).2.1, (hagree c).2.2.1, (hagree c).2.2.2.1, (hagree c).2.2.2.2]
      exact ref_dx _ _ _ _ _
    · rw [(hagree c).1, (hagree c).2.1, (hagree c).2.2.1]
      exact ref_dg _ _ _

end Cert.Ff1

end
-- ==== Proof.Ff2Out.lean ====
/- The gradient of the feed-forward layer's hidden units, kernel's side. With `D` the output's gradient, `U` the hidden
   units before the squared ReLU and `W` the second weight, the result at row `i`, column `j` is
   `(∑ e, D i e * W j e) * (2 * max (U i j) 0)`. -/
module

public import proofs.«01_k».proof.Proof.Gen.Kernel3Ideal.Value
public import proofs.«01_k».proof.Proof.Loads
public import Idealize.ShloMosaic.Lib.IdealHost

@[expose] public section

noncomputable section

namespace Cert.Ff2

open Cert.Loads Idealize.ShloMosaic Idealize.ShloMosaic.TcCoe Idealize.SL.Sem Cert.Kernel3Ideal Cert.Kernel3Ideal.Gen

/-- The gradient of the hidden units as a function of the three arrays. -/
def dHidden (D : (⟨2, ![8192, 1024]⟩ : Shape).Idx → EReal) (U : (⟨2, ![8192, 4096]⟩ : Shape).Idx → EReal)
    (W : (⟨2, ![4096, 1024]⟩ : Shape).Idx → EReal) : (⟨2, ![8192, 4096]⟩ : Shape).Idx → EReal := fun i =>
  (∑ e : Fin 1024, D (ix2 (i 0) e) * W (ix2 (i 1) e)) * (Ideal.ofBits .f32 0x40000000#32 * max (U i) 0)

/-- One chip's columns of a block: the product with its rows of the weight, times the derivative of the squared ReLU. -/
theorem part_apply (d : Vec Ideal S512x1024 .f32) (w : Vec Ideal S1x1024x1024 .bf16) (u : Vec Ideal S512x1024 .bf16)
    (r : Fin 512) (j : Fin 1024) :
    k0_pay4 d w u (ix2 r j)
      = (∑ e, d (ix2 r e) * w (ix3 0 j e)) * (Ideal.ofBits .f32 0x40000000#32 * max (u (ix2 r j)) 0) := by
  unfold k0_pay4 k0_pay3
  pointwise

theorem part1 (d : Vec Ideal S512x1024 .f32) (w : Vec Ideal S1x1024x1024 .bf16) (u : Vec Ideal S512x1024 .bf16) :
    k0_pay5 d w u = k0_pay4 d w u := rfl
theorem part2 (d : Vec Ideal S512x1024 .f32) (w : Vec Ideal S1x1024x1024 .bf16) (u : Vec Ideal S512x1024 .bf16) :
    k0_pay1 (k0_pay6 d w) u = k0_pay4 d w u := rfl
theorem part3 (d : Vec Ideal S512x1024 .f32) (w : Vec Ideal S1x1024x1024 .bf16) (u : Vec Ideal S512x1024 .bf16) :
    k0_pay2 (k0_pay3 d) w u = k0_pay4 d w u := rfl

/-- What a grid point leaves in its block. -/
theorem out3 (x0 : Vec Ideal S512x1024 .f32) (x1 : Vec Ideal S512x4096 .bf16) (x2 : Vec Ideal S4x1024x1024 .bf16)
    (r : Fin 512) (k : Fin 4) (j : Fin 1024) (J : Fin 4096) (hJ : J.val = 1024 * k.val + j.val) :
    out0_3 x0 x1 x2 (ix2 r J)
      = (∑ e, x0 (ix2 r e) * x2 (ix3 k j e)) * (Ideal.ofBits .f32 0x40000000#32 * max (x1 (ix2 r J)) 0) := by
  unfold out0_3
  canon_tiles x w
  · obtain rfl : k = 3 := Fin.ext (by simp at w1 ⊢; omega)
    rw [idx2 x r j (by simpa using w0.symm) (by simp at w1 ⊢; omega), part3, part_apply]
    exact congr_arg₂ (· * ·) (Finset.sum_congr rfl fun e _ => congr_arg₂ (· * ·) (ld2 x0 0 0 _ r e r e (by simp) (by simp))
      (ld3 x2 3 0 0 _ 0 j e 3 j e (by simp) (by simp) (by simp))) (congrArg (fun z => _ * max z 0) (ld2 x1 0 3072 _ r j r J (by simp) (by simpa using hJ)))
  · obtain rfl : k = 2 := Fin.ext (by simp at w1 ⊢; omega)
    rw [idx2 x r j (by simpa using w0.symm) (by simp at w1 ⊢; omega), part2, part_apply]
    exact congr_arg₂ (· * ·) (Finset.sum_congr rfl fun e _ => congr_arg₂ (· * ·) (ld2 x0 0 0 _ r e r e (by simp) (by simp))
      (ld3 x2 2 0 0 _ 0 j e 2 j e (by simp) (by simp) (by simp))) (congrArg (fun z => _ * max z 0) (ld2 x1 0 2048 _ r j r J (by simp) (by simpa using hJ)))
  · obtain rfl : k = 1 := Fin.ext (by simp at w1 ⊢; omega)
    rw [idx2 x r j (by simpa using w0.symm) (by simp at w1 ⊢; omega), part1, part_apply]
    exact congr_arg₂ (· * ·) (Finset.sum_congr rfl fun e _ => congr_arg₂ (· * ·) (ld2 x0 0 0 _ r e r e (by simp) (by simp))
      (ld3 x2 1 0 0 _ 0 j e 1 j e (by simp) (by simp) (by simp))) (congrArg (fun z => _ * max z 0) (ld2 x1 0 1024 _ r j r J (by simp) (by simpa using hJ)))
  · obtain rfl : k = 0 := Fin.ext (by simp at w1 ⊢; omega)
    rw [idx2 x r j (by simpa using w0.symm) (by simp at w1 ⊢; omega), part_apply]
    exact congr_arg₂ (· * ·) (Finset.sum_congr rfl fun e _ => congr_arg₂ (· * ·) (ld2 x0 0 0 _ r e r e (by simp) (by simp))
      (ld3 x2 0 0 0 _ 0 j e 0 j e (by simp) (by simp) (by simp))) (congrArg (fun z => _ * max z 0) (ld2 x1 0 0 _ r j r J (by simp) (by simpa using hJ)))

variable (m : (ℓ : Loc nD τ sig) → Buf (Elt Ideal) ℓ) (c : Dev nD)

/-- The argument arrays as launched. -/
abbrev A0 : (⟨2, ![8192, 1024]⟩ : Shape).Idx → EReal := m ((c : Thread nD τ).loc main_arg0)
abbrev A1 : (⟨2, ![8192, 4096]⟩ : Shape).Idx → EReal := m ((c : Thread nD τ).loc main_arg1)
abbrev A2 : (⟨2, ![4096, 1024]⟩ : Shape).Idx → EReal := m ((c : Thread nD τ).loc main_arg2)

theorem entry_w (k : Fin 4) (j e : Fin 1024) (J : Fin 4096) (hJ : J.val = 1024 * k.val + j.val) :
   V m c main_v1 (ix3 k j e) = A2 m c (ix2 J e) := by
  unfold V
  after_results
  dsimp only
  pointwise
  blk_ext

/-- Where each window's block of a point lies: its tile of 512 rows, and the whole weight. -/
theorem idx : ∀ t : Fin cfg0.N, win0_0.index t = ![t.val, 0] ∧ win0_1.index t = ![t.val, 0] ∧ win0_2.index t = ![0, 0, 0]
    ∧ win0_3.index t = ![t.val, 0] :=
  (by decide +kernel : ∀ t : Fin grid0.N, win0_0.index t = ![t.val, 0] ∧ win0_1.index t = ![t.val, 0] ∧ win0_2.index t = ![0, 0, 0]
    ∧ win0_3.index t = ![t.val, 0])

theorem iblk0 (t : Fin cfg0.N) (r : Fin 512) (j : Fin 1024) (R : Fin 8192) (hR : R.val = 512 * t.val + r.val) :
    iblk m c 0 t (ix2 r j) = A0 m c (ix2 R j) := by
  obtain ⟨e0, -⟩ := idx t
  blk_ext [iblk, V, e0]

theorem iblk1 (t : Fin cfg0.N) (r : Fin 512) (j : Fin 4096) (R : Fin 8192) (hR : R.val = 512 * t.val + r.val) :
    iblk m c 1 t (ix2 r j) = A1 m c (ix2 R j) := by
  obtain ⟨-, e0, -⟩ := idx t
  blk_ext [iblk, V, e0]

theorem iblk2 (t : Fin cfg0.N) (k : Fin 4) (j e : Fin 1024) (J : Fin 4096) (hJ : J.val = 1024 * k.val + j.val) :
    iblk m c 2 t (ix3 k j e) = A2 m c (ix2 J e) := by
  obtain ⟨-, -, e0, -⟩ := idx t
  rw [← entry_w m c k j e J hJ]
  blk_ext [iblk, e0]

/-- The result array after the run. -/
theorem out_hidden : (dats m 0 c).arrAt 3 cfg0.N = dHidden (A0 m c) (A1 m c) (A2 m c) := by
  refine (dats m 0 c).arrAt_eq_of_covers 3 _ (by decide +kernel) fun t hf y => ?_
  obtain ⟨-, -, -, e3⟩ := idx t
  rw [after0_3]
  have hy0 : (y 0).val < 512 := (y 0).isLt
  have hy1 : (y 1).val < 4096 := (y 1).isLt
  have ht : t.val < 16 := lt_of_lt_of_eq t.isLt N_0
  have key := out3 (iblk m c 0 t) (iblk m c 1 t) (iblk m c 2 t) ⟨(y 0).val, hy0⟩ ⟨(y 1).val / 1024, by omega⟩
    ⟨(y 1).val % 1024, by omega⟩ ⟨(y 1).val, hy1⟩ (by dsimp only; omega)
  have hi : (((cfg0.win 3).blk t).view.emb y) = ix2 (⟨512 * t.val + (y 0).val, by omega⟩ : Fin 8192) (⟨(y 1).val, hy1⟩ : Fin 4096) := by
    refine idx2 _ _ _ ?_ ?_ <;> blk_simp [e3] <;> (try dsimp only) <;> omega
  rw [hi, dHidden]
  refine Eq.trans ?_ (key.trans ?_)
  · blk_simp
    blk_ext
  · refine congr_arg₂ (· * ·) (Finset.sum_congr rfl fun e _ => congr_arg₂ (· * ·) (iblk0 m c t _ e _ rfl)
      (iblk2 m c t _ _ e _ ?_)) (congrArg (fun z => _ * max z 0) (iblk1 m c t _ _ _ rfl))
    simp
    omega

end Cert.Ff2

end
-- ==== Proof.Ff2Claim.lean ====
/- The gradient of the feed-forward layer's hidden units: the reference's value is the kernel's, with no condition on the
   arguments. Where the hidden unit is not positive the reference chooses 0 and the kernel multiplies by `2 * 0`. -/
module

public import proofs.«01_k».proof.Defs
public import proofs.«01_k».proof.Proof.Ff2Out
public import proofs.«01_k».proof.Proof.Gen.Reference3Ideal.Read
public import proofs.«01_k».proof.Proof.Gen.Reference3Ideal.Run
public import Idealize.ShloMosaic.Adequacy
public import Idealize.ShloMosaic.Init

@[expose] public section

noncomputable section

namespace Cert.Ff2

open Idealize.ShloMosaic

section Ref

open Cert.Reference3Ideal Cert.Reference3Ideal.Read

variable (x0 : (⟨S8192x1024, .f32⟩ : BufTy).Contents (Elt Ideal)) (x1 : (⟨S8192x4096, .bf16⟩ : BufTy).Contents (Elt Ideal))
  (x2 : (⟨S4096x1024, .f32⟩ : BufTy).Contents (Elt Ideal))

/-- A choice between a product with a ReLU and zero, by the sign the ReLU tests, is the product. -/
theorem choose (p u : EReal) :
    (if 0 < u then p * (Ideal.ofBits .f32 0x40000000#32 * max u 0) else 0)
      = p * (Ideal.ofBits .f32 0x40000000#32 * max u 0) := by
  split
  · rfl
  · rename_i h
    rw [max_eq_right (not_lt.mp h), mul_zero, mul_zero]

/-- The reference's result. -/
theorem ref_hidden : val_main_v13 x0 x1 x2 = dHidden x0 x1 x2 := by
  funext i
  obtain ⟨r, j, rfl⟩ : ∃ (r : Fin 8192) (j : Fin 4096), i = ix2 r j := ⟨i 0, i 1, Loads.idx2 _ _ _ rfl rfl⟩
  unfold val_main_v13 val_main_v12 val_main_v11 val_main_v10 val_main_v9 val_main_v7 val_main_v6 val_main_v3 val_main_v2
    val_main_v1 val_main_v0 val_main_call0_v0 val_main_cst val_main_cst_1 val_main_cst_2
  pointwise
  refine Eq.trans ?_ (choose _ _)
  simp only [Ideal.ofBits_zero_f32, val_main_call0_cst]
  pointwise

end Ref

/-- The reference runs and leaves its arguments as they were. -/
theorem frame_reference : quiescent_Reference3Ideal := fun m g _ =>
  (θ_run _ _ _).mono (fun r h => ⟨fun c => (h c).2, sem_eq_zero_of_no_sems (by decide) r.2⟩)
    (Cert.Reference3Ideal.Value.run m g)

/-- Kernel and reference end with equal results. -/
theorem value : algebraic_Kernel3Ideal_Reference3Ideal := by
  pair_intro
  · run_from Cert.Kernel3Ideal.Value.run_blocks m g
  · run_from Cert.Reference3Ideal.Value.run m' g'
    rw [out_hidden, Cert.Reference3Ideal.Read.val_main_v13_eq]
    exact ref_hidden _ _ _

end Cert.Ff2

end
-- ==== Proof.Ff2wOut.lean ====
/- The gradient of the feed-forward layer's second weight, kernel's side. With `L` the product's left operand and `R` its output's gradient,
   the result at row `i`, column `j` is `∑ n, L n i * R n j` over all tokens `n`, where the left operand is
   the square of the hidden units' ReLU. The grid walks, for each chip's part of
   the weight, the tokens in four tiles of 2048 and adds the tiles' products in a scratch. -/
module

public import proofs.«01_k».proof.Proof.Gen.Kernel4Ideal.Run
public import proofs.«01_k».proof.Proof.Loads
public import Idealize.ShloMosaic.Lib.Pipeline.ValueKit
public import Idealize.ShloMosaic.Lib.Pointwise

@[expose] public section

noncomputable section

namespace Cert.Ff2w

open Cert.Loads Idealize.ShloMosaic Idealize.ShloMosaic.TcCoe Idealize.SL.Sem Cert.Kernel4Ideal Cert.Kernel4Ideal.Gen

/-- The square of a hidden unit's ReLU. -/
def relu2 (u : EReal) : EReal := max u 0 * max u 0

/-- One tile's product. -/
theorem part_apply (x0 : Vec Ideal S2048x1024 .bf16) (x1 : Vec Ideal S2048x1024 .f32) (i : Fin 1024) (j : Fin 1024) :
    k0_pay1 x0 x1 (ix2 i j) = ∑ r : Fin 2048, relu2 (x0 (ix2 r i)) * x1 (ix2 r j) := by
  unfold k0_pay1
  pointwise
  rfl

theorem first_apply (x0 : Vec Ideal S2048x1024 .bf16) (x1 : Vec Ideal S2048x1024 .f32) (i : Fin 1024) (j : Fin 1024) :
    k0_pay2 x0 x1 (ix2 i j) = ∑ r : Fin 2048, relu2 (x0 (ix2 r i)) * x1 (ix2 r j) := by
  rw [← part_apply]; unfold k0_pay2; pointwise

theorem next_apply (x0 : Vec Ideal S2048x1024 .bf16) (x1 : Vec Ideal S2048x1024 .f32) (a : Vec Ideal S1024x1024 .f32) (i : Fin 1024) (j : Fin 1024) :
    k0_pay3 x0 x1 a (ix2 i j) = a (ix2 i j) + ∑ r : Fin 2048, relu2 (x0 (ix2 r i)) * x1 (ix2 r j) := by
  rw [← part_apply]; unfold k0_pay3; pointwise

theorem last_apply (a : Vec Ideal S1024x1024 .f32) (i : Fin 1024) (j : Fin 1024) : k0_pay4 a (ix3 0 i j) = a (ix2 i j) := by
  unfold k0_pay4; pointwise

variable (m : (ℓ : Loc nD τ sig) → Buf (Elt Ideal) ℓ) (c : Dev nD)

/-- The argument arrays as launched: the left operand and the output's gradient. -/
abbrev A0 : (⟨2, ![8192, 4096]⟩ : Shape).Idx → EReal := m ((c : Thread nD τ).loc main_arg1)
abbrev A1 : (⟨2, ![8192, 1024]⟩ : Shape).Idx → EReal := m ((c : Thread nD τ).loc main_arg0)

theorem idx : ∀ t : Fin cfg0.N, win0_0.index t = ![t.val % 4, t.val / 4] ∧ win0_1.index t = ![t.val % 4, 0]
    ∧ win0_2.index t = ![t.val / 4, 0, 0] :=
  (by decide +kernel : ∀ t : Fin grid0.N, win0_0.index t = ![t.val % 4, t.val / 4] ∧ win0_1.index t = ![t.val % 4, 0]
    ∧ win0_2.index t = ![t.val / 4, 0, 0])

theorem iblk0 (t : Fin cfg0.N) (r : Fin 2048) (i : Fin 1024) (n : Fin 8192) (I : Fin 4096) (hn : n.val = 2048 * (t.val % 4) + r.val)
    (hI : I.val = 1024 * (t.val / 4) + i.val) : iblk m c 0 t (ix2 r i) = A0 m c (ix2 n I) := by
  obtain ⟨e0, -⟩ := idx t
  blk_ext [iblk, V, e0]

theorem iblk1 (t : Fin cfg0.N) (r : Fin 2048) (j : Fin 1024) (n : Fin 8192) (J : Fin 1024) (hn : n.val = 2048 * (t.val % 4) + r.val)
    (hJ : J.val = j.val) : iblk m c 1 t (ix2 r j) = A1 m c (ix2 n J) := by
  obtain ⟨-, e0, -⟩ := idx t
  blk_ext [iblk, V, e0]

/-- The two blocks a point holds. -/
abbrev X0 (t : Fin cfg0.N) : Vec Ideal S2048x1024 .bf16 := iblk m c 0 t
abbrev X1 (t : Fin cfg0.N) : Vec Ideal S2048x1024 .f32 := iblk m c 1 t

/-- A tile's contribution to an entry, over the blocks a point holds. -/
def term (t : Fin cfg0.N) (i : Fin 1024) (j : Fin 1024) : EReal :=
  ∑ r : Fin 2048, relu2 (X0 m c t (ix2 r i)) * X1 m c t (ix2 r j)

/-- The first tile sets the scratch. -/
theorem scratch_A (t : Fin cfg0.N) (h0 : t.val % 4 = 0) (i : Fin 1024) (j : Fin 1024) :
    (outsAt0 m c t.val t.isLt).2 (ix2 i j) = term m c t i j := by
  rw [outsAt0_A m c t h0 (by omega) (by omega), term, ← first_apply]
  dsimp only
  frame_out

/-- A later tile adds to it. -/
theorem scratch_S (t : Fin cfg0.N) (h0 : ¬t.val % 4 = 0) (i : Fin 1024) (j : Fin 1024) :
    (outsAt0 m c t.val t.isLt).2 (ix2 i j)
      = (outsAt0 m c (t.val - 1) (Nat.lt_of_le_of_lt (Nat.sub_le _ _) t.isLt)).2 (ix2 i j) + term m c t i j := by
  rw [term, ← next_apply]
  by_cases h2 : t.val % 4 = 3
  · rw [outsAt0_C m c t h0 (by omega) h2]
    dsimp only
    frame_out
    exact congrArg (fun a => k0_pay3 _ _ a (ix2 i j)) (Memref.IsWhole.read_unread _ _)
  · rw [outsAt0_B m c t h0 (by omega) h2]
    dsimp only
    frame_out
    exact congrArg (fun a => k0_pay3 _ _ a (ix2 i j)) (Memref.IsWhole.read_unread _ _)

/-- The last tile's point stores what the scratch then holds. -/
theorem stored (t : Fin cfg0.N) (h2 : t.val % 4 = 3) (i : Fin 1024) (j : Fin 1024) :
    (outsAt0 m c t.val t.isLt).1 (ix3 0 i j) = (outsAt0 m c t.val t.isLt).2 (ix2 i j) := by
  refine Eq.trans ?_ (last_apply _ i j)
  rw [outsAt0_C m c t (by omega) (by omega) h2]
  dsimp only
  frame_out

/-- One entry of the weight's gradient. -/
def entry (I : Fin 4096) (J : Fin 1024) : EReal := ∑ n : Fin 8192, relu2 (A0 m c (ix2 n I)) * A1 m c (ix2 n J)

theorem left (t : Fin cfg0.N) (h2 : t.val % 4 = 3) (i : Fin 1024) (j : Fin 1024) (I : Fin 4096) (J : Fin 1024)
    (hI : I.val = 1024 * (t.val / 4) + i.val) (hJ : J.val = j.val) :
    (outsAt0 m c t.val t.isLt).1 (ix3 0 i j) = entry m c I J := by
  have ht : t.val < 16 := lt_of_lt_of_eq t.isLt N_0
  rw [stored m c t h2, Pipeline.eq_sum_fin_of_reset_step_of_flush (fun n h => (outsAt0 m c n h).2 (ix2 i j)) 4 0
    (fun t => term m c t i j) (fun t h => by rw [zero_add]; exact scratch_A m c t h i j) (fun t h => scratch_S m c t h i j) t h2, zero_add]
  unfold term entry
  refine Fin.sum_mul_add_congr fun s r h => ?_
  exact congr_arg₂ (relu2 · * ·) (iblk0 m c _ r i _ I (by (try dsimp only); omega) (by (try dsimp only); omega))
    (iblk1 m c _ r j _ J (by (try dsimp only); omega) (by (try dsimp only); omega))

/-- The region's result array after the run: each chip's part of the gradient. -/
theorem out_w (k : Fin 4) (i : Fin 1024) (j : Fin 1024) (I : Fin 4096) (J : Fin 1024) (hI : I.val = 1024 * k.val + i.val)
    (hJ : J.val = j.val) : (dats m 0 c).arrAt 2 cfg0.N (ix3 k i j) = entry m c I J := by
  have key : (dats m 0 c).arrAt 2 cfg0.N = fun y => entry m c ⟨1024 * (y 0).val + (y 1).val, by have := (y 0).isLt; have := (y 1).isLt; simp at *; omega⟩
      ⟨(y 2).val, by have := (y 0).isLt; have := (y 2).isLt; simp at *; omega⟩ := by
    refine (dats m 0 c).arrAt_eq_of_covers 2 _ (by decide +kernel) fun t hf y => ?_
    obtain ⟨-, -, e2⟩ := idx t
    rw [after0_2]
    have hy0 : (y 0).val < 1 := (y 0).isLt
    have hy1 : (y 1).val < 1024 := (y 1).isLt
    have hy2 : (y 2).val < 1024 := (y 2).isLt
    have ht : t.val < 16 := lt_of_lt_of_eq t.isLt N_0
    have key := left m c t ((flush0_2 t).mp hf) ⟨(y 1).val, hy1⟩ ⟨(y 2).val, hy2⟩
    refine Eq.trans ?_ (key _ _ ?_ ?_)
    · blk_simp
      blk_ext
    · blk_simp [e2]; (try dsimp only); (try omega)
    · blk_simp [e2]; (try dsimp only); (try omega)
  rw [key]
  exact congr_arg₂ (entry m c) (Fin.ext (by simpa using hI.symm)) (Fin.ext (by simpa using hJ.symm))

end Cert.Ff2w

end
-- ==== Proof.Ff2wClaim.lean ====
/- The gradient of the feed-forward layer's second weight: kernel and reference end with the same array, with no condition on the arguments. -/
module

public import proofs.«01_k».proof.Defs
public import proofs.«01_k».proof.Proof.Ff2wOut
public import proofs.«01_k».proof.Proof.Gen.Reference4Ideal.Read
public import proofs.«01_k».proof.Proof.Gen.Reference4Ideal.Run
public import Idealize.ShloMosaic.Adequacy
public import Idealize.ShloMosaic.Init

@[expose] public section

noncomputable section

namespace Cert.Ff2w

open Idealize.ShloMosaic

/-- The weight's gradient as a function of the argument arrays. -/
@[irreducible] def wgrad (A : (⟨2, ![8192, 4096]⟩ : Shape).Idx → EReal) (B : (⟨2, ![8192, 1024]⟩ : Shape).Idx → EReal) :
    (⟨2, ![4096, 1024]⟩ : Shape).Idx → EReal := fun y => ∑ n : Fin 8192, relu2 (A (ix2 n (y 0))) * B (ix2 n (y 1))

section Ref

open Cert.Reference4Ideal Cert.Reference4Ideal.Read

/-- The reference's result at one entry: the sum over the tokens, its factors in the other order. -/
theorem ref_entry (x0 : (⟨S8192x1024, .f32⟩ : BufTy).Contents (Elt Ideal)) (x1 : (⟨S8192x4096, .bf16⟩ : BufTy).Contents (Elt Ideal))
    (I : Fin 4096) (J : Fin 1024) : val_main_v7 x0 x1 (ix2 I J) = ∑ n : Fin 8192, relu2 (x1 (ix2 n I)) * x0 (ix2 n J) := by
  unfold val_main_v7 val_main_v6 val_main_v5 val_main_v3 val_main_v2 val_main_v1 val_main_call0_v0 val_main_call0_cst
  pointwise
  exact Finset.sum_congr rfl fun n _ => mul_comm _ _

/-- The reference's result is that gradient. -/
theorem ref_wgrad (x0 : (⟨S8192x1024, .f32⟩ : BufTy).Contents (Elt Ideal)) (x1 : (⟨S8192x4096, .bf16⟩ : BufTy).Contents (Elt Ideal)) :
    val_main_v7 x0 x1 = wgrad x1 x0 := by
  funext y
  obtain ⟨I, J, rfl⟩ : ∃ (I : Fin 4096) (J : Fin 1024), y = ix2 I J := ⟨y 0, y 1, Loads.idx2 _ _ _ rfl rfl⟩
  unfold wgrad
  exact ref_entry _ _ I J

end Ref

section Kernel

open Cert.Kernel4Ideal Cert.Kernel4Ideal.Gen Idealize.ShloMosaic.TcCoe Idealize.SL.Sem

variable (m : (ℓ : Loc nD τ sig) → Buf (Elt Ideal) ℓ) (c : Dev nD)

/-- The kernel's result, the chips' parts laid side by side. -/
theorem laid : shapeCast _ (Value.reg_main_v0 m c) shapeCasts_S4x1024x1024_S4096x1024 = wgrad (A0 m c) (A1 m c) := by
  funext y
  obtain ⟨I, J, rfl⟩ : ∃ (I : Fin 4096) (J : Fin 1024), y = ix2 I J := ⟨y 0, y 1, Loads.idx2 _ _ _ rfl rfl⟩
  unfold wgrad
  have hI := I.isLt
  have hJ := J.isLt
  refine Eq.trans ?_ (out_w m c ⟨I.val / 1024, by omega⟩ ⟨I.val % 1024, by omega⟩ ⟨J.val, hJ⟩ I J (by dsimp only; omega) rfl)
  exact Loads.castRows (a := 4) (b := 1024) _ _ I J _ _ (by dsimp only; omega)

/-- The kernel runs and ends with that gradient, its arguments unchanged. -/
theorem run (g : Dev nD → PrngReg) :
    θ_run defs (onTc (τ := τ) (main (F := Ideal))) ⟨m, fun _ => 0, g⟩ fun r => ∀ c : Dev nD,
      r.2.mem ((c.tc : Thread nD τ).loc main_v1) = wgrad (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (laid m c), (h c).2⟩) (Value.run m g)

end Kernel

/-- The reference runs and leaves its arguments as they were. -/
theorem frame_reference : quiescent_Reference4Ideal := fun m g _ =>
  (θ_run _ _ _).mono (fun r h => ⟨fun c => (h c).2, sem_eq_zero_of_no_sems (by decide) r.2⟩)
    (Cert.Reference4Ideal.Value.run m g)

/-- Kernel and reference end with equal results. -/
theorem value : algebraic_Kernel4Ideal_Reference4Ideal := by
  pair_intro
  · run_from run m g
  · refine θ_run_mono (Cert.Reference4Ideal.Value.run m' g') fun r hr c => ?_
    obtain ⟨h0, h1, h2⟩ := hr c
    refine ⟨h0.trans ?_, h1, h2⟩
    rw [(hagree c).1, (hagree c).2]
    exact ref_wgrad _ _

end Cert.Ff2w

end
-- ==== Proof.Ff1wOut.lean ====
/- The gradient of the feed-forward layer's first weight, kernel's side. With `L` the product's left operand and `R` its output's gradient,
   the result at row `i`, column `j` is `∑ n, L n i * R n j` over all tokens `n`. The grid walks, for each chip's part of
   the weight, the tokens in four tiles of 2048 and adds the tiles' products in a scratch. -/
module

public import proofs.«01_k».proof.Proof.Gen.Kernel5Ideal.Run
public import proofs.«01_k».proof.Proof.Loads
public import Idealize.ShloMosaic.Lib.Pipeline.ValueKit
public import Idealize.ShloMosaic.Lib.Pointwise

@[expose] public section

noncomputable section

namespace Cert.Ff1w

open Cert.Loads Idealize.ShloMosaic Idealize.ShloMosaic.TcCoe Idealize.SL.Sem Cert.Kernel5Ideal Cert.Kernel5Ideal.Gen

/-- One tile's product. -/
theorem part_apply (x0 : Vec Ideal S2048x1024 .bf16) (x1 : Vec Ideal S2048x1024 .bf16) (i : Fin 1024) (j : Fin 1024) :
    k0_pay1 x0 x1 (ix2 i j) = ∑ r : Fin 2048,  (x0 (ix2 r i)) * x1 (ix2 r j) := by
  unfold k0_pay1
  pointwise

theorem first_apply (x0 : Vec Ideal S2048x1024 .bf16) (x1 : Vec Ideal S2048x1024 .bf16) (i : Fin 1024) (j : Fin 1024) :
    k0_pay2 x0 x1 (ix2 i j) = ∑ r : Fin 2048,  (x0 (ix2 r i)) * x1 (ix2 r j) := by
  rw [← part_apply]; unfold k0_pay2; pointwise

theorem next_apply (x0 : Vec Ideal S2048x1024 .bf16) (x1 : Vec Ideal S2048x1024 .bf16) (a : Vec Ideal S1024x1024 .f32) (i : Fin 1024) (j : Fin 1024) :
    k0_pay3 x0 x1 a (ix2 i j) = a (ix2 i j) + ∑ r : Fin 2048,  (x0 (ix2 r i)) * x1 (ix2 r j) := by
  rw [← part_apply]; unfold k0_pay3; pointwise

theorem last_apply (a : Vec Ideal S1024x1024 .f32) (i : Fin 1024) (j : Fin 1024) : k0_pay4 a (ix3 0 i j) = a (ix2 i j) := by
  unfold k0_pay4; pointwise

variable (m : (ℓ : Loc nD τ sig) → Buf (Elt Ideal) ℓ) (c : Dev nD)

/-- The argument arrays as launched: the left operand and the output's gradient. -/
abbrev A0 : (⟨2, ![8192, 1024]⟩ : Shape).Idx → EReal := m ((c : Thread nD τ).loc main_arg0)
abbrev A1 : (⟨2, ![8192, 4096]⟩ : Shape).Idx → EReal := m ((c : Thread nD τ).loc main_arg1)

theorem idx : ∀ t : Fin cfg0.N, win0_0.index t = ![t.val % 4, 0] ∧ win0_1.index t = ![t.val % 4, t.val / 4]
    ∧ win0_2.index t = ![t.val / 4, 0, 0] :=
  (by decide +kernel : ∀ t : Fin grid0.N, win0_0.index t = ![t.val % 4, 0] ∧ win0_1.index t = ![t.val % 4, t.val / 4]
    ∧ win0_2.index t = ![t.val / 4, 0, 0])

theorem iblk0 (t : Fin cfg0.N) (r : Fin 2048) (i : Fin 1024) (n : Fin 8192) (I : Fin 1024) (hn : n.val = 2048 * (t.val % 4) + r.val)
    (hI : I.val = i.val) : iblk m c 0 t (ix2 r i) = A0 m c (ix2 n I) := by
  obtain ⟨e0, -⟩ := idx t
  blk_ext [iblk, V, e0]

theorem iblk1 (t : Fin cfg0.N) (r : Fin 2048) (j : Fin 1024) (n : Fin 8192) (J : Fin 4096) (hn : n.val = 2048 * (t.val % 4) + r.val)
    (hJ : J.val = 1024 * (t.val / 4) + j.val) : iblk m c 1 t (ix2 r j) = A1 m c (ix2 n J) := by
  obtain ⟨-, e0, -⟩ := idx t
  blk_ext [iblk, V, e0]

/-- The two blocks a point holds. -/
abbrev X0 (t : Fin cfg0.N) : Vec Ideal S2048x1024 .bf16 := iblk m c 0 t
abbrev X1 (t : Fin cfg0.N) : Vec Ideal S2048x1024 .bf16 := iblk m c 1 t

/-- A tile's contribution to an entry, over the blocks a point holds. -/
def term (t : Fin cfg0.N) (i : Fin 1024) (j : Fin 1024) : EReal :=
  ∑ r : Fin 2048,  (X0 m c t (ix2 r i)) * X1 m c t (ix2 r j)

/-- The first tile sets the scratch. -/
theorem scratch_A (t : Fin cfg0.N) (h0 : t.val % 4 = 0) (i : Fin 1024) (j : Fin 1024) :
    (outsAt0 m c t.val t.isLt).2 (ix2 i j) = term m c t i j := by
  rw [outsAt0_A m c t h0 (by omega) (by omega), term, ← first_apply]
  dsimp only
  frame_out

/-- A later tile adds to it. -/
theorem scratch_S (t : Fin cfg0.N) (h0 : ¬t.val % 4 = 0) (i : Fin 1024) (j : Fin 1024) :
    (outsAt0 m c t.val t.isLt).2 (ix2 i j)
      = (outsAt0 m c (t.val - 1) (Nat.lt_of_le_of_lt (Nat.sub_le _ _) t.isLt)).2 (ix2 i j) + term m c t i j := by
  rw [term, ← next_apply]
  by_cases h2 : t.val % 4 = 3
  · rw [outsAt0_C m c t h0 (by omega) h2]
    dsimp only
    frame_out
    exact congrArg (fun a => k0_pay3 _ _ a (ix2 i j)) (Memref.IsWhole.read_unread _ _)
  · rw [outsAt0_B m c t h0 (by omega) h2]
    dsimp only
    frame_out
    exact congrArg (fun a => k0_pay3 _ _ a (ix2 i j)) (Memref.IsWhole.read_unread _ _)

/-- The last tile's point stores what the scratch then holds. -/
theorem stored (t : Fin cfg0.N) (h2 : t.val % 4 = 3) (i : Fin 1024) (j : Fin 1024) :
    (outsAt0 m c t.val t.isLt).1 (ix3 0 i j) = (outsAt0 m c t.val t.isLt).2 (ix2 i j) := by
  refine Eq.trans ?_ (last_apply _ i j)
  rw [outsAt0_C m c t (by omega) (by omega) h2]
  dsimp only
  frame_out

/-- One entry of the weight's gradient. -/
def entry (I : Fin 1024) (J : Fin 4096) : EReal := ∑ n : Fin 8192,  (A0 m c (ix2 n I)) * A1 m c (ix2 n J)

theorem left (t : Fin cfg0.N) (h2 : t.val % 4 = 3) (i : Fin 1024) (j : Fin 1024) (I : Fin 1024) (J : Fin 4096)
    (hI : I.val = i.val) (hJ : J.val = 1024 * (t.val / 4) + j.val) :
    (outsAt0 m c t.val t.isLt).1 (ix3 0 i j) = entry m c I J := by
  have ht : t.val < 16 := lt_of_lt_of_eq t.isLt N_0
  rw [stored m c t h2, Pipeline.eq_sum_fin_of_reset_step_of_flush (fun n h => (outsAt0 m c n h).2 (ix2 i j)) 4 0
    (fun t => term m c t i j) (fun t h => by rw [zero_add]; exact scratch_A m c t h i j) (fun t h => scratch_S m c t h i j) t h2, zero_add]
  unfold term entry
  refine Fin.sum_mul_add_congr fun s r h => ?_
  exact congr_arg₂ ( · * ·) (iblk0 m c _ r i _ I (by (try dsimp only); omega) (by (try dsimp only); omega))
    (iblk1 m c _ r j _ J (by (try dsimp only); omega) (by (try dsimp only); omega))

/-- The region's result array after the run: each chip's part of the gradient. -/
theorem out_w (k : Fin 4) (i : Fin 1024) (j : Fin 1024) (I : Fin 1024) (J : Fin 4096) (hI : I.val = i.val)
    (hJ : J.val = 1024 * k.val + j.val) : (dats m 0 c).arrAt 2 cfg0.N (ix3 k i j) = entry m c I J := by
  have key : (dats m 0 c).arrAt 2 cfg0.N = fun y => entry m c ⟨(y 1).val, by have := (y 0).isLt; have := (y 1).isLt; simp at *; omega⟩
      ⟨1024 * (y 0).val + (y 2).val, by have := (y 0).isLt; have := (y 2).isLt; simp at *; omega⟩ := by
    refine (dats m 0 c).arrAt_eq_of_covers 2 _ (by decide +kernel) fun t hf y => ?_
    obtain ⟨-, -, e2⟩ := idx t
    rw [after0_2]
    have hy0 : (y 0).val < 1 := (y 0).isLt
    have hy1 : (y 1).val < 1024 := (y 1).isLt
    have hy2 : (y 2).val < 1024 := (y 2).isLt
    have ht : t.val < 16 := lt_of_lt_of_eq t.isLt N_0
    have key := left m c t ((flush0_2 t).mp hf) ⟨(y 1).val, hy1⟩ ⟨(y 2).val, hy2⟩
    refine Eq.trans ?_ (key _ _ ?_ ?_)
    · blk_simp
      blk_ext
    · blk_simp [e2]; (try dsimp only); (try omega)
    · blk_simp [e2]; (try dsimp only); (try omega)
  rw [key]
  exact congr_arg₂ (entry m c) (Fin.ext (by simpa using hI.symm)) (Fin.ext (by simpa using hJ.symm))

end Cert.Ff1w

end
-- ==== Proof.Ff1wClaim.lean ====
/- The gradient of the feed-forward layer's first weight: kernel and reference end with the same array, with no condition on the arguments. -/
module

public import proofs.«01_k».proof.Defs
public import proofs.«01_k».proof.Proof.Ff1wOut
public import proofs.«01_k».proof.Proof.Gen.Reference5Ideal.Read
public import proofs.«01_k».proof.Proof.Gen.Reference5Ideal.Run
public import Idealize.ShloMosaic.Adequacy
public import Idealize.ShloMosaic.Init

@[expose] public section

noncomputable section

namespace Cert.Ff1w

open Idealize.ShloMosaic

/-- The weight's gradient as a function of the argument arrays. -/
@[irreducible] def wgrad (A : (⟨2, ![8192, 1024]⟩ : Shape).Idx → EReal) (B : (⟨2, ![8192, 4096]⟩ : Shape).Idx → EReal) :
    (⟨2, ![1024, 4096]⟩ : Shape).Idx → EReal := fun y => ∑ n : Fin 8192,  (A (ix2 n (y 0))) * B (ix2 n (y 1))

section Ref

open Cert.Reference5Ideal Cert.Reference5Ideal.Read

/-- The reference's result at one entry: the sum over the tokens, its factors in the other order. -/
theorem ref_entry (x0 : (⟨S8192x1024, .bf16⟩ : BufTy).Contents (Elt Ideal)) (x1 : (⟨S8192x4096, .bf16⟩ : BufTy).Contents (Elt Ideal))
    (I : Fin 1024) (J : Fin 4096) : val_main_v6 x0 x1 (ix2 I J) = ∑ n : Fin 8192, x0 (ix2 n I) * x1 (ix2 n J) := by
  unfold val_main_v6 val_main_v5 val_main_v4 val_main_v3 val_main_v1
  pointwise
  exact Finset.sum_congr rfl fun n _ => mul_comm _ _

/-- The reference's result is that gradient. -/
theorem ref_wgrad (x0 : (⟨S8192x1024, .bf16⟩ : BufTy).Contents (Elt Ideal)) (x1 : (⟨S8192x4096, .bf16⟩ : BufTy).Contents (Elt Ideal)) :
    val_main_v6 x0 x1 = wgrad x0 x1 := by
  funext y
  obtain ⟨I, J, rfl⟩ : ∃ (I : Fin 1024) (J : Fin 4096), y = ix2 I J := ⟨y 0, y 1, Loads.idx2 _ _ _ rfl rfl⟩
  unfold wgrad
  exact ref_entry _ _ I J

end Ref

section Kernel

open Cert.Kernel5Ideal Cert.Kernel5Ideal.Gen Idealize.ShloMosaic.TcCoe Idealize.SL.Sem

variable (m : (ℓ : Loc nD τ sig) → Buf (Elt Ideal) ℓ) (c : Dev nD)

/-- The kernel's result, the chips' parts laid side by side. -/
theorem laid : shapeCast _ (transpose S1024x4x1024 [1, 0, 2] (Value.reg_main_v0 m c) transposes_S4x1024x1024_S1024x4x1024_1_0_2) shapeCasts_S1024x4x1024_S1024x4096 = wgrad (A0 m c) (A1 m c) := by
  funext y
  obtain ⟨I, J, rfl⟩ : ∃ (I : Fin 1024) (J : Fin 4096), y = ix2 I J := ⟨y 0, y 1, Loads.idx2 _ _ _ rfl rfl⟩
  unfold wgrad
  have hI := I.isLt
  have hJ := J.isLt
  refine Eq.trans ?_ (out_w m c ⟨J.val / 1024, by omega⟩ ⟨I.val, hI⟩ ⟨J.val % 1024, by omega⟩ I J rfl (by dsimp only; omega))
  unfold Value.reg_main_v0
  pointwise
  all_goals blk_ext

/-- The kernel runs and ends with that gradient, its arguments unchanged. -/
theorem run (g : Dev nD → PrngReg) :
    θ_run defs (onTc (τ := τ) (main (F := Ideal))) ⟨m, fun _ => 0, g⟩ fun r => ∀ c : Dev nD,
      r.2.mem ((c.tc : Thread nD τ).loc main_v2) = wgrad (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (laid m c), (h c).2⟩) (Value.run m g)

end Kernel

/-- The reference runs and leaves its arguments as they were. -/
theorem frame_reference : quiescent_Reference5Ideal := fun m g _ =>
  (θ_run _ _ _).mono (fun r h => ⟨fun c => (h c).2, sem_eq_zero_of_no_sems (by decide) r.2⟩)
    (Cert.Reference5Ideal.Value.run m g)

/-- Kernel and reference end with equal results. -/
theorem value : algebraic_Kernel5Ideal_Reference5Ideal := by
  pair_intro
  · run_from run m g
  · refine θ_run_mono (Cert.Reference5Ideal.Value.run m' g') fun r hr c => ?_
    obtain ⟨h0, h1, h2⟩ := hr c
    refine ⟨h0.trans ?_, h1, h2⟩
    rw [(hagree c).1, (hagree c).2]
    exact ref_wgrad _ _

end Cert.Ff1w

end
-- ==== Proof.InwOut.lean ====
/- The gradient of the input projection's weight, kernel's side. With `L` the product's left operand and `R` its output's gradient,
   the result at row `i`, column `j` is `∑ n, L n i * R n j` over all tokens `n`. The grid walks, for each chip's part of
   the weight, the tokens in four tiles of 2048 and adds the tiles' products in a scratch. -/
module

public import proofs.«01_k».proof.Proof.Gen.Kernel6Ideal.Run
public import proofs.«01_k».proof.Proof.Loads
public import Idealize.ShloMosaic.Lib.Pipeline.ValueKit
public import Idealize.ShloMosaic.Lib.Pointwise

@[expose] public section

noncomputable section

namespace Cert.Inw

open Cert.Loads Idealize.ShloMosaic Idealize.ShloMosaic.TcCoe Idealize.SL.Sem Cert.Kernel6Ideal Cert.Kernel6Ideal.Gen

/-- One tile's product. -/
theorem part_apply (x0 : Vec Ideal S2048x1024 .bf16) (x1 : Vec Ideal S2048x1792 .bf16) (i : Fin 1024) (j : Fin 1792) :
    k0_pay1 x0 x1 (ix2 i j) = ∑ r : Fin 2048,  (x0 (ix2 r i)) * x1 (ix2 r j) := by
  unfold k0_pay1
  pointwise

theorem first_apply (x0 : Vec Ideal S2048x1024 .bf16) (x1 : Vec Ideal S2048x1792 .bf16) (i : Fin 1024) (j : Fin 1792) :
    k0_pay2 x0 x1 (ix2 i j) = ∑ r : Fin 2048,  (x0 (ix2 r i)) * x1 (ix2 r j) := by
  rw [← part_apply]; unfold k0_pay2; pointwise

theorem next_apply (x0 : Vec Ideal S2048x1024 .bf16) (x1 : Vec Ideal S2048x1792 .bf16) (a : Vec Ideal S1024x1792 .f32) (i : Fin 1024) (j : Fin 1792) :
    k0_pay3 x0 x1 a (ix2 i j) = a (ix2 i j) + ∑ r : Fin 2048,  (x0 (ix2 r i)) * x1 (ix2 r j) := by
  rw [← part_apply]; unfold k0_pay3; pointwise

theorem last_apply (a : Vec Ideal S1024x1792 .f32) (i : Fin 1024) (j : Fin 1792) : k0_pay4 a (ix3 0 i j) = a (ix2 i j) := by
  unfold k0_pay4; pointwise

variable (m : (ℓ : Loc nD τ sig) → Buf (Elt Ideal) ℓ) (c : Dev nD)

/-- The argument arrays as launched: the left operand and the output's gradient. -/
abbrev A0 : (⟨2, ![8192, 1024]⟩ : Shape).Idx → EReal := m ((c : Thread nD τ).loc main_arg0)
abbrev A1 : (⟨2, ![8192, 7168]⟩ : Shape).Idx → EReal := m ((c : Thread nD τ).loc main_arg1)

theorem idx : ∀ t : Fin cfg0.N, win0_0.index t = ![t.val % 4, 0] ∧ win0_1.index t = ![t.val % 4, t.val / 4]
    ∧ win0_2.index t = ![t.val / 4, 0, 0] :=
  (by decide +kernel : ∀ t : Fin grid0.N, win0_0.index t = ![t.val % 4, 0] ∧ win0_1.index t = ![t.val % 4, t.val / 4]
    ∧ win0_2.index t = ![t.val / 4, 0, 0])

theorem iblk0 (t : Fin cfg0.N) (r : Fin 2048) (i : Fin 1024) (n : Fin 8192) (I : Fin 1024) (hn : n.val = 2048 * (t.val % 4) + r.val)
    (hI : I.val = i.val) : iblk m c 0 t (ix2 r i) = A0 m c (ix2 n I) := by
  obtain ⟨e0, -⟩ := idx t
  blk_ext [iblk, V, e0]

theorem iblk1 (t : Fin cfg0.N) (r : Fin 2048) (j : Fin 1792) (n : Fin 8192) (J : Fin 7168) (hn : n.val = 2048 * (t.val % 4) + r.val)
    (hJ : J.val = 1792 * (t.val / 4) + j.val) : iblk m c 1 t (ix2 r j) = A1 m c (ix2 n J) := by
  obtain ⟨-, e0, -⟩ := idx t
  blk_ext [iblk, V, e0]

/-- The two blocks a point holds. -/
abbrev X0 (t : Fin cfg0.N) : Vec Ideal S2048x1024 .bf16 := iblk m c 0 t
abbrev X1 (t : Fin cfg0.N) : Vec Ideal S2048x1792 .bf16 := iblk m c 1 t

/-- A tile's contribution to an entry, over the blocks a point holds. -/
def term (t : Fin cfg0.N) (i : Fin 1024) (j : Fin 1792) : EReal :=
  ∑ r : Fin 2048,  (X0 m c t (ix2 r i)) * X1 m c t (ix2 r j)

/-- The first tile sets the scratch. -/
theorem scratch_A (t : Fin cfg0.N) (h0 : t.val % 4 = 0) (i : Fin 1024) (j : Fin 1792) :
    (outsAt0 m c t.val t.isLt).2 (ix2 i j) = term m c t i j := by
  rw [outsAt0_A m c t h0 (by omega) (by omega), term, ← first_apply]
  dsimp only
  frame_out

/-- A later tile adds to it. -/
theorem scratch_S (t : Fin cfg0.N) (h0 : ¬t.val % 4 = 0) (i : Fin 1024) (j : Fin 1792) :
    (outsAt0 m c t.val t.isLt).2 (ix2 i j)
      = (outsAt0 m c (t.val - 1) (Nat.lt_of_le_of_lt (Nat.sub_le _ _) t.isLt)).2 (ix2 i j) + term m c t i j := by
  rw [term, ← next_apply]
  by_cases h2 : t.val % 4 = 3
  · rw [outsAt0_C m c t h0 (by omega) h2]
    dsimp only
    frame_out
    exact congrArg (fun a => k0_pay3 _ _ a (ix2 i j)) (Memref.IsWhole.read_unread _ _)
  · rw [outsAt0_B m c t h0 (by omega) h2]
    dsimp only
    frame_out
    exact congrArg (fun a => k0_pay3 _ _ a (ix2 i j)) (Memref.IsWhole.read_unread _ _)

/-- The last tile's point stores what the scratch then holds. -/
theorem stored (t : Fin cfg0.N) (h2 : t.val % 4 = 3) (i : Fin 1024) (j : Fin 1792) :
    (outsAt0 m c t.val t.isLt).1 (ix3 0 i j) = (outsAt0 m c t.val t.isLt).2 (ix2 i j) := by
  refine Eq.trans ?_ (last_apply _ i j)
  rw [outsAt0_C m c t (by omega) (by omega) h2]
  dsimp only
  frame_out

/-- One entry of the weight's gradient. -/
def entry (I : Fin 1024) (J : Fin 7168) : EReal := ∑ n : Fin 8192,  (A0 m c (ix2 n I)) * A1 m c (ix2 n J)

theorem left (t : Fin cfg0.N) (h2 : t.val % 4 = 3) (i : Fin 1024) (j : Fin 1792) (I : Fin 1024) (J : Fin 7168)
    (hI : I.val = i.val) (hJ : J.val = 1792 * (t.val / 4) + j.val) :
    (outsAt0 m c t.val t.isLt).1 (ix3 0 i j) = entry m c I J := by
  have ht : t.val < 16 := lt_of_lt_of_eq t.isLt N_0
  rw [stored m c t h2, Pipeline.eq_sum_fin_of_reset_step_of_flush (fun n h => (outsAt0 m c n h).2 (ix2 i j)) 4 0
    (fun t => term m c t i j) (fun t h => by rw [zero_add]; exact scratch_A m c t h i j) (fun t h => scratch_S m c t h i j) t h2, zero_add]
  unfold term entry
  refine Fin.sum_mul_add_congr fun s r h => ?_
  exact congr_arg₂ ( · * ·) (iblk0 m c _ r i _ I (by (try dsimp only); omega) (by (try dsimp only); omega))
    (iblk1 m c _ r j _ J (by (try dsimp only); omega) (by (try dsimp only); omega))

/-- The region's result array after the run: each chip's part of the gradient. -/
theorem out_w (k : Fin 4) (i : Fin 1024) (j : Fin 1792) (I : Fin 1024) (J : Fin 7168) (hI : I.val = i.val)
    (hJ : J.val = 1792 * k.val + j.val) : (dats m 0 c).arrAt 2 cfg0.N (ix3 k i j) = entry m c I J := by
  have key : (dats m 0 c).arrAt 2 cfg0.N = fun y => entry m c ⟨(y 1).val, by have := (y 0).isLt; have := (y 1).isLt; simp at *; omega⟩
      ⟨1792 * (y 0).val + (y 2).val, by have := (y 0).isLt; have := (y 2).isLt; simp at *; omega⟩ := by
    refine (dats m 0 c).arrAt_eq_of_covers 2 _ (by decide +kernel) fun t hf y => ?_
    obtain ⟨-, -, e2⟩ := idx t
    rw [after0_2]
    have hy0 : (y 0).val < 1 := (y 0).isLt
    have hy1 : (y 1).val < 1024 := (y 1).isLt
    have hy2 : (y 2).val < 1792 := (y 2).isLt
    have ht : t.val < 16 := lt_of_lt_of_eq t.isLt N_0
    have key := left m c t ((flush0_2 t).mp hf) ⟨(y 1).val, hy1⟩ ⟨(y 2).val, hy2⟩
    refine Eq.trans ?_ (key _ _ ?_ ?_)
    · blk_simp
      blk_ext
    · blk_simp [e2]; (try dsimp only); (try omega)
    · blk_simp [e2]; (try dsimp only); (try omega)
  rw [key]
  exact congr_arg₂ (entry m c) (Fin.ext (by simpa using hI.symm)) (Fin.ext (by simpa using hJ.symm))

end Cert.Inw

end
-- ==== Proof.InwClaim.lean ====
/- The gradient of the input projection's weight: kernel and reference end with the same array, with no condition on the arguments. -/
module

public import proofs.«01_k».proof.Defs
public import proofs.«01_k».proof.Proof.InwOut
public import proofs.«01_k».proof.Proof.Gen.Reference6Ideal.Read
public import proofs.«01_k».proof.Proof.Gen.Reference6Ideal.Run
public import Idealize.ShloMosaic.Adequacy
public import Idealize.ShloMosaic.Init

@[expose] public section

noncomputable section

namespace Cert.Inw

open Idealize.ShloMosaic

/-- The weight's gradient as a function of the argument arrays. -/
@[irreducible] def wgrad (A : (⟨2, ![8192, 1024]⟩ : Shape).Idx → EReal) (B : (⟨2, ![8192, 7168]⟩ : Shape).Idx → EReal) :
    (⟨2, ![1024, 7168]⟩ : Shape).Idx → EReal := fun y => ∑ n : Fin 8192,  (A (ix2 n (y 0))) * B (ix2 n (y 1))

section Ref

open Cert.Reference6Ideal Cert.Reference6Ideal.Read

/-- The reference's result at one entry: the sum over the tokens, its factors in the other order. -/
theorem ref_entry (x0 : (⟨S8192x1024, .bf16⟩ : BufTy).Contents (Elt Ideal)) (x1 : (⟨S8192x7168, .bf16⟩ : BufTy).Contents (Elt Ideal))
    (I : Fin 1024) (J : Fin 7168) : val_main_v6 x0 x1 (ix2 I J) = ∑ n : Fin 8192, x0 (ix2 n I) * x1 (ix2 n J) := by
  unfold val_main_v6 val_main_v5 val_main_v4 val_main_v3 val_main_v1
  pointwise
  exact Finset.sum_congr rfl fun n _ => mul_comm _ _

/-- The reference's result is that gradient. -/
theorem ref_wgrad (x0 : (⟨S8192x1024, .bf16⟩ : BufTy).Contents (Elt Ideal)) (x1 : (⟨S8192x7168, .bf16⟩ : BufTy).Contents (Elt Ideal)) :
    val_main_v6 x0 x1 = wgrad x0 x1 := by
  funext y
  obtain ⟨I, J, rfl⟩ : ∃ (I : Fin 1024) (J : Fin 7168), y = ix2 I J := ⟨y 0, y 1, Loads.idx2 _ _ _ rfl rfl⟩
  unfold wgrad
  exact ref_entry _ _ I J

end Ref

section Kernel

open Cert.Kernel6Ideal Cert.Kernel6Ideal.Gen Idealize.ShloMosaic.TcCoe Idealize.SL.Sem

variable (m : (ℓ : Loc nD τ sig) → Buf (Elt Ideal) ℓ) (c : Dev nD)

/-- The kernel's result, the chips' parts laid side by side. -/
theorem laid : shapeCast _ (transpose S1024x4x1792 [1, 0, 2] (Value.reg_main_v0 m c) transposes_S4x1024x1792_S1024x4x1792_1_0_2) shapeCasts_S1024x4x1792_S1024x7168 = wgrad (A0 m c) (A1 m c) := by
  funext y
  obtain ⟨I, J, rfl⟩ : ∃ (I : Fin 1024) (J : Fin 7168), y = ix2 I J := ⟨y 0, y 1, Loads.idx2 _ _ _ rfl rfl⟩
  unfold wgrad
  have hI := I.isLt
  have hJ := J.isLt
  refine Eq.trans ?_ (out_w m c ⟨J.val / 1792, by omega⟩ ⟨I.val, hI⟩ ⟨J.val % 1792, by omega⟩ I J rfl (by dsimp only; omega))
  unfold Value.reg_main_v0
  pointwise
  all_goals blk_ext

/-- The kernel runs and ends with that gradient, its arguments unchanged. -/
theorem run (g : Dev nD → PrngReg) :
    θ_run defs (onTc (τ := τ) (main (F := Ideal))) ⟨m, fun _ => 0, g⟩ fun r => ∀ c : Dev nD,
      r.2.mem ((c.tc : Thread nD τ).loc main_v2) = wgrad (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (laid m c), (h c).2⟩) (Value.run m g)

end Kernel

/-- The reference runs and leaves its arguments as they were. -/
theorem frame_reference : quiescent_Reference6Ideal := fun m g _ =>
  (θ_run _ _ _).mono (fun r h => ⟨fun c => (h c).2, sem_eq_zero_of_no_sems (by decide) r.2⟩)
    (Cert.Reference6Ideal.Value.run m g)

/-- Kernel and reference end with equal results. -/
theorem value : algebraic_Kernel6Ideal_Reference6Ideal := by
  pair_intro
  · run_from run m g
  · refine θ_run_mono (Cert.Reference6Ideal.Value.run m' g') fun r hr c => ?_
    obtain ⟨h0, h1, h2⟩ := hr c
    refine ⟨h0.trans ?_, h1, h2⟩
    rw [(hagree c).1, (hagree c).2]
    exact ref_wgrad _ _

end Cert.Inw

end
-- ==== Proof.MergeOut.lean ====
/- The gradient through the merge, kernel's side. With `M n i = ∑ j, D n j * W i j` the gradient of the gated sum, the gradient of each
   branch's output is `M` times the branch's gate, the gradient of a gate's logit is `M` times the branch's output times the gate's
   derivative `g * (1 - g)`, and the gradients of the branches' inputs are products of the first with the branches' own output
   weights. The grid walks 16 tiles of 512 rows, each point writing its rows of all five results. -/
module

public import proofs.«01_k».proof.Proof.Gen.Kernel7Ideal.Frame
public import proofs.«01_k».proof.Proof.Loads
public import Idealize.ShloMosaic.Lib.Pipeline.ValueKit
public import Idealize.ShloMosaic.Lib.Pointwise

@[expose] public section

noncomputable section

namespace Cert.Merge

open Cert.Loads Idealize.ShloMosaic Idealize.ShloMosaic.TcCoe Idealize.SL.Sem Cert.Kernel7Ideal Cert.Kernel7Ideal.Gen

/-! ## What the body computes from its blocks -/

/-- A chip's rows, or its columns, of a weight laid out by chips. -/
abbrev rows0 (w : Vec Ideal S4x256x1024 .bf16) : Vec Ideal S1x256x1024 .bf16 := View.ld w (Rect.unit ![0, 0, 0] ![1, 256, 1024] inb_S4x256x1024_S1x256x1024_0_0_0)
abbrev rows1 (w : Vec Ideal S4x256x1024 .bf16) : Vec Ideal S1x256x1024 .bf16 := View.ld w (Rect.unit ![1, 0, 0] ![1, 256, 1024] inb_S4x256x1024_S1x256x1024_1_0_0)
abbrev rows2 (w : Vec Ideal S4x256x1024 .bf16) : Vec Ideal S1x256x1024 .bf16 := View.ld w (Rect.unit ![2, 0, 0] ![1, 256, 1024] inb_S4x256x1024_S1x256x1024_2_0_0)
abbrev rows3 (w : Vec Ideal S4x256x1024 .bf16) : Vec Ideal S1x256x1024 .bf16 := View.ld w (Rect.unit ![3, 0, 0] ![1, 256, 1024] inb_S4x256x1024_S1x256x1024_3_0_0)
abbrev cols0 (w : Vec Ideal S4x512x256 .bf16) : Vec Ideal S1x512x256 .bf16 := View.ld w (Rect.unit ![0, 0, 0] ![1, 512, 256] inb_S4x512x256_S1x512x256_0_0_0)
abbrev cols1 (w : Vec Ideal S4x512x256 .bf16) : Vec Ideal S1x512x256 .bf16 := View.ld w (Rect.unit ![1, 0, 0] ![1, 512, 256] inb_S4x512x256_S1x512x256_1_0_0)
abbrev cols2 (w : Vec Ideal S4x512x256 .bf16) : Vec Ideal S1x512x256 .bf16 := View.ld w (Rect.unit ![2, 0, 0] ![1, 512, 256] inb_S4x512x256_S1x512x256_2_0_0)
abbrev cols3 (w : Vec Ideal S4x512x256 .bf16) : Vec Ideal S1x512x256 .bf16 := View.ld w (Rect.unit ![3, 0, 0] ![1, 512, 256] inb_S4x512x256_S1x512x256_3_0_0)

/-- The gradient of a block's gated sums. -/
abbrev sums (x : Vec Ideal S512x1024 .f32) (w : Vec Ideal S4x256x1024 .bf16) : Vec Ideal S512x1024 .f32 :=
  k0_pay3 x (rows0 w) (rows1 w) (rows2 w) (rows3 w)

/-- A product with a weight's rows, part by part: entry `I` comes from the chip that holds row `I`. -/
theorem sums_parts (x : Vec Ideal S512x1024 .f32) (w0 w1 w2 w3 : Vec Ideal S1x256x1024 .bf16) (W : Fin 1024 → Fin 1024 → EReal)
    (h0 : ∀ (i : Fin 256) (I j : Fin 1024), I.val = 0 + i.val → w0 (ix3 0 i j) = W I j)
    (h1 : ∀ (i : Fin 256) (I j : Fin 1024), I.val = 256 + i.val → w1 (ix3 0 i j) = W I j)
    (h2 : ∀ (i : Fin 256) (I j : Fin 1024), I.val = 512 + i.val → w2 (ix3 0 i j) = W I j)
    (h3 : ∀ (i : Fin 256) (I j : Fin 1024), I.val = 768 + i.val → w3 (ix3 0 i j) = W I j) (r : Fin 512) (I : Fin 1024) :
    k0_pay3 x w0 w1 w2 w3 (ix2 r I) = ∑ j, x (ix2 r j) * W I j := by
  have hI := I.isLt
  unfold k0_pay3
  pointwise
  by_cases c0 : I.val < 256
  · rw [dif_pos c0]
    exact Finset.sum_congr rfl fun j _ => congrArg (_ * ·) (h0 ⟨_, c0⟩ I j (by dsimp only; omega))
  rw [dif_neg c0]
  by_cases c1 : I.val - 256 < 256
  · rw [dif_pos c1]
    exact Finset.sum_congr rfl fun j _ => congrArg (_ * ·) (h1 ⟨_, c1⟩ I j (by dsimp only; omega))
  rw [dif_neg c1]
  by_cases c2 : I.val - 256 - 256 < 256
  · rw [dif_pos c2]
    exact Finset.sum_congr rfl fun j _ => congrArg (_ * ·) (h2 ⟨_, c2⟩ I j (by dsimp only; omega))
  rw [dif_neg c2]
  exact Finset.sum_congr rfl fun j _ => congrArg (_ * ·) (h3 ⟨I.val - 256 - 256 - 256, by omega⟩ I j (by dsimp only; omega))

/-- The same product of a narrow block. -/
theorem rows_parts (x : Vec Ideal S512x1024 .bf16) (w0 w1 w2 w3 : Vec Ideal S1x256x1024 .bf16) (W : Fin 1024 → Fin 1024 → EReal)
    (h0 : ∀ (i : Fin 256) (I j : Fin 1024), I.val = 0 + i.val → w0 (ix3 0 i j) = W I j)
    (h1 : ∀ (i : Fin 256) (I j : Fin 1024), I.val = 256 + i.val → w1 (ix3 0 i j) = W I j)
    (h2 : ∀ (i : Fin 256) (I j : Fin 1024), I.val = 512 + i.val → w2 (ix3 0 i j) = W I j)
    (h3 : ∀ (i : Fin 256) (I j : Fin 1024), I.val = 768 + i.val → w3 (ix3 0 i j) = W I j) (r : Fin 512) (I : Fin 1024) :
    k0_pay15 x w0 w1 w2 w3 (ix2 r I) = ∑ j, x (ix2 r j) * W I j := by
  have hI := I.isLt
  unfold k0_pay15
  pointwise
  by_cases c0 : I.val < 256
  · rw [dif_pos c0]
    exact Finset.sum_congr rfl fun j _ => congrArg (_ * ·) (h0 ⟨_, c0⟩ I j (by dsimp only; omega))
  rw [dif_neg c0]
  by_cases c1 : I.val - 256 < 256
  · rw [dif_pos c1]
    exact Finset.sum_congr rfl fun j _ => congrArg (_ * ·) (h1 ⟨_, c1⟩ I j (by dsimp only; omega))
  rw [dif_neg c1]
  by_cases c2 : I.val - 256 - 256 < 256
  · rw [dif_pos c2]
    exact Finset.sum_congr rfl fun j _ => congrArg (_ * ·) (h2 ⟨_, c2⟩ I j (by dsimp only; omega))
  rw [dif_neg c2]
  exact Finset.sum_congr rfl fun j _ => congrArg (_ * ·) (h3 ⟨I.val - 256 - 256 - 256, by omega⟩ I j (by dsimp only; omega))

theorem sums_apply (x : Vec Ideal S512x1024 .f32) (w : Vec Ideal S4x256x1024 .bf16) (W : Fin 1024 → Fin 1024 → EReal)
    (hw : ∀ (k : Fin 4) (i : Fin 256) (I j : Fin 1024), I.val = 256 * k.val + i.val → w (ix3 k i j) = W I j) (r : Fin 512) (I : Fin 1024) :
    sums x w (ix2 r I) = ∑ j, x (ix2 r j) * W I j :=
  sums_parts x _ _ _ _ W
    (fun i I j h => (ld3 w 0 0 0 _ 0 i j 0 i j (by simp) (by simp) (by simp)).trans (hw 0 i I j (by simpa using h)))
    (fun i I j h => (ld3 w 1 0 0 _ 0 i j 1 i j (by simp) (by simp) (by simp)).trans (hw 1 i I j (by simpa using h)))
    (fun i I j h => (ld3 w 2 0 0 _ 0 i j 2 i j (by simp) (by simp) (by simp)).trans (hw 2 i I j (by simpa using h)))
    (fun i I j h => (ld3 w 3 0 0 _ 0 i j 3 i j (by simp) (by simp) (by simp)).trans (hw 3 i I j (by simpa using h))) r I

theorem rows_apply (x : Vec Ideal S512x1024 .bf16) (w : Vec Ideal S4x256x1024 .bf16) (W : Fin 1024 → Fin 1024 → EReal)
    (hw : ∀ (k : Fin 4) (i : Fin 256) (I j : Fin 1024), I.val = 256 * k.val + i.val → w (ix3 k i j) = W I j) (r : Fin 512) (I : Fin 1024) :
    k0_pay15 x (rows0 w) (rows1 w) (rows2 w) (rows3 w) (ix2 r I) = ∑ j, x (ix2 r j) * W I j :=
  rows_parts x _ _ _ _ W
    (fun i I j h => (ld3 w 0 0 0 _ 0 i j 0 i j (by simp) (by simp) (by simp)).trans (hw 0 i I j (by simpa using h)))
    (fun i I j h => (ld3 w 1 0 0 _ 0 i j 1 i j (by simp) (by simp) (by simp)).trans (hw 1 i I j (by simpa using h)))
    (fun i I j h => (ld3 w 2 0 0 _ 0 i j 2 i j (by simp) (by simp) (by simp)).trans (hw 2 i I j (by simpa using h)))
    (fun i I j h => (ld3 w 3 0 0 _ 0 i j 3 i j (by simp) (by simp) (by simp)).trans (hw 3 i I j (by simpa using h))) r I

/-- A sum over the chips' columns, chip by chip. -/
theorem by_chips (f : Fin 1024 → EReal) : ∑ n, f n = (∑ j : Fin 256, f ⟨0 + j.val, by omega⟩) + (∑ j : Fin 256, f ⟨256 + j.val, by omega⟩)
    + (∑ j : Fin 256, f ⟨512 + j.val, by omega⟩) + (∑ j : Fin 256, f ⟨768 + j.val, by omega⟩) := by
  have h4 : ∑ n, f n = ∑ k : Fin 4, ∑ j : Fin 256, f ⟨256 * k.val + j.val, by omega⟩ :=
    (Fin.sum_mul_add_congr (S := 4) (n := 256) fun s r h => by simp only [Nat.mul_comm 256]).symm
  rw [h4, Fin.sum_univ_four]
  rfl

/-- A product with a weight's columns is one sum over them, read from the chips' parts. -/
theorem cols_sum (x : Vec Ideal S512x1024 .bf16) (w : Vec Ideal S4x512x256 .bf16) (W : Fin 512 → Fin 1024 → EReal)
    (hw : ∀ (k : Fin 4) (p : Fin 512) (j : Fin 256) (J : Fin 1024), J.val = 256 * k.val + j.val → w (ix3 k p j) = W p J) (r p : Fin 512) :
    (∑ j : Fin 256, x (ix2 r ⟨0 + j.val, by omega⟩) * cols0 w (ix3 0 p j)) + (∑ j : Fin 256, x (ix2 r ⟨256 + j.val, by omega⟩) * cols1 w (ix3 0 p j))
      + (∑ j : Fin 256, x (ix2 r ⟨512 + j.val, by omega⟩) * cols2 w (ix3 0 p j)) + (∑ j : Fin 256, x (ix2 r ⟨768 + j.val, by omega⟩) * cols3 w (ix3 0 p j))
      = ∑ J, x (ix2 r J) * W p J := by
  rw [by_chips]
  refine congr_arg₂ (· + ·) (congr_arg₂ (· + ·) (congr_arg₂ (· + ·) ?_ ?_) ?_) ?_ <;>
    refine Finset.sum_congr rfl fun j _ => congr_arg₂ (· * ·) rfl ?_
  · exact (ld3 w 0 0 0 _ 0 p j 0 p j (by simp) (by simp) (by simp)).trans (hw _ _ _ _ (by simp))
  · exact (ld3 w 1 0 0 _ 0 p j 1 p j (by simp) (by simp) (by simp)).trans (hw _ _ _ _ (by simp))
  · exact (ld3 w 2 0 0 _ 0 p j 2 p j (by simp) (by simp) (by simp)).trans (hw _ _ _ _ (by simp))
  · exact (ld3 w 3 0 0 _ 0 p j 3 p j (by simp) (by simp) (by simp)).trans (hw _ _ _ _ (by simp))

theorem mem_apply (x : Vec Ideal S512x1024 .bf16) (w : Vec Ideal S4x512x256 .bf16) (W : Fin 512 → Fin 1024 → EReal)
    (hw : ∀ (k : Fin 4) (p : Fin 512) (j : Fin 256) (J : Fin 1024), J.val = 256 * k.val + j.val → w (ix3 k p j) = W p J) (r p : Fin 512) :
    k0_pay2 x (cols0 w) (cols1 w) (cols2 w) (cols3 w) (ix2 r p) = ∑ J, x (ix2 r J) * W p J := by
  rw [← cols_sum x w W hw]
  unfold k0_pay2
  pointwise

theorem pool_apply (x : Vec Ideal S512x1024 .bf16) (w : Vec Ideal S4x512x256 .bf16) (W : Fin 512 → Fin 1024 → EReal)
    (hw : ∀ (k : Fin 4) (p : Fin 512) (j : Fin 256) (J : Fin 1024), J.val = 256 * k.val + j.val → w (ix3 k p j) = W p J) (r p : Fin 512) :
    k0_pay1 x (k0_pay16 x (cols0 w) (cols1 w)) (k0_pay17 x (cols2 w)) (cols3 w) (ix2 r p) = ∑ J, x (ix2 r J) * W p J := by
  rw [← cols_sum x w W hw]
  unfold k0_pay1 k0_pay16 k0_pay17
  pointwise

variable (m : (ℓ : Loc nD τ sig) → Buf (Elt Ideal) ℓ) (c : Dev nD)

/-- The argument arrays as launched: the gradient of the merge's output, the projections (whose columns from 4096 on are the gates'
    logits), the branches' outputs side by side, and the four output weights. -/
abbrev A0 : (⟨2, ![8192, 1024]⟩ : Shape).Idx → EReal := m ((c : Thread nD τ).loc main_arg0)
abbrev A1 : (⟨2, ![8192, 7168]⟩ : Shape).Idx → EReal := m ((c : Thread nD τ).loc main_arg1)
abbrev A2 : (⟨2, ![8192, 3072]⟩ : Shape).Idx → EReal := m ((c : Thread nD τ).loc main_arg2)
abbrev A3 : (⟨2, ![1024, 1024]⟩ : Shape).Idx → EReal := m ((c : Thread nD τ).loc main_arg3)
abbrev A4 : (⟨2, ![512, 1024]⟩ : Shape).Idx → EReal := m ((c : Thread nD τ).loc main_arg4)
abbrev A5 : (⟨2, ![512, 1024]⟩ : Shape).Idx → EReal := m ((c : Thread nD τ).loc main_arg5)
abbrev A6 : (⟨2, ![1024, 1024]⟩ : Shape).Idx → EReal := m ((c : Thread nD τ).loc main_arg6)

/-- The weights' arrays as the host lays them out. -/
theorem entry_ret (k : Fin 4) (i : Fin 256) (I j : Fin 1024) (hI : I.val = 256 * k.val + i.val) :
    V m c main_v1 (ix3 k i j) = A3 m c (ix2 I j) := by
  unfold V V0
  simp only [hostOps0, List.flatten_cons, List.flatten_nil, List.append_nil]
  after_results
  dsimp only
  pointwise
  blk_ext

theorem entry_pool (k : Fin 4) (p : Fin 512) (j : Fin 256) (J : Fin 1024) (hJ : J.val = 256 * k.val + j.val) :
    V m c main_v4 (ix3 k p j) = A4 m c (ix2 p J) := by
  unfold V V0
  simp only [hostOps0, List.flatten_cons, List.flatten_nil, List.append_nil]
  after_results
  dsimp only
  pointwise
  blk_ext

theorem entry_mem (k : Fin 4) (p : Fin 512) (j : Fin 256) (J : Fin 1024) (hJ : J.val = 256 * k.val + j.val) :
    V m c main_v7 (ix3 k p j) = A5 m c (ix2 p J) := by
  unfold V V0
  simp only [hostOps0, List.flatten_cons, List.flatten_nil, List.append_nil]
  after_results
  dsimp only
  pointwise
  blk_ext

theorem entry_out (k : Fin 4) (i : Fin 256) (I j : Fin 1024) (hI : I.val = 256 * k.val + i.val) :
    V m c main_v9 (ix3 k i j) = A6 m c (ix2 I j) := by
  unfold V V0
  simp only [hostOps0, List.flatten_cons, List.flatten_nil, List.append_nil]
  after_results
  dsimp only
  pointwise
  blk_ext

theorem idx : ∀ t : Fin cfg0.N, (win0_0.index t = ![t.val, 0] ∧ win0_1.index t = ![t.val, 4] ∧ win0_2.index t = ![t.val, 5]
    ∧ win0_3.index t = ![t.val, 6] ∧ win0_4.index t = ![t.val, 0]) ∧ (win0_5.index t = ![0, 0, 0] ∧ win0_6.index t = ![0, 0, 0]
    ∧ win0_7.index t = ![0, 0, 0] ∧ win0_8.index t = ![0, 0, 0]) ∧ win0_9.index t = ![t.val, 0] ∧ win0_10.index t = ![t.val, 1]
    ∧ win0_11.index t = ![t.val, 0] ∧ win0_12.index t = ![t.val, 0] ∧ win0_13.index t = ![t.val, 0] :=
  (by decide +kernel : ∀ t : Fin grid0.N, (win0_0.index t = ![t.val, 0] ∧ win0_1.index t = ![t.val, 4] ∧ win0_2.index t = ![t.val, 5]
    ∧ win0_3.index t = ![t.val, 6] ∧ win0_4.index t = ![t.val, 0]) ∧ (win0_5.index t = ![0, 0, 0] ∧ win0_6.index t = ![0, 0, 0]
    ∧ win0_7.index t = ![0, 0, 0] ∧ win0_8.index t = ![0, 0, 0]) ∧ win0_9.index t = ![t.val, 0] ∧ win0_10.index t = ![t.val, 1]
    ∧ win0_11.index t = ![t.val, 0] ∧ win0_12.index t = ![t.val, 0] ∧ win0_13.index t = ![t.val, 0])

/-- The blocks a point holds. -/
abbrev X0 (t : Fin cfg0.N) : Vec Ideal S512x1024 .f32 := iblk m c 0 t
abbrev X1 (t : Fin cfg0.N) : Vec Ideal S512x1024 .bf16 := iblk m c 1 t
abbrev X2 (t : Fin cfg0.N) : Vec Ideal S512x1024 .bf16 := iblk m c 2 t
abbrev X3 (t : Fin cfg0.N) : Vec Ideal S512x1024 .bf16 := iblk m c 3 t
abbrev X4 (t : Fin cfg0.N) : Vec Ideal S512x3072 .bf16 := iblk m c 4 t
abbrev X5 (t : Fin cfg0.N) : Vec Ideal S4x256x1024 .bf16 := iblk m c 5 t
abbrev X6 (t : Fin cfg0.N) : Vec Ideal S4x512x256 .bf16 := iblk m c 6 t
abbrev X7 (t : Fin cfg0.N) : Vec Ideal S4x512x256 .bf16 := iblk m c 7 t
abbrev X8 (t : Fin cfg0.N) : Vec Ideal S4x256x1024 .bf16 := iblk m c 8 t

theorem iblk0 (t : Fin cfg0.N) (r : Fin 512) (i : Fin 1024) (R : Fin 8192) (hR : R.val = 512 * t.val + r.val) :
    X0 m c t (ix2 r i) = A0 m c (ix2 R i) := by
  obtain ⟨⟨e0, -⟩, -⟩ := idx t
  rw [← show V m c main_arg0 = A0 m c from V_main_arg0 m c]
  blk_ext [iblk, V, e0]

theorem iblk1 (t : Fin cfg0.N) (r : Fin 512) (i : Fin 1024) (R : Fin 8192) (J : Fin 7168) (hR : R.val = 512 * t.val + r.val)
    (hJ : J.val = 4096 + i.val) : X1 m c t (ix2 r i) = A1 m c (ix2 R J) := by
  obtain ⟨⟨-, e0, -⟩, -⟩ := idx t
  rw [← show V m c main_arg1 = A1 m c from V_main_arg1 m c]
  blk_ext [iblk, V, e0]

theorem iblk2 (t : Fin cfg0.N) (r : Fin 512) (i : Fin 1024) (R : Fin 8192) (J : Fin 7168) (hR : R.val = 512 * t.val + r.val)
    (hJ : J.val = 5120 + i.val) : X2 m c t (ix2 r i) = A1 m c (ix2 R J) := by
  obtain ⟨⟨-, -, e0, -⟩, -⟩ := idx t
  rw [← show V m c main_arg1 = A1 m c from V_main_arg1 m c]
  blk_ext [iblk, V, e0]

theorem iblk3 (t : Fin cfg0.N) (r : Fin 512) (i : Fin 1024) (R : Fin 8192) (J : Fin 7168) (hR : R.val = 512 * t.val + r.val)
    (hJ : J.val = 6144 + i.val) : X3 m c t (ix2 r i) = A1 m c (ix2 R J) := by
  obtain ⟨⟨-, -, -, e0, -⟩, -⟩ := idx t
  rw [← show V m c main_arg1 = A1 m c from V_main_arg1 m c]
  blk_ext [iblk, V, e0]

theorem iblk4 (t : Fin cfg0.N) (r : Fin 512) (i : Fin 3072) (R : Fin 8192) (hR : R.val = 512 * t.val + r.val) :
    X4 m c t (ix2 r i) = A2 m c (ix2 R i) := by
  obtain ⟨⟨-, -, -, -, e0⟩, -⟩ := idx t
  rw [← show V m c main_arg2 = A2 m c from V_main_arg2 m c]
  blk_ext [iblk, V, e0]

theorem iblk5 (t : Fin cfg0.N) (k : Fin 4) (i : Fin 256) (I j : Fin 1024) (hI : I.val = 256 * k.val + i.val) :
    X5 m c t (ix3 k i j) = A3 m c (ix2 I j) := by
  obtain ⟨-, ⟨e0, -⟩, -⟩ := idx t
  rw [← entry_ret m c k i I j hI]
  blk_ext [iblk, V, e0]

theorem iblk6 (t : Fin cfg0.N) (k : Fin 4) (p : Fin 512) (j : Fin 256) (J : Fin 1024) (hJ : J.val = 256 * k.val + j.val) :
    X6 m c t (ix3 k p j) = A4 m c (ix2 p J) := by
  obtain ⟨-, ⟨-, e0, -⟩, -⟩ := idx t
  rw [← entry_pool m c k p j J hJ]
  blk_ext [iblk, V, e0]

theorem iblk7 (t : Fin cfg0.N) (k : Fin 4) (p : Fin 512) (j : Fin 256) (J : Fin 1024) (hJ : J.val = 256 * k.val + j.val) :
    X7 m c t (ix3 k p j) = A5 m c (ix2 p J) := by
  obtain ⟨-, ⟨-, -, e0, -⟩, -⟩ := idx t
  rw [← entry_mem m c k p j J hJ]
  blk_ext [iblk, V, e0]

theorem iblk8 (t : Fin cfg0.N) (k : Fin 4) (i : Fin 256) (I j : Fin 1024) (hI : I.val = 256 * k.val + i.val) :
    X8 m c t (ix3 k i j) = A6 m c (ix2 I j) := by
  obtain ⟨-, ⟨-, -, -, e0⟩, -⟩ := idx t
  rw [← entry_out m c k i I j hI]
  blk_ext [iblk, V, e0]

/-! ## What a point leaves in its blocks -/

/-- The gradient of the gated sum. -/
def msum (D : (⟨2, ![8192, 1024]⟩ : Shape).Idx → EReal) (W : (⟨2, ![1024, 1024]⟩ : Shape).Idx → EReal) (n : Fin 8192) (i : Fin 1024) : EReal :=
  ∑ j, D (ix2 n j) * W (ix2 i j)

/-- The gates, side by side. -/
def gate (G : (⟨2, ![8192, 7168]⟩ : Shape).Idx → EReal) (n : Fin 8192) (J : Fin 3072) : EReal :=
  Ideal.logistic (G (ix2 n ⟨4096 + J.val, by omega⟩))

/-- The gradients of the branches' outputs, side by side. -/
def dout (D : (⟨2, ![8192, 1024]⟩ : Shape).Idx → EReal) (G : (⟨2, ![8192, 7168]⟩ : Shape).Idx → EReal)
    (W : (⟨2, ![1024, 1024]⟩ : Shape).Idx → EReal) (n : Fin 8192) (J : Fin 3072) : EReal :=
  msum D W n ⟨J.val % 1024, by omega⟩ * gate G n J

/-- The gradients of the gates' logits, side by side. -/
def dlog (D : (⟨2, ![8192, 1024]⟩ : Shape).Idx → EReal) (G : (⟨2, ![8192, 7168]⟩ : Shape).Idx → EReal)
    (O : (⟨2, ![8192, 3072]⟩ : Shape).Idx → EReal) (W : (⟨2, ![1024, 1024]⟩ : Shape).Idx → EReal) (n : Fin 8192) (J : Fin 3072) : EReal :=
  msum D W n ⟨J.val % 1024, by omega⟩ * O (ix2 n J) * gate G n J * (1 - gate G n J)

/-- The columns of the projections' gradient the call writes: 512 zeros, then the logits' gradients. -/
def dcol (D : (⟨2, ![8192, 1024]⟩ : Shape).Idx → EReal) (G : (⟨2, ![8192, 7168]⟩ : Shape).Idx → EReal)
    (O : (⟨2, ![8192, 3072]⟩ : Shape).Idx → EReal) (W : (⟨2, ![1024, 1024]⟩ : Shape).Idx → EReal) (n : Fin 8192) (J : Fin 3584) : EReal :=
  if h : J.val < 512 then 0 else dlog D G O W n ⟨J.val - 512, by omega⟩

section Body

variable (s : Vec Ideal S512x1024 .f32) (g o : Vec Ideal S512x1024 .bf16) (r : Fin 512) (i : Fin 1024)
  (x : Vec Ideal S512x1024 .f32) (w : Vec Ideal S4x256x1024 .bf16)

theorem out_ret : k0_pay6 x (rows0 w) (rows1 w) (rows2 w) (rows3 w) g (ix2 r i) = sums x w (ix2 r i) * Ideal.logistic (g (ix2 r i)) := by
  unfold k0_pay6 k0_pay5
  pointwise

theorem out_pool : k0_pay10 s g (ix2 r i) = s (ix2 r i) * Ideal.logistic (g (ix2 r i)) := by
  unfold k0_pay10 k0_pay9
  pointwise

theorem out_mem : k0_pay13 s g (ix2 r i) = s (ix2 r i) * Ideal.logistic (g (ix2 r i)) := by
  unfold k0_pay13 k0_pay12
  pointwise

theorem log_ret : k0_pay8 (k0_pay5 g) (k0_pay7 x (rows0 w) (rows1 w) (rows2 w) (rows3 w) g o) (ix2 r i)
    = sums x w (ix2 r i) * o (ix2 r i) * Ideal.logistic (g (ix2 r i)) * (1 - Ideal.logistic (g (ix2 r i))) := by
  unfold k0_pay8 k0_pay7 k0_pay5
  pointwise

theorem log_pool : k0_pay11 s g o (ix2 r i)
    = s (ix2 r i) * o (ix2 r i) * Ideal.logistic (g (ix2 r i)) * (1 - Ideal.logistic (g (ix2 r i))) := by
  unfold k0_pay11 k0_pay9
  pointwise

theorem log_mem : k0_pay14 s g o (ix2 r i)
    = s (ix2 r i) * o (ix2 r i) * Ideal.logistic (g (ix2 r i)) * (1 - Ideal.logistic (g (ix2 r i))) := by
  unfold k0_pay14 k0_pay12
  pointwise

theorem zeros_apply (p : Fin 512) : (k0_pay4 : FVec Ideal S512x512 .bf16) (ix2 r p) = 0 := by
  unfold k0_pay4
  pointwise

end Body

theorem sums_block (t : Fin cfg0.N) (r : Fin 512) (I : Fin 1024) (R : Fin 8192) (hR : R.val = 512 * t.val + r.val) :
    sums (X0 m c t) (X8 m c t) (ix2 r I) = msum (A0 m c) (A6 m c) R I := by
  rw [sums_apply _ _ (fun I j => A6 m c (ix2 I j)) (fun k i I j h => iblk8 m c t k i I j h), msum]
  exact Finset.sum_congr rfl fun j _ => congrArg (· * _) (iblk0 m c t r j R hR)

/-- A branch's gradient in a block, from its gate's block. -/
theorem dout_block (t : Fin cfg0.N) (g : Vec Ideal S512x1024 .bf16) (r : Fin 512) (i : Fin 1024) (R : Fin 8192) (b : ℕ) (J : Fin 3072)
    (hR : R.val = 512 * t.val + r.val) (hJ : J.val = 1024 * b + i.val)
    (hg : ∀ K : Fin 7168, K.val = 4096 + J.val → g (ix2 r i) = A1 m c (ix2 R K)) :
    sums (X0 m c t) (X8 m c t) (ix2 r i) * Ideal.logistic (g (ix2 r i)) = dout (A0 m c) (A1 m c) (A6 m c) R J := by
  rw [dout, gate, sums_block m c t r i R hR, hg ⟨4096 + J.val, by omega⟩ rfl]
  exact congrArg (fun q => msum _ _ R q * _) (Fin.ext (by dsimp only; omega))

/-- A gate's logit's gradient in a block. -/
theorem dlog_block (t : Fin cfg0.N) (g o : Vec Ideal S512x1024 .bf16) (r : Fin 512) (i : Fin 1024) (R : Fin 8192) (b : ℕ) (J : Fin 3072)
    (hR : R.val = 512 * t.val + r.val) (hJ : J.val = 1024 * b + i.val)
    (hg : ∀ K : Fin 7168, K.val = 4096 + J.val → g (ix2 r i) = A1 m c (ix2 R K)) (ho : o (ix2 r i) = A2 m c (ix2 R J)) :
    sums (X0 m c t) (X8 m c t) (ix2 r i) * o (ix2 r i) * Ideal.logistic (g (ix2 r i)) * (1 - Ideal.logistic (g (ix2 r i)))
      = dlog (A0 m c) (A1 m c) (A2 m c) (A6 m c) R J := by
  rw [dlog, gate, sums_block m c t r i R hR, hg ⟨4096 + J.val, by omega⟩ rfl, ho]
  exact congrArg (fun q => msum _ _ R q * _ * _ * _) (Fin.ext (by dsimp only; omega))

/-- The branches' gradients a point leaves: its rows of them. -/
theorem left9 (t : Fin cfg0.N) (r : Fin 512) (J : Fin 3072) (R : Fin 8192) (hR : R.val = 512 * t.val + r.val) :
    (outsAt0 m c t).1 (ix2 r J) = dout (A0 m c) (A1 m c) (A6 m c) R J := by
  unfold outsAt0; dsimp only
  frame_out
  canon_tiles x w
  · have w1 : J.val = 2048 + (x 1).val := w1
    rw [idx2 x r ⟨(x 1).val, x1_lt⟩ w0.symm rfl]
    refine (out_mem _ _ r _).trans (dout_block m c t (X3 m c t) r _ R 2 J hR (by dsimp only; omega) fun K hK => ?_)
    exact iblk3 m c t r _ R K hR (by dsimp only; omega)
  · have w1 : J.val = 1024 + (x 1).val := w1
    rw [idx2 x r ⟨(x 1).val, x1_lt⟩ w0.symm rfl]
    refine (out_pool _ _ r _).trans (dout_block m c t (X2 m c t) r _ R 1 J hR (by dsimp only; omega) fun K hK => ?_)
    exact iblk2 m c t r _ R K hR (by dsimp only; omega)
  · have w1 : J.val = (x 1).val := w1
    rw [idx2 x r ⟨(x 1).val, x1_lt⟩ w0.symm rfl]
    refine (out_ret _ r _ _ _).trans (dout_block m c t (X1 m c t) r _ R 0 J hR (by dsimp only; omega) fun K hK => ?_)
    exact iblk1 m c t r _ R K hR (by dsimp only; omega)

/-- The logits' gradients a point leaves, after 512 columns of zeros. -/
theorem left10 (t : Fin cfg0.N) (r : Fin 512) (J : Fin 3584) (R : Fin 8192) (hR : R.val = 512 * t.val + r.val) :
    (outsAt0 m c t).2.1 (ix2 r J) = dcol (A0 m c) (A1 m c) (A2 m c) (A6 m c) R J := by
  unfold outsAt0; dsimp only
  frame_out
  canon_tiles x w using View.cover_of_tiledBy _ ![512, 512] (by sl_kernel_rfl) _
  · have w1 : J.val = 2560 + (x 1).val := w1
    rw [idx2 x r ⟨(x 1).val, x1_lt⟩ w0.symm rfl, dcol, dif_neg (by omega)]
    refine (log_mem _ _ _ r _).trans (dlog_block m c t (X3 m c t) _ r _ R 2 _ hR (by dsimp only; omega) (fun K hK => ?_) ?_)
    · exact iblk3 m c t r _ R K hR (by dsimp only at hK ⊢; omega)
    · exact (ld2 (X4 m c t) 0 2048 _ r _ r _ (by simp) (by dsimp only; omega)).trans (iblk4 m c t r _ R hR)
  · have w1 : J.val = 1536 + (x 1).val := w1
    rw [idx2 x r ⟨(x 1).val, x1_lt⟩ w0.symm rfl, dcol, dif_neg (by omega)]
    refine (log_pool _ _ _ r _).trans (dlog_block m c t (X2 m c t) _ r _ R 1 _ hR (by dsimp only; omega) (fun K hK => ?_) ?_)
    · exact iblk2 m c t r _ R K hR (by dsimp only at hK ⊢; omega)
    · exact (ld2 (X4 m c t) 0 1024 _ r _ r _ (by simp) (by dsimp only; omega)).trans (iblk4 m c t r _ R hR)
  · have w1 : J.val = 512 + (x 1).val := w1
    rw [idx2 x r ⟨(x 1).val, x1_lt⟩ w0.symm rfl, dcol, dif_neg (by omega)]
    refine (log_ret _ _ r _ _ _).trans (dlog_block m c t (X1 m c t) _ r _ R 0 _ hR (by dsimp only; omega) (fun K hK => ?_) ?_)
    · exact iblk1 m c t r _ R K hR (by dsimp only at hK ⊢; omega)
    · exact (ld2 (X4 m c t) 0 0 _ r _ r _ (by simp) (by dsimp only; omega)).trans (iblk4 m c t r _ R hR)
  · have w1 : J.val = (x 1).val := w1
    rw [idx2 x r ⟨(x 1).val, x1_lt⟩ w0.symm rfl, dcol, dif_pos (by omega)]
    exact zeros_apply r _

/-- The gradients of the branches' inputs a point leaves. -/
theorem left11 (t : Fin cfg0.N) (r : Fin 512) (I : Fin 1024) (R : Fin 8192) (hR : R.val = 512 * t.val + r.val) :
    (outsAt0 m c t).2.2.1 (ix2 r I) = ∑ j : Fin 1024, dout (A0 m c) (A1 m c) (A6 m c) R ⟨0 + j.val, by omega⟩ * A3 m c (ix2 I j) := by
  unfold outsAt0; dsimp only
  frame_out
  refine (rows_apply _ (X5 m c t) (fun I j => A3 m c (ix2 I j)) (fun k i I j h => iblk5 m c t k i I j h) r I).trans ?_
  refine Finset.sum_congr rfl fun j _ => congrArg (· * _) ((out_ret _ r j _ (X8 m c t)).trans ?_)
  exact dout_block m c t (X1 m c t) r j R 0 _ hR (by dsimp only) fun K hK => iblk1 m c t r j R K hR (by rw [hK]; dsimp only; omega)

theorem left12 (t : Fin cfg0.N) (r p : Fin 512) (R : Fin 8192) (hR : R.val = 512 * t.val + r.val) :
    (outsAt0 m c t).2.2.2.1 (ix2 r p) = ∑ j : Fin 1024, dout (A0 m c) (A1 m c) (A6 m c) R ⟨1024 + j.val, by omega⟩ * A4 m c (ix2 p j) := by
  unfold outsAt0; dsimp only
  frame_out
  refine (pool_apply _ (X6 m c t) (fun p j => A4 m c (ix2 p j)) (fun k i I j h => iblk6 m c t k i I j h) r p).trans ?_
  refine Finset.sum_congr rfl fun j _ => congrArg (· * _) ((out_pool _ _ r j).trans ?_)
  exact dout_block m c t (X2 m c t) r j R 1 _ hR (by dsimp only) fun K hK => iblk2 m c t r j R K hR (by rw [hK]; dsimp only; omega)

theorem left13 (t : Fin cfg0.N) (r p : Fin 512) (R : Fin 8192) (hR : R.val = 512 * t.val + r.val) :
    (outsAt0 m c t).2.2.2.2 (ix2 r p) = ∑ j : Fin 1024, dout (A0 m c) (A1 m c) (A6 m c) R ⟨2048 + j.val, by omega⟩ * A5 m c (ix2 p j) := by
  unfold outsAt0; dsimp only
  frame_out
  refine (mem_apply _ (X7 m c t) (fun p j => A5 m c (ix2 p j)) (fun k i I j h => iblk7 m c t k i I j h) r p).trans ?_
  refine Finset.sum_congr rfl fun j _ => congrArg (· * _) ((out_mem _ _ r j).trans ?_)
  exact dout_block m c t (X3 m c t) r j R 2 _ hR (by dsimp only) fun K hK => iblk3 m c t r j R K hR (by rw [hK]; dsimp only; omega)

/-! ## What the arrays hold after the run -/

/-- The branches' gradients as an array. -/
@[irreducible] def douts (D : (⟨2, ![8192, 1024]⟩ : Shape).Idx → EReal) (G : (⟨2, ![8192, 7168]⟩ : Shape).Idx → EReal)
    (W : (⟨2, ![1024, 1024]⟩ : Shape).Idx → EReal) : (⟨2, ![8192, 3072]⟩ : Shape).Idx → EReal := fun y => dout D G W (y 0) (y 1)

/-- The written columns of the projections' gradient as an array. -/
@[irreducible] def dcols (D : (⟨2, ![8192, 1024]⟩ : Shape).Idx → EReal) (G : (⟨2, ![8192, 7168]⟩ : Shape).Idx → EReal)
    (O : (⟨2, ![8192, 3072]⟩ : Shape).Idx → EReal) (W : (⟨2, ![1024, 1024]⟩ : Shape).Idx → EReal) :
    (⟨2, ![8192, 3584]⟩ : Shape).Idx → EReal := fun y => dcol D G O W (y 0) (y 1)

/-- The gradient of a branch's input: its columns `o` to `o + 1023` of the branches' gradients times its output weight's transpose. -/
@[irreducible] def dbranch {p : ℕ} (o : Fin 2049) (D : (⟨2, ![8192, 1024]⟩ : Shape).Idx → EReal) (G : (⟨2, ![8192, 7168]⟩ : Shape).Idx → EReal)
    (W : (⟨2, ![1024, 1024]⟩ : Shape).Idx → EReal) (B : (⟨2, ![p, 1024]⟩ : Shape).Idx → EReal) : (⟨2, ![8192, p]⟩ : Shape).Idx → EReal :=
  fun y => ∑ j : Fin 1024, dout D G W (y 0) ⟨o.val + j.val, by omega⟩ * B (ix2 (y 1) j)

theorem out9 : (dats m 0 c).arrAt 9 cfg0.N = douts (A0 m c) (A1 m c) (A6 m c) := by
  refine (dats m 0 c).arrAt_eq_of_covers 9 _ (by decide +kernel) fun t hf y => ?_
  obtain ⟨-, -, e, -⟩ := idx t
  rw [after0_9]
  unfold douts
  have hy0 : (y 0).val < 512 := (y 0).isLt
  have hy1 : (y 1).val < 3072 := (y 1).isLt
  refine Eq.trans ?_ (left9 m c t ⟨(y 0).val, hy0⟩ ⟨(y 1).val, hy1⟩ _ ?_ |>.trans (congrArg (dout _ _ _ _) ?_))
  · blk_simp
    blk_ext
  · blk_simp [e]; (try dsimp only); omega
  · refine Fin.ext ?_
    blk_simp [e]

theorem out10 : (dats m 0 c).arrAt 10 cfg0.N = fun y => if 3584 ≤ (y 1).val then
    dcols (A0 m c) (A1 m c) (A2 m c) (A6 m c) (ix2 (y 0) ⟨(y 1).val - 3584, by have : (y 1).val < 7168 := (y 1).isLt; omega⟩)
    else (dats m 0 c).A 10 y := by
  refine (dats m 0 c).arrAt_eq_of_coversWhere 10 _ (fun β => β (1 : Fin 2) = 1) (by decide +kernel) (fun t hf y => ?_)
    (fun j => by have hj : (j 1).val < 7168 := (j 1).isLt; blk_simp [Pipeline.Window.cell_apply]; omega)
  obtain ⟨-, -, -, e, -⟩ := idx t
  rw [after0_10]
  unfold dcols
  have hy0 : (y 0).val < 512 := (y 0).isLt
  have hy1 : (y 1).val < 3584 := (y 1).isLt
  refine Eq.trans ?_ (left10 m c t ⟨(y 0).val, hy0⟩ ⟨(y 1).val, hy1⟩ _ ?_ |>.trans (congrArg (dcol _ _ _ _ _) ?_))
  · blk_simp
    blk_ext
  · blk_simp [e]; (try dsimp only); omega
  · refine Fin.ext ?_
    blk_simp [e]; (try dsimp only); omega

theorem out11 : (dats m 0 c).arrAt 11 cfg0.N = dbranch (p := 1024) 0 (A0 m c) (A1 m c) (A6 m c) (A3 m c) := by
  refine (dats m 0 c).arrAt_eq_of_covers 11 _ (by decide +kernel) fun t hf y => ?_
  obtain ⟨-, -, -, -, e, -⟩ := idx t
  rw [after0_11]
  unfold dbranch
  have hy0 : (y 0).val < 512 := (y 0).isLt
  have hy1 : (y 1).val < 1024 := (y 1).isLt
  refine Eq.trans ?_ (left11 m c t ⟨(y 0).val, hy0⟩ ⟨(y 1).val, hy1⟩ _ ?_ |>.trans (Finset.sum_congr rfl fun j _ => congrArg (_ * ·) (congrArg (A3 m c) ?_)))
  · blk_simp
    blk_ext
  · blk_simp [e]; (try dsimp only); omega
  · blk_ext [e]

theorem out12 : (dats m 0 c).arrAt 12 cfg0.N = dbranch (p := 512) 1024 (A0 m c) (A1 m c) (A6 m c) (A4 m c) := by
  refine (dats m 0 c).arrAt_eq_of_covers 12 _ (by decide +kernel) fun t hf y => ?_
  obtain ⟨-, -, -, -, -, e, -⟩ := idx t
  rw [after0_12]
  unfold dbranch
  have hy0 : (y 0).val < 512 := (y 0).isLt
  have hy1 : (y 1).val < 512 := (y 1).isLt
  refine Eq.trans ?_ (left12 m c t ⟨(y 0).val, hy0⟩ ⟨(y 1).val, hy1⟩ _ ?_ |>.trans (Finset.sum_congr rfl fun j _ => congrArg (_ * ·) (congrArg (A4 m c) ?_)))
  · blk_simp
    blk_ext
  · blk_simp [e]; (try dsimp only); omega
  · blk_ext [e]

theorem out13 : (dats m 0 c).arrAt 13 cfg0.N = dbranch (p := 512) 2048 (A0 m c) (A1 m c) (A6 m c) (A5 m c) := by
  refine (dats m 0 c).arrAt_eq_of_covers 13 _ (by decide +kernel) fun t hf y => ?_
  obtain ⟨-, -, -, -, -, -, e⟩ := idx t
  rw [after0_13]
  unfold dbranch
  have hy0 : (y 0).val < 512 := (y 0).isLt
  have hy1 : (y 1).val < 512 := (y 1).isLt
  refine Eq.trans ?_ (left13 m c t ⟨(y 0).val, hy0⟩ ⟨(y 1).val, hy1⟩ _ ?_ |>.trans (Finset.sum_congr rfl fun j _ => congrArg (_ * ·) (congrArg (A5 m c) ?_)))
  · blk_simp
    blk_ext
  · blk_simp [e]; (try dsimp only); omega
  · blk_ext [e]

end Cert.Merge

end
-- ==== Proof.MergeClaim.lean ====
/- The gradient through the merge: kernel and reference end with the same five arrays, with no condition on the arguments. The
   reference multiplies the same factors in another order, and writes a gate as one over one plus an exponential. -/
module

public import proofs.«01_k».proof.Defs
public import proofs.«01_k».proof.Proof.MergeOut
public import proofs.«01_k».proof.Proof.Gen.Reference7Ideal.Read
public import proofs.«01_k».proof.Proof.Gen.Reference7Ideal.Run
public import Idealize.ShloMosaic.Adequacy
public import Idealize.ShloMosaic.Init

@[expose] public section

noncomputable section

namespace Cert.Merge

open Idealize.ShloMosaic

section Ref

open Cert.Reference7Ideal Cert.Reference7Ideal.Read

variable (x0 : (⟨S8192x1024, .f32⟩ : BufTy).Contents (Elt Ideal)) (x1 : (⟨S8192x7168, .bf16⟩ : BufTy).Contents (Elt Ideal))
  (x2 : (⟨S8192x3072, .bf16⟩ : BufTy).Contents (Elt Ideal)) (x6 : (⟨S1024x1024, .f32⟩ : BufTy).Contents (Elt Ideal))

/-- The reference's gates. -/
theorem ref_gate (n : Fin 8192) (J : Fin 3072) : val_main_v11 x1 (ix2 n J) = gate x1 n J := by
  unfold gate val_main_v11 val_main_v10 val_main_v9 val_main_v8 val_main_v7 val_main_v6 val_main_v5 val_main_v4 val_main_cst val_main_cst_0
  pointwise
  rfl

/-- The reference's gradient of the gated sum. -/
theorem ref_sum (n : Fin 8192) (i : Fin 1024) : val_main_v24 x0 x6 (ix2 n i) = msum x0 x6 n i := by
  unfold msum val_main_v24
  pointwise

theorem ref_ret (n : Fin 8192) (i : Fin 1024) : val_main_v33 x0 x1 x6 (ix2 n i) = dout x0 x1 x6 n ⟨0 + i.val, by omega⟩ := by
  unfold dout
  rw [← ref_gate, show (⟨(0 + i.val) % 1024, by omega⟩ : Fin 1024) = i from Fin.ext (by dsimp only; omega), ← ref_sum, mul_comm]
  unfold val_main_v33 val_main_v29 val_main_v15
  pointwise

theorem ref_pool (n : Fin 8192) (i : Fin 1024) : val_main_v34 x0 x1 x6 (ix2 n i) = dout x0 x1 x6 n ⟨1024 + i.val, by omega⟩ := by
  unfold dout
  rw [← ref_gate, show (⟨(1024 + i.val) % 1024, by omega⟩ : Fin 1024) = i from Fin.ext (by dsimp only; omega), ← ref_sum, mul_comm]
  unfold val_main_v34 val_main_v27 val_main_v16
  pointwise

theorem ref_mem (n : Fin 8192) (i : Fin 1024) : val_main_v35 x0 x1 x6 (ix2 n i) = dout x0 x1 x6 n ⟨2048 + i.val, by omega⟩ := by
  unfold dout
  rw [← ref_gate, show (⟨(2048 + i.val) % 1024, by omega⟩ : Fin 1024) = i from Fin.ext (by dsimp only; omega), ← ref_sum, mul_comm]
  unfold val_main_v35 val_main_v25 val_main_v17
  pointwise

/-- The reference's gradients of the branches' outputs. -/
theorem ref_douts : val_main_v51 x0 x1 x6 = douts x0 x1 x6 := by
  funext y
  obtain ⟨n, J, rfl⟩ : ∃ (n : Fin 8192) (J : Fin 3072), y = ix2 n J := ⟨y 0, y 1, Loads.idx2 _ _ _ rfl rfl⟩
  have hJ := J.isLt
  unfold douts val_main_v51
  pointwise
  by_cases c0 : J.val < 1024
  · rw [dif_pos c0]
    exact (ref_ret x0 x1 x6 n ⟨_, c0⟩).trans (congrArg (dout x0 x1 x6 n) (Fin.ext (by dsimp only; omega)))
  rw [dif_neg c0]
  by_cases c1 : J.val - 1024 < 1024
  · rw [dif_pos c1]
    exact (ref_pool x0 x1 x6 n ⟨_, c1⟩).trans (congrArg (dout x0 x1 x6 n) (Fin.ext (by dsimp only; omega)))
  rw [dif_neg c1]
  exact (ref_mem x0 x1 x6 n ⟨J.val - 1024 - 1024, by omega⟩).trans (congrArg (dout x0 x1 x6 n) (Fin.ext (by dsimp only; omega)))

theorem prod_ret (n : Fin 8192) (i : Fin 1024) (J : Fin 3072) (hJ : J.val = i.val) :
    val_main_v30 x0 x2 x6 (ix2 n i) = msum x0 x6 n ⟨J.val % 1024, by omega⟩ * x2 (ix2 n J) := by
  rw [show (⟨J.val % 1024, by omega⟩ : Fin 1024) = i from Fin.ext (by dsimp only; omega), ← ref_sum]
  unfold val_main_v30 val_main_v1 val_main_v0
  pointwise
  exact congrArg (fun q => _ * x2 (ix2 n q)) (Fin.ext hJ.symm)

theorem prod_pool (n : Fin 8192) (i : Fin 1024) (J : Fin 3072) (hJ : J.val = 1024 + i.val) :
    val_main_v28 x0 x2 x6 (ix2 n i) = msum x0 x6 n ⟨J.val % 1024, by omega⟩ * x2 (ix2 n J) := by
  rw [show (⟨J.val % 1024, by omega⟩ : Fin 1024) = i from Fin.ext (by dsimp only; omega), ← ref_sum]
  unfold val_main_v28 val_main_v2 val_main_v0
  pointwise
  exact congrArg (fun q => _ * x2 (ix2 n q)) (Fin.ext hJ.symm)

theorem prod_mem (n : Fin 8192) (i : Fin 1024) (J : Fin 3072) (hJ : J.val = 2048 + i.val) :
    val_main_v26 x0 x2 x6 (ix2 n i) = msum x0 x6 n ⟨J.val % 1024, by omega⟩ * x2 (ix2 n J) := by
  rw [show (⟨J.val % 1024, by omega⟩ : Fin 1024) = i from Fin.ext (by dsimp only; omega), ← ref_sum]
  unfold val_main_v26 val_main_v3 val_main_v0
  pointwise
  exact congrArg (fun q => _ * x2 (ix2 n q)) (Fin.ext hJ.symm)

/-- The reference's derivative of a gate. -/
theorem ref_slope (n : Fin 8192) (J : Fin 3072) : val_main_v14 x1 (ix2 n J) = gate x1 n J * (1 - gate x1 n J) := by
  rw [← ref_gate]
  unfold val_main_v14 val_main_v13 val_main_v12 val_main_cst_1
  pointwise

/-- The reference's gradients of the logits after 512 columns of zeros. -/
theorem ref_dcols : val_main_v50 x0 x1 x2 x6 = dcols x0 x1 x2 x6 := by
  funext y
  obtain ⟨n, J, rfl⟩ : ∃ (n : Fin 8192) (J : Fin 3584), y = ix2 n J := ⟨y 0, y 1, Loads.idx2 _ _ _ rfl rfl⟩
  have hJ := J.isLt
  unfold dcols dcol dlog val_main_v50 val_main_v48 val_main_v49 val_main_cst_5 val_main_v32 val_main_v31
  pointwise
  by_cases h : J.val < 512
  · rw [dif_pos h, dif_pos h]
  rw [dif_neg h, dif_neg h, ref_slope, mul_assoc]
  refine congrArg (· * _) ?_
  by_cases c0 : J.val - 512 < 1024
  · rw [dif_pos c0]
    exact prod_ret x0 x2 x6 n ⟨_, c0⟩ ⟨J.val - 512, by omega⟩ rfl
  rw [dif_neg c0]
  by_cases c1 : J.val - 512 - 1024 < 1024
  · rw [dif_pos c1]
    exact prod_pool x0 x2 x6 n ⟨_, c1⟩ ⟨J.val - 512, by omega⟩ (by dsimp only; omega)
  rw [dif_neg c1]
  exact prod_mem x0 x2 x6 n ⟨J.val - 512 - 1024 - 1024, by omega⟩ ⟨J.val - 512, by omega⟩ (by dsimp only; omega)

/-- The reference's gradient of a branch's input. -/
theorem ref_dret (x3 : (⟨S1024x1024, .f32⟩ : BufTy).Contents (Elt Ideal)) : val_main_v52 x0 x1 x3 x6 = dbranch (p := 1024) 0 x0 x1 x6 x3 := by
  funext y
  obtain ⟨n, p, rfl⟩ : ∃ (n : Fin 8192) (p : Fin 1024), y = ix2 n p := ⟨y 0, y 1, Loads.idx2 _ _ _ rfl rfl⟩
  unfold dbranch val_main_v52 val_main_v47 val_main_v42
  pointwise
  exact Finset.sum_congr rfl fun j _ => congrArg (· * _) ((ref_ret x0 x1 x6 n j).trans (congrArg (dout x0 x1 x6 n) (Fin.ext (by simp))))

/-- The reference's gradient of a branch's input. -/
theorem ref_dpool (x4 : (⟨S512x1024, .f32⟩ : BufTy).Contents (Elt Ideal)) : val_main_v53 x0 x1 x4 x6 = dbranch (p := 512) 1024 x0 x1 x6 x4 := by
  funext y
  obtain ⟨n, p, rfl⟩ : ∃ (n : Fin 8192) (p : Fin 512), y = ix2 n p := ⟨y 0, y 1, Loads.idx2 _ _ _ rfl rfl⟩
  unfold dbranch val_main_v53 val_main_v46 val_main_v43
  pointwise
  exact Finset.sum_congr rfl fun j _ => congrArg (· * _) ((ref_pool x0 x1 x6 n j).trans (congrArg (dout x0 x1 x6 n) (Fin.ext (by simp))))

/-- The reference's gradient of a branch's input. -/
theorem ref_dmem (x5 : (⟨S512x1024, .f32⟩ : BufTy).Contents (Elt Ideal)) : val_main_v54 x0 x1 x5 x6 = dbranch (p := 512) 2048 x0 x1 x6 x5 := by
  funext y
  obtain ⟨n, p, rfl⟩ : ∃ (n : Fin 8192) (p : Fin 512), y = ix2 n p := ⟨y 0, y 1, Loads.idx2 _ _ _ rfl rfl⟩
  unfold dbranch val_main_v54 val_main_v45 val_main_v44
  pointwise
  exact Finset.sum_congr rfl fun j _ => congrArg (· * _) ((ref_mem x0 x1 x6 n j).trans (congrArg (dout x0 x1 x6 n) (Fin.ext (by simp))))

end Ref

section Kernel

open Cert.Kernel7Ideal Cert.Kernel7Ideal.Gen Idealize.ShloMosaic.TcCoe Idealize.SL.Sem

variable (m : (ℓ : Loc nD τ sig) → Buf (Elt Ideal) ℓ) (c : Dev nD)

/-- The second result is the columns the call writes of the projections' gradient. -/
theorem fin_cols : Pipeline.afterTail₀ cfgs (dats m) 0 (V0 m) [hostOps1] c main_v11 = dcols (A0 m c) (A1 m c) (A2 m c) (A6 m c) := by
  have h : Pipeline.withArrays spec0 c (V0 m c) (fun w => (dats m 0 c).arrAt w cfg0.N) (Proc.devRef .tc main_v10_1)
      = (dats m 0 c).arrAt 10 cfg0.N :=
    (dats m 0 c).withArrays_arrAt launch₀0.sharedIn (V0 m c) (A_eq m c) 10
  have k : Pipeline.afterTail₀ cfgs (dats m) 0 (V0 m) [hostOps1] c main_v11
      = extractStridedSlice S8192x3584 ![0, 3584] (Pipeline.withArrays spec0 c (V0 m c) (fun w => (dats m 0 c).arrAt w cfg0.N) (Proc.devRef .tc main_v10_1))
        slices_S8192x7168_S8192x3584_0_3584 := by
    unfold Pipeline.afterTail₀
    simp only [hostOps1, List.flatten_cons, List.flatten_nil, List.append_nil, List.cons_append, List.nil_append]
    after_results <;> rfl
  rw [k, h, out10]
  funext y
  obtain ⟨n, J, rfl⟩ : ∃ (n : Fin 8192) (J : Fin 3584), y = ix2 n J := ⟨y 0, y 1, Loads.idx2 _ _ _ rfl rfl⟩
  pointwise

/-- The kernel runs and ends with those five gradients, its arguments unchanged. -/
theorem run (g : Dev nD → PrngReg) :
    θ_run defs (onTc (τ := τ) (main (F := Ideal))) ⟨m, fun _ => 0, g⟩ fun r => ∀ c : Dev nD,
      r.2.mem ((c.tc : Thread nD τ).loc main_v10_0) = douts (A0 m c) (A1 m c) (A6 m c)
      ∧ r.2.mem ((c.tc : Thread nD τ).loc main_v11) = dcols (A0 m c) (A1 m c) (A2 m c) (A6 m c)
      ∧ r.2.mem ((c.tc : Thread nD τ).loc main_v10_2) = dbranch (p := 1024) 0 (A0 m c) (A1 m c) (A6 m c) (A3 m c)
      ∧ r.2.mem ((c.tc : Thread nD τ).loc main_v10_3) = dbranch (p := 512) 1024 (A0 m c) (A1 m c) (A6 m c) (A4 m c)
      ∧ r.2.mem ((c.tc : Thread nD τ).loc main_v10_4) = dbranch (p := 512) 2048 (A0 m c) (A1 m c) (A6 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 9).trans (out9 m c),
      ((h c).2 main_v11 (Pipeline.mem_restRefs_of main_v11 (by decide) (by decide))).trans (fin_cols m c),
      ((h c).1 11).trans (out11 m c), ((h c).1 12).trans (out12 m c), ((h c).1 13).trans (out13 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 4).trans (((dats m 0 c).arrAt_in 4 rfl _).trans ((A_eq m c 4).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m g)

end Kernel

/-- The reference runs and leaves its arguments as they were. -/
theorem frame_reference : quiescent_Reference7Ideal := fun m g _ =>
  (θ_run _ _ _).mono (fun r h => ⟨fun c => (h c).2.2.2.2.2, sem_eq_zero_of_no_sems (by decide) r.2⟩)
    (Cert.Reference7Ideal.Value.run m g)

/-- Kernel and reference end with equal results. -/
theorem value : algebraic_Kernel7Ideal_Reference7Ideal := by
  pair_intro
  · run_from run m g
  · refine θ_run_mono (Cert.Reference7Ideal.Value.run m' g') fun r hr c => ?_
    obtain ⟨h0, h1, h2, h3, h4, h5⟩ := hr c
    obtain ⟨a0, a1, a2, a3, a4, a5, a6⟩ := hagree c
    refine ⟨h0.trans ?_, h1.trans ?_, h2.trans ?_, h3.trans ?_, h4.trans ?_, h5⟩
    · rw [a0, a1, a6]
      exact ref_douts _ _ _
    · rw [a0, a1, a2, a6]
      exact ref_dcols _ _ _ _
    · rw [a0, a1, a3, a6]
      exact ref_dret _ _ _ _
    · rw [a0, a1, a4, a6]
      exact ref_dpool _ _ _ _
    · rw [a0, a1, a5, a6]
      exact ref_dmem _ _ _ _

end Cert.Merge

end
-- ==== Proof.MixOut.lean ====
/- The gradients of the mixer's four output weights, kernel's side. Each is a product `∑ n, L n i * G n j` over all tokens `n` of a
   saved activation and its output's gradient, the last three gradients being the three column bands of one array. The grid walks 16
   tiles of 512 tokens and adds the tiles' products in four scratches; the last tile's point stores them in the chips' parts. -/
module

public import proofs.«01_k».proof.Proof.Gen.Kernel8Ideal.Run
public import proofs.«01_k».proof.Proof.Loads
public import Idealize.ShloMosaic.Lib.Pipeline.ReadBack

@[expose] public section

noncomputable section

namespace Cert.Mix

open Cert.Loads Idealize.ShloMosaic Idealize.ShloMosaic.TcCoe Idealize.SL.Sem Cert.Kernel8Ideal Cert.Kernel8Ideal.Gen

variable (m : (ℓ : Loc nD τ sig) → Buf (Elt Ideal) ℓ) (c : Dev nD)

/-- The argument arrays as launched: the four saved activations, the gradient of the merge's output, and the three bands. -/
abbrev A0 : (⟨2, ![8192, 1024]⟩ : Shape).Idx → EReal := m ((c : Thread nD τ).loc main_arg0)
abbrev A1 : (⟨2, ![8192, 1024]⟩ : Shape).Idx → EReal := m ((c : Thread nD τ).loc main_arg1)
abbrev A2 : (⟨2, ![8192, 512]⟩ : Shape).Idx → EReal := m ((c : Thread nD τ).loc main_arg2)
abbrev A3 : (⟨2, ![8192, 512]⟩ : Shape).Idx → EReal := m ((c : Thread nD τ).loc main_arg3)
abbrev A4 : (⟨2, ![8192, 1024]⟩ : Shape).Idx → EReal := m ((c : Thread nD τ).loc main_arg4)
abbrev A5 : (⟨2, ![8192, 3072]⟩ : Shape).Idx → EReal := m ((c : Thread nD τ).loc main_arg5)

/-- The blocks a point holds. -/
abbrev X0 (t : Fin cfg0.N) : Vec Ideal S512x1024 .bf16 := iblk m c 0 t
abbrev X1 (t : Fin cfg0.N) : Vec Ideal S512x1024 .bf16 := iblk m c 1 t
abbrev X2 (t : Fin cfg0.N) : Vec Ideal S512x512 .bf16 := iblk m c 2 t
abbrev X3 (t : Fin cfg0.N) : Vec Ideal S512x512 .bf16 := iblk m c 3 t
abbrev X4 (t : Fin cfg0.N) : Vec Ideal S512x1024 .f32 := iblk m c 4 t
abbrev X5 (t : Fin cfg0.N) : Vec Ideal S512x3072 .bf16 := iblk m c 5 t
abbrev B0 (t : Fin cfg0.N) : Vec Ideal S512x1024 .bf16 := View.ld (X5 m c t) (Rect.unit ![0, 0] ![512, 1024] inb_S512x3072_S512x1024_0_0)
abbrev B1024 (t : Fin cfg0.N) : Vec Ideal S512x1024 .bf16 := View.ld (X5 m c t) (Rect.unit ![0, 1024] ![512, 1024] inb_S512x3072_S512x1024_0_1024)
abbrev B2048 (t : Fin cfg0.N) : Vec Ideal S512x1024 .bf16 := View.ld (X5 m c t) (Rect.unit ![0, 2048] ![512, 1024] inb_S512x3072_S512x1024_0_2048)

theorem idx : ∀ t : Fin cfg0.N, (win0_0.index t = ![t.val, 0] ∧ win0_1.index t = ![t.val, 0] ∧ win0_2.index t = ![t.val, 0]
    ∧ win0_3.index t = ![t.val, 0] ∧ win0_4.index t = ![t.val, 0] ∧ win0_5.index t = ![t.val, 0])
    ∧ win0_6.index t = ![0, 0, 0] ∧ win0_7.index t = ![0, 0, 0] ∧ win0_8.index t = ![0, 0, 0] ∧ win0_9.index t = ![0, 0, 0] :=
  (by decide +kernel : ∀ t : Fin grid0.N, (win0_0.index t = ![t.val, 0] ∧ win0_1.index t = ![t.val, 0] ∧ win0_2.index t = ![t.val, 0]
    ∧ win0_3.index t = ![t.val, 0] ∧ win0_4.index t = ![t.val, 0] ∧ win0_5.index t = ![t.val, 0])
    ∧ win0_6.index t = ![0, 0, 0] ∧ win0_7.index t = ![0, 0, 0] ∧ win0_8.index t = ![0, 0, 0] ∧ win0_9.index t = ![0, 0, 0])

theorem iblk0 (t : Fin cfg0.N) (r : Fin 512) (i : Fin 1024) (R : Fin 8192) (hR : R.val = 512 * t.val + r.val) :
    X0 m c t (ix2 r i) = A0 m c (ix2 R i) := by
  obtain ⟨⟨e0, -⟩, -⟩ := idx t
  blk_ext [iblk, V, e0]

theorem iblk1 (t : Fin cfg0.N) (r : Fin 512) (i : Fin 1024) (R : Fin 8192) (hR : R.val = 512 * t.val + r.val) :
    X1 m c t (ix2 r i) = A1 m c (ix2 R i) := by
  obtain ⟨⟨-, e0, -⟩, -⟩ := idx t
  blk_ext [iblk, V, e0]

theorem iblk2 (t : Fin cfg0.N) (r : Fin 512) (i : Fin 512) (R : Fin 8192) (hR : R.val = 512 * t.val + r.val) :
    X2 m c t (ix2 r i) = A2 m c (ix2 R i) := by
  obtain ⟨⟨-, -, e0, -⟩, -⟩ := idx t
  blk_ext [iblk, V, e0]

theorem iblk3 (t : Fin cfg0.N) (r : Fin 512) (i : Fin 512) (R : Fin 8192) (hR : R.val = 512 * t.val + r.val) :
    X3 m c t (ix2 r i) = A3 m c (ix2 R i) := by
  obtain ⟨⟨-, -, -, e0, -⟩, -⟩ := idx t
  blk_ext [iblk, V, e0]

theorem iblk4 (t : Fin cfg0.N) (r : Fin 512) (i : Fin 1024) (R : Fin 8192) (hR : R.val = 512 * t.val + r.val) :
    X4 m c t (ix2 r i) = A4 m c (ix2 R i) := by
  obtain ⟨⟨-, -, -, -, e0, -⟩, -⟩ := idx t
  blk_ext [iblk, V, e0]

theorem iblk5 (t : Fin cfg0.N) (r : Fin 512) (i : Fin 3072) (R : Fin 8192) (hR : R.val = 512 * t.val + r.val) :
    X5 m c t (ix2 r i) = A5 m c (ix2 R i) := by
  obtain ⟨⟨-, -, -, -, -, e0⟩, -⟩ := idx t
  blk_ext [iblk, V, e0]

theorem band0 (t : Fin cfg0.N) (r : Fin 512) (j : Fin 1024) (R : Fin 8192) (J : Fin 3072) (hR : R.val = 512 * t.val + r.val)
    (hJ : J.val = 0 + j.val) : B0 m c t (ix2 r j) = A5 m c (ix2 R J) :=
  (ld2 (X5 m c t) 0 0 _ r j r J (by simp) hJ).trans (iblk5 m c t r J R hR)

theorem band1024 (t : Fin cfg0.N) (r : Fin 512) (j : Fin 1024) (R : Fin 8192) (J : Fin 3072) (hR : R.val = 512 * t.val + r.val)
    (hJ : J.val = 1024 + j.val) : B1024 m c t (ix2 r j) = A5 m c (ix2 R J) :=
  (ld2 (X5 m c t) 0 1024 _ r j r J (by simp) hJ).trans (iblk5 m c t r J R hR)

theorem band2048 (t : Fin cfg0.N) (r : Fin 512) (j : Fin 1024) (R : Fin 8192) (J : Fin 3072) (hR : R.val = 512 * t.val + r.val)
    (hJ : J.val = 2048 + j.val) : B2048 m c t (ix2 r j) = A5 m c (ix2 R J) :=
  (ld2 (X5 m c t) 0 2048 _ r j r J (by simp) hJ).trans (iblk5 m c t r J R hR)

/-! ## The gradient of the merge's output weight -/

/-- One tile's product, first and later. -/
theorem out_set (x : Vec Ideal S512x1024 .bf16) (y : Vec Ideal S512x1024 .f32) (i : Fin 1024) (j : Fin 1024) : k0_pay23 x y (ix2 i j) = ∑ r : Fin 512, x (ix2 r i) * y (ix2 r j) := by
  unfold k0_pay23 k0_pay22
  pointwise

theorem out_add (x : Vec Ideal S512x1024 .bf16) (y : Vec Ideal S512x1024 .f32) (a : Vec Ideal S1024x1024 .f32) (i : Fin 1024) (j : Fin 1024) :
    k0_pay24 x y a (ix2 i j) = a (ix2 i j) + ∑ r : Fin 512, x (ix2 r i) * y (ix2 r j) := by
  unfold k0_pay24 k0_pay22
  pointwise

theorem out_store0 (v : Vec Ideal S256x1024 .f32) (i : Fin 256) (j : Fin 1024) : k0_pay10 v (ix3 0 i j) = v (ix2 i j) := by
  unfold k0_pay10; pointwise

theorem out_store1 (v : Vec Ideal S256x1024 .f32) (i : Fin 256) (j : Fin 1024) : k0_pay14 v (ix3 0 i j) = v (ix2 i j) := by
  unfold k0_pay14; pointwise

theorem out_store2 (v : Vec Ideal S256x1024 .f32) (i : Fin 256) (j : Fin 1024) : k0_pay19 v (ix3 0 i j) = v (ix2 i j) := by
  unfold k0_pay19; pointwise

theorem out_store3 (v : Vec Ideal S256x1024 .f32) (i : Fin 256) (j : Fin 1024) : k0_pay6 v (ix3 0 i j) = v (ix2 i j) := by
  unfold k0_pay6; pointwise

/-- The last point's four stores lay the scratch out in the chips' parts. -/
theorem out_tiles (Z : Vec Ideal S1024x1024 .f32) (k : Fin 4) (i : Fin 256) (j : Fin 1024) (I : Fin 1024) (J : Fin 1024)
    (hI : I.val = 256 * k.val + i.val) (hJ : J.val = j.val) :
    View.canon (Val := Elt Ideal) (s := S4x256x1024) (e := .bf16) [⟨Rect.unit ![3, 0, 0] ![1, 256, 1024] inb_S4x256x1024_S1x256x1024_3_0_0, k0_pay6 (View.ld Z (Rect.unit ![768, 0] ![256, 1024] inb_S1024x1024_S256x1024_768_0))⟩,
        ⟨Rect.unit ![2, 0, 0] ![1, 256, 1024] inb_S4x256x1024_S1x256x1024_2_0_0, k0_pay19 (View.ld Z (Rect.unit ![512, 0] ![256, 1024] inb_S1024x1024_S256x1024_512_0))⟩,
        ⟨Rect.unit ![1, 0, 0] ![1, 256, 1024] inb_S4x256x1024_S1x256x1024_1_0_0, k0_pay14 (View.ld Z (Rect.unit ![256, 0] ![256, 1024] inb_S1024x1024_S256x1024_256_0))⟩,
        ⟨Rect.unit ![0, 0, 0] ![1, 256, 1024] inb_S4x256x1024_S1x256x1024_0_0_0, k0_pay10 (View.ld Z (Rect.unit ![0, 0] ![256, 1024] inb_S1024x1024_S256x1024_0_0))⟩] (ix3 k i j) = Z (ix2 I J) := by
  canon_tiles x w
  · obtain rfl : k = 3 := Fin.ext (by simp at w0 ⊢; omega)
    rw [idx3 x 0 i j (by omega) (by simpa using w1.symm) (by simpa using w2.symm), out_store3]
    exact ld2 Z 768 0 _ i j I J (by rw [hI]; simp) (by simpa using hJ)
  · obtain rfl : k = 2 := Fin.ext (by simp at w0 ⊢; omega)
    rw [idx3 x 0 i j (by omega) (by simpa using w1.symm) (by simpa using w2.symm), out_store2]
    exact ld2 Z 512 0 _ i j I J (by rw [hI]; simp) (by simpa using hJ)
  · obtain rfl : k = 1 := Fin.ext (by simp at w0 ⊢; omega)
    rw [idx3 x 0 i j (by omega) (by simpa using w1.symm) (by simpa using w2.symm), out_store1]
    exact ld2 Z 256 0 _ i j I J (by rw [hI]; simp) (by simpa using hJ)
  · obtain rfl : k = 0 := Fin.ext (by simp at w0 ⊢; omega)
    rw [idx3 x 0 i j (by omega) (by simpa using w1.symm) (by simpa using w2.symm), out_store0]
    exact ld2 Z 0 0 _ i j I J (by rw [hI]; simp) (by simpa using hJ)

/-- A tile's contribution to an entry, over the blocks a point holds. -/
def out_term (t : Fin cfg0.N) (i : Fin 1024) (j : Fin 1024) : EReal := ∑ r : Fin 512, X0 m c t (ix2 r i) * (X4 m c t) (ix2 r j)

/-- The first tile sets the scratch, -/
theorem out_scratch_A (t : Fin cfg0.N) (h0 : t.val % 16 = 0) (i : Fin 1024) (j : Fin 1024) :
    (outsAt0 m c t.val t.isLt).2.2.2.2.1 (ix2 i j) = out_term m c t i j := by
  have ht : t.val < 16 := lt_of_lt_of_eq t.isLt N_0
  rw [outsAt0_A m c t h0 (by omega) h0 (by omega) h0 (by omega) h0 (by omega) (by omega), out_term, ← out_set]
  dsimp only
  frame_out

/-- a later one adds to it. -/
theorem out_scratch_S (t : Fin cfg0.N) (h0 : ¬t.val % 16 = 0) (i : Fin 1024) (j : Fin 1024) :
    (outsAt0 m c t.val t.isLt).2.2.2.2.1 (ix2 i j)
      = (outsAt0 m c (t.val - 1) (Nat.lt_of_le_of_lt (Nat.sub_le _ _) t.isLt)).2.2.2.2.1 (ix2 i j) + out_term m c t i j := by
  have ht : t.val < 16 := lt_of_lt_of_eq t.isLt N_0
  rw [out_term, ← out_add]
  by_cases h2 : t.val % 16 = 15
  · rw [outsAt0_C m c t (by omega) (by omega) (by omega) (by omega) (by omega) (by omega) (by omega) (by omega) (by omega)]
    dsimp only
    frame_out
    exact congrArg (fun a => k0_pay24 _ _ a (ix2 i j)) (Memref.IsWhole.read_unread _ _)
  · rw [outsAt0_B m c t h0 (by omega) h0 (by omega) h0 (by omega) h0 (by omega) (by omega)]
    dsimp only
    frame_out
    exact congrArg (fun a => k0_pay24 _ _ a (ix2 i j)) (Memref.IsWhole.read_unread _ _)

/-- The last tile's point stores what the scratch then holds. -/
theorem out_stored (t : Fin cfg0.N) (h2 : t.val % 16 = 15) (k : Fin 4) (i : Fin 256) (j : Fin 1024) (I : Fin 1024) (J : Fin 1024)
    (hI : I.val = 256 * k.val + i.val) (hJ : J.val = j.val) :
    (outsAt0 m c t.val t.isLt).1 (ix3 k i j) = (outsAt0 m c t.val t.isLt).2.2.2.2.1 (ix2 I J) := by
  have ht : t.val < 16 := lt_of_lt_of_eq t.isLt N_0
  rw [outsAt0_C m c t (by omega) (by omega) (by omega) (by omega) (by omega) (by omega) (by omega) (by omega) (by omega)]
  dsimp only
  frame_out
  simp (disch := decide) only [View.readCov_fill]
  exact out_tiles _ k i j I J hI hJ

/-- One entry of the gradient. -/
def out_entry (I : Fin 1024) (J : Fin 1024) : EReal :=
  ∑ n : Fin 8192, A0 m c (ix2 n I) * A4 m c (ix2 n J)

theorem out_part (t : Fin cfg0.N) (h2 : t.val % 16 = 15) (k : Fin 4) (i : Fin 256) (j : Fin 1024) (I : Fin 1024) (J : Fin 1024)
    (hI : I.val = 256 * k.val + i.val) (hJ : J.val = j.val) :
    (outsAt0 m c t.val t.isLt).1 (ix3 k i j) = out_entry m c I J := by
  have ht : t.val < 16 := lt_of_lt_of_eq t.isLt N_0
  rw [out_stored m c t h2 k i j I J hI hJ, Pipeline.eq_sum_fin_of_reset_step_of_flush (fun n h => (outsAt0 m c n h).2.2.2.2.1 (ix2 I J)) 16 0
    (fun t => out_term m c t I J) (fun t h => by rw [zero_add]; exact out_scratch_A m c t h I J) (fun t h => out_scratch_S m c t h I J) t h2, zero_add]
  unfold out_term out_entry
  refine Fin.sum_mul_add_congr fun s r h => ?_
  exact congr_arg₂ (· * ·) (iblk0 m c _ r I _ (by (try dsimp only); omega))
    (iblk4 m c _ r J _ (by (try dsimp only); omega))

/-- The region's result array after the run: each chip's part of the gradient. -/
theorem out_out (k : Fin 4) (i : Fin 256) (j : Fin 1024) (I : Fin 1024) (J : Fin 1024) (hI : I.val = 256 * k.val + i.val) (hJ : J.val = j.val) :
    (dats m 0 c).arrAt 6 cfg0.N (ix3 k i j) = out_entry m c I J := by
  have key : (dats m 0 c).arrAt 6 cfg0.N = fun y => out_entry m c
      ⟨256 * (y 0).val + (y 1).val, by have := (y 0).isLt; have := (y 1).isLt; simp at *; omega⟩
      ⟨(y 2).val, by have := (y 0).isLt; have := (y 2).isLt; simp at *; omega⟩ := by
    refine (dats m 0 c).arrAt_eq_of_covers 6 _ (by decide +kernel) fun t hf y => ?_
    obtain ⟨-, e6, e7, e8, e9⟩ := idx t
    rw [after0_6]
    have hy0 : (y 0).val < 4 := (y 0).isLt
    have hy1 : (y 1).val < 256 := (y 1).isLt
    have hy2 : (y 2).val < 1024 := (y 2).isLt
    have key := out_part m c t ((flush0_6 t).mp hf) ⟨(y 0).val, hy0⟩ ⟨(y 1).val, hy1⟩ ⟨(y 2).val, hy2⟩
    refine Eq.trans ?_ (key _ _ ?_ ?_)
    · blk_simp
      blk_ext
    · blk_simp [e6]; (try dsimp only); (try omega)
    · blk_simp [e6]; (try dsimp only); (try omega)
  rw [key]
  exact congr_arg₂ (out_entry m c) (Fin.ext (by simpa using hI.symm)) (Fin.ext (by simpa using hJ.symm))

/-! ## The gradient of the recurrence's output weight -/

/-- One tile's product, first and later. -/
theorem ret_set (x : Vec Ideal S512x1024 .bf16) (y : Vec Ideal S512x1024 .bf16) (i : Fin 1024) (j : Fin 1024) : k0_pay26 x y (ix2 i j) = ∑ r : Fin 512, x (ix2 r i) * y (ix2 r j) := by
  unfold k0_pay26 k0_pay25
  pointwise

theorem ret_add (x : Vec Ideal S512x1024 .bf16) (y : Vec Ideal S512x1024 .bf16) (a : Vec Ideal S1024x1024 .f32) (i : Fin 1024) (j : Fin 1024) :
    k0_pay27 x y a (ix2 i j) = a (ix2 i j) + ∑ r : Fin 512, x (ix2 r i) * y (ix2 r j) := by
  unfold k0_pay27 k0_pay25
  pointwise

theorem ret_store0 (v : Vec Ideal S256x1024 .f32) (i : Fin 256) (j : Fin 1024) : k0_pay11 v (ix3 0 i j) = v (ix2 i j) := by
  unfold k0_pay11; pointwise

theorem ret_store1 (v : Vec Ideal S256x1024 .f32) (i : Fin 256) (j : Fin 1024) : k0_pay16 (k0_pay15 v) (ix3 0 i j) = v (ix2 i j) := by
  unfold k0_pay16 k0_pay15; pointwise

theorem ret_store2 (v : Vec Ideal S256x1024 .f32) (i : Fin 256) (j : Fin 1024) : k0_pay20 v (ix3 0 i j) = v (ix2 i j) := by
  unfold k0_pay20; pointwise

theorem ret_store3 (v : Vec Ideal S256x1024 .f32) (i : Fin 256) (j : Fin 1024) : k0_pay7 v (ix3 0 i j) = v (ix2 i j) := by
  unfold k0_pay7; pointwise

/-- The last point's four stores lay the scratch out in the chips' parts. -/
theorem ret_tiles (Z : Vec Ideal S1024x1024 .f32) (k : Fin 4) (i : Fin 256) (j : Fin 1024) (I : Fin 1024) (J : Fin 1024)
    (hI : I.val = 256 * k.val + i.val) (hJ : J.val = j.val) :
    View.canon (Val := Elt Ideal) (s := S4x256x1024) (e := .bf16) [⟨Rect.unit ![3, 0, 0] ![1, 256, 1024] inb_S4x256x1024_S1x256x1024_3_0_0, k0_pay7 (View.ld Z (Rect.unit ![768, 0] ![256, 1024] inb_S1024x1024_S256x1024_768_0))⟩,
        ⟨Rect.unit ![2, 0, 0] ![1, 256, 1024] inb_S4x256x1024_S1x256x1024_2_0_0, k0_pay20 (View.ld Z (Rect.unit ![512, 0] ![256, 1024] inb_S1024x1024_S256x1024_512_0))⟩,
        ⟨Rect.unit ![1, 0, 0] ![1, 256, 1024] inb_S4x256x1024_S1x256x1024_1_0_0, k0_pay16 (k0_pay15 (View.ld Z (Rect.unit ![256, 0] ![256, 1024] inb_S1024x1024_S256x1024_256_0)))⟩,
        ⟨Rect.unit ![0, 0, 0] ![1, 256, 1024] inb_S4x256x1024_S1x256x1024_0_0_0, k0_pay11 (View.ld Z (Rect.unit ![0, 0] ![256, 1024] inb_S1024x1024_S256x1024_0_0))⟩] (ix3 k i j) = Z (ix2 I J) := by
  canon_tiles x w
  · obtain rfl : k = 3 := Fin.ext (by simp at w0 ⊢; omega)
    rw [idx3 x 0 i j (by omega) (by simpa using w1.symm) (by simpa using w2.symm), ret_store3]
    exact ld2 Z 768 0 _ i j I J (by rw [hI]; simp) (by simpa using hJ)
  · obtain rfl : k = 2 := Fin.ext (by simp at w0 ⊢; omega)
    rw [idx3 x 0 i j (by omega) (by simpa using w1.symm) (by simpa using w2.symm), ret_store2]
    exact ld2 Z 512 0 _ i j I J (by rw [hI]; simp) (by simpa using hJ)
  · obtain rfl : k = 1 := Fin.ext (by simp at w0 ⊢; omega)
    rw [idx3 x 0 i j (by omega) (by simpa using w1.symm) (by simpa using w2.symm), ret_store1]
    exact ld2 Z 256 0 _ i j I J (by rw [hI]; simp) (by simpa using hJ)
  · obtain rfl : k = 0 := Fin.ext (by simp at w0 ⊢; omega)
    rw [idx3 x 0 i j (by omega) (by simpa using w1.symm) (by simpa using w2.symm), ret_store0]
    exact ld2 Z 0 0 _ i j I J (by rw [hI]; simp) (by simpa using hJ)

/-- A tile's contribution to an entry, over the blocks a point holds. -/
def ret_term (t : Fin cfg0.N) (i : Fin 1024) (j : Fin 1024) : EReal := ∑ r : Fin 512, X1 m c t (ix2 r i) * (B0 m c t) (ix2 r j)

/-- The first tile sets the scratch, -/
theorem ret_scratch_A (t : Fin cfg0.N) (h0 : t.val % 16 = 0) (i : Fin 1024) (j : Fin 1024) :
    (outsAt0 m c t.val t.isLt).2.2.2.2.2.1 (ix2 i j) = ret_term m c t i j := by
  have ht : t.val < 16 := lt_of_lt_of_eq t.isLt N_0
  rw [outsAt0_A m c t h0 (by omega) h0 (by omega) h0 (by omega) h0 (by omega) (by omega), ret_term, ← ret_set]
  dsimp only
  frame_out

/-- a later one adds to it. -/
theorem ret_scratch_S (t : Fin cfg0.N) (h0 : ¬t.val % 16 = 0) (i : Fin 1024) (j : Fin 1024) :
    (outsAt0 m c t.val t.isLt).2.2.2.2.2.1 (ix2 i j)
      = (outsAt0 m c (t.val - 1) (Nat.lt_of_le_of_lt (Nat.sub_le _ _) t.isLt)).2.2.2.2.2.1 (ix2 i j) + ret_term m c t i j := by
  have ht : t.val < 16 := lt_of_lt_of_eq t.isLt N_0
  rw [ret_term, ← ret_add]
  by_cases h2 : t.val % 16 = 15
  · rw [outsAt0_C m c t (by omega) (by omega) (by omega) (by omega) (by omega) (by omega) (by omega) (by omega) (by omega)]
    dsimp only
    frame_out
    exact congrArg (fun a => k0_pay27 _ _ a (ix2 i j)) (Memref.IsWhole.read_unread _ _)
  · rw [outsAt0_B m c t h0 (by omega) h0 (by omega) h0 (by omega) h0 (by omega) (by omega)]
    dsimp only
    frame_out
    exact congrArg (fun a => k0_pay27 _ _ a (ix2 i j)) (Memref.IsWhole.read_unread _ _)

/-- The last tile's point stores what the scratch then holds. -/
theorem ret_stored (t : Fin cfg0.N) (h2 : t.val % 16 = 15) (k : Fin 4) (i : Fin 256) (j : Fin 1024) (I : Fin 1024) (J : Fin 1024)
    (hI : I.val = 256 * k.val + i.val) (hJ : J.val = j.val) :
    (outsAt0 m c t.val t.isLt).2.1 (ix3 k i j) = (outsAt0 m c t.val t.isLt).2.2.2.2.2.1 (ix2 I J) := by
  have ht : t.val < 16 := lt_of_lt_of_eq t.isLt N_0
  rw [outsAt0_C m c t (by omega) (by omega) (by omega) (by omega) (by omega) (by omega) (by omega) (by omega) (by omega)]
  dsimp only
  frame_out
  simp (disch := decide) only [View.readCov_fill]
  exact ret_tiles _ k i j I J hI hJ

/-- One entry of the gradient. -/
def ret_entry (I : Fin 1024) (J : Fin 1024) : EReal :=
  ∑ n : Fin 8192, A1 m c (ix2 n I) * A5 m c (ix2 n ⟨0 + J.val, by omega⟩)

theorem ret_part (t : Fin cfg0.N) (h2 : t.val % 16 = 15) (k : Fin 4) (i : Fin 256) (j : Fin 1024) (I : Fin 1024) (J : Fin 1024)
    (hI : I.val = 256 * k.val + i.val) (hJ : J.val = j.val) :
    (outsAt0 m c t.val t.isLt).2.1 (ix3 k i j) = ret_entry m c I J := by
  have ht : t.val < 16 := lt_of_lt_of_eq t.isLt N_0
  rw [ret_stored m c t h2 k i j I J hI hJ, Pipeline.eq_sum_fin_of_reset_step_of_flush (fun n h => (outsAt0 m c n h).2.2.2.2.2.1 (ix2 I J)) 16 0
    (fun t => ret_term m c t I J) (fun t h => by rw [zero_add]; exact ret_scratch_A m c t h I J) (fun t h => ret_scratch_S m c t h I J) t h2, zero_add]
  unfold ret_term ret_entry
  refine Fin.sum_mul_add_congr fun s r h => ?_
  exact congr_arg₂ (· * ·) (iblk1 m c _ r I _ (by (try dsimp only); omega))
    (band0 m c _ r J _ _ (by (try dsimp only); omega) rfl)

/-- The region's result array after the run: each chip's part of the gradient. -/
theorem out_ret (k : Fin 4) (i : Fin 256) (j : Fin 1024) (I : Fin 1024) (J : Fin 1024) (hI : I.val = 256 * k.val + i.val) (hJ : J.val = j.val) :
    (dats m 0 c).arrAt 7 cfg0.N (ix3 k i j) = ret_entry m c I J := by
  have key : (dats m 0 c).arrAt 7 cfg0.N = fun y => ret_entry m c
      ⟨256 * (y 0).val + (y 1).val, by have := (y 0).isLt; have := (y 1).isLt; simp at *; omega⟩
      ⟨(y 2).val, by have := (y 0).isLt; have := (y 2).isLt; simp at *; omega⟩ := by
    refine (dats m 0 c).arrAt_eq_of_covers 7 _ (by decide +kernel) fun t hf y => ?_
    obtain ⟨-, e6, e7, e8, e9⟩ := idx t
    rw [after0_7]
    have hy0 : (y 0).val < 4 := (y 0).isLt
    have hy1 : (y 1).val < 256 := (y 1).isLt
    have hy2 : (y 2).val < 1024 := (y 2).isLt
    have key := ret_part m c t ((flush0_7 t).mp hf) ⟨(y 0).val, hy0⟩ ⟨(y 1).val, hy1⟩ ⟨(y 2).val, hy2⟩
    refine Eq.trans ?_ (key _ _ ?_ ?_)
    · blk_simp
      blk_ext
    · blk_simp [e7]; (try dsimp only); (try omega)
    · blk_simp [e7]; (try dsimp only); (try omega)
  rw [key]
  exact congr_arg₂ (ret_entry m c) (Fin.ext (by simpa using hI.symm)) (Fin.ext (by simpa using hJ.symm))

/-! ## The gradient of the pooling's output weight -/

/-- One tile's product, first and later. -/
theorem pool_set (x : Vec Ideal S512x512 .bf16) (y : Vec Ideal S512x1024 .bf16) (i : Fin 512) (j : Fin 1024) : k0_pay29 x y (ix2 i j) = ∑ r : Fin 512, x (ix2 r i) * y (ix2 r j) := by
  unfold k0_pay29 k0_pay28
  pointwise

theorem pool_add (x : Vec Ideal S512x512 .bf16) (y : Vec Ideal S512x1024 .bf16) (a : Vec Ideal S512x1024 .f32) (i : Fin 512) (j : Fin 1024) :
    k0_pay1 (k0_pay28 x y) a (ix2 i j) = a (ix2 i j) + ∑ r : Fin 512, x (ix2 r i) * y (ix2 r j) := by
  unfold k0_pay1 k0_pay28
  pointwise

theorem pool_store0 (v : Vec Ideal S512x256 .f32) (i : Fin 512) (j : Fin 256) : k0_pay12 v (ix3 0 i j) = v (ix2 i j) := by
  unfold k0_pay12; pointwise

theorem pool_store1 (v : Vec Ideal S512x256 .f32) (i : Fin 512) (j : Fin 256) : k0_pay17 v (ix3 0 i j) = v (ix2 i j) := by
  unfold k0_pay17; pointwise

theorem pool_store2 (v : Vec Ideal S512x256 .f32) (i : Fin 512) (j : Fin 256) : k0_pay21 v (ix3 0 i j) = v (ix2 i j) := by
  unfold k0_pay21; pointwise

theorem pool_store3 (v : Vec Ideal S512x256 .f32) (i : Fin 512) (j : Fin 256) : k0_pay8 v (ix3 0 i j) = v (ix2 i j) := by
  unfold k0_pay8; pointwise

/-- The last point's four stores lay the scratch out in the chips' parts. -/
theorem pool_tiles (Z : Vec Ideal S512x1024 .f32) (k : Fin 4) (i : Fin 512) (j : Fin 256) (I : Fin 512) (J : Fin 1024)
    (hI : I.val = i.val) (hJ : J.val = 256 * k.val + j.val) :
    View.canon (Val := Elt Ideal) (s := S4x512x256) (e := .bf16) [⟨Rect.unit ![3, 0, 0] ![1, 512, 256] inb_S4x512x256_S1x512x256_3_0_0, k0_pay8 (View.ld Z (Rect.unit ![0, 768] ![512, 256] inb_S512x1024_S512x256_0_768))⟩,
        ⟨Rect.unit ![2, 0, 0] ![1, 512, 256] inb_S4x512x256_S1x512x256_2_0_0, k0_pay21 (View.ld Z (Rect.unit ![0, 512] ![512, 256] inb_S512x1024_S512x256_0_512))⟩,
        ⟨Rect.unit ![1, 0, 0] ![1, 512, 256] inb_S4x512x256_S1x512x256_1_0_0, k0_pay17 (View.ld Z (Rect.unit ![0, 256] ![512, 256] inb_S512x1024_S512x256_0_256))⟩,
        ⟨Rect.unit ![0, 0, 0] ![1, 512, 256] inb_S4x512x256_S1x512x256_0_0_0, k0_pay12 (View.ld Z (Rect.unit ![0, 0] ![512, 256] inb_S512x1024_S512x256_0_0))⟩] (ix3 k i j) = Z (ix2 I J) := by
  canon_tiles x w
  · obtain rfl : k = 3 := Fin.ext (by simp at w0 ⊢; omega)
    rw [idx3 x 0 i j (by omega) (by simpa using w1.symm) (by simpa using w2.symm), pool_store3]
    exact ld2 Z 0 768 _ i j I J (by simpa using hI) (by rw [hJ]; simp)
  · obtain rfl : k = 2 := Fin.ext (by simp at w0 ⊢; omega)
    rw [idx3 x 0 i j (by omega) (by simpa using w1.symm) (by simpa using w2.symm), pool_store2]
    exact ld2 Z 0 512 _ i j I J (by simpa using hI) (by rw [hJ]; simp)
  · obtain rfl : k = 1 := Fin.ext (by simp at w0 ⊢; omega)
    rw [idx3 x 0 i j (by omega) (by simpa using w1.symm) (by simpa using w2.symm), pool_store1]
    exact ld2 Z 0 256 _ i j I J (by simpa using hI) (by rw [hJ]; simp)
  · obtain rfl : k = 0 := Fin.ext (by simp at w0 ⊢; omega)
    rw [idx3 x 0 i j (by omega) (by simpa using w1.symm) (by simpa using w2.symm), pool_store0]
    exact ld2 Z 0 0 _ i j I J (by simpa using hI) (by rw [hJ]; simp)

/-- A tile's contribution to an entry, over the blocks a point holds. -/
def pool_term (t : Fin cfg0.N) (i : Fin 512) (j : Fin 1024) : EReal := ∑ r : Fin 512, X2 m c t (ix2 r i) * (B1024 m c t) (ix2 r j)

/-- The first tile sets the scratch, -/
theorem pool_scratch_A (t : Fin cfg0.N) (h0 : t.val % 16 = 0) (i : Fin 512) (j : Fin 1024) :
    (outsAt0 m c t.val t.isLt).2.2.2.2.2.2.1 (ix2 i j) = pool_term m c t i j := by
  have ht : t.val < 16 := lt_of_lt_of_eq t.isLt N_0
  rw [outsAt0_A m c t h0 (by omega) h0 (by omega) h0 (by omega) h0 (by omega) (by omega), pool_term, ← pool_set]
  dsimp only
  frame_out

/-- a later one adds to it. -/
theorem pool_scratch_S (t : Fin cfg0.N) (h0 : ¬t.val % 16 = 0) (i : Fin 512) (j : Fin 1024) :
    (outsAt0 m c t.val t.isLt).2.2.2.2.2.2.1 (ix2 i j)
      = (outsAt0 m c (t.val - 1) (Nat.lt_of_le_of_lt (Nat.sub_le _ _) t.isLt)).2.2.2.2.2.2.1 (ix2 i j) + pool_term m c t i j := by
  have ht : t.val < 16 := lt_of_lt_of_eq t.isLt N_0
  rw [pool_term, ← pool_add]
  by_cases h2 : t.val % 16 = 15
  · rw [outsAt0_C m c t (by omega) (by omega) (by omega) (by omega) (by omega) (by omega) (by omega) (by omega) (by omega)]
    dsimp only
    frame_out
    exact congrArg (fun a => k0_pay1 (k0_pay28 _ _) a (ix2 i j)) (Memref.IsWhole.read_unread _ _)
  · rw [outsAt0_B m c t h0 (by omega) h0 (by omega) h0 (by omega) h0 (by omega) (by omega)]
    dsimp only
    frame_out
    exact congrArg (fun a => k0_pay1 (k0_pay28 _ _) a (ix2 i j)) (Memref.IsWhole.read_unread _ _)

/-- The last tile's point stores what the scratch then holds. -/
theorem pool_stored (t : Fin cfg0.N) (h2 : t.val % 16 = 15) (k : Fin 4) (i : Fin 512) (j : Fin 256) (I : Fin 512) (J : Fin 1024)
    (hI : I.val = i.val) (hJ : J.val = 256 * k.val + j.val) :
    (outsAt0 m c t.val t.isLt).2.2.1 (ix3 k i j) = (outsAt0 m c t.val t.isLt).2.2.2.2.2.2.1 (ix2 I J) := by
  have ht : t.val < 16 := lt_of_lt_of_eq t.isLt N_0
  rw [outsAt0_C m c t (by omega) (by omega) (by omega) (by omega) (by omega) (by omega) (by omega) (by omega) (by omega)]
  dsimp only
  frame_out
  simp (disch := decide) only [View.readCov_fill]
  exact pool_tiles _ k i j I J hI hJ

/-- One entry of the gradient. -/
def pool_entry (I : Fin 512) (J : Fin 1024) : EReal :=
  ∑ n : Fin 8192, A2 m c (ix2 n I) * A5 m c (ix2 n ⟨1024 + J.val, by omega⟩)

theorem pool_part (t : Fin cfg0.N) (h2 : t.val % 16 = 15) (k : Fin 4) (i : Fin 512) (j : Fin 256) (I : Fin 512) (J : Fin 1024)
    (hI : I.val = i.val) (hJ : J.val = 256 * k.val + j.val) :
    (outsAt0 m c t.val t.isLt).2.2.1 (ix3 k i j) = pool_entry m c I J := by
  have ht : t.val < 16 := lt_of_lt_of_eq t.isLt N_0
  rw [pool_stored m c t h2 k i j I J hI hJ, Pipeline.eq_sum_fin_of_reset_step_of_flush (fun n h => (outsAt0 m c n h).2.2.2.2.2.2.1 (ix2 I J)) 16 0
    (fun t => pool_term m c t I J) (fun t h => by rw [zero_add]; exact pool_scratch_A m c t h I J) (fun t h => pool_scratch_S m c t h I J) t h2, zero_add]
  unfold pool_term pool_entry
  refine Fin.sum_mul_add_congr fun s r h => ?_
  exact congr_arg₂ (· * ·) (iblk2 m c _ r I _ (by (try dsimp only); omega))
    (band1024 m c _ r J _ _ (by (try dsimp only); omega) rfl)

/-- The region's result array after the run: each chip's part of the gradient. -/
theorem out_pool (k : Fin 4) (i : Fin 512) (j : Fin 256) (I : Fin 512) (J : Fin 1024) (hI : I.val = i.val) (hJ : J.val = 256 * k.val + j.val) :
    (dats m 0 c).arrAt 8 cfg0.N (ix3 k i j) = pool_entry m c I J := by
  have key : (dats m 0 c).arrAt 8 cfg0.N = fun y => pool_entry m c
      ⟨(y 1).val, by have := (y 0).isLt; have := (y 1).isLt; simp at *; omega⟩
      ⟨256 * (y 0).val + (y 2).val, by have := (y 0).isLt; have := (y 2).isLt; simp at *; omega⟩ := by
    refine (dats m 0 c).arrAt_eq_of_covers 8 _ (by decide +kernel) fun t hf y => ?_
    obtain ⟨-, e6, e7, e8, e9⟩ := idx t
    rw [after0_8]
    have hy0 : (y 0).val < 4 := (y 0).isLt
    have hy1 : (y 1).val < 512 := (y 1).isLt
    have hy2 : (y 2).val < 256 := (y 2).isLt
    have key := pool_part m c t ((flush0_8 t).mp hf) ⟨(y 0).val, hy0⟩ ⟨(y 1).val, hy1⟩ ⟨(y 2).val, hy2⟩
    refine Eq.trans ?_ (key _ _ ?_ ?_)
    · blk_simp
      blk_ext
    · blk_simp [e8]; (try dsimp only); (try omega)
    · blk_simp [e8]; (try dsimp only); (try omega)
  rw [key]
  exact congr_arg₂ (pool_entry m c) (Fin.ext (by simpa using hI.symm)) (Fin.ext (by simpa using hJ.symm))

/-! ## The gradient of the memory attention's output weight -/

/-- One tile's product, first and later. -/
theorem mem_set (x : Vec Ideal S512x512 .bf16) (y : Vec Ideal S512x1024 .bf16) (i : Fin 512) (j : Fin 1024) : k0_pay3 x y (ix2 i j) = ∑ r : Fin 512, x (ix2 r i) * y (ix2 r j) := by
  unfold k0_pay3 k0_pay2
  pointwise

theorem mem_add (x : Vec Ideal S512x512 .bf16) (y : Vec Ideal S512x1024 .bf16) (a : Vec Ideal S512x1024 .f32) (i : Fin 512) (j : Fin 1024) :
    k0_pay4 x y a (ix2 i j) = a (ix2 i j) + ∑ r : Fin 512, x (ix2 r i) * y (ix2 r j) := by
  unfold k0_pay4 k0_pay2
  pointwise

theorem mem_store0 (v : Vec Ideal S512x256 .f32) (i : Fin 512) (j : Fin 256) : k0_pay13 v (ix3 0 i j) = v (ix2 i j) := by
  unfold k0_pay13; pointwise

theorem mem_store1 (v : Vec Ideal S512x256 .f32) (i : Fin 512) (j : Fin 256) : k0_pay18 v (ix3 0 i j) = v (ix2 i j) := by
  unfold k0_pay18; pointwise

theorem mem_store2 (v : Vec Ideal S512x256 .f32) (i : Fin 512) (j : Fin 256) : k0_pay5 v (ix3 0 i j) = v (ix2 i j) := by
  unfold k0_pay5; pointwise

theorem mem_store3 (v : Vec Ideal S512x256 .f32) (i : Fin 512) (j : Fin 256) : k0_pay9 v (ix3 0 i j) = v (ix2 i j) := by
  unfold k0_pay9; pointwise

/-- The last point's four stores lay the scratch out in the chips' parts. -/
theorem mem_tiles (Z : Vec Ideal S512x1024 .f32) (k : Fin 4) (i : Fin 512) (j : Fin 256) (I : Fin 512) (J : Fin 1024)
    (hI : I.val = i.val) (hJ : J.val = 256 * k.val + j.val) :
    View.canon (Val := Elt Ideal) (s := S4x512x256) (e := .bf16) [⟨Rect.unit ![3, 0, 0] ![1, 512, 256] inb_S4x512x256_S1x512x256_3_0_0, k0_pay9 (View.ld Z (Rect.unit ![0, 768] ![512, 256] inb_S512x1024_S512x256_0_768))⟩,
        ⟨Rect.unit ![2, 0, 0] ![1, 512, 256] inb_S4x512x256_S1x512x256_2_0_0, k0_pay5 (View.ld Z (Rect.unit ![0, 512] ![512, 256] inb_S512x1024_S512x256_0_512))⟩,
        ⟨Rect.unit ![1, 0, 0] ![1, 512, 256] inb_S4x512x256_S1x512x256_1_0_0, k0_pay18 (View.ld Z (Rect.unit ![0, 256] ![512, 256] inb_S512x1024_S512x256_0_256))⟩,
        ⟨Rect.unit ![0, 0, 0] ![1, 512, 256] inb_S4x512x256_S1x512x256_0_0_0, k0_pay13 (View.ld Z (Rect.unit ![0, 0] ![512, 256] inb_S512x1024_S512x256_0_0))⟩] (ix3 k i j) = Z (ix2 I J) := by
  canon_tiles x w
  · obtain rfl : k = 3 := Fin.ext (by simp at w0 ⊢; omega)
    rw [idx3 x 0 i j (by omega) (by simpa using w1.symm) (by simpa using w2.symm), mem_store3]
    exact ld2 Z 0 768 _ i j I J (by simpa using hI) (by rw [hJ]; simp)
  · obtain rfl : k = 2 := Fin.ext (by simp at w0 ⊢; omega)
    rw [idx3 x 0 i j (by omega) (by simpa using w1.symm) (by simpa using w2.symm), mem_store2]
    exact ld2 Z 0 512 _ i j I J (by simpa using hI) (by rw [hJ]; simp)
  · obtain rfl : k = 1 := Fin.ext (by simp at w0 ⊢; omega)
    rw [idx3 x 0 i j (by omega) (by simpa using w1.symm) (by simpa using w2.symm), mem_store1]
    exact ld2 Z 0 256 _ i j I J (by simpa using hI) (by rw [hJ]; simp)
  · obtain rfl : k = 0 := Fin.ext (by simp at w0 ⊢; omega)
    rw [idx3 x 0 i j (by omega) (by simpa using w1.symm) (by simpa using w2.symm), mem_store0]
    exact ld2 Z 0 0 _ i j I J (by simpa using hI) (by rw [hJ]; simp)

/-- A tile's contribution to an entry, over the blocks a point holds. -/
def mem_term (t : Fin cfg0.N) (i : Fin 512) (j : Fin 1024) : EReal := ∑ r : Fin 512, X3 m c t (ix2 r i) * (B2048 m c t) (ix2 r j)

/-- The first tile sets the scratch, -/
theorem mem_scratch_A (t : Fin cfg0.N) (h0 : t.val % 16 = 0) (i : Fin 512) (j : Fin 1024) :
    (outsAt0 m c t.val t.isLt).2.2.2.2.2.2.2 (ix2 i j) = mem_term m c t i j := by
  have ht : t.val < 16 := lt_of_lt_of_eq t.isLt N_0
  rw [outsAt0_A m c t h0 (by omega) h0 (by omega) h0 (by omega) h0 (by omega) (by omega), mem_term, ← mem_set]
  dsimp only
  frame_out

/-- a later one adds to it. -/
theorem mem_scratch_S (t : Fin cfg0.N) (h0 : ¬t.val % 16 = 0) (i : Fin 512) (j : Fin 1024) :
    (outsAt0 m c t.val t.isLt).2.2.2.2.2.2.2 (ix2 i j)
      = (outsAt0 m c (t.val - 1) (Nat.lt_of_le_of_lt (Nat.sub_le _ _) t.isLt)).2.2.2.2.2.2.2 (ix2 i j) + mem_term m c t i j := by
  have ht : t.val < 16 := lt_of_lt_of_eq t.isLt N_0
  rw [mem_term, ← mem_add]
  by_cases h2 : t.val % 16 = 15
  · rw [outsAt0_C m c t (by omega) (by omega) (by omega) (by omega) (by omega) (by omega) (by omega) (by omega) (by omega)]
    dsimp only
    frame_out
    exact congrArg (fun a => k0_pay4 _ _ a (ix2 i j)) (Memref.IsWhole.read_unread _ _)
  · rw [outsAt0_B m c t h0 (by omega) h0 (by omega) h0 (by omega) h0 (by omega) (by omega)]
    dsimp only
    frame_out
    exact congrArg (fun a => k0_pay4 _ _ a (ix2 i j)) (Memref.IsWhole.read_unread _ _)

/-- The last tile's point stores what the scratch then holds. -/
theorem mem_stored (t : Fin cfg0.N) (h2 : t.val % 16 = 15) (k : Fin 4) (i : Fin 512) (j : Fin 256) (I : Fin 512) (J : Fin 1024)
    (hI : I.val = i.val) (hJ : J.val = 256 * k.val + j.val) :
    (outsAt0 m c t.val t.isLt).2.2.2.1 (ix3 k i j) = (outsAt0 m c t.val t.isLt).2.2.2.2.2.2.2 (ix2 I J) := by
  have ht : t.val < 16 := lt_of_lt_of_eq t.isLt N_0
  rw [outsAt0_C m c t (by omega) (by omega) (by omega) (by omega) (by omega) (by omega) (by omega) (by omega) (by omega)]
  dsimp only
  frame_out
  simp (disch := decide) only [View.readCov_fill]
  exact mem_tiles _ k i j I J hI hJ

/-- One entry of the gradient. -/
def mem_entry (I : Fin 512) (J : Fin 1024) : EReal :=
  ∑ n : Fin 8192, A3 m c (ix2 n I) * A5 m c (ix2 n ⟨2048 + J.val, by omega⟩)

theorem mem_part (t : Fin cfg0.N) (h2 : t.val % 16 = 15) (k : Fin 4) (i : Fin 512) (j : Fin 256) (I : Fin 512) (J : Fin 1024)
    (hI : I.val = i.val) (hJ : J.val = 256 * k.val + j.val) :
    (outsAt0 m c t.val t.isLt).2.2.2.1 (ix3 k i j) = mem_entry m c I J := by
  have ht : t.val < 16 := lt_of_lt_of_eq t.isLt N_0
  rw [mem_stored m c t h2 k i j I J hI hJ, Pipeline.eq_sum_fin_of_reset_step_of_flush (fun n h => (outsAt0 m c n h).2.2.2.2.2.2.2 (ix2 I J)) 16 0
    (fun t => mem_term m c t I J) (fun t h => by rw [zero_add]; exact mem_scratch_A m c t h I J) (fun t h => mem_scratch_S m c t h I J) t h2, zero_add]
  unfold mem_term mem_entry
  refine Fin.sum_mul_add_congr fun s r h => ?_
  exact congr_arg₂ (· * ·) (iblk3 m c _ r I _ (by (try dsimp only); omega))
    (band2048 m c _ r J _ _ (by (try dsimp only); omega) rfl)

/-- The region's result array after the run: each chip's part of the gradient. -/
theorem out_mem (k : Fin 4) (i : Fin 512) (j : Fin 256) (I : Fin 512) (J : Fin 1024) (hI : I.val = i.val) (hJ : J.val = 256 * k.val + j.val) :
    (dats m 0 c).arrAt 9 cfg0.N (ix3 k i j) = mem_entry m c I J := by
  have key : (dats m 0 c).arrAt 9 cfg0.N = fun y => mem_entry m c
      ⟨(y 1).val, by have := (y 0).isLt; have := (y 1).isLt; simp at *; omega⟩
      ⟨256 * (y 0).val + (y 2).val, by have := (y 0).isLt; have := (y 2).isLt; simp at *; omega⟩ := by
    refine (dats m 0 c).arrAt_eq_of_covers 9 _ (by decide +kernel) fun t hf y => ?_
    obtain ⟨-, e6, e7, e8, e9⟩ := idx t
    rw [after0_9]
    have hy0 : (y 0).val < 4 := (y 0).isLt
    have hy1 : (y 1).val < 512 := (y 1).isLt
    have hy2 : (y 2).val < 256 := (y 2).isLt
    have key := mem_part m c t ((flush0_9 t).mp hf) ⟨(y 0).val, hy0⟩ ⟨(y 1).val, hy1⟩ ⟨(y 2).val, hy2⟩
    refine Eq.trans ?_ (key _ _ ?_ ?_)
    · blk_simp
      blk_ext
    · blk_simp [e9]; (try dsimp only); (try omega)
    · blk_simp [e9]; (try dsimp only); (try omega)
  rw [key]
  exact congr_arg₂ (mem_entry m c) (Fin.ext (by simpa using hI.symm)) (Fin.ext (by simpa using hJ.symm))

end Cert.Mix

end
-- ==== Proof.MixClaim.lean ====
/- The gradients of the mixer's four output weights: kernel and reference end with the same four arrays, with no condition on the
   arguments. -/
module

public import proofs.«01_k».proof.Defs
public import proofs.«01_k».proof.Proof.MixOut
public import proofs.«01_k».proof.Proof.Gen.Reference8Ideal.Read
public import proofs.«01_k».proof.Proof.Gen.Reference8Ideal.Run
public import Idealize.ShloMosaic.Adequacy
public import Idealize.ShloMosaic.Init

@[expose] public section

noncomputable section

namespace Cert.Mix

open Idealize.ShloMosaic

/-- The gradient of the merge's output weight as a function of the argument arrays. -/
@[irreducible] def out_grad (A : (⟨2, ![8192, 1024]⟩ : Shape).Idx → EReal) (B : (⟨2, ![8192, 1024]⟩ : Shape).Idx → EReal) :
    (⟨2, ![1024, 1024]⟩ : Shape).Idx → EReal := fun y => ∑ n : Fin 8192, A (ix2 n (y 0)) * B (ix2 n (y 1))

/-- The gradient of the recurrence's output weight as a function of the argument arrays. -/
@[irreducible] def ret_grad (A : (⟨2, ![8192, 1024]⟩ : Shape).Idx → EReal) (B : (⟨2, ![8192, 3072]⟩ : Shape).Idx → EReal) :
    (⟨2, ![1024, 1024]⟩ : Shape).Idx → EReal := fun y => ∑ n : Fin 8192, A (ix2 n (y 0)) * B (ix2 n ⟨0 + (y 1).val, by have : (y 1).val < 1024 := (y 1).isLt; omega⟩)

/-- The gradient of the pooling's output weight as a function of the argument arrays. -/
@[irreducible] def pool_grad (A : (⟨2, ![8192, 512]⟩ : Shape).Idx → EReal) (B : (⟨2, ![8192, 3072]⟩ : Shape).Idx → EReal) :
    (⟨2, ![512, 1024]⟩ : Shape).Idx → EReal := fun y => ∑ n : Fin 8192, A (ix2 n (y 0)) * B (ix2 n ⟨1024 + (y 1).val, by have : (y 1).val < 1024 := (y 1).isLt; omega⟩)

/-- The gradient of the memory attention's output weight as a function of the argument arrays. -/
@[irreducible] def mem_grad (A : (⟨2, ![8192, 512]⟩ : Shape).Idx → EReal) (B : (⟨2, ![8192, 3072]⟩ : Shape).Idx → EReal) :
    (⟨2, ![512, 1024]⟩ : Shape).Idx → EReal := fun y => ∑ n : Fin 8192, A (ix2 n (y 0)) * B (ix2 n ⟨2048 + (y 1).val, by have : (y 1).val < 1024 := (y 1).isLt; omega⟩)

section Ref

open Cert.Reference8Ideal Cert.Reference8Ideal.Read

/-- The reference's result: the same sum, its factors in the other order. -/
theorem ref_out (x0 : (⟨S8192x1024, .bf16⟩ : BufTy).Contents (Elt Ideal)) (x4 : (⟨S8192x1024, .f32⟩ : BufTy).Contents (Elt Ideal)) :
    val_main_v24 x0 x4 = out_grad x0 x4 := by
  funext y
  obtain ⟨I, J, rfl⟩ : ∃ (I : Fin 1024) (J : Fin 1024), y = ix2 I J := ⟨y 0, y 1, Loads.idx2 _ _ _ rfl rfl⟩
  unfold out_grad val_main_v24 val_main_v23 val_main_v22 val_main_v8
  pointwise
  exact Finset.sum_congr rfl fun n _ => mul_comm _ _

/-- The reference's result: the same sum, its factors in the other order. -/
theorem ref_ret (x1 : (⟨S8192x1024, .bf16⟩ : BufTy).Contents (Elt Ideal)) (x5 : (⟨S8192x3072, .bf16⟩ : BufTy).Contents (Elt Ideal)) :
    val_main_v25 x1 x5 = ret_grad x1 x5 := by
  funext y
  obtain ⟨I, J, rfl⟩ : ∃ (I : Fin 1024) (J : Fin 1024), y = ix2 I J := ⟨y 0, y 1, Loads.idx2 _ _ _ rfl rfl⟩
  unfold ret_grad val_main_v25 val_main_v21 val_main_v20 val_main_v10 val_main_v5 val_main_v4
  pointwise
  exact Finset.sum_congr rfl fun n _ => mul_comm _ _

/-- The reference's result: the same sum, its factors in the other order. -/
theorem ref_pool (x2 : (⟨S8192x512, .bf16⟩ : BufTy).Contents (Elt Ideal)) (x5 : (⟨S8192x3072, .bf16⟩ : BufTy).Contents (Elt Ideal)) :
    val_main_v26 x2 x5 = pool_grad x2 x5 := by
  funext y
  obtain ⟨I, J, rfl⟩ : ∃ (I : Fin 512) (J : Fin 1024), y = ix2 I J := ⟨y 0, y 1, Loads.idx2 _ _ _ rfl rfl⟩
  unfold pool_grad val_main_v26 val_main_v19 val_main_v18 val_main_v12 val_main_v6 val_main_v4
  pointwise
  exact Finset.sum_congr rfl fun n _ => mul_comm _ _

/-- The reference's result: the same sum, its factors in the other order. -/
theorem ref_mem (x3 : (⟨S8192x512, .bf16⟩ : BufTy).Contents (Elt Ideal)) (x5 : (⟨S8192x3072, .bf16⟩ : BufTy).Contents (Elt Ideal)) :
    val_main_v27 x3 x5 = mem_grad x3 x5 := by
  funext y
  obtain ⟨I, J, rfl⟩ : ∃ (I : Fin 512) (J : Fin 1024), y = ix2 I J := ⟨y 0, y 1, Loads.idx2 _ _ _ rfl rfl⟩
  unfold mem_grad val_main_v27 val_main_v17 val_main_v16 val_main_v14 val_main_v7 val_main_v4
  pointwise
  exact Finset.sum_congr rfl fun n _ => mul_comm _ _

end Ref

section Kernel

open Cert.Kernel8Ideal Cert.Kernel8Ideal.Gen Idealize.ShloMosaic.TcCoe Idealize.SL.Sem

variable (m : (ℓ : Loc nD τ sig) → Buf (Elt Ideal) ℓ) (c : Dev nD)

/-- The kernel's result, the chips' rows one under the other. -/
theorem out_laid : shapeCast _ (Value.reg_main_v0_0 m c) shapeCasts_S4x256x1024_S1024x1024 = out_grad (A0 m c) (A4 m c) := by
  funext y
  obtain ⟨I, J, rfl⟩ : ∃ (I : Fin 1024) (J : Fin 1024), y = ix2 I J := ⟨y 0, y 1, Loads.idx2 _ _ _ rfl rfl⟩
  unfold out_grad
  have hI := I.isLt
  refine Eq.trans ?_ (out_out m c ⟨I.val / 256, by omega⟩ ⟨I.val % 256, by omega⟩ J I J (by dsimp only; omega) rfl)
  exact Loads.castRows (a := 4) (b := 256) _ _ I J _ _ (by dsimp only; omega)

/-- The kernel's result, the chips' rows one under the other. -/
theorem ret_laid : shapeCast _ (Value.reg_main_v0_1 m c) shapeCasts_S4x256x1024_S1024x1024 = ret_grad (A1 m c) (A5 m c) := by
  funext y
  obtain ⟨I, J, rfl⟩ : ∃ (I : Fin 1024) (J : Fin 1024), y = ix2 I J := ⟨y 0, y 1, Loads.idx2 _ _ _ rfl rfl⟩
  unfold ret_grad
  have hI := I.isLt
  refine Eq.trans ?_ (out_ret m c ⟨I.val / 256, by omega⟩ ⟨I.val % 256, by omega⟩ J I J (by dsimp only; omega) rfl)
  exact Loads.castRows (a := 4) (b := 256) _ _ I J _ _ (by dsimp only; omega)

/-- The kernel's result, the chips' columns side by side. -/
theorem pool_laid : shapeCast _ (transpose S512x4x256 [1, 0, 2] (Value.reg_main_v0_2 m c) transposes_S4x512x256_S512x4x256_1_0_2)
    shapeCasts_S512x4x256_S512x1024 = pool_grad (A2 m c) (A5 m c) := by
  funext y
  obtain ⟨I, J, rfl⟩ : ∃ (I : Fin 512) (J : Fin 1024), y = ix2 I J := ⟨y 0, y 1, Loads.idx2 _ _ _ rfl rfl⟩
  unfold pool_grad
  have hJ := J.isLt
  refine Eq.trans ?_ (out_pool m c ⟨J.val / 256, by omega⟩ I ⟨J.val % 256, by omega⟩ I J rfl (by dsimp only; omega))
  unfold Value.reg_main_v0_2
  pointwise
  all_goals blk_ext

/-- The kernel's result, the chips' columns side by side. -/
theorem mem_laid : shapeCast _ (transpose S512x4x256 [1, 0, 2] (Value.reg_main_v0_3 m c) transposes_S4x512x256_S512x4x256_1_0_2)
    shapeCasts_S512x4x256_S512x1024 = mem_grad (A3 m c) (A5 m c) := by
  funext y
  obtain ⟨I, J, rfl⟩ : ∃ (I : Fin 512) (J : Fin 1024), y = ix2 I J := ⟨y 0, y 1, Loads.idx2 _ _ _ rfl rfl⟩
  unfold mem_grad
  have hJ := J.isLt
  refine Eq.trans ?_ (out_mem m c ⟨J.val / 256, by omega⟩ I ⟨J.val % 256, by omega⟩ I J rfl (by dsimp only; omega))
  unfold Value.reg_main_v0_3
  pointwise
  all_goals blk_ext

/-- The kernel runs and ends with those four gradients, its arguments unchanged. -/
theorem run (g : Dev nD → PrngReg) :
    θ_run defs (onTc (τ := τ) (main (F := Ideal))) ⟨m, fun _ => 0, g⟩ fun r => ∀ c : Dev nD,
      r.2.mem ((c.tc : Thread nD τ).loc main_v1) = out_grad (A0 m c) (A4 m c)
      ∧ r.2.mem ((c.tc : Thread nD τ).loc main_v2) = ret_grad (A1 m c) (A5 m c)
      ∧ r.2.mem ((c.tc : Thread nD τ).loc main_v4) = pool_grad (A2 m c) (A5 m c)
      ∧ r.2.mem ((c.tc : Thread nD τ).loc main_v6) = mem_grad (A3 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => ⟨(h c).1.trans (out_laid m c), (h c).2.1.trans (ret_laid m c), (h c).2.2.1.trans (pool_laid m c),
    (h c).2.2.2.1.trans (mem_laid m c), (h c).2.2.2.2⟩) (Value.run m g)

end Kernel

/-- The reference runs and leaves its arguments as they were. -/
theorem frame_reference : quiescent_Reference8Ideal := fun m g _ =>
  (θ_run _ _ _).mono (fun r h => ⟨fun c => (h c).2.2.2.2, sem_eq_zero_of_no_sems (by decide) r.2⟩)
    (Cert.Reference8Ideal.Value.run m g)

/-- Kernel and reference end with equal results. -/
theorem value : algebraic_Kernel8Ideal_Reference8Ideal := by
  pair_intro
  · run_from run m g
  · refine θ_run_mono (Cert.Reference8Ideal.Value.run m' g') fun r hr c => ?_
    obtain ⟨h0, h1, h2, h3, h4⟩ := hr c
    obtain ⟨a0, a1, a2, a3, a4, a5⟩ := hagree c
    refine ⟨h0.trans ?_, h1.trans ?_, h2.trans ?_, h3.trans ?_, h4⟩
    · rw [a0, a4]
      exact ref_out _ _
    · rw [a1, a5]
      exact ref_ret _ _
    · rw [a2, a5]
      exact ref_pool _ _
    · rw [a3, a5]
      exact ref_mem _ _

end Cert.Mix

end
-- ==== Proof.InpOut.lean ====
/- The norm and the input projection, kernel's side: the rows of the input normed and scaled, and their product with the weight. With
   `H i = normRow (X i) G`, the results at row `i` are `∑ e, H i e * W e j` and `H i e`. The grid walks 16 tiles of 512 rows. -/
module

public import proofs.«01_k».proof.Proof.Gen.Kernel9Ideal.Value
public import proofs.«01_k».proof.Proof.Loads
public import proofs.«01_k».proof.Proof.RmsMath

@[expose] public section

noncomputable section

namespace Cert.Inp

open Cert.Loads Cert.Rms Idealize.ShloMosaic Idealize.ShloMosaic.TcCoe Idealize.SL.Sem Cert.Kernel9Ideal Cert.Kernel9Ideal.Gen

/-- The product and the normed rows as functions of the three arrays. -/
def proj (X : (⟨2, ![8192, 1024]⟩ : Shape).Idx → EReal) (G : (⟨1, ![1024]⟩ : Shape).Idx → EReal)
    (W : (⟨2, ![1024, 7168]⟩ : Shape).Idx → EReal) : (⟨2, ![8192, 7168]⟩ : Shape).Idx → EReal := fun i =>
  ∑ e : Fin 1024, normRow (fun e => X (ix2 (i 0) e)) (fun e => G (ix1 e)) e * W (ix2 e (i 1))
def normed (X : (⟨2, ![8192, 1024]⟩ : Shape).Idx → EReal) (G : (⟨1, ![1024]⟩ : Shape).Idx → EReal) :
    (⟨2, ![8192, 1024]⟩ : Shape).Idx → EReal := fun i => normRow (fun e => X (ix2 (i 0) e)) (fun e => G (ix1 e)) (i 1)

/-- A block's normed rows. -/
theorem normed_apply (x : Vec Ideal S512x1024 .f32) (g : Vec Ideal S1x1024 .f32) (r : Fin 512) (e : Fin 1024) :
    k0_pay2 x g (ix2 r e) = normRow (fun e => x (ix2 r e)) (fun e => g (ix2 0 e)) e := by
  unfold k0_pay2
  pointwise
  rfl

/-- The same, of the loads of whole blocks. -/
theorem normed_loads (x0 : Vec Ideal S512x1024 .f32) (x1 : Vec Ideal S1x1024 .f32) (r : Fin 512) (e : Fin 1024) :
    k0_pay2 (View.ld x0 (Rect.unit ![0, 0] ![512, 1024] inb_S512x1024_S512x1024_0_0))
        (View.ld x1 (Rect.unit ![0, 0] ![1, 1024] inb_S1x1024_S1x1024_0_0)) (ix2 r e)
      = normRow (fun e => x0 (ix2 r e)) (fun e => x1 (ix2 0 e)) e := by
  rw [normed_apply]
  exact congr_arg₂ (fun x g => normRow x g e) (funext fun e => ld2 x0 0 0 _ r e r e (by simp) (by simp))
    (funext fun e => ld2 x1 0 0 _ 0 e 0 e (by simp) (by simp))

/-- One chip's columns of a block: the normed rows' product with its columns of the weight. -/
theorem part_apply (h : FVec Ideal S512x1024 .bf16) (w : Vec Ideal S1x1024x1792 .bf16) (r : Fin 512) (j : Fin 1792) :
    k0_pay1 h w (ix2 r j) = ∑ e, h (ix2 r e) * w (ix3 0 e j) := by
  unfold k0_pay1
  pointwise

theorem part2 (x : Vec Ideal S512x1024 .f32) (g : Vec Ideal S1x1024 .f32) (w : Vec Ideal S1x1024x1792 .bf16) :
    k0_pay5 x g w = k0_pay1 (k0_pay2 x g) w := rfl
theorem part1 (x : Vec Ideal S512x1024 .f32) (g : Vec Ideal S1x1024 .f32) (w : Vec Ideal S1x1024x1792 .bf16) :
    k0_pay4 x g w = k0_pay1 (k0_pay2 x g) w := rfl
theorem part0 (x : Vec Ideal S512x1024 .f32) (g : Vec Ideal S1x1024 .f32) (w : Vec Ideal S1x1024x1792 .bf16) :
    k0_pay3 x g w = k0_pay1 (k0_pay2 x g) w := rfl

/-- What a grid point leaves in its two blocks. -/
theorem out3 (x0 : Vec Ideal S512x1024 .f32) (x1 : Vec Ideal S1x1024 .f32) (x2 : Vec Ideal S4x1024x1792 .bf16)
    (r : Fin 512) (k : Fin 4) (j : Fin 1792) (J : Fin 7168) (hJ : J.val = 1792 * k.val + j.val) :
    out0_3 x0 x1 x2 (ix2 r J) = ∑ e, normRow (fun e => x0 (ix2 r e)) (fun e => x1 (ix2 0 e)) e * x2 (ix3 k e j) := by
  unfold out0_3
  canon_tiles x w
  · obtain rfl : k = 3 := Fin.ext (by simp at w1 ⊢; omega)
    rw [idx2 x r j (by simpa using w0.symm) (by simp at w1 ⊢; omega), part_apply]
    exact Finset.sum_congr rfl fun e _ => congr_arg₂ (· * ·) (normed_loads x0 x1 r e)
      (ld3 x2 3 0 0 _ 0 e j 3 e j (by simp) (by simp) (by simp))
  · obtain rfl : k = 2 := Fin.ext (by simp at w1 ⊢; omega)
    rw [idx2 x r j (by simpa using w0.symm) (by simp at w1 ⊢; omega), part2, part_apply]
    exact Finset.sum_congr rfl fun e _ => congr_arg₂ (· * ·) (normed_loads x0 x1 r e)
      (ld3 x2 2 0 0 _ 0 e j 2 e j (by simp) (by simp) (by simp))
  · obtain rfl : k = 1 := Fin.ext (by simp at w1 ⊢; omega)
    rw [idx2 x r j (by simpa using w0.symm) (by simp at w1 ⊢; omega), part1, part_apply]
    exact Finset.sum_congr rfl fun e _ => congr_arg₂ (· * ·) (normed_loads x0 x1 r e)
      (ld3 x2 1 0 0 _ 0 e j 1 e j (by simp) (by simp) (by simp))
  · obtain rfl : k = 0 := Fin.ext (by simp at w1 ⊢; omega)
    rw [idx2 x r j (by simpa using w0.symm) (by simp at w1 ⊢; omega), part0, part_apply]
    exact Finset.sum_congr rfl fun e _ => congr_arg₂ (· * ·) (normed_loads x0 x1 r e)
      (ld3 x2 0 0 0 _ 0 e j 0 e j (by simp) (by simp) (by simp))

theorem out4 (x0 : Vec Ideal S512x1024 .f32) (x1 : Vec Ideal S1x1024 .f32) (x2 : Vec Ideal S4x1024x1792 .bf16)
    (r : Fin 512) (e : Fin 1024) :
    out0_4 x0 x1 x2 (ix2 r e) = normRow (fun e => x0 (ix2 r e)) (fun e => x1 (ix2 0 e)) e := by
  unfold out0_4
  canon_tiles x w
  rw [idx2 x r e (by simpa using w0.symm) (by simp at w1 ⊢; omega)]
  exact normed_loads x0 x1 r e

variable (m : (ℓ : Loc nD τ sig) → Buf (Elt Ideal) ℓ) (c : Dev nD)

/-- The argument arrays as launched. -/
abbrev A0 : (⟨2, ![8192, 1024]⟩ : Shape).Idx → EReal := m ((c : Thread nD τ).loc main_arg0)
abbrev A1 : (⟨1, ![1024]⟩ : Shape).Idx → EReal := m ((c : Thread nD τ).loc main_arg1)
abbrev A2 : (⟨2, ![1024, 7168]⟩ : Shape).Idx → EReal := m ((c : Thread nD τ).loc main_arg2)

/-- The scale and the weight as the host lays them out: one row, and one part of the columns per chip. -/
theorem entry_g (e : Fin 1024) : V m c main_v0 (ix2 0 e) = A1 m c (ix1 e) := by
  unfold V
  after_results
  dsimp only
  pointwise
  all_goals blk_ext

theorem entry_w (k : Fin 4) (e : Fin 1024) (j : Fin 1792) (J : Fin 7168) (hJ : J.val = 1792 * k.val + j.val) :
    V m c main_v3 (ix3 k e j) = A2 m c (ix2 e J) := by
  unfold V
  after_results
  dsimp only
  pointwise
  blk_ext

/-- Where each window's block of a point lies. -/
theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![0, 0, 0]
    ∧ win0_3.index t = ![t.val, 0] ∧ win0_4.index t = ![t.val, 0])

theorem iblk0 (t : Fin cfg0.N) (r : Fin 512) (j : Fin 1024) (R : Fin 8192) (hR : R.val = 512 * t.val + r.val) :
    iblk m c 0 t (ix2 r j) = A0 m c (ix2 R j) := by
  obtain ⟨e0, -⟩ := idx t
  blk_ext [iblk, V, e0]

theorem iblk1 (t : Fin cfg0.N) (e : Fin 1024) : iblk m c 1 t (ix2 0 e) = A1 m c (ix1 e) := by
  obtain ⟨-, e0, -⟩ := idx t
  rw [← entry_g m c e]
  blk_ext [iblk, e0]

theorem iblk2 (t : Fin cfg0.N) (k : Fin 4) (e : Fin 1024) (j : Fin 1792) (J : Fin 7168) (hJ : J.val = 1792 * k.val + j.val) :
    iblk m c 2 t (ix3 k e j) = A2 m c (ix2 e J) := by
  obtain ⟨-, -, e0, -⟩ := idx t
  rw [← entry_w m c k e j J hJ]
  blk_ext [iblk, e0]

/-- The result arrays after the run. -/
theorem out_proj : (dats m 0 c).arrAt 3 cfg0.N = proj (A0 m c) (A1 m c) (A2 m c) := by
  refine (dats m 0 c).arrAt_eq_of_covers 3 _ (by decide +kernel) fun t hf y => ?_
  obtain ⟨-, -, -, e3, -⟩ := idx t
  rw [after0_3]
  have hy0 : (y 0).val < 512 := (y 0).isLt
  have hy1 : (y 1).val < 7168 := (y 1).isLt
  have ht : t.val < 16 := lt_of_lt_of_eq t.isLt N_0
  have key := out3 (iblk m c 0 t) (iblk m c 1 t) (iblk m c 2 t) ⟨(y 0).val, hy0⟩ ⟨(y 1).val / 1792, by omega⟩
    ⟨(y 1).val % 1792, by omega⟩ ⟨(y 1).val, hy1⟩ (by dsimp only; omega)
  have hi : (((cfg0.win 3).blk t).view.emb y) = ix2 (⟨512 * t.val + (y 0).val, by omega⟩ : Fin 8192) (⟨(y 1).val, hy1⟩ : Fin 7168) := by
    refine idx2 _ _ _ ?_ ?_ <;> blk_simp [e3] <;> (try dsimp only) <;> omega
  rw [hi, proj]
  refine Eq.trans ?_ (key.trans ?_)
  · blk_simp
    exact congrArg (out0_3 (iblk m c 0 t) (iblk m c 1 t) (iblk m c 2 t)) (idx2 _ _ _ rfl rfl)
  · refine Finset.sum_congr rfl fun e _ => congr_arg₂ (· * ·) (congr_arg₂ (fun x g => normRow x g e)
      (funext fun e => iblk0 m c t _ e _ rfl) (funext fun e => iblk1 m c t e)) (iblk2 m c t _ e _ _ ?_)
    simp
    omega

theorem out_normed : (dats m 0 c).arrAt 4 cfg0.N = normed (A0 m c) (A1 m c) := by
  refine (dats m 0 c).arrAt_eq_of_covers 4 _ (by decide +kernel) fun t hf y => ?_
  obtain ⟨-, -, -, -, e4⟩ := idx t
  rw [after0_4]
  have hy0 : (y 0).val < 512 := (y 0).isLt
  have hy1 : (y 1).val < 1024 := (y 1).isLt
  have ht : t.val < 16 := lt_of_lt_of_eq t.isLt N_0
  have key := out4 (iblk m c 0 t) (iblk m c 1 t) (iblk m c 2 t) ⟨(y 0).val, hy0⟩ ⟨(y 1).val, hy1⟩
  have hi : (((cfg0.win 4).blk t).view.emb y) = ix2 (⟨512 * t.val + (y 0).val, by omega⟩ : Fin 8192) (⟨(y 1).val, hy1⟩ : Fin 1024) := by
    refine idx2 _ _ _ ?_ ?_ <;> blk_simp [e4] <;> (try dsimp only) <;> omega
  rw [hi, normed]
  refine Eq.trans ?_ (key.trans ?_)
  · blk_simp
    blk_ext
  · exact congr_arg₂ (fun x g => normRow x g _) (funext fun e => iblk0 m c t _ e _ rfl) (funext fun e => iblk1 m c t e)

end Cert.Inp

end
-- ==== Proof.InpClaim.lean ====
/- The norm and the input projection: kernel and reference end with the same two arrays, with no condition on the arguments. -/
module

public import proofs.«01_k».proof.Defs
public import proofs.«01_k».proof.Proof.InpOut
public import proofs.«01_k».proof.Proof.Gen.Reference9Ideal.Read
public import proofs.«01_k».proof.Proof.Gen.Reference9Ideal.Run
public import Idealize.ShloMosaic.Adequacy
public import Idealize.ShloMosaic.Init

@[expose] public section

noncomputable section

namespace Cert.Inp

open Idealize.ShloMosaic Cert.Rms

section Ref

open Cert.Reference9Ideal Cert.Reference9Ideal.Read

variable (x0 : (⟨S8192x1024, .f32⟩ : BufTy).Contents (Elt Ideal)) (x1 : (⟨S1024, .f32⟩ : BufTy).Contents (Elt Ideal))
  (x2 : (⟨S1024x7168, .f32⟩ : BufTy).Contents (Elt Ideal))

theorem ref_rstd (R : Fin 8192) : val_main_v7 x0 (ix2 R 0) = rstd fun e => x0 (ix2 R e) := by
  unfold val_main_v7 val_main_v6 val_main_v5 val_main_cst_1 val_main_v4 val_main_v3 val_main_cst_0 val_main_v2 val_main_v1
    val_main_cst val_main_v0
  pointwise
  rfl

theorem ref_row (R : Fin 8192) (e : Fin 1024) :
    val_main_v12 x0 x1 (ix2 R e) = normRow (fun e => x0 (ix2 R e)) (fun e => x1 (ix1 e)) e := by
  rw [normRow, ← ref_rstd]
  unfold val_main_v12 val_main_v11 val_main_v10 val_main_v9 val_main_v8
  pointwise

/-- The reference's results. -/
theorem ref_proj : val_main_v14 x0 x1 x2 = proj x0 x1 x2 := by
  funext i
  obtain ⟨R, j, rfl⟩ : ∃ (R : Fin 8192) (j : Fin 7168), i = ix2 R j := ⟨i 0, i 1, Loads.idx2 _ _ _ rfl rfl⟩
  refine Eq.trans ?_ (Finset.sum_congr rfl fun e _ => congrArg (· * x2 (ix2 e j)) (ref_row x0 x1 R e))
  unfold val_main_v14 val_main_v13
  pointwise

theorem ref_normed : val_main_v15 x0 x1 = normed x0 x1 := by
  funext i
  obtain ⟨R, e, rfl⟩ : ∃ (R : Fin 8192) (e : Fin 1024), i = ix2 R e := ⟨i 0, i 1, Loads.idx2 _ _ _ rfl rfl⟩
  refine Eq.trans ?_ (ref_row x0 x1 R e)
  unfold val_main_v15
  pointwise

end Ref

/-- The reference runs and leaves its arguments as they were. -/
theorem frame_reference : quiescent_Reference9Ideal := fun m g _ =>
  (θ_run _ _ _).mono (fun r h => ⟨fun c => (h c).2.2, sem_eq_zero_of_no_sems (by decide) r.2⟩)
    (Cert.Reference9Ideal.Value.run m g)

/-- Kernel and reference end with equal results. -/
theorem value : algebraic_Kernel9Ideal_Reference9Ideal := by
  pair_intro
  · run_from Cert.Kernel9Ideal.Value.run_blocks m g
  · refine θ_run_mono (Cert.Reference9Ideal.Value.run m' g') fun r hr c => ?_
    obtain ⟨h0, h1, h2⟩ := hr c
    obtain ⟨a0, a1, a2⟩ := hagree c
    refine ⟨h0.trans ?_, h1.trans ?_, h2⟩
    · rw [a0, a1, a2, Cert.Reference9Ideal.Read.val_main_v14_eq]
      exact (ref_proj _ _ _).trans (out_proj m c).symm
    · rw [a0, a1, Cert.Reference9Ideal.Read.val_main_v15_eq]
      exact (ref_normed _ _).trans (out_normed m c).symm

end Cert.Inp

end
-- ==== Proof.FfpOut.lean ====
/- The norm and the feed-forward layer's first product, kernel's side: the rows of the input normed and scaled, and their product with the weight. With
   `H i = normRow (X i) G`, the results at row `i` are `∑ e, H i e * W e j` and `H i e`. The grid walks 16 tiles of 512 rows. -/
module

public import proofs.«01_k».proof.Proof.Gen.Kernel10Ideal.Value
public import proofs.«01_k».proof.Proof.Loads
public import proofs.«01_k».proof.Proof.RmsMath

@[expose] public section

noncomputable section

namespace Cert.Ffp

open Cert.Loads Cert.Rms Idealize.ShloMosaic Idealize.ShloMosaic.TcCoe Idealize.SL.Sem Cert.Kernel10Ideal Cert.Kernel10Ideal.Gen

/-- The product and the normed rows as functions of the three arrays. -/
def proj (X : (⟨2, ![8192, 1024]⟩ : Shape).Idx → EReal) (G : (⟨1, ![1024]⟩ : Shape).Idx → EReal)
    (W : (⟨2, ![1024, 4096]⟩ : Shape).Idx → EReal) : (⟨2, ![8192, 4096]⟩ : Shape).Idx → EReal := fun i =>
  ∑ e : Fin 1024, normRow (fun e => X (ix2 (i 0) e)) (fun e => G (ix1 e)) e * W (ix2 e (i 1))
def normed (X : (⟨2, ![8192, 1024]⟩ : Shape).Idx → EReal) (G : (⟨1, ![1024]⟩ : Shape).Idx → EReal) :
    (⟨2, ![8192, 1024]⟩ : Shape).Idx → EReal := fun i => normRow (fun e => X (ix2 (i 0) e)) (fun e => G (ix1 e)) (i 1)

/-- A block's normed rows. -/
theorem normed_apply (x : Vec Ideal S512x1024 .f32) (g : Vec Ideal S1x1024 .f32) (r : Fin 512) (e : Fin 1024) :
    k0_pay2 x g (ix2 r e) = normRow (fun e => x (ix2 r e)) (fun e => g (ix2 0 e)) e := by
  unfold k0_pay2
  pointwise
  rfl

/-- The same, of the loads of whole blocks. -/
theorem normed_loads (x0 : Vec Ideal S512x1024 .f32) (x1 : Vec Ideal S1x1024 .f32) (r : Fin 512) (e : Fin 1024) :
    k0_pay2 (View.ld x0 (Rect.unit ![0, 0] ![512, 1024] inb_S512x1024_S512x1024_0_0))
        (View.ld x1 (Rect.unit ![0, 0] ![1, 1024] inb_S1x1024_S1x1024_0_0)) (ix2 r e)
      = normRow (fun e => x0 (ix2 r e)) (fun e => x1 (ix2 0 e)) e := by
  rw [normed_apply]
  exact congr_arg₂ (fun x g => normRow x g e) (funext fun e => ld2 x0 0 0 _ r e r e (by simp) (by simp))
    (funext fun e => ld2 x1 0 0 _ 0 e 0 e (by simp) (by simp))

/-- One chip's columns of a block: the normed rows' product with its columns of the weight. -/
theorem part_apply (h : FVec Ideal S512x1024 .bf16) (w : Vec Ideal S1x1024x1024 .bf16) (r : Fin 512) (j : Fin 1024) :
    k0_pay1 h w (ix2 r j) = ∑ e, h (ix2 r e) * w (ix3 0 e j) := by
  unfold k0_pay1
  pointwise

theorem part2 (x : Vec Ideal S512x1024 .f32) (g : Vec Ideal S1x1024 .f32) (w : Vec Ideal S1x1024x1024 .bf16) :
    k0_pay5 x g w = k0_pay1 (k0_pay2 x g) w := rfl
theorem part1 (x : Vec Ideal S512x1024 .f32) (g : Vec Ideal S1x1024 .f32) (w : Vec Ideal S1x1024x1024 .bf16) :
    k0_pay4 x g w = k0_pay1 (k0_pay2 x g) w := rfl
theorem part0 (x : Vec Ideal S512x1024 .f32) (g : Vec Ideal S1x1024 .f32) (w : Vec Ideal S1x1024x1024 .bf16) :
    k0_pay3 x g w = k0_pay1 (k0_pay2 x g) w := rfl

/-- What a grid point leaves in its two blocks. -/
theorem out3 (x0 : Vec Ideal S512x1024 .f32) (x1 : Vec Ideal S1x1024 .f32) (x2 : Vec Ideal S4x1024x1024 .bf16)
    (r : Fin 512) (k : Fin 4) (j : Fin 1024) (J : Fin 4096) (hJ : J.val = 1024 * k.val + j.val) :
    out0_3 x0 x1 x2 (ix2 r J) = ∑ e, normRow (fun e => x0 (ix2 r e)) (fun e => x1 (ix2 0 e)) e * x2 (ix3 k e j) := by
  unfold out0_3
  canon_tiles x w
  · obtain rfl : k = 3 := Fin.ext (by simp at w1 ⊢; omega)
    rw [idx2 x r j (by simpa using w0.symm) (by simp at w1 ⊢; omega), part_apply]
    exact Finset.sum_congr rfl fun e _ => congr_arg₂ (· * ·) (normed_loads x0 x1 r e)
      (ld3 x2 3 0 0 _ 0 e j 3 e j (by simp) (by simp) (by simp))
  · obtain rfl : k = 2 := Fin.ext (by simp at w1 ⊢; omega)
    rw [idx2 x r j (by simpa using w0.symm) (by simp at w1 ⊢; omega), part2, part_apply]
    exact Finset.sum_congr rfl fun e _ => congr_arg₂ (· * ·) (normed_loads x0 x1 r e)
      (ld3 x2 2 0 0 _ 0 e j 2 e j (by simp) (by simp) (by simp))
  · obtain rfl : k = 1 := Fin.ext (by simp at w1 ⊢; omega)
    rw [idx2 x r j (by simpa using w0.symm) (by simp at w1 ⊢; omega), part1, part_apply]
    exact Finset.sum_congr rfl fun e _ => congr_arg₂ (· * ·) (normed_loads x0 x1 r e)
      (ld3 x2 1 0 0 _ 0 e j 1 e j (by simp) (by simp) (by simp))
  · obtain rfl : k = 0 := Fin.ext (by simp at w1 ⊢; omega)
    rw [idx2 x r j (by simpa using w0.symm) (by simp at w1 ⊢; omega), part0, part_apply]
    exact Finset.sum_congr rfl fun e _ => congr_arg₂ (· * ·) (normed_loads x0 x1 r e)
      (ld3 x2 0 0 0 _ 0 e j 0 e j (by simp) (by simp) (by simp))

theorem out4 (x0 : Vec Ideal S512x1024 .f32) (x1 : Vec Ideal S1x1024 .f32) (x2 : Vec Ideal S4x1024x1024 .bf16)
    (r : Fin 512) (e : Fin 1024) :
    out0_4 x0 x1 x2 (ix2 r e) = normRow (fun e => x0 (ix2 r e)) (fun e => x1 (ix2 0 e)) e := by
  unfold out0_4
  canon_tiles x w
  rw [idx2 x r e (by simpa using w0.symm) (by simp at w1 ⊢; omega)]
  exact normed_loads x0 x1 r e

variable (m : (ℓ : Loc nD τ sig) → Buf (Elt Ideal) ℓ) (c : Dev nD)

/-- The argument arrays as launched. -/
abbrev A0 : (⟨2, ![8192, 1024]⟩ : Shape).Idx → EReal := m ((c : Thread nD τ).loc main_arg0)
abbrev A1 : (⟨1, ![1024]⟩ : Shape).Idx → EReal := m ((c : Thread nD τ).loc main_arg1)
abbrev A2 : (⟨2, ![1024, 4096]⟩ : Shape).Idx → EReal := m ((c : Thread nD τ).loc main_arg2)

/-- The scale and the weight as the host lays them out: one row, and one part of the columns per chip. -/
theorem entry_g (e : Fin 1024) : V m c main_v0 (ix2 0 e) = A1 m c (ix1 e) := by
  unfold V
  after_results
  dsimp only
  pointwise
  all_goals blk_ext

theorem entry_w (k : Fin 4) (e : Fin 1024) (j : Fin 1024) (J : Fin 4096) (hJ : J.val = 1024 * k.val + j.val) :
    V m c main_v3 (ix3 k e j) = A2 m c (ix2 e J) := by
  unfold V
  after_results
  dsimp only
  pointwise
  blk_ext

/-- Where each window's block of a point lies. -/
theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![0, 0, 0]
    ∧ win0_3.index t = ![t.val, 0] ∧ win0_4.index t = ![t.val, 0])

theorem iblk0 (t : Fin cfg0.N) (r : Fin 512) (j : Fin 1024) (R : Fin 8192) (hR : R.val = 512 * t.val + r.val) :
    iblk m c 0 t (ix2 r j) = A0 m c (ix2 R j) := by
  obtain ⟨e0, -⟩ := idx t
  blk_ext [iblk, V, e0]

theorem iblk1 (t : Fin cfg0.N) (e : Fin 1024) : iblk m c 1 t (ix2 0 e) = A1 m c (ix1 e) := by
  obtain ⟨-, e0, -⟩ := idx t
  rw [← entry_g m c e]
  blk_ext [iblk, e0]

theorem iblk2 (t : Fin cfg0.N) (k : Fin 4) (e : Fin 1024) (j : Fin 1024) (J : Fin 4096) (hJ : J.val = 1024 * k.val + j.val) :
    iblk m c 2 t (ix3 k e j) = A2 m c (ix2 e J) := by
  obtain ⟨-, -, e0, -⟩ := idx t
  rw [← entry_w m c k e j J hJ]
  blk_ext [iblk, e0]

/-- The result arrays after the run. -/
theorem out_proj : (dats m 0 c).arrAt 3 cfg0.N = proj (A0 m c) (A1 m c) (A2 m c) := by
  refine (dats m 0 c).arrAt_eq_of_covers 3 _ (by decide +kernel) fun t hf y => ?_
  obtain ⟨-, -, -, e3, -⟩ := idx t
  rw [after0_3]
  have hy0 : (y 0).val < 512 := (y 0).isLt
  have hy1 : (y 1).val < 4096 := (y 1).isLt
  have ht : t.val < 16 := lt_of_lt_of_eq t.isLt N_0
  have key := out3 (iblk m c 0 t) (iblk m c 1 t) (iblk m c 2 t) ⟨(y 0).val, hy0⟩ ⟨(y 1).val / 1024, by omega⟩
    ⟨(y 1).val % 1024, by omega⟩ ⟨(y 1).val, hy1⟩ (by dsimp only; omega)
  have hi : (((cfg0.win 3).blk t).view.emb y) = ix2 (⟨512 * t.val + (y 0).val, by omega⟩ : Fin 8192) (⟨(y 1).val, hy1⟩ : Fin 4096) := by
    refine idx2 _ _ _ ?_ ?_ <;> blk_simp [e3] <;> (try dsimp only) <;> omega
  rw [hi, proj]
  refine Eq.trans ?_ (key.trans ?_)
  · blk_simp
    blk_ext
  · refine Finset.sum_congr rfl fun e _ => congr_arg₂ (· * ·) (congr_arg₂ (fun x g => normRow x g e)
      (funext fun e => iblk0 m c t _ e _ rfl) (funext fun e => iblk1 m c t e)) (iblk2 m c t _ e _ _ ?_)
    simp
    omega

theorem out_normed : (dats m 0 c).arrAt 4 cfg0.N = normed (A0 m c) (A1 m c) := by
  refine (dats m 0 c).arrAt_eq_of_covers 4 _ (by decide +kernel) fun t hf y => ?_
  obtain ⟨-, -, -, -, e4⟩ := idx t
  rw [after0_4]
  have hy0 : (y 0).val < 512 := (y 0).isLt
  have hy1 : (y 1).val < 1024 := (y 1).isLt
  have ht : t.val < 16 := lt_of_lt_of_eq t.isLt N_0
  have key := out4 (iblk m c 0 t) (iblk m c 1 t) (iblk m c 2 t) ⟨(y 0).val, hy0⟩ ⟨(y 1).val, hy1⟩
  have hi : (((cfg0.win 4).blk t).view.emb y) = ix2 (⟨512 * t.val + (y 0).val, by omega⟩ : Fin 8192) (⟨(y 1).val, hy1⟩ : Fin 1024) := by
    refine idx2 _ _ _ ?_ ?_ <;> blk_simp [e4] <;> (try dsimp only) <;> omega
  rw [hi, normed]
  refine Eq.trans ?_ (key.trans ?_)
  · blk_simp
    blk_ext
  · exact congr_arg₂ (fun x g => normRow x g _) (funext fun e => iblk0 m c t _ e _ rfl) (funext fun e => iblk1 m c t e)

end Cert.Ffp

end
-- ==== Proof.FfpClaim.lean ====
/- The norm and the feed-forward layer's first product: kernel and reference end with the same two arrays, with no condition on the arguments. -/
module

public import proofs.«01_k».proof.Defs
public import proofs.«01_k».proof.Proof.FfpOut
public import proofs.«01_k».proof.Proof.Gen.Reference10Ideal.Read
public import proofs.«01_k».proof.Proof.Gen.Reference10Ideal.Run
public import Idealize.ShloMosaic.Adequacy
public import Idealize.ShloMosaic.Init

@[expose] public section

noncomputable section

namespace Cert.Ffp

open Idealize.ShloMosaic Cert.Rms

section Ref

open Cert.Reference10Ideal Cert.Reference10Ideal.Read

variable (x0 : (⟨S8192x1024, .f32⟩ : BufTy).Contents (Elt Ideal)) (x1 : (⟨S1024, .f32⟩ : BufTy).Contents (Elt Ideal))
  (x2 : (⟨S1024x4096, .f32⟩ : BufTy).Contents (Elt Ideal))

theorem ref_rstd (R : Fin 8192) : val_main_v7 x0 (ix2 R 0) = rstd fun e => x0 (ix2 R e) := by
  unfold val_main_v7 val_main_v6 val_main_v5 val_main_cst_1 val_main_v4 val_main_v3 val_main_cst_0 val_main_v2 val_main_v1
    val_main_cst val_main_v0
  pointwise
  rfl

theorem ref_row (R : Fin 8192) (e : Fin 1024) :
    val_main_v12 x0 x1 (ix2 R e) = normRow (fun e => x0 (ix2 R e)) (fun e => x1 (ix1 e)) e := by
  rw [normRow, ← ref_rstd]
  unfold val_main_v12 val_main_v11 val_main_v10 val_main_v9 val_main_v8
  pointwise

/-- The reference's results. -/
theorem ref_proj : val_main_v14 x0 x1 x2 = proj x0 x1 x2 := by
  funext i
  obtain ⟨R, j, rfl⟩ : ∃ (R : Fin 8192) (j : Fin 4096), i = ix2 R j := ⟨i 0, i 1, Loads.idx2 _ _ _ rfl rfl⟩
  refine Eq.trans ?_ (Finset.sum_congr rfl fun e _ => congrArg (· * x2 (ix2 e j)) (ref_row x0 x1 R e))
  unfold val_main_v14 val_main_v13
  pointwise

theorem ref_normed : val_main_v15 x0 x1 = normed x0 x1 := by
  funext i
  obtain ⟨R, e, rfl⟩ : ∃ (R : Fin 8192) (e : Fin 1024), i = ix2 R e := ⟨i 0, i 1, Loads.idx2 _ _ _ rfl rfl⟩
  refine Eq.trans ?_ (ref_row x0 x1 R e)
  unfold val_main_v15
  pointwise

end Ref

/-- The reference runs and leaves its arguments as they were. -/
theorem frame_reference : quiescent_Reference10Ideal := fun m g _ =>
  (θ_run _ _ _).mono (fun r h => ⟨fun c => (h c).2.2, sem_eq_zero_of_no_sems (by decide) r.2⟩)
    (Cert.Reference10Ideal.Value.run m g)

/-- Kernel and reference end with equal results. -/
theorem value : algebraic_Kernel10Ideal_Reference10Ideal := by
  pair_intro
  · run_from Cert.Kernel10Ideal.Value.run_blocks m g
  · run_from Cert.Reference10Ideal.Value.run m' g'
    · rw [out_proj, Cert.Reference10Ideal.Read.val_main_v14_eq]
      exact ref_proj _ _ _
    · rw [out_normed, Cert.Reference10Ideal.Read.val_main_v15_eq]
      exact ref_normed _ _

end Cert.Ffp

end
-- ==== Proof.FfoOut.lean ====
/- The second half of the feed-forward layer, kernel's side. With `X` the residual stream, `U` the hidden units before the squared
   ReLU and `W` the second weight, the result at row `i`, column `j` is `X i j + ∑ n, (max (U i n) 0)² * W n j`. -/
module

public import proofs.«01_k».proof.Proof.Gen.Kernel11Ideal.Value
public import proofs.«01_k».proof.Proof.Loads
public import Idealize.ShloMosaic.Lib.IdealHost

@[expose] public section

noncomputable section

namespace Cert.Ffo

open Cert.Loads Idealize.ShloMosaic Idealize.ShloMosaic.TcCoe Idealize.SL.Sem Cert.Kernel11Ideal Cert.Kernel11Ideal.Gen

/-- The squared ReLU. -/
def act (u : EReal) : EReal := max u 0 * max u 0

/-- The layer's result as a function of the three arrays. -/
def result (X : (⟨2, ![8192, 1024]⟩ : Shape).Idx → EReal) (U : (⟨2, ![8192, 4096]⟩ : Shape).Idx → EReal)
    (W : (⟨2, ![4096, 1024]⟩ : Shape).Idx → EReal) : (⟨2, ![8192, 1024]⟩ : Shape).Idx → EReal := fun i =>
  X i + ∑ n : Fin 4096, act (U (ix2 (i 0) n)) * W (ix2 n (i 1))

/-- What the body computes from a block's rows and the four chips' rows of the weight, one product after another. -/
theorem parts_apply (x : Vec Ideal S512x1024 .f32) (u0 u1 u2 u3 : Vec Ideal S512x1024 .bf16)
    (w0 w1 w2 w3 : Vec Ideal S1x1024x1024 .bf16) (r : Fin 512) (j : Fin 1024) :
    k0_pay1 (k0_pay2 x u0 w0 u1 w1 u2 w2) (k0_pay3 u3) (Scalar.ofBits .f32 0x00000000#32) w3 (ix2 r j)
      = x (ix2 r j) + (∑ n, act (u0 (ix2 r n)) * w0 (ix3 0 n j)) + (∑ n, act (u1 (ix2 r n)) * w1 (ix3 0 n j))
        + (∑ n, act (u2 (ix2 r n)) * w2 (ix3 0 n j)) + (∑ n, act (u3 (ix2 r n)) * w3 (ix3 0 n j)) := by
  unfold k0_pay1 k0_pay2 k0_pay3 act
  pointwise

/-- A sum over the hidden units, chip by chip. -/
theorem by_chips (f : Fin 4096 → EReal) : ∑ n, f n = (∑ j : Fin 1024, f ⟨0 + j.val, by omega⟩) + (∑ j : Fin 1024, f ⟨1024 + j.val, by omega⟩)
    + (∑ j : Fin 1024, f ⟨2048 + j.val, by omega⟩) + (∑ j : Fin 1024, f ⟨3072 + j.val, by omega⟩) := by
  have h4 : ∑ n, f n = ∑ k : Fin 4, ∑ j : Fin 1024, f ⟨1024 * k.val + j.val, by omega⟩ :=
    (Fin.sum_mul_add_congr (S := 4) (n := 1024) fun s r h => by simp only [Nat.mul_comm 1024]).symm
  rw [h4, Fin.sum_univ_four]
  rfl

/-- What a grid point leaves in its block, the weight given by its entries. -/
theorem out3 (x0 : Vec Ideal S512x1024 .f32) (x1 : Vec Ideal S512x4096 .bf16) (x2 : Vec Ideal S4x1024x1024 .bf16)
    (W : Fin 4096 → Fin 1024 → EReal)
    (hw : ∀ (k : Fin 4) (n j : Fin 1024) (N : Fin 4096), N.val = 1024 * k.val + n.val → x2 (ix3 k n j) = W N j) (r : Fin 512) (j : Fin 1024) :
    out0_3 x0 x1 x2 (ix2 r j) = x0 (ix2 r j) + ∑ n : Fin 4096, act (x1 (ix2 r n)) * W n j := by
  unfold out0_3
  canon_tiles x w
  rw [idx2 x r j (by simpa using w0.symm) (by simpa using w1.symm), parts_apply, by_chips, ← add_assoc, ← add_assoc, ← add_assoc]
  refine congr_arg₂ (· + ·) (congr_arg₂ (· + ·) (congr_arg₂ (· + ·) (congr_arg₂ (· + ·)
    (ld2 x0 0 0 _ r j r j (by simp) (by simp)) ?_) ?_) ?_) ?_ <;>
    refine Finset.sum_congr rfl fun n _ => congr_arg₂ (fun a b => act a * b) ?_ ?_
  · exact ld2 x1 0 0 _ r n r _ (by simp) (by simp)
  · exact (ld3 x2 0 0 0 _ 0 n j 0 n j (by simp) (by simp) (by simp)).trans (hw _ _ _ _ (by simp))
  · exact ld2 x1 0 1024 _ r n r _ (by simp) (by simp)
  · exact (ld3 x2 1 0 0 _ 0 n j 1 n j (by simp) (by simp) (by simp)).trans (hw _ _ _ _ (by simp))
  · exact ld2 x1 0 2048 _ r n r _ (by simp) (by simp)
  · exact (ld3 x2 2 0 0 _ 0 n j 2 n j (by simp) (by simp) (by simp)).trans (hw _ _ _ _ (by simp))
  · exact ld2 x1 0 3072 _ r n r _ (by simp) (by simp)
  · exact (ld3 x2 3 0 0 _ 0 n j 3 n j (by simp) (by simp) (by simp)).trans (hw _ _ _ _ (by simp))

variable (m : (ℓ : Loc nD τ sig) → Buf (Elt Ideal) ℓ) (c : Dev nD)

/-- The argument arrays as launched. -/
abbrev A0 : (⟨2, ![8192, 1024]⟩ : Shape).Idx → EReal := m ((c : Thread nD τ).loc main_arg0)
abbrev A1 : (⟨2, ![8192, 4096]⟩ : Shape).Idx → EReal := m ((c : Thread nD τ).loc main_arg1)
abbrev A2 : (⟨2, ![4096, 1024]⟩ : Shape).Idx → EReal := m ((c : Thread nD τ).loc main_arg2)

/-- The weight as the host lays it out: chip `k` holds rows `1024 k` to `1024 k + 1023`. -/
theorem entry_w (k : Fin 4) (n j : Fin 1024) (N : Fin 4096) (hN : N.val = 1024 * k.val + n.val) :
    V m c main_v1 (ix3 k n j) = A2 m c (ix2 N j) := by
  unfold V
  after_results
  dsimp only
  pointwise
  blk_ext

/-- Where each window's block of a point lies: its tile of 512 rows, and the whole weight. -/
theorem idx : ∀ t : Fin cfg0.N, win0_0.index t = ![t.val, 0] ∧ win0_1.index t = ![t.val, 0] ∧ win0_2.index t = ![0, 0, 0]
    ∧ win0_3.index t = ![t.val, 0] :=
  (by decide +kernel : ∀ t : Fin grid0.N, win0_0.index t = ![t.val, 0] ∧ win0_1.index t = ![t.val, 0] ∧ win0_2.index t = ![0, 0, 0]
    ∧ win0_3.index t = ![t.val, 0])

/-- The blocks a point holds. -/
abbrev X0 (t : Fin cfg0.N) : Vec Ideal S512x1024 .f32 := iblk m c 0 t
abbrev X1 (t : Fin cfg0.N) : Vec Ideal S512x4096 .bf16 := iblk m c 1 t
abbrev X2 (t : Fin cfg0.N) : Vec Ideal S4x1024x1024 .bf16 := iblk m c 2 t

theorem iblk0 (t : Fin cfg0.N) (r : Fin 512) (j : Fin 1024) (R : Fin 8192) (hR : R.val = 512 * t.val + r.val) :
    X0 m c t (ix2 r j) = A0 m c (ix2 R j) := by
  obtain ⟨e0, -⟩ := idx t
  blk_ext [iblk, V, e0]

theorem iblk1 (t : Fin cfg0.N) (r : Fin 512) (j : Fin 4096) (R : Fin 8192) (hR : R.val = 512 * t.val + r.val) :
    X1 m c t (ix2 r j) = A1 m c (ix2 R j) := by
  obtain ⟨-, e0, -⟩ := idx t
  blk_ext [iblk, V, e0]

theorem iblk2 (t : Fin cfg0.N) (k : Fin 4) (n j : Fin 1024) (N : Fin 4096) (hN : N.val = 1024 * k.val + n.val) :
    X2 m c t (ix3 k n j) = A2 m c (ix2 N j) := by
  obtain ⟨-, -, e0, -⟩ := idx t
  rw [← entry_w m c k n j N hN]
  blk_ext [iblk, e0]

/-- The result array after the run. -/
theorem out_result : (dats m 0 c).arrAt 3 cfg0.N = result (A0 m c) (A1 m c) (A2 m c) := by
  refine (dats m 0 c).arrAt_eq_of_covers 3 _ (by decide +kernel) fun t hf y => ?_
  obtain ⟨-, -, -, e3⟩ := idx t
  rw [after0_3]
  have hy0 : (y 0).val < 512 := (y 0).isLt
  have hy1 : (y 1).val < 1024 := (y 1).isLt
  have ht : t.val < 16 := lt_of_lt_of_eq t.isLt N_0
  have key := out3 (X0 m c t) (X1 m c t) (X2 m c t) (fun N j => A2 m c (ix2 N j)) (fun k n j N h => iblk2 m c t k n j N h)
    ⟨(y 0).val, hy0⟩ ⟨(y 1).val, hy1⟩
  have hi : (((cfg0.win 3).blk t).view.emb y) = ix2 (⟨512 * t.val + (y 0).val, by omega⟩ : Fin 8192) (⟨(y 1).val, hy1⟩ : Fin 1024) := by
    refine idx2 _ _ _ ?_ ?_ <;> blk_simp [e3] <;> (try dsimp only) <;> omega
  rw [hi, result]
  refine Eq.trans ?_ (key.trans ?_)
  · blk_simp
    exact congrArg (out0_3 (iblk m c 0 t) (iblk m c 1 t) (iblk m c 2 t)) (idx2 _ _ _ rfl rfl)
  · exact congr_arg₂ (· + ·) (iblk0 m c t _ _ _ rfl) (Finset.sum_congr rfl fun n _ => congrArg (act · * _) (iblk1 m c t _ n _ rfl))

end Cert.Ffo

end
-- ==== Proof.FfoClaim.lean ====
/- The second half of the feed-forward layer: kernel and reference end with the same array, with no condition on the arguments. The
   kernel adds to the residual stream one chip's product after another, the reference one product over all hidden units. -/
module

public import proofs.«01_k».proof.Defs
public import proofs.«01_k».proof.Proof.FfoOut
public import proofs.«01_k».proof.Proof.Gen.Reference11Ideal.Read
public import proofs.«01_k».proof.Proof.Gen.Reference11Ideal.Run
public import Idealize.ShloMosaic.Adequacy
public import Idealize.ShloMosaic.Init

@[expose] public section

noncomputable section

namespace Cert.Ffo

open Idealize.ShloMosaic

section Ref

open Cert.Reference11Ideal Cert.Reference11Ideal.Read

variable (x0 : (⟨S8192x1024, .f32⟩ : BufTy).Contents (Elt Ideal)) (x1 : (⟨S8192x4096, .bf16⟩ : BufTy).Contents (Elt Ideal))
  (x2 : (⟨S4096x1024, .f32⟩ : BufTy).Contents (Elt Ideal))

/-- The reference's result. -/
theorem ref_result : val_main_v4 x0 x1 x2 = result x0 x1 x2 := by
  funext i
  obtain ⟨r, j, rfl⟩ : ∃ (r : Fin 8192) (j : Fin 1024), i = ix2 r j := ⟨i 0, i 1, Loads.idx2 _ _ _ rfl rfl⟩
  unfold result act val_main_v4 val_main_v3 val_main_v2 val_main_v1 val_main_v0 val_main_call0_v0 val_main_call0_cst
  pointwise

end Ref

/-- The reference runs and leaves its arguments as they were. -/
theorem frame_reference : quiescent_Reference11Ideal := fun m g _ =>
  (θ_run _ _ _).mono (fun r h => ⟨fun c => (h c).2, sem_eq_zero_of_no_sems (by decide) r.2⟩)
    (Cert.Reference11Ideal.Value.run m g)

/-- Kernel and reference end with equal results. -/
theorem value : algebraic_Kernel11Ideal_Reference11Ideal := by
  pair_intro
  · run_from Cert.Kernel11Ideal.Value.run_blocks m g
  · run_from Cert.Reference11Ideal.Value.run m' g'
    rw [out_result, Cert.Reference11Ideal.Read.val_main_v4_eq]
    exact ref_result _ _ _

end Cert.Ffo

end
-- ==== Proof.MergefOut.lean ====
/- The merge of the three branches, kernel's side. With `Y_b` a branch's output, `W_b` its output weight, `G` the gates' logits, `X`
   the residual stream and `W` the last weight, the results are `X + M W`, the gated sum `M = ∑ b, logistic G_b * (Y_b W_b)`, and the
   products `Y_b W_b` side by side. The gates' logits are the projections' columns from 4096 on. -/
module

public import proofs.«01_k».proof.Proof.Gen.Kernel12Ideal.Frame
public import proofs.«01_k».proof.Proof.Loads
public import Idealize.ShloMosaic.Lib.IdealHost

@[expose] public section

noncomputable section

namespace Cert.Mergef

open Cert.Loads Idealize.ShloMosaic Idealize.ShloMosaic.TcCoe Idealize.SL.Sem Cert.Kernel12Ideal Cert.Kernel12Ideal.Gen

/-! ## What the body computes from its blocks -/

/-- A sum over 1024 columns, chip by chip. -/
theorem by_chips (f : Fin 1024 → EReal) : ∑ n, f n = (∑ j : Fin 256, f ⟨0 + j.val, by omega⟩) + (∑ j : Fin 256, f ⟨256 + j.val, by omega⟩)
    + (∑ j : Fin 256, f ⟨512 + j.val, by omega⟩) + (∑ j : Fin 256, f ⟨768 + j.val, by omega⟩) := by
  have h4 : ∑ n, f n = ∑ k : Fin 4, ∑ j : Fin 256, f ⟨256 * k.val + j.val, by omega⟩ :=
    (Fin.sum_mul_add_congr (S := 4) (n := 256) fun s r h => by simp only [Nat.mul_comm 256]).symm
  rw [h4, Fin.sum_univ_four]
  rfl

/-- A product with a weight's rows, one chip's rows after another. -/
theorem rows_parts (x : Vec Ideal S512x1024 .bf16) (w0 w1 w2 w3 : Vec Ideal S1x256x1024 .bf16) (r : Fin 512) (i : Fin 1024) :
    k0_pay2 x w0 w1 w2 w3 (ix2 r i)
      = (∑ j : Fin 256, x (ix2 r ⟨0 + j.val, by omega⟩) * w0 (ix3 0 j i)) + (∑ j : Fin 256, x (ix2 r ⟨256 + j.val, by omega⟩) * w1 (ix3 0 j i))
        + (∑ j : Fin 256, x (ix2 r ⟨512 + j.val, by omega⟩) * w2 (ix3 0 j i)) + (∑ j : Fin 256, x (ix2 r ⟨768 + j.val, by omega⟩) * w3 (ix3 0 j i)) := by
  unfold k0_pay2
  pointwise

/-- The last product, one chip's rows after another, added to the residual stream. -/
theorem last_parts (x mm s g : Vec Ideal S512x1024 .f32) (w0 w1 w2 w3 : Vec Ideal S1x256x1024 .bf16) (r : Fin 512) (i : Fin 1024) :
    k0_pay1 x (k0_pay13 mm s g w0 w1 w2) (k0_pay14 mm s g w3) (ix2 r i)
      = x (ix2 r i) + ((∑ j : Fin 256, (k0_pay9 mm s g : FVec Ideal S512x1024 .bf16) (ix2 r ⟨0 + j.val, by omega⟩) * w0 (ix3 0 j i))
        + (∑ j : Fin 256, (k0_pay9 mm s g : FVec Ideal S512x1024 .bf16) (ix2 r ⟨256 + j.val, by omega⟩) * w1 (ix3 0 j i))
        + (∑ j : Fin 256, (k0_pay9 mm s g : FVec Ideal S512x1024 .bf16) (ix2 r ⟨512 + j.val, by omega⟩) * w2 (ix3 0 j i))
        + (∑ j : Fin 256, (k0_pay9 mm s g : FVec Ideal S512x1024 .bf16) (ix2 r ⟨768 + j.val, by omega⟩) * w3 (ix3 0 j i))) := by
  unfold k0_pay1 k0_pay13 k0_pay14
  pointwise

/-- A product with a weight's columns, side by side: column `J` comes from the chip that holds it. -/
theorem pool_parts (x : Vec Ideal S512x512 .bf16) (w0 w1 w2 w3 : Vec Ideal S1x512x256 .bf16) (W : Fin 512 → Fin 1024 → EReal)
    (h0 : ∀ (p : Fin 512) (j : Fin 256) (J : Fin 1024), J.val = 0 + j.val → w0 (ix3 0 p j) = W p J)
    (h1 : ∀ (p : Fin 512) (j : Fin 256) (J : Fin 1024), J.val = 256 + j.val → w1 (ix3 0 p j) = W p J)
    (h2 : ∀ (p : Fin 512) (j : Fin 256) (J : Fin 1024), J.val = 512 + j.val → w2 (ix3 0 p j) = W p J)
    (h3 : ∀ (p : Fin 512) (j : Fin 256) (J : Fin 1024), J.val = 768 + j.val → w3 (ix3 0 p j) = W p J) (r : Fin 512) (J : Fin 1024) :
    k0_pay5 x (k0_pay3 x w0) (k0_pay4 x w1) w2 w3 (ix2 r J) = ∑ p, x (ix2 r p) * W p J := by
  have hJ := J.isLt
  unfold k0_pay5 k0_pay3 k0_pay4
  pointwise
  by_cases c0 : J.val < 256
  · rw [dif_pos c0]
    exact Finset.sum_congr rfl fun p _ => congrArg (_ * ·) (h0 p ⟨_, c0⟩ J (by dsimp only; omega))
  rw [dif_neg c0]
  by_cases c1 : J.val - 256 < 256
  · rw [dif_pos c1]
    exact Finset.sum_congr rfl fun p _ => congrArg (_ * ·) (h1 p ⟨_, c1⟩ J (by dsimp only; omega))
  rw [dif_neg c1]
  by_cases c2 : J.val - 256 - 256 < 256
  · rw [dif_pos c2]
    exact Finset.sum_congr rfl fun p _ => congrArg (_ * ·) (h2 p ⟨_, c2⟩ J (by dsimp only; omega))
  rw [dif_neg c2]
  exact Finset.sum_congr rfl fun p _ => congrArg (_ * ·) (h3 p ⟨J.val - 256 - 256 - 256, by omega⟩ J (by dsimp only; omega))

/-- The same product as the memory branch writes it. -/
theorem mem_parts (x : Vec Ideal S512x512 .bf16) (w0 w1 w2 w3 : Vec Ideal S1x512x256 .bf16) (W : Fin 512 → Fin 1024 → EReal)
    (h0 : ∀ (p : Fin 512) (j : Fin 256) (J : Fin 1024), J.val = 0 + j.val → w0 (ix3 0 p j) = W p J)
    (h1 : ∀ (p : Fin 512) (j : Fin 256) (J : Fin 1024), J.val = 256 + j.val → w1 (ix3 0 p j) = W p J)
    (h2 : ∀ (p : Fin 512) (j : Fin 256) (J : Fin 1024), J.val = 512 + j.val → w2 (ix3 0 p j) = W p J)
    (h3 : ∀ (p : Fin 512) (j : Fin 256) (J : Fin 1024), J.val = 768 + j.val → w3 (ix3 0 p j) = W p J) (r : Fin 512) (J : Fin 1024) :
    k0_pay6 x w0 w1 w2 w3 (ix2 r J) = ∑ p, x (ix2 r p) * W p J := by
  have hJ := J.isLt
  unfold k0_pay6
  pointwise
  by_cases c0 : J.val < 256
  · rw [dif_pos c0]
    exact Finset.sum_congr rfl fun p _ => congrArg (_ * ·) (h0 p ⟨_, c0⟩ J (by dsimp only; omega))
  rw [dif_neg c0]
  by_cases c1 : J.val - 256 < 256
  · rw [dif_pos c1]
    exact Finset.sum_congr rfl fun p _ => congrArg (_ * ·) (h1 p ⟨_, c1⟩ J (by dsimp only; omega))
  rw [dif_neg c1]
  by_cases c2 : J.val - 256 - 256 < 256
  · rw [dif_pos c2]
    exact Finset.sum_congr rfl fun p _ => congrArg (_ * ·) (h2 p ⟨_, c2⟩ J (by dsimp only; omega))
  rw [dif_neg c2]
  exact Finset.sum_congr rfl fun p _ => congrArg (_ * ·) (h3 p ⟨J.val - 256 - 256 - 256, by omega⟩ J (by dsimp only; omega))

section Body

variable (x0 : Vec Ideal S512x1024 .f32) (x1 x2 x3 x4 : Vec Ideal S512x1024 .bf16) (x5 x6 : Vec Ideal S512x512 .bf16)
  (x7 : Vec Ideal S4x256x1024 .bf16) (x8 x9 : Vec Ideal S4x512x256 .bf16) (x10 : Vec Ideal S4x256x1024 .bf16)
  (W V : Fin 1024 → Fin 1024 → EReal) (P Q : Fin 512 → Fin 1024 → EReal) (r : Fin 512) (i : Fin 1024)

/-- The retention branch's product in a block. -/
theorem ret_block (hw : ∀ (k : Fin 4) (a : Fin 256) (J j : Fin 1024), J.val = 256 * k.val + a.val → x7 (ix3 k a j) = W J j) :
    k0_pay15 x0 x1 x2 x3 x4 x5 x6 x7 x8 x9 x10 (ix2 r i) = ∑ j, x4 (ix2 r j) * W j i := by
  unfold k0_pay15
  rw [rows_parts, by_chips]
  refine congr_arg₂ (· + ·) (congr_arg₂ (· + ·) (congr_arg₂ (· + ·) ?_ ?_) ?_) ?_ <;>
    refine Finset.sum_congr rfl fun j _ => congr_arg₂ (· * ·) (ld2 x4 0 0 _ r _ r _ (by simp) (by simp)) ?_
  · exact (ld3 x7 0 0 0 _ 0 j i 0 j i (by simp) (by simp) (by simp)).trans (hw _ _ _ _ (by simp))
  · exact (ld3 x7 1 0 0 _ 0 j i 1 j i (by simp) (by simp) (by simp)).trans (hw _ _ _ _ (by simp))
  · exact (ld3 x7 2 0 0 _ 0 j i 2 j i (by simp) (by simp) (by simp)).trans (hw _ _ _ _ (by simp))
  · exact (ld3 x7 3 0 0 _ 0 j i 3 j i (by simp) (by simp) (by simp)).trans (hw _ _ _ _ (by simp))

/-- The pooling branch's product in a block. -/
theorem pool_block (hw : ∀ (k : Fin 4) (p : Fin 512) (j : Fin 256) (J : Fin 1024), J.val = 256 * k.val + j.val → x8 (ix3 k p j) = P p J) :
    k0_pay5 (View.ld x5 r0_5) (k0_pay16 x0 x1 x2 x3 x4 x5 x6 x7 x8 x9 x10) (k0_pay17 x0 x1 x2 x3 x4 x5 x6 x7 x8 x9 x10) (View.ld x8 r0_8) (View.ld x8 r0_9) (ix2 r i)
      = ∑ p, x5 (ix2 r p) * P p i := by
  unfold k0_pay16 k0_pay17
  refine (pool_parts _ _ _ _ _ P
    (fun p j J h => (ld3 x8 0 0 0 _ 0 p j 0 p j (by simp) (by simp) (by simp)).trans (hw 0 p j J (by simpa using h)))
    (fun p j J h => (ld3 x8 1 0 0 _ 0 p j 1 p j (by simp) (by simp) (by simp)).trans (hw 1 p j J (by simpa using h)))
    (fun p j J h => (ld3 x8 2 0 0 _ 0 p j 2 p j (by simp) (by simp) (by simp)).trans (hw 2 p j J (by simpa using h)))
    (fun p j J h => (ld3 x8 3 0 0 _ 0 p j 3 p j (by simp) (by simp) (by simp)).trans (hw 3 p j J (by simpa using h))) r i).trans ?_
  exact Finset.sum_congr rfl fun p _ => congrArg (· * _) (ld2 x5 0 0 _ r p r p (by simp) (by simp))

/-- The memory branch's product in a block. -/
theorem mem_block (hw : ∀ (k : Fin 4) (p : Fin 512) (j : Fin 256) (J : Fin 1024), J.val = 256 * k.val + j.val → x9 (ix3 k p j) = Q p J) :
    k0_pay18 x0 x1 x2 x3 x4 x5 x6 x7 x8 x9 x10 (ix2 r i) = ∑ p, x6 (ix2 r p) * Q p i := by
  unfold k0_pay18
  refine (mem_parts _ _ _ _ _ Q
    (fun p j J h => (ld3 x9 0 0 0 _ 0 p j 0 p j (by simp) (by simp) (by simp)).trans (hw 0 p j J (by simpa using h)))
    (fun p j J h => (ld3 x9 1 0 0 _ 0 p j 1 p j (by simp) (by simp) (by simp)).trans (hw 1 p j J (by simpa using h)))
    (fun p j J h => (ld3 x9 2 0 0 _ 0 p j 2 p j (by simp) (by simp) (by simp)).trans (hw 2 p j J (by simpa using h)))
    (fun p j J h => (ld3 x9 3 0 0 _ 0 p j 3 p j (by simp) (by simp) (by simp)).trans (hw 3 p j J (by simpa using h))) r i).trans ?_
  exact Finset.sum_congr rfl fun p _ => congrArg (· * _) (ld2 x6 0 0 _ r p r p (by simp) (by simp))

/-- The gated sum of three products, given the products. -/
theorem gated (s mm : Vec Ideal S512x1024 .f32) (y : Vec Ideal S512x512 .bf16) (a b : Vec Ideal S512x256 .f32) (w v : Vec Ideal S1x512x256 .bf16)
    (g0 g1 g2 : Vec Ideal S512x1024 .bf16) :
    k0_pay9 mm (k0_pay7 s y a b w v g0 g1) (k0_pay8 g2) (ix2 r i)
      = Ideal.logistic (g0 (ix2 r i)) * s (ix2 r i) + Ideal.logistic (g1 (ix2 r i)) * k0_pay5 y a b w v (ix2 r i)
        + Ideal.logistic (g2 (ix2 r i)) * mm (ix2 r i) := by
  unfold k0_pay9 k0_pay7 k0_pay8
  pointwise

/-- The gated sum in a block. -/
theorem merged_block (h7 : ∀ (k : Fin 4) (a : Fin 256) (J j : Fin 1024), J.val = 256 * k.val + a.val → x7 (ix3 k a j) = W J j)
    (h8 : ∀ (k : Fin 4) (p : Fin 512) (j : Fin 256) (J : Fin 1024), J.val = 256 * k.val + j.val → x8 (ix3 k p j) = P p J)
    (h9 : ∀ (k : Fin 4) (p : Fin 512) (j : Fin 256) (J : Fin 1024), J.val = 256 * k.val + j.val → x9 (ix3 k p j) = Q p J) :
    k0_pay9 (k0_pay18 x0 x1 x2 x3 x4 x5 x6 x7 x8 x9 x10) (k0_pay19 x0 x1 x2 x3 x4 x5 x6 x7 x8 x9 x10)
        (k0_pay20 x0 x1 x2 x3 x4 x5 x6 x7 x8 x9 x10) (ix2 r i)
      = Ideal.logistic (x1 (ix2 r i)) * (∑ j, x4 (ix2 r j) * W j i) + Ideal.logistic (x2 (ix2 r i)) * (∑ p, x5 (ix2 r p) * P p i)
        + Ideal.logistic (x3 (ix2 r i)) * (∑ p, x6 (ix2 r p) * Q p i) := by
  unfold k0_pay19 k0_pay20
  rw [gated, ret_block x0 x1 x2 x3 x4 x5 x6 x7 x8 x9 x10 W r i h7, pool_block x0 x1 x2 x3 x4 x5 x6 x7 x8 x9 x10 P r i h8, mem_block x0 x1 x2 x3 x4 x5 x6 x7 x8 x9 x10 Q r i h9]
  exact congr_arg₂ (· + ·) (congr_arg₂ (· + ·)
    (congrArg (fun z => Ideal.logistic z * _) (ld2 x1 0 0 _ r i r i (by simp) (by simp)))
    (congrArg (fun z => Ideal.logistic z * _) (ld2 x2 0 0 _ r i r i (by simp) (by simp))))
    (congrArg (fun z => Ideal.logistic z * _) (ld2 x3 0 0 _ r i r i (by simp) (by simp)))

/-- The residual stream after the merge, in a block, given the gated sum's row. -/
theorem stream_block (M : Fin 1024 → EReal)
    (hw : ∀ (k : Fin 4) (a : Fin 256) (J j : Fin 1024), J.val = 256 * k.val + a.val → x10 (ix3 k a j) = V J j)
    (hM : ∀ J, k0_pay9 (k0_pay18 x0 x1 x2 x3 x4 x5 x6 x7 x8 x9 x10) (k0_pay19 x0 x1 x2 x3 x4 x5 x6 x7 x8 x9 x10)
      (k0_pay20 x0 x1 x2 x3 x4 x5 x6 x7 x8 x9 x10) (ix2 r J) = M J) :
    out0_11 x0 x1 x2 x3 x4 x5 x6 x7 x8 x9 x10 (ix2 r i) = x0 (ix2 r i) + ∑ J, M J * V J i := by
  unfold out0_11
  canon_tiles x w
  rw [idx2 x r i (by simpa using w0.symm) (by simpa using w1.symm), last_parts, by_chips]
  refine congr_arg₂ (· + ·) (ld2 x0 0 0 _ r i r i (by simp) (by simp)) (congr_arg₂ (· + ·) (congr_arg₂ (· + ·) (congr_arg₂ (· + ·) ?_ ?_) ?_) ?_) <;>
    refine Finset.sum_congr rfl fun j _ => congr_arg₂ (· * ·) (hM _) ?_
  · exact (ld3 x10 0 0 0 _ 0 j i 0 j i (by simp) (by simp) (by simp)).trans (hw _ _ _ _ (by simp))
  · exact (ld3 x10 1 0 0 _ 0 j i 1 j i (by simp) (by simp) (by simp)).trans (hw _ _ _ _ (by simp))
  · exact (ld3 x10 2 0 0 _ 0 j i 2 j i (by simp) (by simp) (by simp)).trans (hw _ _ _ _ (by simp))
  · exact (ld3 x10 3 0 0 _ 0 j i 3 j i (by simp) (by simp) (by simp)).trans (hw _ _ _ _ (by simp))

/-- The narrowed gated sum a point leaves is the gated sum. -/
theorem out12_apply :
    out0_12 x0 x1 x2 x3 x4 x5 x6 x7 x8 x9 x10 (ix2 r i)
      = k0_pay9 (k0_pay18 x0 x1 x2 x3 x4 x5 x6 x7 x8 x9 x10) (k0_pay19 x0 x1 x2 x3 x4 x5 x6 x7 x8 x9 x10)
        (k0_pay20 x0 x1 x2 x3 x4 x5 x6 x7 x8 x9 x10) (ix2 r i) := by
  unfold out0_12
  canon_tiles x w
  rw [idx2 x r i (by simpa using w0.symm) (by simpa using w1.symm)]

theorem narrow10 (s : Vec Ideal S512x1024 .f32) : (k0_pay10 s : FVec Ideal S512x1024 .bf16) (ix2 r i) = s (ix2 r i) := by
  unfold k0_pay10
  pointwise

theorem narrow11 (s : Vec Ideal S512x1024 .f32) : (k0_pay11 s : FVec Ideal S512x1024 .bf16) (ix2 r i) = s (ix2 r i) := by
  unfold k0_pay11
  pointwise

theorem narrow12 (s : Vec Ideal S512x1024 .f32) : (k0_pay12 s : FVec Ideal S512x1024 .bf16) (ix2 r i) = s (ix2 r i) := by
  unfold k0_pay12
  pointwise

end Body

variable (m : (ℓ : Loc nD τ sig) → Buf (Elt Ideal) ℓ) (c : Dev nD)

/-- The argument arrays as launched: the residual stream, the projections, the three branches' outputs, and the four weights. -/
abbrev A0 : (⟨2, ![8192, 1024]⟩ : Shape).Idx → EReal := m ((c : Thread nD τ).loc main_arg0)
abbrev A1 : (⟨2, ![8192, 7168]⟩ : Shape).Idx → EReal := m ((c : Thread nD τ).loc main_arg1)
abbrev A2 : (⟨2, ![8192, 1024]⟩ : Shape).Idx → EReal := m ((c : Thread nD τ).loc main_arg2)
abbrev A3 : (⟨2, ![8192, 512]⟩ : Shape).Idx → EReal := m ((c : Thread nD τ).loc main_arg3)
abbrev A4 : (⟨2, ![8192, 512]⟩ : Shape).Idx → EReal := m ((c : Thread nD τ).loc main_arg4)
abbrev A5 : (⟨2, ![1024, 1024]⟩ : Shape).Idx → EReal := m ((c : Thread nD τ).loc main_arg5)
abbrev A6 : (⟨2, ![512, 1024]⟩ : Shape).Idx → EReal := m ((c : Thread nD τ).loc main_arg6)
abbrev A7 : (⟨2, ![512, 1024]⟩ : Shape).Idx → EReal := m ((c : Thread nD τ).loc main_arg7)
abbrev A8 : (⟨2, ![1024, 1024]⟩ : Shape).Idx → EReal := m ((c : Thread nD τ).loc main_arg8)

/-- The weights' arrays as the host lays them out. -/
theorem entry_ret (k : Fin 4) (i : Fin 256) (I j : Fin 1024) (hI : I.val = 256 * k.val + i.val) :
    V m c main_v1 (ix3 k i j) = A5 m c (ix2 I j) := by
  unfold V
  after_results
  dsimp only
  pointwise
  blk_ext

theorem entry_pool (k : Fin 4) (p : Fin 512) (j : Fin 256) (J : Fin 1024) (hJ : J.val = 256 * k.val + j.val) :
    V m c main_v4 (ix3 k p j) = A6 m c (ix2 p J) := by
  unfold V
  after_results
  dsimp only
  pointwise
  blk_ext

theorem entry_mem (k : Fin 4) (p : Fin 512) (j : Fin 256) (J : Fin 1024) (hJ : J.val = 256 * k.val + j.val) :
    V m c main_v7 (ix3 k p j) = A7 m c (ix2 p J) := by
  unfold V
  after_results
  dsimp only
  pointwise
  blk_ext

theorem entry_out (k : Fin 4) (i : Fin 256) (I j : Fin 1024) (hI : I.val = 256 * k.val + i.val) :
    V m c main_v9 (ix3 k i j) = A8 m c (ix2 I j) := by
  unfold V
  after_results
  dsimp only
  pointwise
  blk_ext

/-- Where each window's block of a point lies. -/
theorem idx : ∀ t : Fin cfg0.N, (win0_0.index t = ![t.val, 0] ∧ win0_1.index t = ![t.val, 4] ∧ win0_2.index t = ![t.val, 5] ∧ win0_3.index t = ![t.val, 6]
    ∧ win0_4.index t = ![t.val, 0] ∧ win0_5.index t = ![t.val, 0] ∧ win0_6.index t = ![t.val, 0]) ∧ (win0_7.index t = ![0, 0, 0] ∧ win0_8.index t = ![0, 0, 0] ∧ win0_9.index t = ![0, 0, 0] ∧ win0_10.index t = ![0, 0, 0])
    ∧ win0_11.index t = ![t.val, 0] ∧ win0_12.index t = ![t.val, 0] ∧ win0_13.index t = ![t.val, 0] :=
  (by decide +kernel : ∀ t : Fin grid0.N, (win0_0.index t = ![t.val, 0] ∧ win0_1.index t = ![t.val, 4] ∧ win0_2.index t = ![t.val, 5] ∧ win0_3.index t = ![t.val, 6]
    ∧ win0_4.index t = ![t.val, 0] ∧ win0_5.index t = ![t.val, 0] ∧ win0_6.index t = ![t.val, 0]) ∧ (win0_7.index t = ![0, 0, 0] ∧ win0_8.index t = ![0, 0, 0] ∧ win0_9.index t = ![0, 0, 0] ∧ win0_10.index t = ![0, 0, 0])
    ∧ win0_11.index t = ![t.val, 0] ∧ win0_12.index t = ![t.val, 0] ∧ win0_13.index t = ![t.val, 0])

/-- The blocks a point holds. -/
abbrev X0 (t : Fin cfg0.N) : Vec Ideal S512x1024 .f32 := iblk m c 0 t
abbrev X1 (t : Fin cfg0.N) : Vec Ideal S512x1024 .bf16 := iblk m c 1 t
abbrev X2 (t : Fin cfg0.N) : Vec Ideal S512x1024 .bf16 := iblk m c 2 t
abbrev X3 (t : Fin cfg0.N) : Vec Ideal S512x1024 .bf16 := iblk m c 3 t
abbrev X4 (t : Fin cfg0.N) : Vec Ideal S512x1024 .bf16 := iblk m c 4 t
abbrev X5 (t : Fin cfg0.N) : Vec Ideal S512x512 .bf16 := iblk m c 5 t
abbrev X6 (t : Fin cfg0.N) : Vec Ideal S512x512 .bf16 := iblk m c 6 t
abbrev X7 (t : Fin cfg0.N) : Vec Ideal S4x256x1024 .bf16 := iblk m c 7 t
abbrev X8 (t : Fin cfg0.N) : Vec Ideal S4x512x256 .bf16 := iblk m c 8 t
abbrev X9 (t : Fin cfg0.N) : Vec Ideal S4x512x256 .bf16 := iblk m c 9 t
abbrev X10 (t : Fin cfg0.N) : Vec Ideal S4x256x1024 .bf16 := iblk m c 10 t

theorem iblk0 (t : Fin cfg0.N) (r : Fin 512) (i : Fin 1024) (R : Fin 8192) (hR : R.val = 512 * t.val + r.val) :
    X0 m c t (ix2 r i) = A0 m c (ix2 R i) := by
  obtain ⟨⟨e0, -⟩, -⟩ := idx t
  rw [← show V m c main_arg0 = A0 m c from V_main_arg0 m c]
  blk_ext [iblk, V, e0]

theorem iblk1 (t : Fin cfg0.N) (r : Fin 512) (i : Fin 1024) (R : Fin 8192) (J : Fin 7168) (hR : R.val = 512 * t.val + r.val)
    (hJ : J.val = 4096 + i.val) : X1 m c t (ix2 r i) = A1 m c (ix2 R J) := by
  obtain ⟨⟨-, e0, -⟩, -⟩ := idx t
  rw [← show V m c main_arg1 = A1 m c from V_main_arg1 m c]
  blk_ext [iblk, V, e0]

theorem iblk2 (t : Fin cfg0.N) (r : Fin 512) (i : Fin 1024) (R : Fin 8192) (J : Fin 7168) (hR : R.val = 512 * t.val + r.val)
    (hJ : J.val = 5120 + i.val) : X2 m c t (ix2 r i) = A1 m c (ix2 R J) := by
  obtain ⟨⟨-, -, e0, -⟩, -⟩ := idx t
  rw [← show V m c main_arg1 = A1 m c from V_main_arg1 m c]
  blk_ext [iblk, V, e0]

theorem iblk3 (t : Fin cfg0.N) (r : Fin 512) (i : Fin 1024) (R : Fin 8192) (J : Fin 7168) (hR : R.val = 512 * t.val + r.val)
    (hJ : J.val = 6144 + i.val) : X3 m c t (ix2 r i) = A1 m c (ix2 R J) := by
  obtain ⟨⟨-, -, -, e0, -⟩, -⟩ := idx t
  rw [← show V m c main_arg1 = A1 m c from V_main_arg1 m c]
  blk_ext [iblk, V, e0]

theorem iblk4 (t : Fin cfg0.N) (r : Fin 512) (i : Fin 1024) (R : Fin 8192) (hR : R.val = 512 * t.val + r.val) :
    X4 m c t (ix2 r i) = A2 m c (ix2 R i) := by
  obtain ⟨⟨-, -, -, -, e0, -⟩, -⟩ := idx t
  rw [← show V m c main_arg2 = A2 m c from V_main_arg2 m c]
  blk_ext [iblk, V, e0]

theorem iblk5 (t : Fin cfg0.N) (r : Fin 512) (i : Fin 512) (R : Fin 8192) (hR : R.val = 512 * t.val + r.val) :
    X5 m c t (ix2 r i) = A3 m c (ix2 R i) := by
  obtain ⟨⟨-, -, -, -, -, e0, -⟩, -⟩ := idx t
  rw [← show V m c main_arg3 = A3 m c from V_main_arg3 m c]
  blk_ext [iblk, V, e0]

theorem iblk6 (t : Fin cfg0.N) (r : Fin 512) (i : Fin 512) (R : Fin 8192) (hR : R.val = 512 * t.val + r.val) :
    X6 m c t (ix2 r i) = A4 m c (ix2 R i) := by
  obtain ⟨⟨-, -, -, -, -, -, e0⟩, -⟩ := idx t
  rw [← show V m c main_arg4 = A4 m c from V_main_arg4 m c]
  blk_ext [iblk, V, e0]

theorem iblk7 (t : Fin cfg0.N) (k : Fin 4) (i : Fin 256) (I j : Fin 1024) (hI : I.val = 256 * k.val + i.val) :
    X7 m c t (ix3 k i j) = A5 m c (ix2 I j) := by
  obtain ⟨-, ⟨e0, -⟩, -⟩ := idx t
  rw [← entry_ret m c k i I j hI]
  blk_ext [iblk, V, e0]

theorem iblk10 (t : Fin cfg0.N) (k : Fin 4) (i : Fin 256) (I j : Fin 1024) (hI : I.val = 256 * k.val + i.val) :
    X10 m c t (ix3 k i j) = A8 m c (ix2 I j) := by
  obtain ⟨-, ⟨-, -, -, e0⟩, -⟩ := idx t
  rw [← entry_out m c k i I j hI]
  blk_ext [iblk, V, e0]

theorem iblk8 (t : Fin cfg0.N) (k : Fin 4) (p : Fin 512) (j : Fin 256) (J : Fin 1024) (hJ : J.val = 256 * k.val + j.val) :
    X8 m c t (ix3 k p j) = A6 m c (ix2 p J) := by
  obtain ⟨-, ⟨-, e0, -⟩, -⟩ := idx t
  rw [← entry_pool m c k p j J hJ]
  blk_ext [iblk, V, e0]

theorem iblk9 (t : Fin cfg0.N) (k : Fin 4) (p : Fin 512) (j : Fin 256) (J : Fin 1024) (hJ : J.val = 256 * k.val + j.val) :
    X9 m c t (ix3 k p j) = A7 m c (ix2 p J) := by
  obtain ⟨-, ⟨-, -, e0, -⟩, -⟩ := idx t
  rw [← entry_mem m c k p j J hJ]
  blk_ext [iblk, V, e0]

/-! ## The results as functions of the arrays -/

/-- A branch's output times its output weight. -/
def prod {p : ℕ} (Y : (⟨2, ![8192, p]⟩ : Shape).Idx → EReal) (W : (⟨2, ![p, 1024]⟩ : Shape).Idx → EReal) (n : Fin 8192) (i : Fin 1024) : EReal :=
  ∑ q : Fin p, Y (ix2 n q) * W (ix2 q i)

/-- The gates, side by side. -/
def gate (G : (⟨2, ![8192, 7168]⟩ : Shape).Idx → EReal) (n : Fin 8192) (J : Fin 3072) : EReal :=
  Ideal.logistic (G (ix2 n ⟨4096 + J.val, by omega⟩))

section Arrays

variable (X : (⟨2, ![8192, 1024]⟩ : Shape).Idx → EReal) (G : (⟨2, ![8192, 7168]⟩ : Shape).Idx → EReal)
  (Y : (⟨2, ![8192, 1024]⟩ : Shape).Idx → EReal) (Y' Y'' : (⟨2, ![8192, 512]⟩ : Shape).Idx → EReal)
  (W : (⟨2, ![1024, 1024]⟩ : Shape).Idx → EReal) (W' W'' : (⟨2, ![512, 1024]⟩ : Shape).Idx → EReal) (Wo : (⟨2, ![1024, 1024]⟩ : Shape).Idx → EReal)

/-- The gated sum of the three branches. -/
def merged (n : Fin 8192) (i : Fin 1024) : EReal :=
  gate G n ⟨0 + i.val, by omega⟩ * prod Y W n i + gate G n ⟨1024 + i.val, by omega⟩ * prod Y' W' n i
    + gate G n ⟨2048 + i.val, by omega⟩ * prod Y'' W'' n i

/-- The branches' products, side by side. -/
def branch (n : Fin 8192) (J : Fin 3072) : EReal :=
  if h : J.val < 1024 then prod Y W n ⟨J.val, h⟩
  else if h : J.val - 1024 < 1024 then prod Y' W' n ⟨J.val - 1024, h⟩
  else prod Y'' W'' n ⟨J.val - 1024 - 1024, by omega⟩

/-- The residual stream after the merge as an array. -/
@[irreducible] def streams : (⟨2, ![8192, 1024]⟩ : Shape).Idx → EReal := fun y =>
  X y + ∑ J : Fin 1024, merged G Y Y' Y'' W W' W'' (y 0) J * Wo (ix2 J (y 1))

/-- The gated sum as an array. -/
@[irreducible] def mergeds : (⟨2, ![8192, 1024]⟩ : Shape).Idx → EReal := fun y => merged G Y Y' Y'' W W' W'' (y 0) (y 1)

/-- The branches' products as an array. -/
@[irreducible] def branches : (⟨2, ![8192, 3072]⟩ : Shape).Idx → EReal := fun y => branch Y Y' Y'' W W' W'' (y 0) (y 1)

end Arrays

/-! ## What a point leaves in its blocks -/

section Point

variable (t : Fin cfg0.N) (r : Fin 512) (R : Fin 8192) (hR : R.val = 512 * t.val + r.val)

include hR

theorem ret_point (i : Fin 1024) : k0_pay15 (X0 m c t) (X1 m c t) (X2 m c t) (X3 m c t) (X4 m c t) (X5 m c t) (X6 m c t) (X7 m c t) (X8 m c t) (X9 m c t) (X10 m c t) (ix2 r i)
    = prod (A2 m c) (A5 m c) R i :=
  (ret_block (X0 m c t) (X1 m c t) (X2 m c t) (X3 m c t) (X4 m c t) (X5 m c t) (X6 m c t) (X7 m c t) (X8 m c t) (X9 m c t) (X10 m c t)
    (fun J j => A5 m c (ix2 J j)) r i fun k a J j h => iblk7 m c t k a J j h).trans
    (Finset.sum_congr rfl fun j _ => congrArg (· * _) (iblk4 m c t r j R hR))

theorem pool_point (i : Fin 1024) : k0_pay5 (View.ld (X5 m c t) r0_5)
      (k0_pay16 (X0 m c t) (X1 m c t) (X2 m c t) (X3 m c t) (X4 m c t) (X5 m c t) (X6 m c t) (X7 m c t) (X8 m c t) (X9 m c t) (X10 m c t))
      (k0_pay17 (X0 m c t) (X1 m c t) (X2 m c t) (X3 m c t) (X4 m c t) (X5 m c t) (X6 m c t) (X7 m c t) (X8 m c t) (X9 m c t) (X10 m c t))
      (View.ld (X8 m c t) r0_8) (View.ld (X8 m c t) r0_9) (ix2 r i)
    = prod (A3 m c) (A6 m c) R i :=
  (pool_block (X0 m c t) (X1 m c t) (X2 m c t) (X3 m c t) (X4 m c t) (X5 m c t) (X6 m c t) (X7 m c t) (X8 m c t) (X9 m c t) (X10 m c t)
    (fun p J => A6 m c (ix2 p J)) r i fun k p j J h => iblk8 m c t k p j J h).trans
    (Finset.sum_congr rfl fun p _ => congrArg (· * _) (iblk5 m c t r p R hR))

theorem mem_point (i : Fin 1024) : k0_pay18 (X0 m c t) (X1 m c t) (X2 m c t) (X3 m c t) (X4 m c t) (X5 m c t) (X6 m c t) (X7 m c t) (X8 m c t) (X9 m c t) (X10 m c t) (ix2 r i)
    = prod (A4 m c) (A7 m c) R i :=
  (mem_block (X0 m c t) (X1 m c t) (X2 m c t) (X3 m c t) (X4 m c t) (X5 m c t) (X6 m c t) (X7 m c t) (X8 m c t) (X9 m c t) (X10 m c t)
    (fun p J => A7 m c (ix2 p J)) r i fun k p j J h => iblk9 m c t k p j J h).trans
    (Finset.sum_congr rfl fun p _ => congrArg (· * _) (iblk6 m c t r p R hR))

theorem merged_point (i : Fin 1024) :
    k0_pay9 (k0_pay18 (X0 m c t) (X1 m c t) (X2 m c t) (X3 m c t) (X4 m c t) (X5 m c t) (X6 m c t) (X7 m c t) (X8 m c t) (X9 m c t) (X10 m c t))
      (k0_pay19 (X0 m c t) (X1 m c t) (X2 m c t) (X3 m c t) (X4 m c t) (X5 m c t) (X6 m c t) (X7 m c t) (X8 m c t) (X9 m c t) (X10 m c t))
      (k0_pay20 (X0 m c t) (X1 m c t) (X2 m c t) (X3 m c t) (X4 m c t) (X5 m c t) (X6 m c t) (X7 m c t) (X8 m c t) (X9 m c t) (X10 m c t)) (ix2 r i)
    = merged (A1 m c) (A2 m c) (A3 m c) (A4 m c) (A5 m c) (A6 m c) (A7 m c) R i := by
  refine (merged_block (X0 m c t) (X1 m c t) (X2 m c t) (X3 m c t) (X4 m c t) (X5 m c t) (X6 m c t) (X7 m c t) (X8 m c t) (X9 m c t) (X10 m c t)
    (fun J j => A5 m c (ix2 J j)) (fun p J => A6 m c (ix2 p J)) (fun p J => A7 m c (ix2 p J)) r i (fun k a J j h => iblk7 m c t k a J j h)
    (fun k p j J h => iblk8 m c t k p j J h) (fun k p j J h => iblk9 m c t k p j J h)).trans ?_
  unfold merged gate prod
  refine congr_arg₂ (· + ·) (congr_arg₂ (· + ·) (congr_arg₂ (· * ·) (congrArg Ideal.logistic ?_) ?_) (congr_arg₂ (· * ·) (congrArg Ideal.logistic ?_) ?_))
    (congr_arg₂ (· * ·) (congrArg Ideal.logistic ?_) ?_)
  · exact iblk1 m c t r i R _ hR (by dsimp only; omega)
  · exact Finset.sum_congr rfl fun j _ => congrArg (· * _) (iblk4 m c t r j R hR)
  · exact iblk2 m c t r i R _ hR (by dsimp only; omega)
  · exact Finset.sum_congr rfl fun p _ => congrArg (· * _) (iblk5 m c t r p R hR)
  · exact iblk3 m c t r i R _ hR (by dsimp only; omega)
  · exact Finset.sum_congr rfl fun p _ => congrArg (· * _) (iblk6 m c t r p R hR)

theorem left11 (i : Fin 1024) :
    out0_11 (X0 m c t) (X1 m c t) (X2 m c t) (X3 m c t) (X4 m c t) (X5 m c t) (X6 m c t) (X7 m c t) (X8 m c t) (X9 m c t) (X10 m c t) (ix2 r i)
      = A0 m c (ix2 R i) + ∑ J, merged (A1 m c) (A2 m c) (A3 m c) (A4 m c) (A5 m c) (A6 m c) (A7 m c) R J * A8 m c (ix2 J i) :=
  (stream_block (X0 m c t) (X1 m c t) (X2 m c t) (X3 m c t) (X4 m c t) (X5 m c t) (X6 m c t) (X7 m c t) (X8 m c t) (X9 m c t) (X10 m c t)
    (fun J j => A8 m c (ix2 J j)) r i _ (fun k a J j h => iblk10 m c t k a J j h) fun J => merged_point m c t r R hR J).trans
    (congrArg (· + _) (iblk0 m c t r i R hR))

theorem left12 (i : Fin 1024) :
    out0_12 (X0 m c t) (X1 m c t) (X2 m c t) (X3 m c t) (X4 m c t) (X5 m c t) (X6 m c t) (X7 m c t) (X8 m c t) (X9 m c t) (X10 m c t) (ix2 r i)
      = merged (A1 m c) (A2 m c) (A3 m c) (A4 m c) (A5 m c) (A6 m c) (A7 m c) R i :=
  (out12_apply _ _ _ _ _ _ _ _ _ _ _ r i).trans (merged_point m c t r R hR i)

theorem left13 (J : Fin 3072) :
    out0_13 (X0 m c t) (X1 m c t) (X2 m c t) (X3 m c t) (X4 m c t) (X5 m c t) (X6 m c t) (X7 m c t) (X8 m c t) (X9 m c t) (X10 m c t) (ix2 r J)
      = branch (A2 m c) (A3 m c) (A4 m c) (A5 m c) (A6 m c) (A7 m c) R J := by
  unfold out0_13
  canon_tiles x w
  · have w1 : J.val = 2048 + (x 1).val := w1
    rw [idx2 x r ⟨(x 1).val, x1_lt⟩ w0.symm rfl, branch, dif_neg (by omega), dif_neg (by omega)]
    refine (narrow12 r _ _).trans ((mem_point m c t r R hR _).trans (congrArg (prod _ _ R) (Fin.ext ?_)))
    dsimp only
    omega
  · have w1 : J.val = 1024 + (x 1).val := w1
    rw [idx2 x r ⟨(x 1).val, x1_lt⟩ w0.symm rfl, branch, dif_neg (by omega), dif_pos (by omega)]
    refine (narrow11 r _ _).trans ((pool_point m c t r R hR _).trans (congrArg (prod _ _ R) (Fin.ext ?_)))
    dsimp only
    omega
  · have w1 : J.val = (x 1).val := w1
    rw [idx2 x r ⟨(x 1).val, x1_lt⟩ w0.symm rfl, branch, dif_pos (by omega)]
    refine (narrow10 r _ _).trans ((ret_point m c t r R hR _).trans (congrArg (prod _ _ R) (Fin.ext ?_)))
    dsimp only
    omega

end Point

/-! ## What the arrays hold after the run -/

theorem out11 : (dats m 0 c).arrAt 11 cfg0.N = streams (A0 m c) (A1 m c) (A2 m c) (A3 m c) (A4 m c) (A5 m c) (A6 m c) (A7 m c) (A8 m c) := by
  refine (dats m 0 c).arrAt_eq_of_covers 11 _ (by decide +kernel) fun t hf y => ?_
  obtain ⟨-, -, e, -⟩ := idx t
  rw [after0_11]
  unfold streams
  have hy0 : (y 0).val < 512 := (y 0).isLt
  have hy1 : (y 1).val < 1024 := (y 1).isLt
  have ht : t.val < 16 := lt_of_lt_of_eq t.isLt N_0
  have hi : (((cfg0.win 11).blk t).view.emb y) = ix2 (⟨512 * t.val + (y 0).val, by omega⟩ : Fin 8192) (⟨(y 1).val, hy1⟩ : Fin 1024) := by
    refine idx2 _ _ _ ?_ ?_ <;> blk_simp [e] <;> (try dsimp only) <;> omega
  rw [hi]
  refine Eq.trans ?_ (left11 m c t ⟨(y 0).val, hy0⟩ _ rfl ⟨(y 1).val, hy1⟩)
  blk_simp
  exact congrArg (out0_11 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (idx2 _ _ _ rfl rfl)

theorem out12 : (dats m 0 c).arrAt 12 cfg0.N = mergeds (A1 m c) (A2 m c) (A3 m c) (A4 m c) (A5 m c) (A6 m c) (A7 m c) := by
  refine (dats m 0 c).arrAt_eq_of_covers 12 _ (by decide +kernel) fun t hf y => ?_
  obtain ⟨-, -, -, e, -⟩ := idx t
  rw [after0_12]
  unfold mergeds
  have hy0 : (y 0).val < 512 := (y 0).isLt
  have hy1 : (y 1).val < 1024 := (y 1).isLt
  have ht : t.val < 16 := lt_of_lt_of_eq t.isLt N_0
  have hi : (((cfg0.win 12).blk t).view.emb y) = ix2 (⟨512 * t.val + (y 0).val, by omega⟩ : Fin 8192) (⟨(y 1).val, hy1⟩ : Fin 1024) := by
    refine idx2 _ _ _ ?_ ?_ <;> blk_simp [e] <;> (try dsimp only) <;> omega
  rw [hi]
  refine Eq.trans ?_ (left12 m c t ⟨(y 0).val, hy0⟩ _ rfl ⟨(y 1).val, hy1⟩)
  blk_simp
  exact congrArg (out0_12 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (idx2 _ _ _ rfl rfl)

theorem out13 : (dats m 0 c).arrAt 13 cfg0.N = branches (A2 m c) (A3 m c) (A4 m c) (A5 m c) (A6 m c) (A7 m c) := by
  refine (dats m 0 c).arrAt_eq_of_covers 13 _ (by decide +kernel) fun t hf y => ?_
  obtain ⟨-, -, -, -, e⟩ := idx t
  rw [after0_13]
  unfold branches
  have hy0 : (y 0).val < 512 := (y 0).isLt
  have hy1 : (y 1).val < 3072 := (y 1).isLt
  have ht : t.val < 16 := lt_of_lt_of_eq t.isLt N_0
  have hi : (((cfg0.win 13).blk t).view.emb y) = ix2 (⟨512 * t.val + (y 0).val, by omega⟩ : Fin 8192) (⟨(y 1).val, hy1⟩ : Fin 3072) := by
    refine idx2 _ _ _ ?_ ?_ <;> blk_simp [e] <;> (try dsimp only) <;> omega
  rw [hi]
  refine Eq.trans ?_ (left13 m c t ⟨(y 0).val, hy0⟩ _ rfl ⟨(y 1).val, hy1⟩)
  blk_simp
  exact congrArg (out0_13 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (idx2 _ _ _ rfl rfl)

end Cert.Mergef

end
-- ==== Proof.MergefClaim.lean ====
/- The merge of the branches: kernel and reference end with the same three arrays, with no condition on the arguments. The reference
   writes a gate as one over one plus an exponential and multiplies by whole weights. -/
module

public import proofs.«01_k».proof.Defs
public import proofs.«01_k».proof.Proof.MergefOut
public import proofs.«01_k».proof.Proof.Gen.Reference12Ideal.Read
public import proofs.«01_k».proof.Proof.Gen.Reference12Ideal.Run
public import Idealize.ShloMosaic.Adequacy
public import Idealize.ShloMosaic.Init

@[expose] public section

noncomputable section

namespace Cert.Mergef

open Idealize.ShloMosaic

section Ref

open Cert.Reference12Ideal Cert.Reference12Ideal.Read

variable (x0 : (⟨S8192x1024, .f32⟩ : BufTy).Contents (Elt Ideal)) (x1 : (⟨S8192x7168, .bf16⟩ : BufTy).Contents (Elt Ideal))
  (x2 : (⟨S8192x1024, .bf16⟩ : BufTy).Contents (Elt Ideal)) (x3 x4 : (⟨S8192x512, .bf16⟩ : BufTy).Contents (Elt Ideal))
  (x5 : (⟨S1024x1024, .f32⟩ : BufTy).Contents (Elt Ideal)) (x6 x7 : (⟨S512x1024, .f32⟩ : BufTy).Contents (Elt Ideal))
  (x8 : (⟨S1024x1024, .f32⟩ : BufTy).Contents (Elt Ideal))

/-- The reference's gates. -/
theorem ref_gate (n : Fin 8192) (J : Fin 3072) : val_main_v13 x1 (ix2 n J) = gate x1 n J := by
  unfold gate val_main_v13 val_main_v12 val_main_v11 val_main_v10 val_main_v9 val_main_v8 val_main_v7 val_main_v6 val_main_cst val_main_cst_0
  pointwise
  rfl

/-- The reference's products. -/
theorem ref_ret (n : Fin 8192) (i : Fin 1024) : val_main_v1 x2 x5 (ix2 n i) = prod x2 x5 n i := by
  unfold prod val_main_v1 val_main_v0
  pointwise

theorem ref_pool (n : Fin 8192) (i : Fin 1024) : val_main_v3 x3 x6 (ix2 n i) = prod x3 x6 n i := by
  unfold prod val_main_v3 val_main_v2
  pointwise

theorem ref_mem (n : Fin 8192) (i : Fin 1024) : val_main_v5 x4 x7 (ix2 n i) = prod x4 x7 n i := by
  unfold prod val_main_v5 val_main_v4
  pointwise

theorem ref_gate0 (n : Fin 8192) (i : Fin 1024) : val_main_v14 x1 (ix2 n i) = gate x1 n ⟨0 + i.val, by omega⟩ := by
  rw [← ref_gate]
  unfold val_main_v14
  pointwise

theorem ref_gate1 (n : Fin 8192) (i : Fin 1024) : val_main_v15 x1 (ix2 n i) = gate x1 n ⟨1024 + i.val, by omega⟩ := by
  rw [← ref_gate]
  unfold val_main_v15
  pointwise

theorem ref_gate2 (n : Fin 8192) (i : Fin 1024) : val_main_v16 x1 (ix2 n i) = gate x1 n ⟨2048 + i.val, by omega⟩ := by
  rw [← ref_gate]
  unfold val_main_v16
  pointwise

/-- The reference's gated sum. -/
theorem ref_merged (n : Fin 8192) (i : Fin 1024) :
    val_main_v21 x1 x2 x3 x4 x5 x6 x7 (ix2 n i) = merged x1 x2 x3 x4 x5 x6 x7 n i := by
  rw [merged, ← ref_gate0, ← ref_gate1, ← ref_gate2, ← ref_ret, ← ref_pool, ← ref_mem]
  unfold val_main_v21 val_main_v20 val_main_v19 val_main_v18 val_main_v17
  pointwise

/-- The reference's residual stream. -/
theorem ref_streams : val_main_v23 x0 x1 x2 x3 x4 x5 x6 x7 x8 = streams x0 x1 x2 x3 x4 x5 x6 x7 x8 := by
  funext y
  obtain ⟨n, i, rfl⟩ : ∃ (n : Fin 8192) (i : Fin 1024), y = ix2 n i := ⟨y 0, y 1, Loads.idx2 _ _ _ rfl rfl⟩
  unfold streams
  refine Eq.trans ?_ (congrArg (x0 (ix2 n i) + ·) (Finset.sum_congr rfl fun J _ => congrArg (· * x8 (ix2 J i)) (ref_merged x1 x2 x3 x4 x5 x6 x7 n J)))
  unfold val_main_v23 val_main_v22
  pointwise

/-- The reference's narrowed gated sum. -/
theorem ref_mergeds : val_main_v24 x1 x2 x3 x4 x5 x6 x7 = mergeds x1 x2 x3 x4 x5 x6 x7 := by
  funext y
  obtain ⟨n, i, rfl⟩ : ∃ (n : Fin 8192) (i : Fin 1024), y = ix2 n i := ⟨y 0, y 1, Loads.idx2 _ _ _ rfl rfl⟩
  unfold mergeds
  refine Eq.trans ?_ (ref_merged x1 x2 x3 x4 x5 x6 x7 n i)
  unfold val_main_v24
  pointwise

/-- The reference's products side by side. -/
theorem ref_branches : val_main_v26 x2 x3 x4 x5 x6 x7 = branches x2 x3 x4 x5 x6 x7 := by
  funext y
  obtain ⟨n, J, rfl⟩ : ∃ (n : Fin 8192) (J : Fin 3072), y = ix2 n J := ⟨y 0, y 1, Loads.idx2 _ _ _ rfl rfl⟩
  have hJ := J.isLt
  unfold branches branch val_main_v26 val_main_v25
  pointwise
  by_cases c0 : J.val < 1024
  · rw [dif_pos c0, dif_pos c0]
    exact ref_ret x2 x5 n ⟨_, c0⟩
  rw [dif_neg c0, dif_neg c0]
  by_cases c1 : J.val - 1024 < 1024
  · rw [dif_pos c1, dif_pos c1]
    exact ref_pool x3 x6 n ⟨_, c1⟩
  rw [dif_neg c1, dif_neg c1]
  exact ref_mem x4 x7 n ⟨J.val - 1024 - 1024, by omega⟩

end Ref

section Kernel

open Cert.Kernel12Ideal Cert.Kernel12Ideal.Gen Idealize.ShloMosaic.TcCoe Idealize.SL.Sem

variable (m : (ℓ : Loc nD τ sig) → Buf (Elt Ideal) ℓ)

/-- The kernel runs and ends with those three arrays, its arguments unchanged. -/
theorem run (g : Dev nD → PrngReg) :
    θ_run defs (onTc (τ := τ) (main (F := Ideal))) ⟨m, fun _ => 0, g⟩ fun r => ∀ c : Dev nD,
      r.2.mem ((c.tc : Thread nD τ).loc main_v10_0)
        = streams (A0 m c) (A1 m c) (A2 m c) (A3 m c) (A4 m c) (A5 m c) (A6 m c) (A7 m c) (A8 m c)
      ∧ r.2.mem ((c.tc : Thread nD τ).loc main_v10_1) = mergeds (A1 m c) (A2 m c) (A3 m c) (A4 m c) (A5 m c) (A6 m c) (A7 m c)
      ∧ r.2.mem ((c.tc : Thread nD τ).loc main_v10_2) = branches (A2 m c) (A3 m c) (A4 m c) (A5 m c) (A6 m c) (A7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).1 11).trans (out11 m c), ((h c).1 12).trans (out12 m c), ((h c).1 13).trans (out13 m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m g)

end Kernel

/-- The reference runs and leaves its arguments as they were. -/
theorem frame_reference : quiescent_Reference12Ideal := fun m g _ =>
  (θ_run _ _ _).mono (fun r h => ⟨fun c => (h c).2.2.2, sem_eq_zero_of_no_sems (by decide) r.2⟩)
    (Cert.Reference12Ideal.Value.run m g)

/-- Kernel and reference end with equal results. -/
theorem value : algebraic_Kernel12Ideal_Reference12Ideal := by
  pair_intro
  · run_from run m g
  · refine θ_run_mono (Cert.Reference12Ideal.Value.run m' g') fun r hr c => ?_
    obtain ⟨h0, h1, h2, h3⟩ := hr c
    obtain ⟨a0, a1, a2, a3, a4, a5, a6, a7, a8⟩ := hagree c
    refine ⟨h0.trans ?_, h1.trans ?_, h2.trans ?_, h3⟩
    · rw [a0, a1, a2, a3, a4, a5, a6, a7, a8]
      exact ref_streams _ _ _ _ _ _ _ _ _
    · rw [a1, a2, a3, a4, a5, a6, a7]
      exact ref_mergeds _ _ _ _ _ _ _
    · rw [a2, a3, a4, a5, a6, a7]
      exact ref_branches _ _ _ _ _ _

end Cert.Mergef

end
-- ==== Proof.MemfOut.lean ====
/- The memory attention, kernel's side: each row's query against the keys of its batch element, head by head, and the
   weights' product with the values. The grid walks 16 tiles of 512 rows, four to a batch element; a tile's four heads
   are four column blocks of its output. Rows, columns and scores are those of `MemSpec`. -/
module

public import proofs.«01_k».proof.Proof.Gen.Kernel13Ideal.Value
public import proofs.«01_k».proof.Proof.Loads
public import proofs.«01_k».proof.Proof.MemSpec

@[expose] public section

noncomputable section

namespace Cert.Memf

open Cert.Loads Cert.Mem Idealize.ShloMosaic Idealize.ShloMosaic.TcCoe Idealize.SL.Sem Cert.Kernel13Ideal Cert.Kernel13Ideal.Gen

/-- The attention's output at one row, head and entry. -/
def attA (X0 : (⟨2, ![8192, 7168]⟩ : Shape).Idx → EReal) (X1 : (⟨2, ![1024, 1024]⟩ : Shape).Idx → EReal)
    (b h : Fin 4) (s : Fin 2048) (e : Fin 128) : EReal :=
  ∑ m, att (scoreA X0 X1 b h s) m * X1 (ix2 (mrow b m) (vcol h e))

/-- The attention's output as one function of the projections and the memory's keys and values. -/
def read (X0 : (⟨2, ![8192, 7168]⟩ : Shape).Idx → EReal) (X1 : (⟨2, ![1024, 1024]⟩ : Shape).Idx → EReal) :
    (⟨2, ![8192, 512]⟩ : Shape).Idx → EReal := fun i =>
  attA X0 X1 ⟨(i 0).val / 2048, by have := (i 0).isLt; change (i 0).val < 8192 at this; omega⟩
    ⟨(i 1).val / 128, by have := (i 1).isLt; change (i 1).val < 512 at this; omega⟩
    ⟨(i 0).val % 2048, by omega⟩ ⟨(i 1).val % 128, by omega⟩

theorem read_eq (X0 : (⟨2, ![8192, 7168]⟩ : Shape).Idx → EReal) (X1 : (⟨2, ![1024, 1024]⟩ : Shape).Idx → EReal)
    (b h : Fin 4) (s : Fin 2048) (e : Fin 128) (i : (⟨2, ![8192, 512]⟩ : Shape).Idx)
    (h0 : (i 0).val = 2048 * b.val + s.val) (h1 : (i 1).val = 128 * h.val + e.val) : read X0 X1 i = attA X0 X1 b h s e := by
  have := h.isLt; have := e.isLt; have := s.isLt
  exact congr (congr (congr (congrArg (attA X0 X1) (Fin.ext (by dsimp only; omega))) (Fin.ext (by dsimp only; omega)))
    (Fin.ext (by dsimp only; omega))) (Fin.ext (by dsimp only; omega))

section Pay

variable (q : Vec Ideal S512x128 .bf16) (k v : Vec Ideal S256x128 .bf16)

/-- The scores of one row of one head's block. -/
def score (r : Fin 512) : Fin 256 → EReal := fun m => (∑ e, q (ix2 r e) * k (ix2 m e)) * scale

theorem att_apply (r : Fin 512) (m : Fin 256) : (k0_pay3 q k : FVec Ideal S512x256 .bf16) (ix2 r m) = att (score q k r) m := by
  unfold k0_pay3
  pointwise
  rfl

/-- One head's output. -/
theorem head_apply (r : Fin 512) (e : Fin 128) :
    (k0_pay4 (k0_pay3 q k) v : FVec Ideal S512x128 .bf16) (ix2 r e) = ∑ m, att (score q k r) m * v (ix2 m e) := by
  unfold k0_pay4
  pointwise
  simp only [att_apply]

theorem head0 : k0_pay2 q k v = k0_pay4 (k0_pay3 q k) v := rfl
theorem head2 : k0_pay5 q k v = k0_pay4 (k0_pay3 q k) v := rfl
theorem head3 : k0_pay1 (k0_pay6 q k) (k0_pay7 q k) v = k0_pay4 (k0_pay3 q k) v := rfl

end Pay

/-- One head's output, its three blocks loaded from the point's two. -/
theorem head_loads (x0 : Vec Ideal S512x512 .bf16) (x1 : Vec Ideal S256x1024 .bf16) (h : Fin 4) (o o' : ℕ) (iq ik iv)
    (ho : o = 128 * h.val) (ho' : o' = 512 + 128 * h.val) (r : Fin 512) (e : Fin 128) :
    (k0_pay4 (k0_pay3 (View.ld x0 (Rect.unit ![0, o] ![512, 128] iq)) (View.ld x1 (Rect.unit ![0, o] ![256, 128] ik)))
        (View.ld x1 (Rect.unit ![0, o'] ![256, 128] iv)) : FVec Ideal S512x128 .bf16) (ix2 r e)
      = ∑ m, att (fun m => (∑ e, x0 (ix2 r (qcol h e)) * x1 (ix2 m (kcol h e))) * scale) m * x1 (ix2 m (vcol h e)) := by
  rw [head_apply]
  refine Finset.sum_congr rfl fun m _ => congr_arg₂ (fun s z => att s m * z) (funext fun m => ?_)
    (ld2 x1 0 o' _ m e m (vcol h e) (by simp) (by simp [ho']))
  exact congrArg (· * scale) (Finset.sum_congr rfl fun e _ => congr_arg₂ (· * ·)
    (ld2 x0 0 o _ r e r (qcol h e) (by simp) (by simp [ho])) (ld2 x1 0 o _ m e m (kcol h e) (by simp) (by simp [ho])))

/-- What a grid point leaves in its block. -/
theorem out2 (x0 : Vec Ideal S512x512 .bf16) (x1 : Vec Ideal S256x1024 .bf16) (h : Fin 4) (r : Fin 512) (e : Fin 128) :
    out0_2 x0 x1 (ix2 r (qcol h e))
      = ∑ m, att (fun m => (∑ e, x0 (ix2 r (qcol h e)) * x1 (ix2 m (kcol h e))) * scale) m * x1 (ix2 m (vcol h e)) := by
  unfold out0_2
  canon_tiles x w
  · obtain rfl : h = 3 := Fin.ext (by simp at w1 ⊢; omega)
    rw [idx2 x r e (by simpa using w0.symm) (by simpa using w1.symm), head3]
    exact head_loads x0 x1 3 384 896 _ _ _ rfl rfl r e
  · obtain rfl : h = 2 := Fin.ext (by simp at w1 ⊢; omega)
    rw [idx2 x r e (by simpa using w0.symm) (by simpa using w1.symm), head2]
    exact head_loads x0 x1 2 256 768 _ _ _ rfl rfl r e
  · obtain rfl : h = 1 := Fin.ext (by simp at w1 ⊢; omega)
    rw [idx2 x r e (by simpa using w0.symm) (by simpa using w1.symm)]
    exact head_loads x0 x1 1 128 640 _ _ _ rfl rfl r e
  · obtain rfl : h = 0 := Fin.ext (by simp at w1 ⊢; omega)
    rw [idx2 x r e (by simpa using w0.symm) (by simpa using w1.symm), head0]
    exact head_loads x0 x1 0 0 512 _ _ _ rfl rfl r e

variable (m : (ℓ : Loc nD τ sig) → Buf (Elt Ideal) ℓ) (c : Dev nD)

/-- The argument arrays as launched. -/
abbrev A0 : (⟨2, ![8192, 7168]⟩ : Shape).Idx → EReal := m ((c : Thread nD τ).loc main_arg0)
abbrev A1 : (⟨2, ![1024, 1024]⟩ : Shape).Idx → EReal := m ((c : Thread nD τ).loc main_arg1)

/-- Where each window's block of a point lies: batch element `t / 4`, row tile `t`. -/
theorem idx : ∀ t : Fin cfg0.N, win0_0.index t = ![t.val, 7] ∧ win0_1.index t = ![t.val / 4, 0] ∧ win0_2.index t = ![t.val, 0] :=
  (by decide +kernel : ∀ t : Fin grid0.N, win0_0.index t = ![t.val, 7] ∧ win0_1.index t = ![t.val / 4, 0] ∧ win0_2.index t = ![t.val, 0])

theorem N16 (t : Fin cfg0.N) : t.val < 16 := lt_of_lt_of_eq t.isLt N_0

abbrev X0 (t : Fin cfg0.N) : Vec Ideal S512x512 .bf16 := iblk m c 0 t
abbrev X1 (t : Fin cfg0.N) : Vec Ideal S256x1024 .bf16 := iblk m c 1 t

/-- The query block of a point holds its rows of the query columns. -/
theorem iblk0 (t : Fin cfg0.N) (r : Fin 512) (j : Fin 512) (R : Fin 8192) (J : Fin 7168) (hR : R.val = 512 * t.val + r.val)
    (hJ : J.val = 3584 + j.val) : X0 m c t (ix2 r j) = A0 m c (ix2 R J) := by
  obtain ⟨e0, -⟩ := idx t
  blk_ext [iblk, V, e0]

/-- The memory's block of a point holds the keys and values of its batch element. -/
theorem iblk1 (t : Fin cfg0.N) (r : Fin 256) (j : Fin 1024) (R : Fin 1024) (hR : R.val = 256 * (t.val / 4) + r.val) :
    X1 m c t (ix2 r j) = A1 m c (ix2 R j) := by
  obtain ⟨-, e0, -⟩ := idx t
  blk_ext [iblk, V, e0]

/-- The batch element of a point, and the position of a row of its tile. -/
abbrev bat (t : Fin cfg0.N) : Fin 4 := ⟨t.val / 4, by have := N16 t; omega⟩
abbrev pos (t : Fin cfg0.N) (r : Fin 512) : Fin 2048 := ⟨512 * (t.val % 4) + r.val, by omega⟩

/-- What a grid point leaves in its block, from the argument arrays. -/
theorem left2 (t : Fin cfg0.N) (h : Fin 4) (r : Fin 512) (e : Fin 128) :
    out0_2 (X0 m c t) (X1 m c t) (ix2 r (qcol h e)) = attA (A0 m c) (A1 m c) (bat t) h (pos t r) e := by
  rw [out2]
  refine Finset.sum_congr rfl fun x _ => congr_arg₂ (fun s z => att s x * z) (funext fun x => ?_)
    (iblk1 m c t x (vcol h e) _ (by dsimp only))
  refine congrArg (· * scale) (Finset.sum_congr rfl fun e _ => ?_)
  refine congr_arg₂ (· * ·) (iblk0 m c t r (qcol h e) _ _ ?_ ?_) (iblk1 m c t x (kcol h e) _ ?_) <;> dsimp only <;> omega

/-- The result array after the run. -/
theorem out_read : (dats m 0 c).arrAt 2 cfg0.N = read (A0 m c) (A1 m c) := by
  refine (dats m 0 c).arrAt_eq_of_covers 2 _ (by decide +kernel) fun t hf y => ?_
  obtain ⟨-, -, e2⟩ := idx t
  rw [after0_2]
  have hy0 : (y 0).val < 512 := (y 0).isLt
  have hy1 : (y 1).val < 512 := (y 1).isLt
  have := N16 t
  have key := left2 m c t ⟨(y 1).val / 128, by omega⟩ ⟨(y 0).val, hy0⟩ ⟨(y 1).val % 128, by omega⟩
  rw [read_eq (A0 m c) (A1 m c) (bat t) ⟨(y 1).val / 128, by omega⟩ (pos t ⟨(y 0).val, hy0⟩)
    ⟨(y 1).val % 128, by omega⟩ _ (by blk_simp [e2]; dsimp only [bat, pos]; omega) (by blk_simp [e2]; dsimp only [bat, pos]; omega), ← key]
  blk_simp
  exact congrArg (out0_2 (iblk m c 0 t) (iblk m c 1 t)) (idx2 _ _ _ rfl (by dsimp only; omega))

end Cert.Memf

end
-- ==== Proof.MemfClaim.lean ====
/- The memory attention: kernel and reference end with the same array, with no condition on the arguments. -/
module

public import proofs.«01_k».proof.Defs
public import proofs.«01_k».proof.Proof.MemfOut
public import proofs.«01_k».proof.Proof.MemRef
public import proofs.«01_k».proof.Proof.Gen.Reference13Ideal.Read
public import proofs.«01_k».proof.Proof.Gen.Reference13Ideal.Run
public import Idealize.ShloMosaic.Adequacy
public import Idealize.ShloMosaic.Init

@[expose] public section

noncomputable section

namespace Cert.Memf

open Idealize.ShloMosaic Cert.Mem

section Ref

open Cert.Reference13Ideal Cert.Reference13Ideal.Read

variable (x0 : (⟨S8192x7168, .bf16⟩ : BufTy).Contents (Elt Ideal)) (x1 : (⟨S1024x1024, .bf16⟩ : BufTy).Contents (Elt Ideal))

/-- The reference's queries. -/
theorem ref_query (b : Fin 4) (s : Fin 2048) (h : Fin 4) (e : Fin 128) :
    val_main_v2 x0 (ix4 b s h e) = x0 (ix2 (row b s) (pcol h e)) := by
  unfold val_main_v2 val_main_v1 val_main_v0
  pointwise
  blk_ext

/-- The reference's keys. -/
theorem ref_key (b : Fin 4) (m : Fin 256) (h : Fin 4) (e : Fin 128) :
    val_main_v7 x1 (ix4 b m h e) = x1 (ix2 (mrow b m) (kcol h e)) := by
  unfold val_main_v7 val_main_v5 val_main_v4 val_main_v3
  pointwise
  blk_ext

/-- The reference's values. -/
theorem ref_value (b : Fin 4) (m : Fin 256) (h : Fin 4) (e : Fin 128) :
    val_main_v8 x1 (ix4 b m h e) = x1 (ix2 (mrow b m) (vcol h e)) := by
  unfold val_main_v8 val_main_v6 val_main_v4 val_main_v3
  pointwise
  blk_ext

/-- The reference's scores. -/
theorem ref_scores (b h : Fin 4) (s : Fin 2048) (m : Fin 256) :
    val_main_v11 x0 x1 (ix4 b h s m) = scoreA x0 x1 b h s m := by
  unfold val_main_v11 val_main_v10 val_main_v9 val_main_cst scoreA
  pointwise
  simp only [ref_query, ref_key]

/-- The largest score of each row, as the maximum over the row. -/
theorem ref_largest (b h : Fin 4) (s : Fin 2048) : val_main_v12 x0 x1 (ix3 b h s) = rowMax (scoreA x0 x1 b h s) := by
  unfold val_main_v12 val_main_cst_0
  pointwise
  exact congrArg (Finset.univ.fold max (Ideal.ofBits .f32 0xFF800000#32)) (funext (ref_scores x0 x1 b h s))

/-- The vector of minus infinities. -/
theorem ref_least (i : S4x4x2048.Idx) : val_main_v13 (F := Ideal) i = (⊥ : EReal) := by
  unfold val_main_v13 val_main_cst_1
  pointwise
  exact Reals.ofBits_neg_inf

/-- The largest score of each row, not less than minus infinity. -/
theorem ref_top (b h : Fin 4) (s : Fin 2048) : val_main_v14 x0 x1 (ix3 b h s) = rowMax (scoreA x0 x1 b h s) := by
  rw [← ref_largest]
  unfold val_main_v14
  rw [max_bot _ _ ref_least]

/-- The exponentials. -/
theorem ref_exps (b h : Fin 4) (s : Fin 2048) (m : Fin 256) :
    val_main_v18 x0 x1 (ix4 b h s m) = ex (scoreA x0 x1 b h s) m := by
  unfold val_main_v18 val_main_v17 val_main_v16 val_main_v15 ex
  pointwise
  simp only [ref_scores, ref_top]

/-- The attention weights. -/
theorem ref_weights (b h : Fin 4) (s : Fin 2048) (m : Fin 256) :
    val_main_v22 x0 x1 (ix4 b h s m) = att (scoreA x0 x1 b h s) m := by
  unfold val_main_v22 val_main_v21 val_main_v20 val_main_v19 val_main_cst_2 att
  pointwise
  simp only [ref_exps]

/-- The weights' product with the values. -/
theorem ref_att_values (b h : Fin 4) (e : Fin 128) (s : Fin 2048) :
    val_main_v23 x0 x1 (ix4 b h e s) = attA x0 x1 b h s e := by
  unfold val_main_v23 attA
  pointwise
  simp only [ref_value, ref_weights]
  exact Finset.sum_congr rfl fun m _ => mul_comm _ _

/-- The product as the columns of 8192 rows, one head after the other. -/
theorem ref_columns (b h : Fin 4) (s : Fin 2048) (e : Fin 128) :
    val_main_v26 x0 x1 (ix2 (row b s) (qcol h e)) = attA x0 x1 b h s e := by
  rw [← ref_att_values]
  unfold val_main_v26 val_main_v25 val_main_v24
  pointwise
  blk_ext

/-- The reference's result. -/
theorem ref_read : val_main_v26 x0 x1 = read x0 x1 := by
  funext i
  have hi0 : (i 0).val < 8192 := (i 0).isLt
  have hi1 : (i 1).val < 512 := (i 1).isLt
  refine Eq.trans (congrArg (val_main_v26 x0 x1) (Loads.idx2 _ _ _ ?_ ?_)) (ref_columns x0 x1 ⟨(i 0).val / 2048, by omega⟩
    ⟨(i 1).val / 128, by omega⟩ ⟨(i 0).val % 2048, by omega⟩ ⟨(i 1).val % 128, by omega⟩) <;> dsimp only <;> omega

end Ref

/-- The reference runs and leaves its arguments as they were. -/
theorem frame_reference : quiescent_Reference13Ideal := fun m g _ =>
  (θ_run _ _ _).mono (fun r h => ⟨fun c => (h c).2, sem_eq_zero_of_no_sems (by decide) r.2⟩)
    (Cert.Reference13Ideal.Value.run m g)

/-- Kernel and reference end with equal results. -/
theorem value : algebraic_Kernel13Ideal_Reference13Ideal := by
  pair_intro
  · run_from Cert.Kernel13Ideal.Value.run_blocks m g
  · refine θ_run_mono (Cert.Reference13Ideal.Value.run m' g') fun r hr c => ?_
    obtain ⟨h0, h1⟩ := hr c
    obtain ⟨a0, a1⟩ := hagree c
    refine ⟨h0.trans ?_, h1⟩
    rw [a0, a1, Cert.Reference13Ideal.Read.val_main_v26_eq]
    exact (ref_read _ _).trans (out_read m c).symm

end Cert.Memf

end
-- ==== Proof.AdamMath.lean ====
/- One step of the optimiser at one entry, and of whole arrays entry by entry: the new moments from the gradient `g` and the
   old moments `m`, `v`, and the change of the weight `w`. -/
module

public import Idealize.ShloMosaic.Lib.Pipeline.ValueKit
public import Idealize.ShloMosaic.Lib.Pointwise

@[expose] public section

noncomputable section

namespace Cert.Adam

open Idealize.ShloMosaic

/-- The first moment: nine tenths of the old and a tenth of the gradient, in the printed words. -/
def mom (g m : EReal) : EReal := Ideal.ofBits .f32 0x3F666666#32 * m + Ideal.ofBits .f32 0x3DCCCCCD#32 * g

/-- The second moment. -/
def sec (g v : EReal) : EReal := Ideal.ofBits .f32 0x3F7FBE77#32 * v + Ideal.ofBits .f32 0x3A83126F#32 * (g * g)

/-- The weight's change. -/
def change (w g m v : EReal) : EReal :=
  Ideal.ofBits .f32 0xBA83126F#32 *
    (Ideal.div (Ideal.div (mom g m) (Ideal.ofBits .f32 0x3F26BD02#32))
        (Ideal.sqrt (Ideal.div (sec g v) (Ideal.ofBits .f32 0x3C231ACC#32)) + Ideal.ofBits .f32 0x322BCC77#32)
      + Ideal.ofBits .f32 0x3C23D70A#32 * w)

variable {s t : Shape}

/-- The same of arrays. -/
def moms (g m : s.Idx → EReal) : s.Idx → EReal := fun i => mom (g i) (m i)
def secs (g v : s.Idx → EReal) : s.Idx → EReal := fun i => sec (g i) (v i)
def changes (w g m v : s.Idx → EReal) : s.Idx → EReal := fun i => change (w i) (g i) (m i) (v i)

variable (w g m v : s.Idx → EReal) (h : s.ShapeCasts t) (h' : t.ShapeCasts s)

/-- A step of arrays laid out otherwise is the step of the arrays. -/
theorem moms_cast : shapeCast s (moms (shapeCast t g h) (shapeCast t m h)) h' = moms g m := by
  have e : shapeCast s (moms (shapeCast t g h) (shapeCast t m h)) h'
    = moms (shapeCast s (shapeCast t g h) h') (shapeCast s (shapeCast t m h) h') := rfl
  rw [e, shapeCast_shapeCast, shapeCast_shapeCast]

theorem secs_cast : shapeCast s (secs (shapeCast t g h) (shapeCast t v h)) h' = secs g v := by
  have e : shapeCast s (secs (shapeCast t g h) (shapeCast t v h)) h'
    = secs (shapeCast s (shapeCast t g h) h') (shapeCast s (shapeCast t v h) h') := rfl
  rw [e, shapeCast_shapeCast, shapeCast_shapeCast]

theorem changes_cast : shapeCast s (changes (shapeCast t w h) (shapeCast t g h) (shapeCast t m h) (shapeCast t v h)) h'
    = changes w g m v := by
  have e : shapeCast s (changes (shapeCast t w h) (shapeCast t g h) (shapeCast t m h) (shapeCast t v h)) h'
    = changes (shapeCast s (shapeCast t w h) h') (shapeCast s (shapeCast t g h) h') (shapeCast s (shapeCast t m h) h')
        (shapeCast s (shapeCast t v h) h') := rfl
  rw [e, shapeCast_shapeCast, shapeCast_shapeCast, shapeCast_shapeCast, shapeCast_shapeCast]

end Cert.Adam

end
-- ==== Proof.AdinClaim.lean ====
/- The optimiser's step of the input projection's weight, all layers at once. The call's three
   results are `AdamMath`'s arrays of the four arrays it reads. -/
module

public import proofs.«01_k».proof.Defs
public import proofs.«01_k».proof.Proof.Gen.Kernel14Ideal.Run
public import proofs.«01_k».proof.Proof.Gen.Reference14Ideal.Read
public import proofs.«01_k».proof.Proof.Gen.Reference14Ideal.Run
public import proofs.«01_k».proof.Proof.AdamMath
public import proofs.«01_k».proof.Proof.Loads
public import Idealize.ShloMosaic.Adequacy
public import Idealize.ShloMosaic.Init

@[expose] public section

noncomputable section

namespace Cert.Adin

open Cert.Loads Cert.Adam Idealize.ShloMosaic

section Kernel

open Idealize.ShloMosaic.TcCoe Idealize.SL.Sem Cert.Kernel14Ideal Cert.Kernel14Ideal.Gen

/-- The step of a block, at one entry. -/
theorem mom_apply (g m : Vec Ideal S128x1792 .f32) (r : Fin 128) (j : Fin 1792) : k0_pay2 g m (ix2 r j) = mom (g (ix2 r j)) (m (ix2 r j)) := by
  unfold k0_pay2 k0_pay1
  pointwise
  rfl

theorem sec_apply (g v : Vec Ideal S128x1792 .f32) (r : Fin 128) (j : Fin 1792) : k0_pay3 g v (ix2 r j) = sec (g (ix2 r j)) (v (ix2 r j)) := by
  unfold k0_pay3 k0_pay1
  pointwise
  rfl

theorem change_apply (g m v w : Vec Ideal S128x1792 .f32) (r : Fin 128) (j : Fin 1792) :
    k0_pay4 g m v w (ix2 r j) = change (w (ix2 r j)) (g (ix2 r j)) (m (ix2 r j)) (v (ix2 r j)) := by
  unfold change
  rw [← mom_apply, ← sec_apply]
  unfold k0_pay4
  pointwise
  (try rfl)

/-- A load of a whole block. -/
theorem whole (x : Vec Ideal S128x1792 .f32) (r : Fin 128) (j : Fin 1792) : View.ld x r0_0 (ix2 r j) = x (ix2 r j) :=
  ld2 x 0 0 _ r j r j (by simp) (by simp)

/-- What a grid point leaves in its three blocks. -/
theorem out4 (x0 x1 x2 x3 : Vec Ideal S128x1792 .f32) (r : Fin 128) (j : Fin 1792) :
    out0_4 x0 x1 x2 x3 (ix2 r j) = change (x0 (ix2 r j)) (x1 (ix2 r j)) (x2 (ix2 r j)) (x3 (ix2 r j)) := by
  unfold out0_4
  canon_tiles x w
  rw [idx2 x r j (by simpa using w0.symm) (by simpa using w1.symm), change_apply]
  congr 1 <;> exact whole _ r j

theorem out5 (x0 x1 x2 x3 : Vec Ideal S128x1792 .f32) (r : Fin 128) (j : Fin 1792) :
    out0_5 x0 x1 x2 x3 (ix2 r j) = mom (x1 (ix2 r j)) (x2 (ix2 r j)) := by
  unfold out0_5
  canon_tiles x w
  rw [idx2 x r j (by simpa using w0.symm) (by simpa using w1.symm), mom_apply]
  congr 1 <;> exact whole _ r j

theorem out6 (x0 x1 x2 x3 : Vec Ideal S128x1792 .f32) (r : Fin 128) (j : Fin 1792) :
    out0_6 x0 x1 x2 x3 (ix2 r j) = sec (x1 (ix2 r j)) (x3 (ix2 r j)) := by
  unfold out0_6
  canon_tiles x w
  rw [idx2 x r j (by simpa using w0.symm) (by simpa using w1.symm), sec_apply]
  congr 1 <;> exact whole _ r j

variable (m : (ℓ : Loc nD τ sig) → Buf (Elt Ideal) ℓ) (c : Dev nD)

/-- The argument arrays as launched: the weight, its gradient and its two moments; -/
abbrev A0 : (⟨3, ![4, 1024, 1792]⟩ : Shape).Idx → EReal := m ((c : Thread nD τ).loc main_arg0)
abbrev A1 : (⟨3, ![4, 1024, 1792]⟩ : Shape).Idx → EReal := m ((c : Thread nD τ).loc main_arg1)
abbrev A2 : (⟨3, ![4, 1024, 1792]⟩ : Shape).Idx → EReal := m ((c : Thread nD τ).loc main_arg2)
abbrev A3 : (⟨3, ![4, 1024, 1792]⟩ : Shape).Idx → EReal := m ((c : Thread nD τ).loc main_arg3)

/-- the same as arrays of rows. -/
abbrev B0 : (⟨2, ![4096, 1792]⟩ : Shape).Idx → EReal := shapeCast _ (A0 m c) shapeCasts_S4x1024x1792_S4096x1792
abbrev B1 : (⟨2, ![4096, 1792]⟩ : Shape).Idx → EReal := shapeCast _ (A1 m c) shapeCasts_S4x1024x1792_S4096x1792
abbrev B2 : (⟨2, ![4096, 1792]⟩ : Shape).Idx → EReal := shapeCast _ (A2 m c) shapeCasts_S4x1024x1792_S4096x1792
abbrev B3 : (⟨2, ![4096, 1792]⟩ : Shape).Idx → EReal := shapeCast _ (A3 m c) shapeCasts_S4x1024x1792_S4096x1792

theorem entry0 : V m c main_v0 = B0 m c := by
  unfold V V0
  simp only [hostOps0, List.flatten_cons, List.flatten_nil, List.append_nil]
  after_results
  rfl

theorem entry1 : V m c main_v1 = B1 m c := by
  unfold V V0
  simp only [hostOps0, List.flatten_cons, List.flatten_nil, List.append_nil]
  after_results
  rfl

theorem entry2 : V m c main_v2 = B2 m c := by
  unfold V V0
  simp only [hostOps0, List.flatten_cons, List.flatten_nil, List.append_nil]
  after_results
  rfl

theorem entry3 : V m c main_v3 = B3 m c := by
  unfold V V0
  simp only [hostOps0, List.flatten_cons, List.flatten_nil, List.append_nil]
  after_results
  rfl

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0])

theorem points (t : Fin cfg0.N) : t.val < 32 := lt_of_lt_of_eq t.isLt N_0

/-- The blocks a point holds: rows of the arrays. -/
abbrev X0 (t : Fin cfg0.N) : Vec Ideal S128x1792 .f32 := iblk m c 0 t
abbrev X1 (t : Fin cfg0.N) : Vec Ideal S128x1792 .f32 := iblk m c 1 t
abbrev X2 (t : Fin cfg0.N) : Vec Ideal S128x1792 .f32 := iblk m c 2 t
abbrev X3 (t : Fin cfg0.N) : Vec Ideal S128x1792 .f32 := iblk m c 3 t

theorem iblk0 (t : Fin cfg0.N) (r : Fin 128) (j : Fin 1792) (R : Fin 4096) (hR : R.val = 128 * t.val + r.val) :
    X0 m c t (ix2 r j) = B0 m c (ix2 R j) := by
  obtain ⟨e0, -⟩ := idx t
  rw [← entry0]
  blk_ext [iblk, e0]

theorem iblk1 (t : Fin cfg0.N) (r : Fin 128) (j : Fin 1792) (R : Fin 4096) (hR : R.val = 128 * t.val + r.val) :
    X1 m c t (ix2 r j) = B1 m c (ix2 R j) := by
  obtain ⟨-, e0, -⟩ := idx t
  rw [← entry1]
  blk_ext [iblk, e0]

theorem iblk2 (t : Fin cfg0.N) (r : Fin 128) (j : Fin 1792) (R : Fin 4096) (hR : R.val = 128 * t.val + r.val) :
    X2 m c t (ix2 r j) = B2 m c (ix2 R j) := by
  obtain ⟨-, -, e0, -⟩ := idx t
  rw [← entry2]
  blk_ext [iblk, e0]

theorem iblk3 (t : Fin cfg0.N) (r : Fin 128) (j : Fin 1792) (R : Fin 4096) (hR : R.val = 128 * t.val + r.val) :
    X3 m c t (ix2 r j) = B3 m c (ix2 R j) := by
  obtain ⟨-, -, -, e0, -⟩ := idx t
  rw [← entry3]
  blk_ext [iblk, e0]

/-- The call's result array 0 after the run. -/
theorem out_change : (dats m 0 c).arrAt 4 cfg0.N = changes (B0 m c) (B1 m c) (B2 m c) (B3 m c) := by
  refine (dats m 0 c).arrAt_eq_of_covers 4 _ (by decide +kernel) fun t hf y => ?_
  obtain ⟨-, -, -, -, e4, -⟩ := idx t
  rw [after0_4]
  have hy0 : (y 0).val < 128 := (y 0).isLt
  have hy1 : (y 1).val < 1792 := (y 1).isLt
  have ht := points t
  have hi : (((cfg0.win 4).blk t).view.emb y) = ix2 (⟨128 * t.val + (y 0).val, by omega⟩ : Fin 4096) (⟨(y 1).val, hy1⟩ : Fin 1792) := by
    refine idx2 _ _ _ ?_ ?_ <;> blk_simp [e4] <;> (try dsimp only) <;> omega
  rw [hi]
  have key := out4 (X0 m c t) (X1 m c t) (X2 m c t) (X3 m c t) ⟨(y 0).val, hy0⟩ ⟨(y 1).val, hy1⟩
  rw [iblk0 m c t ⟨(y 0).val, hy0⟩ ⟨(y 1).val, hy1⟩ ⟨128 * t.val + (y 0).val, by omega⟩ rfl, iblk1 m c t ⟨(y 0).val, hy0⟩ ⟨(y 1).val, hy1⟩ ⟨128 * t.val + (y 0).val, by omega⟩ rfl, iblk2 m c t ⟨(y 0).val, hy0⟩ ⟨(y 1).val, hy1⟩ ⟨128 * t.val + (y 0).val, by omega⟩ rfl, iblk3 m c t ⟨(y 0).val, hy0⟩ ⟨(y 1).val, hy1⟩ ⟨128 * t.val + (y 0).val, by omega⟩ rfl] at key
  refine Eq.trans ?_ key
  blk_simp
  exact congrArg (out0_4 (iblk m c 0 t) (iblk m c 1 t) (iblk m c 2 t) (iblk m c 3 t)) (idx2 _ _ _ rfl rfl)

/-- The call's result array 1 after the run. -/
theorem out_mom : (dats m 0 c).arrAt 5 cfg0.N = moms (B1 m c) (B2 m c) := by
  refine (dats m 0 c).arrAt_eq_of_covers 5 _ (by decide +kernel) fun t hf y => ?_
  obtain ⟨-, -, -, -, -, e5, -⟩ := idx t
  rw [after0_5]
  have hy0 : (y 0).val < 128 := (y 0).isLt
  have hy1 : (y 1).val < 1792 := (y 1).isLt
  have ht := points t
  have hi : (((cfg0.win 5).blk t).view.emb y) = ix2 (⟨128 * t.val + (y 0).val, by omega⟩ : Fin 4096) (⟨(y 1).val, hy1⟩ : Fin 1792) := by
    refine idx2 _ _ _ ?_ ?_ <;> blk_simp [e5] <;> (try dsimp only) <;> omega
  rw [hi]
  have key := out5 (X0 m c t) (X1 m c t) (X2 m c t) (X3 m c t) ⟨(y 0).val, hy0⟩ ⟨(y 1).val, hy1⟩
  rw [iblk1 m c t ⟨(y 0).val, hy0⟩ ⟨(y 1).val, hy1⟩ ⟨128 * t.val + (y 0).val, by omega⟩ rfl, iblk2 m c t ⟨(y 0).val, hy0⟩ ⟨(y 1).val, hy1⟩ ⟨128 * t.val + (y 0).val, by omega⟩ rfl] at key
  refine Eq.trans ?_ key
  blk_simp
  exact congrArg (out0_5 (iblk m c 0 t) (iblk m c 1 t) (iblk m c 2 t) (iblk m c 3 t)) (idx2 _ _ _ rfl rfl)

/-- The call's result array 2 after the run. -/
theorem out_sec : (dats m 0 c).arrAt 6 cfg0.N = secs (B1 m c) (B3 m c) := by
  refine (dats m 0 c).arrAt_eq_of_covers 6 _ (by decide +kernel) fun t hf y => ?_
  obtain ⟨-, -, -, -, -, -, e6⟩ := idx t
  rw [after0_6]
  have hy0 : (y 0).val < 128 := (y 0).isLt
  have hy1 : (y 1).val < 1792 := (y 1).isLt
  have ht := points t
  have hi : (((cfg0.win 6).blk t).view.emb y) = ix2 (⟨128 * t.val + (y 0).val, by omega⟩ : Fin 4096) (⟨(y 1).val, hy1⟩ : Fin 1792) := by
    refine idx2 _ _ _ ?_ ?_ <;> blk_simp [e6] <;> (try dsimp only) <;> omega
  rw [hi]
  have key := out6 (X0 m c t) (X1 m c t) (X2 m c t) (X3 m c t) ⟨(y 0).val, hy0⟩ ⟨(y 1).val, hy1⟩
  rw [iblk1 m c t ⟨(y 0).val, hy0⟩ ⟨(y 1).val, hy1⟩ ⟨128 * t.val + (y 0).val, by omega⟩ rfl, iblk3 m c t ⟨(y 0).val, hy0⟩ ⟨(y 1).val, hy1⟩ ⟨128 * t.val + (y 0).val, by omega⟩ rfl] at key
  refine Eq.trans ?_ key
  blk_simp
  exact congrArg (out0_6 (iblk m c 0 t) (iblk m c 1 t) (iblk m c 2 t) (iblk m c 3 t)) (idx2 _ _ _ rfl rfl)

/-- The kernel runs and ends with the step of its arguments, which are unchanged. -/
theorem run (g : Dev nD → PrngReg) :
    θ_run defs (onTc (τ := τ) (main (F := Ideal))) ⟨m, fun _ => 0, g⟩ fun r => ∀ c : Dev nD,
      r.2.mem ((c.tc : Thread nD τ).loc main_v5) = changes (A0 m c) (A1 m c) (A2 m c) (A3 m c)
      ∧ r.2.mem ((c.tc : Thread nD τ).loc main_v6) = moms (A1 m c) (A2 m c)
      ∧ r.2.mem ((c.tc : Thread nD τ).loc main_v7) = secs (A1 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (Value.run m g) fun r hr c => by
    obtain ⟨h0, h1, h2, h3⟩ := hr c
    unfold Value.reg_main_v4_0 at h0
    unfold Value.reg_main_v4_1 at h1
    unfold Value.reg_main_v4_2 at h2
    rw [out_change m c] at h0
    rw [out_mom m c] at h1
    rw [out_sec m c] at h2
    exact ⟨h0.trans (changes_cast _ _ _ _ _ _), h1.trans (moms_cast _ _ _ _), h2.trans (secs_cast _ _ _ _), h3⟩

end Kernel

section Ref

open Cert.Reference14Ideal Cert.Reference14Ideal.Read

variable (x0 x1 x2 x3 : (⟨S4x1024x1792, .f32⟩ : BufTy).Contents (Elt Ideal))

/-- The reference's results. -/
theorem ref_mom : val_main_v4 x1 x2 = moms x1 x2 := by
  funext y
  unfold moms mom val_main_v4 val_main_v3 val_main_v2 val_main_cst_0 val_main_v1 val_main_v0 val_main_cst
  pointwise
  (try rfl)

theorem ref_sec : val_main_v10 x1 x3 = secs x1 x3 := by
  funext y
  unfold secs sec val_main_v10 val_main_v9 val_main_v8 val_main_cst_2 val_main_v7 val_main_v6 val_main_v5 val_main_cst_1
  pointwise
  (try rfl)

theorem ref_change : val_main_v23 x0 x1 x2 x3 = changes x0 x1 x2 x3 := by
  funext y
  rw [changes, change, ← show moms x1 x2 y = mom (x1 y) (x2 y) from rfl, ← show secs x1 x3 y = sec (x1 y) (x3 y) from rfl, ← ref_mom,
    ← ref_sec]
  unfold val_main_v23 val_main_v22 val_main_cst_7 val_main_v21 val_main_v20 val_main_v19 val_main_cst_6 val_main_v18 val_main_v17
    val_main_v16 val_main_cst_5 val_main_v15 val_main_v14 val_main_v13 val_main_cst_4 val_main_v12 val_main_v11 val_main_cst_3
  pointwise
  (try rfl)

end Ref

/-- The reference runs and leaves its arguments as they were. -/
theorem frame_reference : quiescent_Reference14Ideal := fun m g _ =>
  (θ_run _ _ _).mono (fun r h => ⟨fun c => (h c).2.2.2, sem_eq_zero_of_no_sems (by decide) r.2⟩)
    (Cert.Reference14Ideal.Value.run m g)

/-- Kernel and reference end with equal results. -/
theorem value : algebraic_Kernel14Ideal_Reference14Ideal := by
  pair_intro
  · run_from run m g
  · refine θ_run_mono (Cert.Reference14Ideal.Value.run m' g') fun r hr c => ?_
    obtain ⟨h0, h1, h2, h3⟩ := hr c
    obtain ⟨a0, a1, a2, a3⟩ := hagree c
    refine ⟨h0.trans ?_, h1.trans ?_, h2.trans ?_, h3⟩
    · rw [a0, a1, a2, a3, Cert.Reference14Ideal.Read.val_main_v23_eq]
      exact ref_change _ _ _ _
    · rw [a1, a2, Cert.Reference14Ideal.Read.val_main_v4_eq]
      exact ref_mom _ _
    · rw [a1, a3, Cert.Reference14Ideal.Read.val_main_v10_eq]
      exact ref_sec _ _

end Cert.Adin

end
-- ==== Proof.AdffClaim.lean ====
/- The optimiser's step of the two feed-forward weights, all layers at once. The call's three
   results are `AdamMath`'s arrays of the four arrays it reads. -/
module

public import proofs.«01_k».proof.Defs
public import proofs.«01_k».proof.Proof.Gen.Kernel15Ideal.Run
public import proofs.«01_k».proof.Proof.Gen.Reference15Ideal.Read
public import proofs.«01_k».proof.Proof.Gen.Reference15Ideal.Run
public import proofs.«01_k».proof.Proof.AdamMath
public import proofs.«01_k».proof.Proof.Loads
public import Idealize.ShloMosaic.Adequacy
public import Idealize.ShloMosaic.Init

@[expose] public section

noncomputable section

namespace Cert.Adff

open Cert.Loads Cert.Adam Idealize.ShloMosaic

section Kernel

open Idealize.ShloMosaic.TcCoe Idealize.SL.Sem Cert.Kernel15Ideal Cert.Kernel15Ideal.Gen

/-- The step of a block, at one entry. -/
theorem mom_apply (g m : Vec Ideal S256x1024 .f32) (r : Fin 256) (j : Fin 1024) : k0_pay2 g m (ix2 r j) = mom (g (ix2 r j)) (m (ix2 r j)) := by
  unfold k0_pay2 k0_pay1
  pointwise
  rfl

theorem sec_apply (g v : Vec Ideal S256x1024 .f32) (r : Fin 256) (j : Fin 1024) : k0_pay3 g v (ix2 r j) = sec (g (ix2 r j)) (v (ix2 r j)) := by
  unfold k0_pay3 k0_pay1
  pointwise
  rfl

theorem change_apply (g m v w : Vec Ideal S256x1024 .f32) (r : Fin 256) (j : Fin 1024) :
    k0_pay4 g m v w (ix2 r j) = change (w (ix2 r j)) (g (ix2 r j)) (m (ix2 r j)) (v (ix2 r j)) := by
  unfold change
  rw [← mom_apply, ← sec_apply]
  unfold k0_pay4
  pointwise
  (try rfl)

/-- A load of a whole block. -/
theorem whole (x : Vec Ideal S256x1024 .f32) (r : Fin 256) (j : Fin 1024) : View.ld x r0_0 (ix2 r j) = x (ix2 r j) :=
  ld2 x 0 0 _ r j r j (by simp) (by simp)

/-- What a grid point leaves in its three blocks. -/
theorem out4 (x0 x1 x2 x3 : Vec Ideal S256x1024 .f32) (r : Fin 256) (j : Fin 1024) :
    out0_4 x0 x1 x2 x3 (ix2 r j) = change (x0 (ix2 r j)) (x1 (ix2 r j)) (x2 (ix2 r j)) (x3 (ix2 r j)) := by
  unfold out0_4
  canon_tiles x w
  rw [idx2 x r j (by simpa using w0.symm) (by simpa using w1.symm), change_apply]
  congr 1 <;> exact whole _ r j

theorem out5 (x0 x1 x2 x3 : Vec Ideal S256x1024 .f32) (r : Fin 256) (j : Fin 1024) :
    out0_5 x0 x1 x2 x3 (ix2 r j) = mom (x1 (ix2 r j)) (x2 (ix2 r j)) := by
  unfold out0_5
  canon_tiles x w
  rw [idx2 x r j (by simpa using w0.symm) (by simpa using w1.symm), mom_apply]
  congr 1 <;> exact whole _ r j

theorem out6 (x0 x1 x2 x3 : Vec Ideal S256x1024 .f32) (r : Fin 256) (j : Fin 1024) :
    out0_6 x0 x1 x2 x3 (ix2 r j) = sec (x1 (ix2 r j)) (x3 (ix2 r j)) := by
  unfold out0_6
  canon_tiles x w
  rw [idx2 x r j (by simpa using w0.symm) (by simpa using w1.symm), sec_apply]
  congr 1 <;> exact whole _ r j

variable (m : (ℓ : Loc nD τ sig) → Buf (Elt Ideal) ℓ) (c : Dev nD)

/-- The argument arrays as launched: the weight, its gradient and its two moments; -/
abbrev A0 : (⟨3, ![4, 1024, 1024]⟩ : Shape).Idx → EReal := m ((c : Thread nD τ).loc main_arg0)
abbrev A1 : (⟨3, ![4, 1024, 1024]⟩ : Shape).Idx → EReal := m ((c : Thread nD τ).loc main_arg1)
abbrev A2 : (⟨3, ![4, 1024, 1024]⟩ : Shape).Idx → EReal := m ((c : Thread nD τ).loc main_arg2)
abbrev A3 : (⟨3, ![4, 1024, 1024]⟩ : Shape).Idx → EReal := m ((c : Thread nD τ).loc main_arg3)

/-- the same as arrays of rows. -/
abbrev B0 : (⟨2, ![4096, 1024]⟩ : Shape).Idx → EReal := shapeCast _ (A0 m c) shapeCasts_S4x1024x1024_S4096x1024
abbrev B1 : (⟨2, ![4096, 1024]⟩ : Shape).Idx → EReal := shapeCast _ (A1 m c) shapeCasts_S4x1024x1024_S4096x1024
abbrev B2 : (⟨2, ![4096, 1024]⟩ : Shape).Idx → EReal := shapeCast _ (A2 m c) shapeCasts_S4x1024x1024_S4096x1024
abbrev B3 : (⟨2, ![4096, 1024]⟩ : Shape).Idx → EReal := shapeCast _ (A3 m c) shapeCasts_S4x1024x1024_S4096x1024

theorem entry0 : V m c main_v0 = B0 m c := by
  unfold V V0
  simp only [hostOps0, List.flatten_cons, List.flatten_nil, List.append_nil]
  after_results
  rfl

theorem entry1 : V m c main_v1 = B1 m c := by
  unfold V V0
  simp only [hostOps0, List.flatten_cons, List.flatten_nil, List.append_nil]
  after_results
  rfl

theorem entry2 : V m c main_v2 = B2 m c := by
  unfold V V0
  simp only [hostOps0, List.flatten_cons, List.flatten_nil, List.append_nil]
  after_results
  rfl

theorem entry3 : V m c main_v3 = B3 m c := by
  unfold V V0
  simp only [hostOps0, List.flatten_cons, List.flatten_nil, List.append_nil]
  after_results
  rfl

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0])

theorem points (t : Fin cfg0.N) : t.val < 16 := lt_of_lt_of_eq t.isLt N_0

/-- The blocks a point holds: rows of the arrays. -/
abbrev X0 (t : Fin cfg0.N) : Vec Ideal S256x1024 .f32 := iblk m c 0 t
abbrev X1 (t : Fin cfg0.N) : Vec Ideal S256x1024 .f32 := iblk m c 1 t
abbrev X2 (t : Fin cfg0.N) : Vec Ideal S256x1024 .f32 := iblk m c 2 t
abbrev X3 (t : Fin cfg0.N) : Vec Ideal S256x1024 .f32 := iblk m c 3 t

theorem iblk0 (t : Fin cfg0.N) (r : Fin 256) (j : Fin 1024) (R : Fin 4096) (hR : R.val = 256 * t.val + r.val) :
    X0 m c t (ix2 r j) = B0 m c (ix2 R j) := by
  obtain ⟨e0, -⟩ := idx t
  rw [← entry0]
  blk_ext [iblk, e0]

theorem iblk1 (t : Fin cfg0.N) (r : Fin 256) (j : Fin 1024) (R : Fin 4096) (hR : R.val = 256 * t.val + r.val) :
    X1 m c t (ix2 r j) = B1 m c (ix2 R j) := by
  obtain ⟨-, e0, -⟩ := idx t
  rw [← entry1]
  blk_ext [iblk, e0]

theorem iblk2 (t : Fin cfg0.N) (r : Fin 256) (j : Fin 1024) (R : Fin 4096) (hR : R.val = 256 * t.val + r.val) :
    X2 m c t (ix2 r j) = B2 m c (ix2 R j) := by
  obtain ⟨-, -, e0, -⟩ := idx t
  rw [← entry2]
  blk_ext [iblk, e0]

theorem iblk3 (t : Fin cfg0.N) (r : Fin 256) (j : Fin 1024) (R : Fin 4096) (hR : R.val = 256 * t.val + r.val) :
    X3 m c t (ix2 r j) = B3 m c (ix2 R j) := by
  obtain ⟨-, -, -, e0, -⟩ := idx t
  rw [← entry3]
  blk_ext [iblk, e0]

/-- The call's result array 0 after the run. -/
theorem out_change : (dats m 0 c).arrAt 4 cfg0.N = changes (B0 m c) (B1 m c) (B2 m c) (B3 m c) := by
  refine (dats m 0 c).arrAt_eq_of_covers 4 _ (by decide +kernel) fun t hf y => ?_
  obtain ⟨-, -, -, -, e4, -⟩ := idx t
  rw [after0_4]
  have hy0 : (y 0).val < 256 := (y 0).isLt
  have hy1 : (y 1).val < 1024 := (y 1).isLt
  have ht := points t
  have hi : (((cfg0.win 4).blk t).view.emb y) = ix2 (⟨256 * t.val + (y 0).val, by omega⟩ : Fin 4096) (⟨(y 1).val, hy1⟩ : Fin 1024) := by
    refine idx2 _ _ _ ?_ ?_ <;> blk_simp [e4] <;> (try dsimp only) <;> omega
  rw [hi]
  have key := out4 (X0 m c t) (X1 m c t) (X2 m c t) (X3 m c t) ⟨(y 0).val, hy0⟩ ⟨(y 1).val, hy1⟩
  rw [iblk0 m c t ⟨(y 0).val, hy0⟩ ⟨(y 1).val, hy1⟩ ⟨256 * t.val + (y 0).val, by omega⟩ rfl, iblk1 m c t ⟨(y 0).val, hy0⟩ ⟨(y 1).val, hy1⟩ ⟨256 * t.val + (y 0).val, by omega⟩ rfl, iblk2 m c t ⟨(y 0).val, hy0⟩ ⟨(y 1).val, hy1⟩ ⟨256 * t.val + (y 0).val, by omega⟩ rfl, iblk3 m c t ⟨(y 0).val, hy0⟩ ⟨(y 1).val, hy1⟩ ⟨256 * t.val + (y 0).val, by omega⟩ rfl] at key
  refine Eq.trans ?_ key
  blk_simp
  exact congrArg (out0_4 (iblk m c 0 t) (iblk m c 1 t) (iblk m c 2 t) (iblk m c 3 t)) (idx2 _ _ _ rfl rfl)

/-- The call's result array 1 after the run. -/
theorem out_mom : (dats m 0 c).arrAt 5 cfg0.N = moms (B1 m c) (B2 m c) := by
  refine (dats m 0 c).arrAt_eq_of_covers 5 _ (by decide +kernel) fun t hf y => ?_
  obtain ⟨-, -, -, -, -, e5, -⟩ := idx t
  rw [after0_5]
  have hy0 : (y 0).val < 256 := (y 0).isLt
  have hy1 : (y 1).val < 1024 := (y 1).isLt
  have ht := points t
  have hi : (((cfg0.win 5).blk t).view.emb y) = ix2 (⟨256 * t.val + (y 0).val, by omega⟩ : Fin 4096) (⟨(y 1).val, hy1⟩ : Fin 1024) := by
    refine idx2 _ _ _ ?_ ?_ <;> blk_simp [e5] <;> (try dsimp only) <;> omega
  rw [hi]
  have key := out5 (X0 m c t) (X1 m c t) (X2 m c t) (X3 m c t) ⟨(y 0).val, hy0⟩ ⟨(y 1).val, hy1⟩
  rw [iblk1 m c t ⟨(y 0).val, hy0⟩ ⟨(y 1).val, hy1⟩ ⟨256 * t.val + (y 0).val, by omega⟩ rfl, iblk2 m c t ⟨(y 0).val, hy0⟩ ⟨(y 1).val, hy1⟩ ⟨256 * t.val + (y 0).val, by omega⟩ rfl] at key
  refine Eq.trans ?_ key
  blk_simp
  exact congrArg (out0_5 (iblk m c 0 t) (iblk m c 1 t) (iblk m c 2 t) (iblk m c 3 t)) (idx2 _ _ _ rfl rfl)

/-- The call's result array 2 after the run. -/
theorem out_sec : (dats m 0 c).arrAt 6 cfg0.N = secs (B1 m c) (B3 m c) := by
  refine (dats m 0 c).arrAt_eq_of_covers 6 _ (by decide +kernel) fun t hf y => ?_
  obtain ⟨-, -, -, -, -, -, e6⟩ := idx t
  rw [after0_6]
  have hy0 : (y 0).val < 256 := (y 0).isLt
  have hy1 : (y 1).val < 1024 := (y 1).isLt
  have ht := points t
  have hi : (((cfg0.win 6).blk t).view.emb y) = ix2 (⟨256 * t.val + (y 0).val, by omega⟩ : Fin 4096) (⟨(y 1).val, hy1⟩ : Fin 1024) := by
    refine idx2 _ _ _ ?_ ?_ <;> blk_simp [e6] <;> (try dsimp only) <;> omega
  rw [hi]
  have key := out6 (X0 m c t) (X1 m c t) (X2 m c t) (X3 m c t) ⟨(y 0).val, hy0⟩ ⟨(y 1).val, hy1⟩
  rw [iblk1 m c t ⟨(y 0).val, hy0⟩ ⟨(y 1).val, hy1⟩ ⟨256 * t.val + (y 0).val, by omega⟩ rfl, iblk3 m c t ⟨(y 0).val, hy0⟩ ⟨(y 1).val, hy1⟩ ⟨256 * t.val + (y 0).val, by omega⟩ rfl] at key
  refine Eq.trans ?_ key
  blk_simp
  exact congrArg (out0_6 (iblk m c 0 t) (iblk m c 1 t) (iblk m c 2 t) (iblk m c 3 t)) (idx2 _ _ _ rfl rfl)

/-- The kernel runs and ends with the step of its arguments, which are unchanged. -/
theorem run (g : Dev nD → PrngReg) :
    θ_run defs (onTc (τ := τ) (main (F := Ideal))) ⟨m, fun _ => 0, g⟩ fun r => ∀ c : Dev nD,
      r.2.mem ((c.tc : Thread nD τ).loc main_v5) = changes (A0 m c) (A1 m c) (A2 m c) (A3 m c)
      ∧ r.2.mem ((c.tc : Thread nD τ).loc main_v6) = moms (A1 m c) (A2 m c)
      ∧ r.2.mem ((c.tc : Thread nD τ).loc main_v7) = secs (A1 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (Value.run m g) fun r hr c => by
    obtain ⟨h0, h1, h2, h3⟩ := hr c
    unfold Value.reg_main_v4_0 at h0
    unfold Value.reg_main_v4_1 at h1
    unfold Value.reg_main_v4_2 at h2
    rw [out_change m c] at h0
    rw [out_mom m c] at h1
    rw [out_sec m c] at h2
    exact ⟨h0.trans (changes_cast _ _ _ _ _ _), h1.trans (moms_cast _ _ _ _), h2.trans (secs_cast _ _ _ _), h3⟩

end Kernel

section Ref

open Cert.Reference15Ideal Cert.Reference15Ideal.Read

variable (x0 x1 x2 x3 : (⟨S4x1024x1024, .f32⟩ : BufTy).Contents (Elt Ideal))

/-- The reference's results. -/
theorem ref_mom : val_main_v4 x1 x2 = moms x1 x2 := by
  funext y
  unfold moms mom val_main_v4 val_main_v3 val_main_v2 val_main_cst_0 val_main_v1 val_main_v0 val_main_cst
  pointwise
  (try rfl)

theorem ref_sec : val_main_v10 x1 x3 = secs x1 x3 := by
  funext y
  unfold secs sec val_main_v10 val_main_v9 val_main_v8 val_main_cst_2 val_main_v7 val_main_v6 val_main_v5 val_main_cst_1
  pointwise
  (try rfl)

theorem ref_change : val_main_v23 x0 x1 x2 x3 = changes x0 x1 x2 x3 := by
  funext y
  rw [changes, change, ← show moms x1 x2 y = mom (x1 y) (x2 y) from rfl, ← show secs x1 x3 y = sec (x1 y) (x3 y) from rfl, ← ref_mom,
    ← ref_sec]
  unfold val_main_v23 val_main_v22 val_main_cst_7 val_main_v21 val_main_v20 val_main_v19 val_main_cst_6 val_main_v18 val_main_v17
    val_main_v16 val_main_cst_5 val_main_v15 val_main_v14 val_main_v13 val_main_cst_4 val_main_v12 val_main_v11 val_main_cst_3
  pointwise
  (try rfl)

end Ref

/-- The reference runs and leaves its arguments as they were. -/
theorem frame_reference : quiescent_Reference15Ideal := fun m g _ =>
  (θ_run _ _ _).mono (fun r h => ⟨fun c => (h c).2.2.2, sem_eq_zero_of_no_sems (by decide) r.2⟩)
    (Cert.Reference15Ideal.Value.run m g)

/-- Kernel and reference end with equal results. -/
theorem value : algebraic_Kernel15Ideal_Reference15Ideal := by
  pair_intro
  · run_from run m g
  · refine θ_run_mono (Cert.Reference15Ideal.Value.run m' g') fun r hr c => ?_
    obtain ⟨h0, h1, h2, h3⟩ := hr c
    obtain ⟨a0, a1, a2, a3⟩ := hagree c
    refine ⟨h0.trans ?_, h1.trans ?_, h2.trans ?_, h3⟩
    · rw [a0, a1, a2, a3, Cert.Reference15Ideal.Read.val_main_v23_eq]
      exact ref_change _ _ _ _
    · rw [a1, a2, Cert.Reference15Ideal.Read.val_main_v4_eq]
      exact ref_mom _ _
    · rw [a1, a3, Cert.Reference15Ideal.Read.val_main_v10_eq]
      exact ref_sec _ _

end Cert.Adff

end
-- ==== Proof.AdroClaim.lean ====
/- The optimiser's step of a weight of 256 rows a layer: the retention's output weight, the memory's weight, the output weight, all layers at once. The call's three
   results are `AdamMath`'s arrays of the four arrays it reads. -/
module

public import proofs.«01_k».proof.Defs
public import proofs.«01_k».proof.Proof.Gen.Kernel16Ideal.Run
public import proofs.«01_k».proof.Proof.Gen.Reference16Ideal.Read
public import proofs.«01_k».proof.Proof.Gen.Reference16Ideal.Run
public import proofs.«01_k».proof.Proof.AdamMath
public import proofs.«01_k».proof.Proof.Loads
public import Idealize.ShloMosaic.Adequacy
public import Idealize.ShloMosaic.Init

@[expose] public section

noncomputable section

namespace Cert.Adro

open Cert.Loads Cert.Adam Idealize.ShloMosaic

section Kernel

open Idealize.ShloMosaic.TcCoe Idealize.SL.Sem Cert.Kernel16Ideal Cert.Kernel16Ideal.Gen

/-- The step of a block, at one entry. -/
theorem mom_apply (g m : Vec Ideal S256x1024 .f32) (r : Fin 256) (j : Fin 1024) : k0_pay2 g m (ix2 r j) = mom (g (ix2 r j)) (m (ix2 r j)) := by
  unfold k0_pay2 k0_pay1
  pointwise
  rfl

theorem sec_apply (g v : Vec Ideal S256x1024 .f32) (r : Fin 256) (j : Fin 1024) : k0_pay3 g v (ix2 r j) = sec (g (ix2 r j)) (v (ix2 r j)) := by
  unfold k0_pay3 k0_pay1
  pointwise
  rfl

theorem change_apply (g m v w : Vec Ideal S256x1024 .f32) (r : Fin 256) (j : Fin 1024) :
    k0_pay4 g m v w (ix2 r j) = change (w (ix2 r j)) (g (ix2 r j)) (m (ix2 r j)) (v (ix2 r j)) := by
  unfold change
  rw [← mom_apply, ← sec_apply]
  unfold k0_pay4
  pointwise
  (try rfl)

/-- A load of a whole block. -/
theorem whole (x : Vec Ideal S256x1024 .f32) (r : Fin 256) (j : Fin 1024) : View.ld x r0_0 (ix2 r j) = x (ix2 r j) :=
  ld2 x 0 0 _ r j r j (by simp) (by simp)

/-- What a grid point leaves in its three blocks. -/
theorem out4 (x0 x1 x2 x3 : Vec Ideal S256x1024 .f32) (r : Fin 256) (j : Fin 1024) :
    out0_4 x0 x1 x2 x3 (ix2 r j) = change (x0 (ix2 r j)) (x1 (ix2 r j)) (x2 (ix2 r j)) (x3 (ix2 r j)) := by
  unfold out0_4
  canon_tiles x w
  rw [idx2 x r j (by simpa using w0.symm) (by simpa using w1.symm), change_apply]
  congr 1 <;> exact whole _ r j

theorem out5 (x0 x1 x2 x3 : Vec Ideal S256x1024 .f32) (r : Fin 256) (j : Fin 1024) :
    out0_5 x0 x1 x2 x3 (ix2 r j) = mom (x1 (ix2 r j)) (x2 (ix2 r j)) := by
  unfold out0_5
  canon_tiles x w
  rw [idx2 x r j (by simpa using w0.symm) (by simpa using w1.symm), mom_apply]
  congr 1 <;> exact whole _ r j

theorem out6 (x0 x1 x2 x3 : Vec Ideal S256x1024 .f32) (r : Fin 256) (j : Fin 1024) :
    out0_6 x0 x1 x2 x3 (ix2 r j) = sec (x1 (ix2 r j)) (x3 (ix2 r j)) := by
  unfold out0_6
  canon_tiles x w
  rw [idx2 x r j (by simpa using w0.symm) (by simpa using w1.symm), sec_apply]
  congr 1 <;> exact whole _ r j

variable (m : (ℓ : Loc nD τ sig) → Buf (Elt Ideal) ℓ) (c : Dev nD)

/-- The argument arrays as launched: the weight, its gradient and its two moments; -/
abbrev A0 : (⟨3, ![4, 256, 1024]⟩ : Shape).Idx → EReal := m ((c : Thread nD τ).loc main_arg0)
abbrev A1 : (⟨3, ![4, 256, 1024]⟩ : Shape).Idx → EReal := m ((c : Thread nD τ).loc main_arg1)
abbrev A2 : (⟨3, ![4, 256, 1024]⟩ : Shape).Idx → EReal := m ((c : Thread nD τ).loc main_arg2)
abbrev A3 : (⟨3, ![4, 256, 1024]⟩ : Shape).Idx → EReal := m ((c : Thread nD τ).loc main_arg3)

/-- the same as arrays of rows. -/
abbrev B0 : (⟨2, ![1024, 1024]⟩ : Shape).Idx → EReal := shapeCast _ (A0 m c) shapeCasts_S4x256x1024_S1024x1024
abbrev B1 : (⟨2, ![1024, 1024]⟩ : Shape).Idx → EReal := shapeCast _ (A1 m c) shapeCasts_S4x256x1024_S1024x1024
abbrev B2 : (⟨2, ![1024, 1024]⟩ : Shape).Idx → EReal := shapeCast _ (A2 m c) shapeCasts_S4x256x1024_S1024x1024
abbrev B3 : (⟨2, ![1024, 1024]⟩ : Shape).Idx → EReal := shapeCast _ (A3 m c) shapeCasts_S4x256x1024_S1024x1024

theorem entry0 : V m c main_v0 = B0 m c := by
  unfold V V0
  simp only [hostOps0, List.flatten_cons, List.flatten_nil, List.append_nil]
  after_results
  rfl

theorem entry1 : V m c main_v1 = B1 m c := by
  unfold V V0
  simp only [hostOps0, List.flatten_cons, List.flatten_nil, List.append_nil]
  after_results
  rfl

theorem entry2 : V m c main_v2 = B2 m c := by
  unfold V V0
  simp only [hostOps0, List.flatten_cons, List.flatten_nil, List.append_nil]
  after_results
  rfl

theorem entry3 : V m c main_v3 = B3 m c := by
  unfold V V0
  simp only [hostOps0, List.flatten_cons, List.flatten_nil, List.append_nil]
  after_results
  rfl

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0])

theorem points (t : Fin cfg0.N) : t.val < 4 := lt_of_lt_of_eq t.isLt N_0

/-- The blocks a point holds: rows of the arrays. -/
abbrev X0 (t : Fin cfg0.N) : Vec Ideal S256x1024 .f32 := iblk m c 0 t
abbrev X1 (t : Fin cfg0.N) : Vec Ideal S256x1024 .f32 := iblk m c 1 t
abbrev X2 (t : Fin cfg0.N) : Vec Ideal S256x1024 .f32 := iblk m c 2 t
abbrev X3 (t : Fin cfg0.N) : Vec Ideal S256x1024 .f32 := iblk m c 3 t

theorem iblk0 (t : Fin cfg0.N) (r : Fin 256) (j : Fin 1024) (R : Fin 1024) (hR : R.val = 256 * t.val + r.val) :
    X0 m c t (ix2 r j) = B0 m c (ix2 R j) := by
  obtain ⟨e0, -⟩ := idx t
  rw [← entry0]
  blk_ext [iblk, e0]

theorem iblk1 (t : Fin cfg0.N) (r : Fin 256) (j : Fin 1024) (R : Fin 1024) (hR : R.val = 256 * t.val + r.val) :
    X1 m c t (ix2 r j) = B1 m c (ix2 R j) := by
  obtain ⟨-, e0, -⟩ := idx t
  rw [← entry1]
  blk_ext [iblk, e0]

theorem iblk2 (t : Fin cfg0.N) (r : Fin 256) (j : Fin 1024) (R : Fin 1024) (hR : R.val = 256 * t.val + r.val) :
    X2 m c t (ix2 r j) = B2 m c (ix2 R j) := by
  obtain ⟨-, -, e0, -⟩ := idx t
  rw [← entry2]
  blk_ext [iblk, e0]

theorem iblk3 (t : Fin cfg0.N) (r : Fin 256) (j : Fin 1024) (R : Fin 1024) (hR : R.val = 256 * t.val + r.val) :
    X3 m c t (ix2 r j) = B3 m c (ix2 R j) := by
  obtain ⟨-, -, -, e0, -⟩ := idx t
  rw [← entry3]
  blk_ext [iblk, e0]

/-- The call's result array 0 after the run. -/
theorem out_change : (dats m 0 c).arrAt 4 cfg0.N = changes (B0 m c) (B1 m c) (B2 m c) (B3 m c) := by
  refine (dats m 0 c).arrAt_eq_of_covers 4 _ (by decide +kernel) fun t hf y => ?_
  obtain ⟨-, -, -, -, e4, -⟩ := idx t
  rw [after0_4]
  have hy0 : (y 0).val < 256 := (y 0).isLt
  have hy1 : (y 1).val < 1024 := (y 1).isLt
  have ht := points t
  have hi : (((cfg0.win 4).blk t).view.emb y) = ix2 (⟨256 * t.val + (y 0).val, by omega⟩ : Fin 1024) (⟨(y 1).val, hy1⟩ : Fin 1024) := by
    refine idx2 _ _ _ ?_ ?_ <;> blk_simp [e4] <;> (try dsimp only) <;> omega
  rw [hi]
  have key := out4 (X0 m c t) (X1 m c t) (X2 m c t) (X3 m c t) ⟨(y 0).val, hy0⟩ ⟨(y 1).val, hy1⟩
  rw [iblk0 m c t ⟨(y 0).val, hy0⟩ ⟨(y 1).val, hy1⟩ ⟨256 * t.val + (y 0).val, by omega⟩ rfl, iblk1 m c t ⟨(y 0).val, hy0⟩ ⟨(y 1).val, hy1⟩ ⟨256 * t.val + (y 0).val, by omega⟩ rfl, iblk2 m c t ⟨(y 0).val, hy0⟩ ⟨(y 1).val, hy1⟩ ⟨256 * t.val + (y 0).val, by omega⟩ rfl, iblk3 m c t ⟨(y 0).val, hy0⟩ ⟨(y 1).val, hy1⟩ ⟨256 * t.val + (y 0).val, by omega⟩ rfl] at key
  refine Eq.trans ?_ key
  blk_simp
  exact congrArg (out0_4 (iblk m c 0 t) (iblk m c 1 t) (iblk m c 2 t) (iblk m c 3 t)) (idx2 _ _ _ rfl rfl)

/-- The call's result array 1 after the run. -/
theorem out_mom : (dats m 0 c).arrAt 5 cfg0.N = moms (B1 m c) (B2 m c) := by
  refine (dats m 0 c).arrAt_eq_of_covers 5 _ (by decide +kernel) fun t hf y => ?_
  obtain ⟨-, -, -, -, -, e5, -⟩ := idx t
  rw [after0_5]
  have hy0 : (y 0).val < 256 := (y 0).isLt
  have hy1 : (y 1).val < 1024 := (y 1).isLt
  have ht := points t
  have hi : (((cfg0.win 5).blk t).view.emb y) = ix2 (⟨256 * t.val + (y 0).val, by omega⟩ : Fin 1024) (⟨(y 1).val, hy1⟩ : Fin 1024) := by
    refine idx2 _ _ _ ?_ ?_ <;> blk_simp [e5] <;> (try dsimp only) <;> omega
  rw [hi]
  have key := out5 (X0 m c t) (X1 m c t) (X2 m c t) (X3 m c t) ⟨(y 0).val, hy0⟩ ⟨(y 1).val, hy1⟩
  rw [iblk1 m c t ⟨(y 0).val, hy0⟩ ⟨(y 1).val, hy1⟩ ⟨256 * t.val + (y 0).val, by omega⟩ rfl, iblk2 m c t ⟨(y 0).val, hy0⟩ ⟨(y 1).val, hy1⟩ ⟨256 * t.val + (y 0).val, by omega⟩ rfl] at key
  refine Eq.trans ?_ key
  blk_simp
  exact congrArg (out0_5 (iblk m c 0 t) (iblk m c 1 t) (iblk m c 2 t) (iblk m c 3 t)) (idx2 _ _ _ rfl rfl)

/-- The call's result array 2 after the run. -/
theorem out_sec : (dats m 0 c).arrAt 6 cfg0.N = secs (B1 m c) (B3 m c) := by
  refine (dats m 0 c).arrAt_eq_of_covers 6 _ (by decide +kernel) fun t hf y => ?_
  obtain ⟨-, -, -, -, -, -, e6⟩ := idx t
  rw [after0_6]
  have hy0 : (y 0).val < 256 := (y 0).isLt
  have hy1 : (y 1).val < 1024 := (y 1).isLt
  have ht := points t
  have hi : (((cfg0.win 6).blk t).view.emb y) = ix2 (⟨256 * t.val + (y 0).val, by omega⟩ : Fin 1024) (⟨(y 1).val, hy1⟩ : Fin 1024) := by
    refine idx2 _ _ _ ?_ ?_ <;> blk_simp [e6] <;> (try dsimp only) <;> omega
  rw [hi]
  have key := out6 (X0 m c t) (X1 m c t) (X2 m c t) (X3 m c t) ⟨(y 0).val, hy0⟩ ⟨(y 1).val, hy1⟩
  rw [iblk1 m c t ⟨(y 0).val, hy0⟩ ⟨(y 1).val, hy1⟩ ⟨256 * t.val + (y 0).val, by omega⟩ rfl, iblk3 m c t ⟨(y 0).val, hy0⟩ ⟨(y 1).val, hy1⟩ ⟨256 * t.val + (y 0).val, by omega⟩ rfl] at key
  refine Eq.trans ?_ key
  blk_simp
  exact congrArg (out0_6 (iblk m c 0 t) (iblk m c 1 t) (iblk m c 2 t) (iblk m c 3 t)) (idx2 _ _ _ rfl rfl)

/-- The kernel runs and ends with the step of its arguments, which are unchanged. -/
theorem run (g : Dev nD → PrngReg) :
    θ_run defs (onTc (τ := τ) (main (F := Ideal))) ⟨m, fun _ => 0, g⟩ fun r => ∀ c : Dev nD,
      r.2.mem ((c.tc : Thread nD τ).loc main_v5) = changes (A0 m c) (A1 m c) (A2 m c) (A3 m c)
      ∧ r.2.mem ((c.tc : Thread nD τ).loc main_v6) = moms (A1 m c) (A2 m c)
      ∧ r.2.mem ((c.tc : Thread nD τ).loc main_v7) = secs (A1 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (Value.run m g) fun r hr c => by
    obtain ⟨h0, h1, h2, h3⟩ := hr c
    unfold Value.reg_main_v4_0 at h0
    unfold Value.reg_main_v4_1 at h1
    unfold Value.reg_main_v4_2 at h2
    rw [out_change m c] at h0
    rw [out_mom m c] at h1
    rw [out_sec m c] at h2
    exact ⟨h0.trans (changes_cast _ _ _ _ _ _), h1.trans (moms_cast _ _ _ _), h2.trans (secs_cast _ _ _ _), h3⟩

end Kernel

section Ref

open Cert.Reference16Ideal Cert.Reference16Ideal.Read

variable (x0 x1 x2 x3 : (⟨S4x256x1024, .f32⟩ : BufTy).Contents (Elt Ideal))

/-- The reference's results. -/
theorem ref_mom : val_main_v4 x1 x2 = moms x1 x2 := by
  funext y
  unfold moms mom val_main_v4 val_main_v3 val_main_v2 val_main_cst_0 val_main_v1 val_main_v0 val_main_cst
  pointwise
  (try rfl)

theorem ref_sec : val_main_v10 x1 x3 = secs x1 x3 := by
  funext y
  unfold secs sec val_main_v10 val_main_v9 val_main_v8 val_main_cst_2 val_main_v7 val_main_v6 val_main_v5 val_main_cst_1
  pointwise
  (try rfl)

theorem ref_change : val_main_v23 x0 x1 x2 x3 = changes x0 x1 x2 x3 := by
  funext y
  rw [changes, change, ← show moms x1 x2 y = mom (x1 y) (x2 y) from rfl, ← show secs x1 x3 y = sec (x1 y) (x3 y) from rfl, ← ref_mom,
    ← ref_sec]
  unfold val_main_v23 val_main_v22 val_main_cst_7 val_main_v21 val_main_v20 val_main_v19 val_main_cst_6 val_main_v18 val_main_v17
    val_main_v16 val_main_cst_5 val_main_v15 val_main_v14 val_main_v13 val_main_cst_4 val_main_v12 val_main_v11 val_main_cst_3
  pointwise
  (try rfl)

end Ref

/-- The reference runs and leaves its arguments as they were. -/
theorem frame_reference : quiescent_Reference16Ideal := fun m g _ =>
  (θ_run _ _ _).mono (fun r h => ⟨fun c => (h c).2.2.2, sem_eq_zero_of_no_sems (by decide) r.2⟩)
    (Cert.Reference16Ideal.Value.run m g)

/-- Kernel and reference end with equal results. -/
theorem value : algebraic_Kernel16Ideal_Reference16Ideal := by
  pair_intro
  · run_from run m g
  · refine θ_run_mono (Cert.Reference16Ideal.Value.run m' g') fun r hr c => ?_
    obtain ⟨h0, h1, h2, h3⟩ := hr c
    obtain ⟨a0, a1, a2, a3⟩ := hagree c
    refine ⟨h0.trans ?_, h1.trans ?_, h2.trans ?_, h3⟩
    · rw [a0, a1, a2, a3, Cert.Reference16Ideal.Read.val_main_v23_eq]
      exact ref_change _ _ _ _
    · rw [a1, a2, Cert.Reference16Ideal.Read.val_main_v4_eq]
      exact ref_mom _ _
    · rw [a1, a3, Cert.Reference16Ideal.Read.val_main_v10_eq]
      exact ref_sec _ _

end Cert.Adro

end
-- ==== Proof.AdcoClaim.lean ====
/- The optimiser's step of a weight of 512 rows and 256 columns a layer: the output weights of the pooling and of the memory attention, all layers at once. The call's three
   results are `AdamMath`'s arrays of the four arrays it reads. -/
module

public import proofs.«01_k».proof.Defs
public import proofs.«01_k».proof.Proof.Gen.Kernel17Ideal.Run
public import proofs.«01_k».proof.Proof.Gen.Reference17Ideal.Read
public import proofs.«01_k».proof.Proof.Gen.Reference17Ideal.Run
public import proofs.«01_k».proof.Proof.AdamMath
public import proofs.«01_k».proof.Proof.Loads
public import Idealize.ShloMosaic.Adequacy
public import Idealize.ShloMosaic.Init

@[expose] public section

noncomputable section

namespace Cert.Adco

open Cert.Loads Cert.Adam Idealize.ShloMosaic

section Kernel

open Idealize.ShloMosaic.TcCoe Idealize.SL.Sem Cert.Kernel17Ideal Cert.Kernel17Ideal.Gen

/-- The step of a block, at one entry. -/
theorem mom_apply (g m : Vec Ideal S1024x256 .f32) (r : Fin 1024) (j : Fin 256) : k0_pay2 g m (ix2 r j) = mom (g (ix2 r j)) (m (ix2 r j)) := by
  unfold k0_pay2 k0_pay1
  pointwise
  rfl

theorem sec_apply (g v : Vec Ideal S1024x256 .f32) (r : Fin 1024) (j : Fin 256) : k0_pay3 g v (ix2 r j) = sec (g (ix2 r j)) (v (ix2 r j)) := by
  unfold k0_pay3 k0_pay1
  pointwise
  rfl

theorem change_apply (g m v w : Vec Ideal S1024x256 .f32) (r : Fin 1024) (j : Fin 256) :
    k0_pay4 g m v w (ix2 r j) = change (w (ix2 r j)) (g (ix2 r j)) (m (ix2 r j)) (v (ix2 r j)) := by
  unfold change
  rw [← mom_apply, ← sec_apply]
  unfold k0_pay4
  pointwise
  (try rfl)

/-- A load of a whole block. -/
theorem whole (x : Vec Ideal S1024x256 .f32) (r : Fin 1024) (j : Fin 256) : View.ld x r0_0 (ix2 r j) = x (ix2 r j) :=
  ld2 x 0 0 _ r j r j (by simp) (by simp)

/-- What a grid point leaves in its three blocks. -/
theorem out4 (x0 x1 x2 x3 : Vec Ideal S1024x256 .f32) (r : Fin 1024) (j : Fin 256) :
    out0_4 x0 x1 x2 x3 (ix2 r j) = change (x0 (ix2 r j)) (x1 (ix2 r j)) (x2 (ix2 r j)) (x3 (ix2 r j)) := by
  unfold out0_4
  canon_tiles x w
  rw [idx2 x r j (by simpa using w0.symm) (by simpa using w1.symm), change_apply]
  congr 1 <;> exact whole _ r j

theorem out5 (x0 x1 x2 x3 : Vec Ideal S1024x256 .f32) (r : Fin 1024) (j : Fin 256) :
    out0_5 x0 x1 x2 x3 (ix2 r j) = mom (x1 (ix2 r j)) (x2 (ix2 r j)) := by
  unfold out0_5
  canon_tiles x w
  rw [idx2 x r j (by simpa using w0.symm) (by simpa using w1.symm), mom_apply]
  congr 1 <;> exact whole _ r j

theorem out6 (x0 x1 x2 x3 : Vec Ideal S1024x256 .f32) (r : Fin 1024) (j : Fin 256) :
    out0_6 x0 x1 x2 x3 (ix2 r j) = sec (x1 (ix2 r j)) (x3 (ix2 r j)) := by
  unfold out0_6
  canon_tiles x w
  rw [idx2 x r j (by simpa using w0.symm) (by simpa using w1.symm), sec_apply]
  congr 1 <;> exact whole _ r j

variable (m : (ℓ : Loc nD τ sig) → Buf (Elt Ideal) ℓ) (c : Dev nD)

/-- The argument arrays as launched: the weight, its gradient and its two moments; -/
abbrev A0 : (⟨3, ![4, 512, 256]⟩ : Shape).Idx → EReal := m ((c : Thread nD τ).loc main_arg0)
abbrev A1 : (⟨3, ![4, 512, 256]⟩ : Shape).Idx → EReal := m ((c : Thread nD τ).loc main_arg1)
abbrev A2 : (⟨3, ![4, 512, 256]⟩ : Shape).Idx → EReal := m ((c : Thread nD τ).loc main_arg2)
abbrev A3 : (⟨3, ![4, 512, 256]⟩ : Shape).Idx → EReal := m ((c : Thread nD τ).loc main_arg3)

/-- the same as arrays of rows. -/
abbrev B0 : (⟨2, ![2048, 256]⟩ : Shape).Idx → EReal := shapeCast _ (A0 m c) shapeCasts_S4x512x256_S2048x256
abbrev B1 : (⟨2, ![2048, 256]⟩ : Shape).Idx → EReal := shapeCast _ (A1 m c) shapeCasts_S4x512x256_S2048x256
abbrev B2 : (⟨2, ![2048, 256]⟩ : Shape).Idx → EReal := shapeCast _ (A2 m c) shapeCasts_S4x512x256_S2048x256
abbrev B3 : (⟨2, ![2048, 256]⟩ : Shape).Idx → EReal := shapeCast _ (A3 m c) shapeCasts_S4x512x256_S2048x256

theorem entry0 : V m c main_v0 = B0 m c := by
  unfold V V0
  simp only [hostOps0, List.flatten_cons, List.flatten_nil, List.append_nil]
  after_results
  rfl

theorem entry1 : V m c main_v1 = B1 m c := by
  unfold V V0
  simp only [hostOps0, List.flatten_cons, List.flatten_nil, List.append_nil]
  after_results
  rfl

theorem entry2 : V m c main_v2 = B2 m c := by
  unfold V V0
  simp only [hostOps0, List.flatten_cons, List.flatten_nil, List.append_nil]
  after_results
  rfl

theorem entry3 : V m c main_v3 = B3 m c := by
  unfold V V0
  simp only [hostOps0, List.flatten_cons, List.flatten_nil, List.append_nil]
  after_results
  rfl

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0])

theorem points (t : Fin cfg0.N) : t.val < 2 := lt_of_lt_of_eq t.isLt N_0

/-- The blocks a point holds: rows of the arrays. -/
abbrev X0 (t : Fin cfg0.N) : Vec Ideal S1024x256 .f32 := iblk m c 0 t
abbrev X1 (t : Fin cfg0.N) : Vec Ideal S1024x256 .f32 := iblk m c 1 t
abbrev X2 (t : Fin cfg0.N) : Vec Ideal S1024x256 .f32 := iblk m c 2 t
abbrev X3 (t : Fin cfg0.N) : Vec Ideal S1024x256 .f32 := iblk m c 3 t

theorem iblk0 (t : Fin cfg0.N) (r : Fin 1024) (j : Fin 256) (R : Fin 2048) (hR : R.val = 1024 * t.val + r.val) :
    X0 m c t (ix2 r j) = B0 m c (ix2 R j) := by
  obtain ⟨e0, -⟩ := idx t
  rw [← entry0]
  blk_ext [iblk, e0]

theorem iblk1 (t : Fin cfg0.N) (r : Fin 1024) (j : Fin 256) (R : Fin 2048) (hR : R.val = 1024 * t.val + r.val) :
    X1 m c t (ix2 r j) = B1 m c (ix2 R j) := by
  obtain ⟨-, e0, -⟩ := idx t
  rw [← entry1]
  blk_ext [iblk, e0]

theorem iblk2 (t : Fin cfg0.N) (r : Fin 1024) (j : Fin 256) (R : Fin 2048) (hR : R.val = 1024 * t.val + r.val) :
    X2 m c t (ix2 r j) = B2 m c (ix2 R j) := by
  obtain ⟨-, -, e0, -⟩ := idx t
  rw [← entry2]
  blk_ext [iblk, e0]

theorem iblk3 (t : Fin cfg0.N) (r : Fin 1024) (j : Fin 256) (R : Fin 2048) (hR : R.val = 1024 * t.val + r.val) :
    X3 m c t (ix2 r j) = B3 m c (ix2 R j) := by
  obtain ⟨-, -, -, e0, -⟩ := idx t
  rw [← entry3]
  blk_ext [iblk, e0]

/-- The call's result array 0 after the run. -/
theorem out_change : (dats m 0 c).arrAt 4 cfg0.N = changes (B0 m c) (B1 m c) (B2 m c) (B3 m c) := by
  refine (dats m 0 c).arrAt_eq_of_covers 4 _ (by decide +kernel) fun t hf y => ?_
  obtain ⟨-, -, -, -, e4, -⟩ := idx t
  rw [after0_4]
  have hy0 : (y 0).val < 1024 := (y 0).isLt
  have hy1 : (y 1).val < 256 := (y 1).isLt
  have ht := points t
  have hi : (((cfg0.win 4).blk t).view.emb y) = ix2 (⟨1024 * t.val + (y 0).val, by omega⟩ : Fin 2048) (⟨(y 1).val, hy1⟩ : Fin 256) := by
    refine idx2 _ _ _ ?_ ?_ <;> blk_simp [e4] <;> (try dsimp only) <;> omega
  rw [hi]
  have key := out4 (X0 m c t) (X1 m c t) (X2 m c t) (X3 m c t) ⟨(y 0).val, hy0⟩ ⟨(y 1).val, hy1⟩
  rw [iblk0 m c t ⟨(y 0).val, hy0⟩ ⟨(y 1).val, hy1⟩ ⟨1024 * t.val + (y 0).val, by omega⟩ rfl, iblk1 m c t ⟨(y 0).val, hy0⟩ ⟨(y 1).val, hy1⟩ ⟨1024 * t.val + (y 0).val, by omega⟩ rfl, iblk2 m c t ⟨(y 0).val, hy0⟩ ⟨(y 1).val, hy1⟩ ⟨1024 * t.val + (y 0).val, by omega⟩ rfl, iblk3 m c t ⟨(y 0).val, hy0⟩ ⟨(y 1).val, hy1⟩ ⟨1024 * t.val + (y 0).val, by omega⟩ rfl] at key
  refine Eq.trans ?_ key
  blk_simp
  exact congrArg (out0_4 (iblk m c 0 t) (iblk m c 1 t) (iblk m c 2 t) (iblk m c 3 t)) (idx2 _ _ _ rfl rfl)

/-- The call's result array 1 after the run. -/
theorem out_mom : (dats m 0 c).arrAt 5 cfg0.N = moms (B1 m c) (B2 m c) := by
  refine (dats m 0 c).arrAt_eq_of_covers 5 _ (by decide +kernel) fun t hf y => ?_
  obtain ⟨-, -, -, -, -, e5, -⟩ := idx t
  rw [after0_5]
  have hy0 : (y 0).val < 1024 := (y 0).isLt
  have hy1 : (y 1).val < 256 := (y 1).isLt
  have ht := points t
  have hi : (((cfg0.win 5).blk t).view.emb y) = ix2 (⟨1024 * t.val + (y 0).val, by omega⟩ : Fin 2048) (⟨(y 1).val, hy1⟩ : Fin 256) := by
    refine idx2 _ _ _ ?_ ?_ <;> blk_simp [e5] <;> (try dsimp only) <;> omega
  rw [hi]
  have key := out5 (X0 m c t) (X1 m c t) (X2 m c t) (X3 m c t) ⟨(y 0).val, hy0⟩ ⟨(y 1).val, hy1⟩
  rw [iblk1 m c t ⟨(y 0).val, hy0⟩ ⟨(y 1).val, hy1⟩ ⟨1024 * t.val + (y 0).val, by omega⟩ rfl, iblk2 m c t ⟨(y 0).val, hy0⟩ ⟨(y 1).val, hy1⟩ ⟨1024 * t.val + (y 0).val, by omega⟩ rfl] at key
  refine Eq.trans ?_ key
  blk_simp
  exact congrArg (out0_5 (iblk m c 0 t) (iblk m c 1 t) (iblk m c 2 t) (iblk m c 3 t)) (idx2 _ _ _ rfl rfl)

/-- The call's result array 2 after the run. -/
theorem out_sec : (dats m 0 c).arrAt 6 cfg0.N = secs (B1 m c) (B3 m c) := by
  refine (dats m 0 c).arrAt_eq_of_covers 6 _ (by decide +kernel) fun t hf y => ?_
  obtain ⟨-, -, -, -, -, -, e6⟩ := idx t
  rw [after0_6]
  have hy0 : (y 0).val < 1024 := (y 0).isLt
  have hy1 : (y 1).val < 256 := (y 1).isLt
  have ht := points t
  have hi : (((cfg0.win 6).blk t).view.emb y) = ix2 (⟨1024 * t.val + (y 0).val, by omega⟩ : Fin 2048) (⟨(y 1).val, hy1⟩ : Fin 256) := by
    refine idx2 _ _ _ ?_ ?_ <;> blk_simp [e6] <;> (try dsimp only) <;> omega
  rw [hi]
  have key := out6 (X0 m c t) (X1 m c t) (X2 m c t) (X3 m c t) ⟨(y 0).val, hy0⟩ ⟨(y 1).val, hy1⟩
  rw [iblk1 m c t ⟨(y 0).val, hy0⟩ ⟨(y 1).val, hy1⟩ ⟨1024 * t.val + (y 0).val, by omega⟩ rfl, iblk3 m c t ⟨(y 0).val, hy0⟩ ⟨(y 1).val, hy1⟩ ⟨1024 * t.val + (y 0).val, by omega⟩ rfl] at key
  refine Eq.trans ?_ key
  blk_simp
  exact congrArg (out0_6 (iblk m c 0 t) (iblk m c 1 t) (iblk m c 2 t) (iblk m c 3 t)) (idx2 _ _ _ rfl rfl)

/-- The kernel runs and ends with the step of its arguments, which are unchanged. -/
theorem run (g : Dev nD → PrngReg) :
    θ_run defs (onTc (τ := τ) (main (F := Ideal))) ⟨m, fun _ => 0, g⟩ fun r => ∀ c : Dev nD,
      r.2.mem ((c.tc : Thread nD τ).loc main_v5) = changes (A0 m c) (A1 m c) (A2 m c) (A3 m c)
      ∧ r.2.mem ((c.tc : Thread nD τ).loc main_v6) = moms (A1 m c) (A2 m c)
      ∧ r.2.mem ((c.tc : Thread nD τ).loc main_v7) = secs (A1 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (Value.run m g) fun r hr c => by
    obtain ⟨h0, h1, h2, h3⟩ := hr c
    unfold Value.reg_main_v4_0 at h0
    unfold Value.reg_main_v4_1 at h1
    unfold Value.reg_main_v4_2 at h2
    rw [out_change m c] at h0
    rw [out_mom m c] at h1
    rw [out_sec m c] at h2
    exact ⟨h0.trans (changes_cast _ _ _ _ _ _), h1.trans (moms_cast _ _ _ _), h2.trans (secs_cast _ _ _ _), h3⟩

end Kernel

section Ref

open Cert.Reference17Ideal Cert.Reference17Ideal.Read

variable (x0 x1 x2 x3 : (⟨S4x512x256, .f32⟩ : BufTy).Contents (Elt Ideal))

/-- The reference's results. -/
theorem ref_mom : val_main_v4 x1 x2 = moms x1 x2 := by
  funext y
  unfold moms mom val_main_v4 val_main_v3 val_main_v2 val_main_cst_0 val_main_v1 val_main_v0 val_main_cst
  pointwise
  (try rfl)

theorem ref_sec : val_main_v10 x1 x3 = secs x1 x3 := by
  funext y
  unfold secs sec val_main_v10 val_main_v9 val_main_v8 val_main_cst_2 val_main_v7 val_main_v6 val_main_v5 val_main_cst_1
  pointwise
  (try rfl)

theorem ref_change : val_main_v23 x0 x1 x2 x3 = changes x0 x1 x2 x3 := by
  funext y
  rw [changes, change, ← show moms x1 x2 y = mom (x1 y) (x2 y) from rfl, ← show secs x1 x3 y = sec (x1 y) (x3 y) from rfl, ← ref_mom,
    ← ref_sec]
  unfold val_main_v23 val_main_v22 val_main_cst_7 val_main_v21 val_main_v20 val_main_v19 val_main_cst_6 val_main_v18 val_main_v17
    val_main_v16 val_main_cst_5 val_main_v15 val_main_v14 val_main_v13 val_main_cst_4 val_main_v12 val_main_v11 val_main_cst_3
  pointwise
  (try rfl)

end Ref

/-- The reference runs and leaves its arguments as they were. -/
theorem frame_reference : quiescent_Reference17Ideal := fun m g _ =>
  (θ_run _ _ _).mono (fun r h => ⟨fun c => (h c).2.2.2, sem_eq_zero_of_no_sems (by decide) r.2⟩)
    (Cert.Reference17Ideal.Value.run m g)

/-- Kernel and reference end with equal results. -/
theorem value : algebraic_Kernel17Ideal_Reference17Ideal := by
  pair_intro
  · run_from run m g
  · refine θ_run_mono (Cert.Reference17Ideal.Value.run m' g') fun r hr c => ?_
    obtain ⟨h0, h1, h2, h3⟩ := hr c
    obtain ⟨a0, a1, a2, a3⟩ := hagree c
    refine ⟨h0.trans ?_, h1.trans ?_, h2.trans ?_, h3⟩
    · rw [a0, a1, a2, a3, Cert.Reference17Ideal.Read.val_main_v23_eq]
      exact ref_change _ _ _ _
    · rw [a1, a2, Cert.Reference17Ideal.Read.val_main_v4_eq]
      exact ref_mom _ _
    · rw [a1, a3, Cert.Reference17Ideal.Read.val_main_v10_eq]
      exact ref_sec _ _

end Cert.Adco

end
-- ==== Proof.LossOut.lean ====
/- The loss head, kernel's side: the error of a row is its scaled norm less the target; the call leaves the gradient of the norm's
   input, the columns' sums of squared errors, and the scale's gradient. The grid walks 16 tiles of 512 rows and adds the tiles'
   parts of the last two in their blocks. -/
module

public import proofs.«01_k».proof.Proof.Gen.Kernel18Ideal.Run
public import proofs.«01_k».proof.Proof.Loads
public import proofs.«01_k».proof.Proof.RmsMath

@[expose] public section

noncomputable section

namespace Cert.Loss

open Cert.Loads Cert.Rms Idealize.ShloMosaic Idealize.ShloMosaic.TcCoe Idealize.SL.Sem Cert.Kernel18Ideal Cert.Kernel18Ideal.Gen

/-- The printed word of 1/1024. -/
abbrev part : EReal := Ideal.ofBits .f32 0x3A800000#32

/-- A row's error, and the gradient arriving at its scaled norm. -/
def err (x g t : Fin 1024 → EReal) (e : Fin 1024) : EReal := x e * rstd x * g e - t e
def dy (x g t : Fin 1024 → EReal) (e : Fin 1024) : EReal := err x g t e * part

/-- The gradient of a row's norm: the row, its scale and the target given. -/
def dxOf (x g t : Fin 1024 → EReal) (j : Fin 1024) : EReal :=
  rstd x * (dy x g t j * g j - x j * rstd x * Ideal.div (∑ e, dy x g t e * g e * (x e * rstd x)) K)

section Block

variable (x t : Vec Ideal S512x1024 .f32) (g : Vec Ideal S1x1024 .f32)

theorem rstd_apply (r : Fin 512) : k0_pay4 x (ix2 r 0) = rstd fun e => x (ix2 r e) := by
  unfold k0_pay4
  pointwise
  rfl

theorem normed_apply (r : Fin 512) (e : Fin 1024) : k0_pay5 x (ix2 r e) = x (ix2 r e) * rstd fun e => x (ix2 r e) := by
  rw [← rstd_apply]; unfold k0_pay5; pointwise

theorem err_apply (r : Fin 512) (e : Fin 1024) :
    k0_pay6 x g t (ix2 r e) = err (fun e => x (ix2 r e)) (fun e => g (ix2 0 e)) (fun e => t (ix2 r e)) e := by
  rw [err, ← normed_apply]; unfold k0_pay6 k0_pay3; pointwise

theorem dy_apply (r : Fin 512) (e : Fin 1024) :
    k0_pay7 x g t (ix2 r e) = dy (fun e => x (ix2 r e)) (fun e => g (ix2 0 e)) (fun e => t (ix2 r e)) e := by
  rw [dy, ← err_apply]; unfold k0_pay7; pointwise

/-- The norm's gradient of a block's row. -/
theorem dx_apply (r : Fin 512) (e : Fin 1024) :
    k0_pay8 x g t (ix2 r e) = dxOf (fun e => x (ix2 r e)) (fun e => g (ix2 0 e)) (fun e => t (ix2 r e)) e := by
  unfold dxOf
  simp only [← dy_apply, ← rstd_apply]
  unfold k0_pay8 k0_pay5 k0_pay3
  pointwise

/-- A tile's part of a column's sum of squared errors, and of the scale's gradient. -/
theorem sq_apply (e : Fin 1024) : k0_pay9 x g t (ix2 0 e)
    = ∑ r : Fin 512, err (fun e => x (ix2 r e)) (fun e => g (ix2 0 e)) (fun e => t (ix2 r e)) e
        * err (fun e => x (ix2 r e)) (fun e => g (ix2 0 e)) (fun e => t (ix2 r e)) e := by
  simp only [← err_apply]
  unfold k0_pay9
  pointwise

theorem dg_apply (e : Fin 1024) : k0_pay10 x g t (ix2 0 e)
    = ∑ r : Fin 512, dy (fun e => x (ix2 r e)) (fun e => g (ix2 0 e)) (fun e => t (ix2 r e)) e
        * (x (ix2 r e) * rstd fun e => x (ix2 r e)) := by
  simp only [← dy_apply]
  unfold k0_pay10
  pointwise
  exact Finset.sum_congr rfl fun r _ => congrArg _ (normed_apply x r e)

theorem next1 (p a : Vec Ideal S1x1024 .f32) (e : Fin 1024) : k0_pay1 p a (ix2 0 e) = a (ix2 0 e) + p (ix2 0 e) := by
  unfold k0_pay1
  pointwise

theorem next2 (p a : Vec Ideal S1x1024 .f32) (e : Fin 1024) : k0_pay2 p a (ix2 0 e) = a (ix2 0 e) + p (ix2 0 e) := by
  unfold k0_pay2
  pointwise

end Block

variable (m : (ℓ : Loc nD τ sig) → Buf (Elt Ideal) ℓ) (c : Dev nD)

/-- The argument arrays as launched: the norm's input, its scale, the target. -/
abbrev A0 : (⟨2, ![8192, 1024]⟩ : Shape).Idx → EReal := m ((c : Thread nD τ).loc main_arg0)
abbrev A1 : (⟨1, ![1024]⟩ : Shape).Idx → EReal := m ((c : Thread nD τ).loc main_arg1)
abbrev A2 : (⟨2, ![8192, 1024]⟩ : Shape).Idx → EReal := m ((c : Thread nD τ).loc main_arg2)

/-- The scale's array as the host lays it out: one row. -/
theorem entry_g (e : Fin 1024) : V m c main_v0 (ix2 0 e) = A1 m c (ix1 e) := by
  unfold V V0
  simp only [hostOps0, List.flatten_cons, List.flatten_nil, List.append_nil]
  after_results
  dsimp only
  pointwise
  all_goals blk_ext

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![0, 0])

/-- The blocks a point holds. -/
abbrev X0 (t : Fin cfg0.N) : Vec Ideal S512x1024 .f32 := iblk m c 0 t
abbrev X1 (t : Fin cfg0.N) : Vec Ideal S1x1024 .f32 := iblk m c 1 t
abbrev X2 (t : Fin cfg0.N) : Vec Ideal S512x1024 .f32 := iblk m c 2 t

theorem iblk0 (t : Fin cfg0.N) (r : Fin 512) (e : Fin 1024) (R : Fin 8192) (hR : R.val = 512 * t.val + r.val) :
    X0 m c t (ix2 r e) = A0 m c (ix2 R e) := by
  obtain ⟨e0, -⟩ := idx t
  blk_ext [iblk, V, e0]

theorem iblk1 (t : Fin cfg0.N) (e : Fin 1024) : X1 m c t (ix2 0 e) = A1 m c (ix1 e) := by
  obtain ⟨-, e0, -⟩ := idx t
  rw [← entry_g m c e]
  blk_ext [iblk, e0]

theorem iblk2 (t : Fin cfg0.N) (r : Fin 512) (e : Fin 1024) (R : Fin 8192) (hR : R.val = 512 * t.val + r.val) :
    X2 m c t (ix2 r e) = A2 m c (ix2 R e) := by
  obtain ⟨-, -, e0, -⟩ := idx t
  blk_ext [iblk, V, e0]

/-- What a point leaves in its block of the first result. -/
theorem first (t : Fin cfg0.N) (r : Fin 512) (e : Fin 1024) :
    (outsAt0 m c t.val t.isLt).1 (ix2 r e) = k0_pay8 (X0 m c t) (X1 m c t) (X2 m c t) (ix2 r e) := by
  have ht : t.val < 16 := lt_of_lt_of_eq t.isLt N_0
  by_cases h0 : t.val % 16 = 0
  · rw [outsAt0_A m c t h0 (by omega)]
    dsimp only
    frame_out
  · rw [outsAt0_B m c t h0 (by omega)]
    dsimp only
    frame_out

/-- The first tile sets the other results' blocks, -/
theorem second_A (t : Fin cfg0.N) (h0 : t.val % 16 = 0) (e : Fin 1024) :
    (outsAt0 m c t.val t.isLt).2.1 (ix2 0 e) = k0_pay9 (X0 m c t) (X1 m c t) (X2 m c t) (ix2 0 e) := by
  have ht : t.val < 16 := lt_of_lt_of_eq t.isLt N_0
  rw [outsAt0_A m c t h0 (by omega)]
  (try dsimp only)
  frame_out

theorem third_A (t : Fin cfg0.N) (h0 : t.val % 16 = 0) (e : Fin 1024) :
    (outsAt0 m c t.val t.isLt).2.2 (ix2 0 e) = k0_pay10 (X0 m c t) (X1 m c t) (X2 m c t) (ix2 0 e) := by
  have ht : t.val < 16 := lt_of_lt_of_eq t.isLt N_0
  rw [outsAt0_A m c t h0 (by omega)]
  (try dsimp only)
  frame_out

/-- a later one adds to them. -/
theorem second_S (t : Fin cfg0.N) (h0 : ¬t.val % 16 = 0) (e : Fin 1024) : (outsAt0 m c t.val t.isLt).2.1 (ix2 0 e)
    = (outsAt0 m c (t.val - 1) (Nat.lt_of_le_of_lt (Nat.sub_le _ _) t.isLt)).2.1 (ix2 0 e)
      + k0_pay9 (X0 m c t) (X1 m c t) (X2 m c t) (ix2 0 e) := by
  have ht : t.val < 16 := lt_of_lt_of_eq t.isLt N_0
  rw [outsAt0_B m c t h0 (by omega), ← next1]
  (try dsimp only)
  frame_out

theorem third_S (t : Fin cfg0.N) (h0 : ¬t.val % 16 = 0) (e : Fin 1024) : (outsAt0 m c t.val t.isLt).2.2 (ix2 0 e)
    = (outsAt0 m c (t.val - 1) (Nat.lt_of_le_of_lt (Nat.sub_le _ _) t.isLt)).2.2 (ix2 0 e)
      + k0_pay10 (X0 m c t) (X1 m c t) (X2 m c t) (ix2 0 e) := by
  have ht : t.val < 16 := lt_of_lt_of_eq t.isLt N_0
  rw [outsAt0_B m c t h0 (by omega), ← next2]
  (try dsimp only)
  frame_out

section Entries

variable (A0 : (⟨2, ![8192, 1024]⟩ : Shape).Idx → EReal) (A1 : (⟨1, ![1024]⟩ : Shape).Idx → EReal)
  (A2 : (⟨2, ![8192, 1024]⟩ : Shape).Idx → EReal)

/-- The arrays' rows, and the results as functions of the argument arrays. -/
abbrev row (A : (⟨2, ![8192, 1024]⟩ : Shape).Idx → EReal) (R : Fin 8192) : Fin 1024 → EReal := fun e => A (ix2 R e)
abbrev scale (A1 : (⟨1, ![1024]⟩ : Shape).Idx → EReal) : Fin 1024 → EReal := fun e => A1 (ix1 e)
def dxEntry (R : Fin 8192) (e : Fin 1024) : EReal := dxOf (row A0 R) (scale A1) (row A2 R) e
def sqEntry (e : Fin 1024) : EReal := ∑ R : Fin 8192, err (row A0 R) (scale A1) (row A2 R) e * err (row A0 R) (scale A1) (row A2 R) e
def dgEntry (e : Fin 1024) : EReal := ∑ R : Fin 8192, dy (row A0 R) (scale A1) (row A2 R) e * (A0 (ix2 R e) * rstd (row A0 R))

end Entries

/-- A point's blocks' rows are rows of the arrays. -/
theorem row0 (t : Fin cfg0.N) (r : Fin 512) (R : Fin 8192) (hR : R.val = 512 * t.val + r.val) :
    (fun e => X0 m c t (ix2 r e)) = row (A0 m c) R := funext fun e => iblk0 m c t r e R hR
theorem row1 (t : Fin cfg0.N) : (fun e => X1 m c t (ix2 0 e)) = scale (A1 m c) := funext fun e => iblk1 m c t e
theorem row2 (t : Fin cfg0.N) (r : Fin 512) (R : Fin 8192) (hR : R.val = 512 * t.val + r.val) :
    (fun e => X2 m c t (ix2 r e)) = row (A2 m c) R := funext fun e => iblk2 m c t r e R hR

theorem first_entry (t : Fin cfg0.N) (r : Fin 512) (e : Fin 1024) (R : Fin 8192) (hR : R.val = 512 * t.val + r.val) :
    (outsAt0 m c t.val t.isLt).1 (ix2 r e) = dxEntry (A0 m c) (A1 m c) (A2 m c) R e := by
  rw [first, dx_apply, dxEntry, row0 m c t r R hR, row1 m c t, row2 m c t r R hR]

theorem second_entry (t : Fin cfg0.N) (h2 : t.val % 16 = 15) (e : Fin 1024) :
    (outsAt0 m c t.val t.isLt).2.1 (ix2 0 e) = sqEntry (A0 m c) (A1 m c) (A2 m c) e := by
  have ht : t.val < 16 := lt_of_lt_of_eq t.isLt N_0
  rw [Pipeline.eq_sum_fin_of_reset_step_of_flush (fun n h => (outsAt0 m c n h).2.1 (ix2 0 e)) 16 0
    (fun t => k0_pay9 (X0 m c t) (X1 m c t) (X2 m c t) (ix2 0 e)) (fun t h => by rw [zero_add]; exact second_A m c t h e)
    (fun t h => second_S m c t h e) t h2, zero_add]
  simp only [sq_apply]
  unfold sqEntry
  refine Fin.sum_mul_add_congr fun s r h => ?_
  rw [row0 m c _ r _ ?_, row1 m c, row2 m c _ r _ ?_] <;> (try dsimp only) <;> omega

theorem third_entry (t : Fin cfg0.N) (h2 : t.val % 16 = 15) (e : Fin 1024) :
    (outsAt0 m c t.val t.isLt).2.2 (ix2 0 e) = dgEntry (A0 m c) (A1 m c) (A2 m c) e := by
  have ht : t.val < 16 := lt_of_lt_of_eq t.isLt N_0
  rw [Pipeline.eq_sum_fin_of_reset_step_of_flush (fun n h => (outsAt0 m c n h).2.2 (ix2 0 e)) 16 0
    (fun t => k0_pay10 (X0 m c t) (X1 m c t) (X2 m c t) (ix2 0 e)) (fun t h => by rw [zero_add]; exact third_A m c t h e)
    (fun t h => third_S m c t h e) t h2, zero_add]
  simp only [dg_apply]
  unfold dgEntry
  refine Fin.sum_mul_add_congr fun s r h => ?_
  rw [row0 m c _ r _ ?_, row1 m c, row2 m c _ r _ ?_, iblk0 m c _ r e _ ?_] <;> (try dsimp only) <;> omega

/-- The result arrays after the run. -/
theorem out_dx : (dats m 0 c).arrAt 3 cfg0.N = fun y => dxEntry (A0 m c) (A1 m c) (A2 m c) (y 0) (y 1) := by
  refine (dats m 0 c).arrAt_eq_of_covers 3 _ (by decide +kernel) fun t hf y => ?_
  obtain ⟨-, -, -, e3, -⟩ := idx t
  rw [after0_3]
  have hy0 : (y 0).val < 512 := (y 0).isLt
  have hy1 : (y 1).val < 1024 := (y 1).isLt
  have ht : t.val < 16 := lt_of_lt_of_eq t.isLt N_0
  have hi : (((cfg0.win 3).blk t).view.emb y) = ix2 (⟨512 * t.val + (y 0).val, by omega⟩ : Fin 8192) (⟨(y 1).val, hy1⟩ : Fin 1024) := by
    refine idx2 _ _ _ ?_ ?_ <;> blk_simp [e3] <;> (try dsimp only) <;> omega
  rw [hi]
  refine Eq.trans ?_ (first_entry m c t ⟨(y 0).val, hy0⟩ ⟨(y 1).val, hy1⟩ _ rfl)
  blk_simp
  blk_ext

theorem out_sq : (dats m 0 c).arrAt 4 cfg0.N = fun y => sqEntry (A0 m c) (A1 m c) (A2 m c) (y 1) := by
  refine (dats m 0 c).arrAt_eq_of_covers 4 _ (by decide +kernel) fun t hf y => ?_
  obtain ⟨-, -, -, -, e4, -⟩ := idx t
  rw [after0_4]
  have hy0 : (y 0).val < 1 := (y 0).isLt
  have hy1 : (y 1).val < 1024 := (y 1).isLt
  have hi : (((cfg0.win 4).blk t).view.emb y) = ix2 (0 : Fin 1) (⟨(y 1).val, hy1⟩ : Fin 1024) := by
    refine idx2 _ _ _ ?_ ?_ <;> blk_simp [e4] <;> (try dsimp only) <;> omega
  rw [hi]
  refine Eq.trans ?_ (second_entry m c t ((flush0_4 t).mp hf) ⟨(y 1).val, hy1⟩)
  blk_simp
  blk_ext

theorem out_dg : (dats m 0 c).arrAt 5 cfg0.N = fun y => dgEntry (A0 m c) (A1 m c) (A2 m c) (y 1) := by
  refine (dats m 0 c).arrAt_eq_of_covers 5 _ (by decide +kernel) fun t hf y => ?_
  obtain ⟨-, -, -, -, -, e5⟩ := idx t
  rw [after0_5]
  have hy0 : (y 0).val < 1 := (y 0).isLt
  have hy1 : (y 1).val < 1024 := (y 1).isLt
  have hi : (((cfg0.win 5).blk t).view.emb y) = ix2 (0 : Fin 1) (⟨(y 1).val, hy1⟩ : Fin 1024) := by
    refine idx2 _ _ _ ?_ ?_ <;> blk_simp [e5] <;> (try dsimp only) <;> omega
  rw [hi]
  refine Eq.trans ?_ (third_entry m c t ((flush0_5 t).mp hf) ⟨(y 1).val, hy1⟩)
  blk_simp
  blk_ext

end Cert.Loss

end
-- ==== Proof.LossClaim.lean ====
/- The loss head: kernel and reference end with the same loss, the same gradient of the norm's input and the same gradient of its
   scale, with no condition on the arguments. -/
module

public import proofs.«01_k».proof.Defs
public import proofs.«01_k».proof.Proof.LossOut
public import proofs.«01_k».proof.Proof.Gen.Reference18Ideal.Read
public import proofs.«01_k».proof.Proof.Gen.Reference18Ideal.Run
public import Idealize.ShloMosaic.Adequacy
public import Idealize.ShloMosaic.Init

@[expose] public section

noncomputable section

namespace Cert.Loss

open Idealize.ShloMosaic Cert.Rms

/-- The printed words of a half and of one. -/
abbrev half : EReal := Ideal.ofBits .f32 0x3F000000#32
abbrev unit : EReal := Ideal.ofBits .f32 0x3F800000#32

theorem half_eq : half = ((1 / 2 : ℝ) : EReal) := by
  simp [half, Ideal.ofBits, Ideal.ieee, -EReal.coe_mul]; norm_num

theorem unit_eq : unit = ((1 : ℝ) : EReal) := by
  simp [unit, Ideal.ofBits, Ideal.ieee, -EReal.coe_mul]; norm_num

theorem part_eq : part = ((1024⁻¹ : ℝ) : EReal) := by
  simp [part, Ideal.ofBits, Ideal.ieee, -EReal.coe_mul]; norm_num

/-- Half of the square's derivative, shared among 1024 entries, is a 1024th of the error. -/
theorem dy_eq (x g t : Fin 1024 → EReal) (e : Fin 1024) : Ideal.div (half * unit) K * (two * err x g t e) = dy x g t e := by
  rw [dy, div_K, half_eq, unit_eq, part_eq, two_eq, ← mul_assoc, mul_comm (err x g t e)]
  congr 1
  simp only [← EReal.coe_mul]
  congr 1
  norm_num

/-- The gradient of a row's norm with nothing arriving beside it. -/
theorem dxOf_eq (x g t : Fin 1024 → EReal) (j : Fin 1024) : dxOf x g t j = dxRow (dy x g t) g x 0 j := by
  rw [dxRow, zero_add, dxOf]

/-- The mean of all entries' sums is the sum of the rows' means. -/
theorem share {ι κ : Type*} [Fintype ι] [Fintype κ] (h : EReal) (f : ι → κ → EReal) :
    Ideal.div (h * ∑ e, ∑ R, f R e) K = h * ∑ R, Ideal.div (∑ e, f R e) K := by
  simp only [div_K]
  rw [Finset.sum_comm, mul_assoc, mul_comm _ ((1024⁻¹ : ℝ) : EReal), Reals.mul_sum (by norm_num)]
  congr 1
  exact Finset.sum_congr rfl fun R _ => mul_comm _ _

section Arrays

variable (A0 : (⟨2, ![8192, 1024]⟩ : Shape).Idx → EReal) (A1 : (⟨1, ![1024]⟩ : Shape).Idx → EReal)
  (A2 : (⟨2, ![8192, 1024]⟩ : Shape).Idx → EReal)

/-- The results as functions of the argument arrays: the loss, the gradient of the norm's input, and of its scale. -/
def lossVal : EReal := Ideal.div (half * ∑ e : Fin 1024, sqEntry A0 A1 A2 e) K
@[irreducible] def loss : (⟨0, ![]⟩ : Shape).Idx → EReal := fun _ => lossVal A0 A1 A2
@[irreducible] def dx : (⟨2, ![8192, 1024]⟩ : Shape).Idx → EReal := fun y => dxEntry A0 A1 A2 (y 0) (y 1)
@[irreducible] def dg : (⟨1, ![1024]⟩ : Shape).Idx → EReal := fun y => dgEntry A0 A1 A2 (y 0)

/-- The rows' means summed: the same loss. -/
theorem lossVal_eq : lossVal A0 A1 A2 = half * ∑ R : Fin 8192, Ideal.div (∑ e : Fin 1024,
    err (row A0 R) (scale A1) (row A2 R) e * err (row A0 R) (scale A1) (row A2 R) e) K := by
  unfold lossVal sqEntry
  exact share half fun R e => err (row A0 R) (scale A1) (row A2 R) e * err (row A0 R) (scale A1) (row A2 R) e

end Arrays

section Ref

open Cert.Reference18Ideal Cert.Reference18Ideal.Read

variable (x0 : (⟨S8192x1024, .f32⟩ : BufTy).Contents (Elt Ideal)) (x1 : (⟨S1024, .f32⟩ : BufTy).Contents (Elt Ideal))
  (x2 : (⟨S8192x1024, .f32⟩ : BufTy).Contents (Elt Ideal))

theorem ref_var (R : Fin 8192) : val_main_v8 x0 (ix2 R 0) = var (row x0 R) := by
  unfold val_main_v8 val_main_v7 val_main_cst_2 val_main_v6 val_main_v5 val_main_cst_1 val_main_v4 val_main_v3 val_main_cst_0 val_main_v0
  pointwise
  rfl

theorem ref_rstd (R : Fin 8192) : val_main_v9 x0 (ix2 R 0) = rstd (row x0 R) := by
  rw [rstd, ← ref_var]
  unfold val_main_v9
  pointwise

theorem ref_err (R : Fin 8192) (e : Fin 1024) : val_main_v18 x0 x1 x2 (ix2 R e) = err (row x0 R) (scale x1) (row x2 R) e := by
  rw [err, ← ref_rstd]
  unfold val_main_v18 val_main_v17 val_main_v16 val_main_v15 val_main_v14 val_main_v13
  pointwise
  (try rfl)

theorem ref_dy (R : Fin 8192) (e : Fin 1024) : val_main_v32 x0 x1 x2 (ix2 R e) = dy (row x0 R) (scale x1) (row x2 R) e := by
  rw [← dy_eq, ← ref_err]
  unfold val_main_v32 val_main_v31 val_main_v30 val_main_v29 val_main_cst_11 val_main_v28 val_main_v27 val_main_cst_10 val_main_cst_9
    val_main_v21 val_main_v20 val_main_cst_4
  pointwise
  (try rfl)

/-- The reference's loss. -/
theorem ref_loss_val : val_main_v26 x0 x1 x2 = fun _ => lossVal x0 x1 x2 := by
  funext y
  rw [lossVal_eq]
  simp only [← ref_err]
  unfold val_main_v26 val_main_cst_8 val_main_v25 val_main_cst_7 val_main_v24 val_main_v23 val_main_cst_6 val_main_v22 val_main_cst_5
    val_main_v19
  pointwise
  (try rfl)

theorem ref_dx_entry (R : Fin 8192) (e : Fin 1024) : val_main_v50 x0 x1 x2 (ix2 R e) = dxEntry x0 x1 x2 R e := by
  rw [dxEntry, dxOf_eq, ← dx_eq, zero_add]
  simp only [← ref_dy, ← ref_var, ← ref_rstd]
  unfold val_main_v50 val_main_v49 val_main_v48 val_main_v47 val_main_cst_16 val_main_v46 val_main_v45 val_main_cst_15 val_main_v44
    val_main_v43 val_main_v42 val_main_v41 val_main_v40 val_main_cst_14 val_main_v39 val_main_v37 val_main_v36 val_main_v15
    val_main_v12 val_main_v11 val_main_cst_3 val_main_v10 val_main_v2 val_main_v1 val_main_cst
  pointwise
  rw [Fin.sum_univ_one]
  (try rfl)

theorem ref_dg_entry (e : Fin 1024) : val_main_v38 x0 x1 x2 (ix1 e) = dgEntry x0 x1 x2 e := by
  unfold dgEntry
  simp only [← ref_dy, ← ref_rstd]
  unfold val_main_v38 val_main_cst_13 val_main_v35 val_main_v34 val_main_cst_12 val_main_v33 val_main_v14 val_main_v13
  pointwise
  rw [Fin.sum_univ_one]
  exact Finset.sum_congr rfl fun R _ => mul_comm _ _

/-- The reference's results. -/
theorem ref_loss : val_main_v26 x0 x1 x2 = loss x0 x1 x2 := by
  unfold loss
  exact ref_loss_val x0 x1 x2

theorem ref_dx : val_main_v50 x0 x1 x2 = dx x0 x1 x2 := by
  funext y
  obtain ⟨R, e, rfl⟩ : ∃ (R : Fin 8192) (e : Fin 1024), y = ix2 R e := ⟨y 0, y 1, Loads.idx2 _ _ _ rfl rfl⟩
  unfold dx
  exact ref_dx_entry x0 x1 x2 R e

theorem ref_dg : val_main_v38 x0 x1 x2 = dg x0 x1 x2 := by
  funext y
  obtain ⟨e, rfl⟩ : ∃ e : Fin 1024, y = ix1 e := ⟨y 0, by funext q; obtain rfl : q = 0 := Subsingleton.elim _ _; rfl⟩
  unfold dg
  exact ref_dg_entry x0 x1 x2 e

end Ref

section Kernel

open Cert.Kernel18Ideal Cert.Kernel18Ideal.Gen Idealize.ShloMosaic.TcCoe Idealize.SL.Sem

variable (m : (ℓ : Loc nD τ sig) → Buf (Elt Ideal) ℓ) (c : Dev nD)

/-- The host's last operations on the columns' sums. -/
theorem total (v : FVec Ideal S1x1024 .f32) : Host.divf (F := Ideal) (mulf (constant S_ .f32 0x3F000000#32) (Host.reduceAdd v
    (constant S_ .f32 0x00000000#32) reducesTo_S1x1024_S_d0_1 h_S_)) (constant S_ .f32 0x44800000#32)
      = fun _ => Ideal.div (half * ∑ e : Fin 1024, v (ix2 0 e)) K := by
  funext y
  pointwise
  rw [Fin.sum_univ_one]

/-- The kernel's results. -/
theorem loss_laid : Host.divf (F := Ideal) (mulf (constant S_ .f32 0x3F000000#32) (Host.reduceAdd (Value.reg_main_v1_1 m c)
    (constant S_ .f32 0x00000000#32) reducesTo_S1x1024_S_d0_1 h_S_)) (constant S_ .f32 0x44800000#32)
      = (loss (A0 m c) (A1 m c) (A2 m c) : FVec Ideal S_ .f32) := by
  have h : ∀ e : Fin 1024, Value.reg_main_v1_1 m c (ix2 0 e) = sqEntry (A0 m c) (A1 m c) (A2 m c) e :=
    fun e => congrFun (out_sq m c) (ix2 0 e)
  refine (total _).trans ?_
  unfold loss lossVal
  exact funext fun _ => congrArg (fun s => Ideal.div (half * s) K) (Finset.sum_congr rfl fun e _ => h e)

theorem dx_laid : Value.reg_main_v1_0 m c = dx (A0 m c) (A1 m c) (A2 m c) := by
  unfold dx
  exact out_dx m c

theorem dg_laid : shapeCast _ (Value.reg_main_v1_2 m c) shapeCasts_S1x1024_S1024 = dg (A0 m c) (A1 m c) (A2 m c) := by
  funext y
  obtain ⟨e, rfl⟩ : ∃ e : Fin 1024, y = ix1 e := ⟨y 0, by funext q; obtain rfl : q = 0 := Subsingleton.elim _ _; rfl⟩
  unfold dg
  refine Eq.trans ?_ (congrFun (out_dg m c) (ix2 0 e))
  unfold Value.reg_main_v1_2
  pointwise
  all_goals blk_ext

/-- The kernel runs and ends with those results, its arguments unchanged. -/
theorem run (g : Dev nD → PrngReg) :
    θ_run defs (onTc (τ := τ) (main (F := Ideal))) ⟨m, fun _ => 0, g⟩ fun r => ∀ c : Dev nD,
      r.2.mem ((c.tc : Thread nD τ).loc main_v4) = loss (A0 m c) (A1 m c) (A2 m c)
      ∧ r.2.mem ((c.tc : Thread nD τ).loc main_v1_0) = dx (A0 m c) (A1 m c) (A2 m c)
      ∧ r.2.mem ((c.tc : Thread nD τ).loc main_v5) = dg (A0 m c) (A1 m c) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (loss_laid m c), (h c).2.1.trans (dx_laid m c), (h c).2.2.1.trans (dg_laid m c),
    (h c).2.2.2⟩) (Value.run m g)

end Kernel

/-- The reference runs and leaves its arguments as they were. -/
theorem frame_reference : quiescent_Reference18Ideal := fun m g _ =>
  (θ_run _ _ _).mono (fun r h => ⟨fun c => (h c).2.2.2, sem_eq_zero_of_no_sems (by decide) r.2⟩)
    (Cert.Reference18Ideal.Value.run m g)

/-- Kernel and reference end with equal results. -/
theorem value : algebraic_Kernel18Ideal_Reference18Ideal := by
  pair_intro
  · run_from run m g
  · refine θ_run_mono (Cert.Reference18Ideal.Value.run m' g') fun r hr c => ?_
    obtain ⟨h0, h1, h2, h3⟩ := hr c
    obtain ⟨a0, a1, a2⟩ := hagree c
    refine ⟨h0.trans ?_, h1.trans ?_, h2.trans ?_, h3⟩
    · rw [a0, a1, a2, Cert.Reference18Ideal.Read.val_main_v26_eq]
      exact ref_loss _ _ _
    · rw [Cert.Reference18Ideal.Read.val_main_v50_eq, a0, a1, a2]
      exact ref_dx _ _ _
    · rw [a0, a1, a2, Cert.Reference18Ideal.Read.val_main_v38_eq]
      exact ref_dg _ _ _

end Cert.Loss

end
-- ==== Proof.MemnClaim.lean ====
/- The norm of the memory's rows: with `x` a row and `g` the scale, entry `e` is `x e * rstd x * g e`. Kernel and reference end with the
   same array, with no condition on the arguments. -/
module

public import proofs.«01_k».proof.Defs
public import proofs.«01_k».proof.Proof.Gen.Kernel19Ideal.Value
public import proofs.«01_k».proof.Proof.Gen.Reference19Ideal.Read
public import proofs.«01_k».proof.Proof.Gen.Reference19Ideal.Run
public import proofs.«01_k».proof.Proof.Loads
public import proofs.«01_k».proof.Proof.RmsMath
public import Idealize.ShloMosaic.Lib.Pipeline.ValueKit
public import Idealize.ShloMosaic.Lib.Pointwise
public import Idealize.ShloMosaic.Adequacy
public import Idealize.ShloMosaic.Init

@[expose] public section

noncomputable section

namespace Cert.Memn

open Cert.Loads Cert.Rms Idealize.ShloMosaic

/-- The result as a function of the two arrays. -/
def result (X : (⟨2, ![1024, 1024]⟩ : Shape).Idx → EReal) (G : (⟨1, ![1024]⟩ : Shape).Idx → EReal) : (⟨2, ![1024, 1024]⟩ : Shape).Idx → EReal := fun i =>
  normRow (fun e => X (ix2 (i 0) e)) (fun e => G (ix1 e)) (i 1)

section Ref

open Cert.Reference19Ideal Cert.Reference19Ideal.Read

variable (x0 : (⟨S1024x1024, .f32⟩ : BufTy).Contents (Elt Ideal)) (x1 : (⟨S1024, .f32⟩ : BufTy).Contents (Elt Ideal))

/-- The reference's result. -/
theorem ref_result : val_main_v13 x0 x1 = result x0 x1 := by
  funext i
  obtain ⟨r, e, rfl⟩ : ∃ (r e : Fin 1024), i = ix2 r e := ⟨i 0, i 1, idx2 _ _ _ rfl rfl⟩
  unfold result normRow rstd var val_main_v13 val_main_v12 val_main_v11 val_main_v10 val_main_v9 val_main_v8 val_main_v7 val_main_v6
    val_main_v5 val_main_cst_1 val_main_v4 val_main_v3 val_main_cst_0 val_main_v2 val_main_v1 val_main_cst val_main_v0
  pointwise

end Ref

section Kernel

open Idealize.ShloMosaic.TcCoe Idealize.SL.Sem Cert.Kernel19Ideal Cert.Kernel19Ideal.Gen

/-- What the body computes from a block of rows. -/
theorem norm_apply (x : Vec Ideal S512x1024 .f32) (g : Vec Ideal S1x1024 .f32) (r : Fin 512) (e : Fin 1024) :
    (k0_pay1 x g : FVec Ideal S512x1024 .bf16) (ix2 r e) = normRow (fun e => x (ix2 r e)) (fun e => g (ix2 0 e)) e := by
  unfold k0_pay1 normRow rstd var
  pointwise

theorem out2 (x0 : Vec Ideal S512x1024 .f32) (x1 : Vec Ideal S1x1024 .f32) (r : Fin 512) (e : Fin 1024) :
    out0_2 x0 x1 (ix2 r e) = normRow (fun e => x0 (ix2 r e)) (fun e => x1 (ix2 0 e)) e := by
  unfold out0_2
  canon_tiles x w
  rw [idx2 x r e (by simpa using w0.symm) (by simpa using w1.symm), norm_apply]
  exact congr_arg₂ (normRow · · e) (funext fun e => ld2 x0 0 0 _ r e r e (by simp) (by simp))
    (funext fun e => ld2 x1 0 0 _ 0 e 0 e (by simp) (by simp))

variable (m : (ℓ : Loc nD τ sig) → Buf (Elt Ideal) ℓ) (c : Dev nD)

/-- The argument arrays as launched. -/
abbrev A0 : (⟨2, ![1024, 1024]⟩ : Shape).Idx → EReal := m ((c : Thread nD τ).loc main_arg0)
abbrev A1 : (⟨1, ![1024]⟩ : Shape).Idx → EReal := m ((c : Thread nD τ).loc main_arg1)

/-- The scale's array as the host lays it out: one row. -/
theorem entry_g (e : Fin 1024) : V m c main_v0 (ix2 0 e) = A1 m c (ix1 e) := by
  unfold V
  after_results
  dsimp only
  pointwise
  all_goals blk_ext

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The blocks a point holds. -/
abbrev X0 (t : Fin cfg0.N) : Vec Ideal S512x1024 .f32 := iblk m c 0 t
abbrev X1 (t : Fin cfg0.N) : Vec Ideal S1x1024 .f32 := iblk m c 1 t

theorem iblk0 (t : Fin cfg0.N) (r : Fin 512) (e : Fin 1024) (R : Fin 1024) (hR : R.val = 512 * t.val + r.val) :
    X0 m c t (ix2 r e) = A0 m c (ix2 R e) := by
  obtain ⟨e0, -⟩ := idx t
  blk_ext [iblk, V, e0]

theorem iblk1 (t : Fin cfg0.N) (e : Fin 1024) : X1 m c t (ix2 0 e) = A1 m c (ix1 e) := by
  obtain ⟨-, e0, -⟩ := idx t
  rw [← entry_g m c e]
  blk_ext [iblk, e0]

/-- The result array after the run. -/
theorem out_result : (dats m 0 c).arrAt 2 cfg0.N = result (A0 m c) (A1 m c) := by
  refine (dats m 0 c).arrAt_eq_of_covers 2 _ (by decide +kernel) fun t hf y => ?_
  obtain ⟨-, -, e2⟩ := idx t
  rw [after0_2]
  have hy0 : (y 0).val < 512 := (y 0).isLt
  have hy1 : (y 1).val < 1024 := (y 1).isLt
  have ht : t.val < 2 := lt_of_lt_of_eq t.isLt N_0
  have key := out2 (X0 m c t) (X1 m c t) ⟨(y 0).val, hy0⟩ ⟨(y 1).val, hy1⟩
  have hi : (((cfg0.win 2).blk t).view.emb y) = ix2 (⟨512 * t.val + (y 0).val, by omega⟩ : Fin 1024) (⟨(y 1).val, hy1⟩ : Fin 1024) := by
    refine idx2 _ _ _ ?_ ?_ <;> blk_simp [e2] <;> (try dsimp only) <;> omega
  rw [hi, result]
  refine Eq.trans ?_ (key.trans ?_)
  · blk_simp
    exact congrArg (out0_2 (iblk m c 0 t) (iblk m c 1 t)) (idx2 _ _ _ rfl rfl)
  · exact congr_arg₂ (normRow · · _) (funext fun e => iblk0 m c t _ e _ rfl) (funext fun e => iblk1 m c t e)

end Kernel

/-- The reference runs and leaves its arguments as they were. -/
theorem frame_reference : quiescent_Reference19Ideal := fun m g _ =>
  (θ_run _ _ _).mono (fun r h => ⟨fun c => (h c).2, sem_eq_zero_of_no_sems (by decide) r.2⟩)
    (Cert.Reference19Ideal.Value.run m g)

/-- Kernel and reference end with equal results. -/
theorem value : algebraic_Kernel19Ideal_Reference19Ideal := by
  pair_intro
  · run_from Cert.Kernel19Ideal.Value.run_blocks m g
  · refine θ_run_mono (Cert.Reference19Ideal.Value.run m' g') fun r hr c => ?_
    obtain ⟨h0, h1⟩ := hr c
    obtain ⟨a0, a1⟩ := hagree c
    refine ⟨h0.trans ?_, h1⟩
    rw [a0, a1, Cert.Reference19Ideal.Read.val_main_v13_eq]
    exact (ref_result _ _).trans (out_result m c).symm

end Cert.Memn

end
-- ==== Proof.KvfClaim.lean ====
/- The memory's keys and values: entry `(i, j)` is `∑ p, X i p * W p j`. The grid walks, for each tile of 512 rows, the chips' parts of
   the weight's rows and adds their products in a scratch. Kernel and reference end with the same array, with no condition on the
   arguments. -/
module

public import proofs.«01_k».proof.Defs
public import proofs.«01_k».proof.Proof.Gen.Kernel20Ideal.Value
public import proofs.«01_k».proof.Proof.Gen.Reference20Ideal.Read
public import proofs.«01_k».proof.Proof.Gen.Reference20Ideal.Run
public import proofs.«01_k».proof.Proof.Loads
public import proofs.«01_k».proof.Proof.RmsMath
public import Idealize.ShloMosaic.Lib.Pipeline.ValueKit
public import Idealize.ShloMosaic.Lib.Pointwise
public import Idealize.ShloMosaic.Adequacy
public import Idealize.ShloMosaic.Init

@[expose] public section

noncomputable section

namespace Cert.Kvf

open Cert.Loads Idealize.ShloMosaic

/-- One entry, and the result as a function of the two arrays. -/
def entry (X W : (⟨2, ![1024, 1024]⟩ : Shape).Idx → EReal) (i j : Fin 1024) : EReal := ∑ p : Fin 1024, X (ix2 i p) * W (ix2 p j)
def result (X W : (⟨2, ![1024, 1024]⟩ : Shape).Idx → EReal) : (⟨2, ![1024, 1024]⟩ : Shape).Idx → EReal := fun i => entry X W (i 0) (i 1)

section Ref

open Cert.Reference20Ideal Cert.Reference20Ideal.Read

variable (x0 : (⟨S1024x1024, .bf16⟩ : BufTy).Contents (Elt Ideal)) (x1 : (⟨S1024x1024, .f32⟩ : BufTy).Contents (Elt Ideal))

/-- The reference's result. -/
theorem ref_result : val_main_v2 x0 x1 = result x0 x1 := by
  funext i
  obtain ⟨r, j, rfl⟩ : ∃ (r j : Fin 1024), i = ix2 r j := ⟨i 0, i 1, idx2 _ _ _ rfl rfl⟩
  unfold result entry val_main_v2 val_main_v1 val_main_v0
  pointwise
  (try rfl)

end Ref

section Kernel

open Idealize.ShloMosaic.TcCoe Idealize.SL.Sem Cert.Kernel20Ideal Cert.Kernel20Ideal.Gen

/-- One tile's product. -/
theorem part_apply (x : Vec Ideal S512x256 .bf16) (w : Vec Ideal S1x256x1024 .bf16) (r : Fin 512) (j : Fin 1024) :
    k0_pay1 x w (ix2 r j) = ∑ p : Fin 256, x (ix2 r p) * w (ix3 0 p j) := by
  unfold k0_pay1
  pointwise
  (try rfl)

theorem first_apply (x : Vec Ideal S512x256 .bf16) (w : Vec Ideal S1x256x1024 .bf16) (r : Fin 512) (j : Fin 1024) :
    k0_pay2 x w (ix2 r j) = ∑ p : Fin 256, x (ix2 r p) * w (ix3 0 p j) := by
  rw [← part_apply]; unfold k0_pay2; pointwise

theorem next_apply (x : Vec Ideal S512x256 .bf16) (w : Vec Ideal S1x256x1024 .bf16) (a : Vec Ideal S512x1024 .f32) (r : Fin 512)
    (j : Fin 1024) : k0_pay3 x w a (ix2 r j) = a (ix2 r j) + ∑ p : Fin 256, x (ix2 r p) * w (ix3 0 p j) := by
  rw [← part_apply]; unfold k0_pay3; pointwise

theorem last_apply (a : Vec Ideal S512x1024 .f32) (r : Fin 512) (j : Fin 1024) :
    (k0_pay4 a : FVec Ideal S512x1024 .bf16) (ix2 r j) = a (ix2 r j) := by
  unfold k0_pay4; pointwise

variable (m : (ℓ : Loc nD τ sig) → Buf (Elt Ideal) ℓ) (c : Dev nD)

/-- The argument arrays as launched. -/
abbrev A0 : (⟨2, ![1024, 1024]⟩ : Shape).Idx → EReal := m ((c : Thread nD τ).loc main_arg0)
abbrev A1 : (⟨2, ![1024, 1024]⟩ : Shape).Idx → EReal := m ((c : Thread nD τ).loc main_arg1)

/-- The weight as the host lays it out: chip `k` holds rows `256 k` to `256 k + 255`. -/
theorem entry_w (k : Fin 4) (p : Fin 256) (j P : Fin 1024) (hP : P.val = 256 * k.val + p.val) :
    V m c main_v1 (ix3 k p j) = A1 m c (ix2 P j) := by
  unfold V
  after_results
  dsimp only
  pointwise
  blk_ext

theorem idx : ∀ t : Fin cfg0.N, win0_0.index t = ![t.val / 4, t.val % 4] ∧ win0_1.index t = ![t.val % 4, 0, 0] ∧ win0_2.index t = ![t.val / 4, 0] :=
  (by decide +kernel : ∀ t : Fin grid0.N, win0_0.index t = ![t.val / 4, t.val % 4] ∧ win0_1.index t = ![t.val % 4, 0, 0] ∧ win0_2.index t = ![t.val / 4, 0])

/-- The blocks a point holds. -/
abbrev X0 (t : Fin cfg0.N) : Vec Ideal S512x256 .bf16 := iblk m c 0 t
abbrev X1 (t : Fin cfg0.N) : Vec Ideal S1x256x1024 .bf16 := iblk m c 1 t

theorem iblk0 (t : Fin cfg0.N) (r : Fin 512) (p : Fin 256) (R P : Fin 1024) (hR : R.val = 512 * (t.val / 4) + r.val)
    (hP : P.val = 256 * (t.val % 4) + p.val) : X0 m c t (ix2 r p) = A0 m c (ix2 R P) := by
  obtain ⟨e0, -⟩ := idx t
  blk_ext [iblk, V, e0]

theorem iblk1 (t : Fin cfg0.N) (p : Fin 256) (j P : Fin 1024) (hP : P.val = 256 * (t.val % 4) + p.val) :
    X1 m c t (ix3 0 p j) = A1 m c (ix2 P j) := by
  obtain ⟨-, e0, -⟩ := idx t
  rw [← entry_w m c ⟨t.val % 4, by omega⟩ p j P hP]
  blk_ext [iblk, e0]

/-- A tile's contribution to an entry, over the blocks a point holds. -/
def term (t : Fin cfg0.N) (r : Fin 512) (j : Fin 1024) : EReal := ∑ p : Fin 256, X0 m c t (ix2 r p) * X1 m c t (ix3 0 p j)

/-- The first tile sets the scratch. -/
theorem scratch_A (t : Fin cfg0.N) (h0 : t.val % 4 = 0) (r : Fin 512) (j : Fin 1024) :
    (outsAt0 m c t.val t.isLt).2 (ix2 r j) = term m c t r j := by
  rw [outsAt0_A m c t h0 (by omega) (by omega), term, ← first_apply]
  dsimp only
  frame_out

/-- A later tile adds to it. -/
theorem scratch_S (t : Fin cfg0.N) (h0 : ¬t.val % 4 = 0) (r : Fin 512) (j : Fin 1024) :
    (outsAt0 m c t.val t.isLt).2 (ix2 r j)
      = (outsAt0 m c (t.val - 1) (Nat.lt_of_le_of_lt (Nat.sub_le _ _) t.isLt)).2 (ix2 r j) + term m c t r j := by
  rw [term, ← next_apply]
  by_cases h2 : t.val % 4 = 3
  · rw [outsAt0_C m c t h0 (by omega) h2]
    dsimp only
    frame_out
    exact congrArg (fun a => k0_pay3 _ _ a (ix2 r j)) (Memref.IsWhole.read_unread _ _)
  · rw [outsAt0_B m c t h0 (by omega) h2]
    dsimp only
    frame_out
    exact congrArg (fun a => k0_pay3 _ _ a (ix2 r j)) (Memref.IsWhole.read_unread _ _)

/-- The last tile's point stores what the scratch then holds. -/
theorem stored (t : Fin cfg0.N) (h2 : t.val % 4 = 3) (r : Fin 512) (j : Fin 1024) :
    (outsAt0 m c t.val t.isLt).1 (ix2 r j) = (outsAt0 m c t.val t.isLt).2 (ix2 r j) := by
  refine Eq.trans ?_ (last_apply _ r j)
  rw [outsAt0_C m c t (by omega) (by omega) h2]
  dsimp only
  frame_out

theorem left (t : Fin cfg0.N) (h2 : t.val % 4 = 3) (r : Fin 512) (j R : Fin 1024) (hR : R.val = 512 * (t.val / 4) + r.val) :
    (outsAt0 m c t.val t.isLt).1 (ix2 r j) = entry (A0 m c) (A1 m c) R j := by
  have ht : t.val < 8 := lt_of_lt_of_eq t.isLt N_0
  rw [stored m c t h2, Pipeline.eq_sum_fin_of_reset_step_of_flush (fun n h => (outsAt0 m c n h).2 (ix2 r j)) 4 0
    (fun t => term m c t r j) (fun t h => by rw [zero_add]; exact scratch_A m c t h r j) (fun t h => scratch_S m c t h r j) t h2, zero_add]
  unfold term entry
  refine Fin.sum_mul_add_congr fun s p h => ?_
  exact congr_arg₂ (· * ·) (iblk0 m c _ r p R _ (by (try dsimp only); omega) (by (try dsimp only); omega))
    (iblk1 m c _ p j _ (by (try dsimp only); omega))

/-- The result array after the run. -/
theorem out_result : (dats m 0 c).arrAt 2 cfg0.N = result (A0 m c) (A1 m c) := by
  refine (dats m 0 c).arrAt_eq_of_covers 2 _ (by decide +kernel) fun t hf y => ?_
  obtain ⟨-, -, e2⟩ := idx t
  rw [after0_2]
  have hy0 : (y 0).val < 512 := (y 0).isLt
  have hy1 : (y 1).val < 1024 := (y 1).isLt
  have ht : t.val < 8 := lt_of_lt_of_eq t.isLt N_0
  have hi : (((cfg0.win 2).blk t).view.emb y) = ix2 (⟨512 * (t.val / 4) + (y 0).val, by omega⟩ : Fin 1024) (⟨(y 1).val, hy1⟩ : Fin 1024) := by
    refine idx2 _ _ _ ?_ ?_ <;> blk_simp [e2] <;> (try dsimp only) <;> omega
  rw [hi, result]
  refine Eq.trans ?_ (left m c t ((flush0_2 t).mp hf) ⟨(y 0).val, hy0⟩ ⟨(y 1).val, hy1⟩ _ rfl)
  blk_simp
  blk_ext

end Kernel

/-- The reference runs and leaves its arguments as they were. -/
theorem frame_reference : quiescent_Reference20Ideal := fun m g _ =>
  (θ_run _ _ _).mono (fun r h => ⟨fun c => (h c).2, sem_eq_zero_of_no_sems (by decide) r.2⟩)
    (Cert.Reference20Ideal.Value.run m g)

/-- Kernel and reference end with equal results. -/
theorem value : algebraic_Kernel20Ideal_Reference20Ideal := by
  pair_intro
  · run_from Cert.Kernel20Ideal.Value.run_blocks m g
  · refine θ_run_mono (Cert.Reference20Ideal.Value.run m' g') fun r hr c => ?_
    obtain ⟨h0, h1⟩ := hr c
    obtain ⟨a0, a1⟩ := hagree c
    refine ⟨h0.trans ?_, h1⟩
    rw [a0, a1, Cert.Reference20Ideal.Read.val_main_v2_eq]
    exact (ref_result _ _).trans (out_result m c).symm

end Cert.Kvf

end
-- ==== Proof.KvwClaim.lean ====
/- The gradient of the memory's weight: entry `(p, j)` is `∑ n, X n p * D n j` over the memory's rows `n`. Kernel and reference end
   with the same array, with no condition on the arguments. -/
module

public import proofs.«01_k».proof.Defs
public import proofs.«01_k».proof.Proof.Gen.Kernel21Ideal.Run
public import proofs.«01_k».proof.Proof.Gen.Reference21Ideal.Read
public import proofs.«01_k».proof.Proof.Gen.Reference21Ideal.Run
public import proofs.«01_k».proof.Proof.Loads
public import proofs.«01_k».proof.Proof.RmsMath
public import Idealize.ShloMosaic.Lib.Pipeline.ValueKit
public import Idealize.ShloMosaic.Lib.Pointwise
public import Idealize.ShloMosaic.Adequacy
public import Idealize.ShloMosaic.Init

@[expose] public section

noncomputable section

namespace Cert.Kvw

open Cert.Loads Idealize.ShloMosaic

/-- One entry, and the result as a function of the two arrays. -/
def entry (X D : (⟨2, ![1024, 1024]⟩ : Shape).Idx → EReal) (p j : Fin 1024) : EReal := ∑ n : Fin 1024, X (ix2 n p) * D (ix2 n j)
@[irreducible] def wgrad (X D : (⟨2, ![1024, 1024]⟩ : Shape).Idx → EReal) : (⟨2, ![1024, 1024]⟩ : Shape).Idx → EReal := fun i => entry X D (i 0) (i 1)

section Ref

open Cert.Reference21Ideal Cert.Reference21Ideal.Read

variable (x0 : (⟨S1024x1024, .bf16⟩ : BufTy).Contents (Elt Ideal)) (x1 : (⟨S1024x1024, .f32⟩ : BufTy).Contents (Elt Ideal))

theorem ref_entry (p j : Fin 1024) : val_main_v5 x0 x1 (ix2 p j) = entry x0 x1 p j := by
  unfold entry val_main_v5 val_main_v4 val_main_v3 val_main_v1
  pointwise
  exact Finset.sum_congr rfl fun n _ => mul_comm _ _

/-- The reference's result. -/
theorem ref_result : val_main_v5 x0 x1 = wgrad x0 x1 := by
  funext i
  obtain ⟨p, j, rfl⟩ : ∃ (p j : Fin 1024), i = ix2 p j := ⟨i 0, i 1, idx2 _ _ _ rfl rfl⟩
  unfold wgrad
  exact ref_entry x0 x1 p j

end Ref

section Kernel

open Idealize.ShloMosaic.TcCoe Idealize.SL.Sem Cert.Kernel21Ideal Cert.Kernel21Ideal.Gen

/-- One block's product. -/
theorem prod_apply (x : Vec Ideal S1024x256 .bf16) (d : Vec Ideal S1024x1024 .f32) (p : Fin 256) (j : Fin 1024) :
    (k0_pay1 x d : FVec Ideal S1x256x1024 .bf16) (ix3 0 p j) = ∑ n : Fin 1024, x (ix2 n p) * d (ix2 n j) := by
  unfold k0_pay1
  pointwise
  (try rfl)

theorem out2 (x0 : Vec Ideal S1024x256 .bf16) (x1 : Vec Ideal S1024x1024 .f32) (p : Fin 256) (j : Fin 1024) :
    out0_2 x0 x1 (ix3 0 p j) = ∑ n : Fin 1024, x0 (ix2 n p) * x1 (ix2 n j) := by
  unfold out0_2
  canon_tiles x w
  rw [idx3 x 0 p j (by simpa using w0.symm) (by simpa using w1.symm) (by simpa using w2.symm), prod_apply]
  exact Finset.sum_congr rfl fun n _ => congr_arg₂ (· * ·) (ld2 x0 0 0 _ n p n p (by simp) (by simp))
    (ld2 x1 0 0 _ n j n j (by simp) (by simp))

variable (m : (ℓ : Loc nD τ sig) → Buf (Elt Ideal) ℓ) (c : Dev nD)

/-- The argument arrays as launched. -/
abbrev A0 : (⟨2, ![1024, 1024]⟩ : Shape).Idx → EReal := m ((c : Thread nD τ).loc main_arg0)
abbrev A1 : (⟨2, ![1024, 1024]⟩ : Shape).Idx → EReal := m ((c : Thread nD τ).loc main_arg1)

theorem idx : ∀ t : Fin cfg0.N, win0_0.index t = ![0, t.val] ∧ win0_1.index t = ![0, 0] ∧ win0_2.index t = ![t.val, 0, 0] :=
  (by decide +kernel : ∀ t : Fin grid0.N, win0_0.index t = ![0, t.val] ∧ win0_1.index t = ![0, 0] ∧ win0_2.index t = ![t.val, 0, 0])

/-- The blocks a point holds. -/
abbrev X0 (t : Fin cfg0.N) : Vec Ideal S1024x256 .bf16 := iblk m c 0 t
abbrev X1 (t : Fin cfg0.N) : Vec Ideal S1024x1024 .f32 := iblk m c 1 t

theorem iblk0 (t : Fin cfg0.N) (n : Fin 1024) (p : Fin 256) (P : Fin 1024) (hP : P.val = 256 * t.val + p.val) :
    X0 m c t (ix2 n p) = A0 m c (ix2 n P) := by
  obtain ⟨e0, -⟩ := idx t
  blk_ext [iblk, V, e0]

theorem iblk1 (t : Fin cfg0.N) (n j : Fin 1024) : X1 m c t (ix2 n j) = A1 m c (ix2 n j) := by
  obtain ⟨-, e0, -⟩ := idx t
  blk_ext [iblk, V, e0]

/-- The region's result array after the run: each chip's part of the gradient. -/
theorem out_w (k : Fin 4) (p : Fin 256) (j P : Fin 1024) (hP : P.val = 256 * k.val + p.val) :
    (dats m 0 c).arrAt 2 cfg0.N (ix3 k p j) = entry (A0 m c) (A1 m c) P j := by
  have key : (dats m 0 c).arrAt 2 cfg0.N = fun y => entry (A0 m c) (A1 m c)
      ⟨256 * (y 0).val + (y 1).val, by have := (y 0).isLt; have := (y 1).isLt; simp at *; omega⟩
      ⟨(y 2).val, by have := (y 0).isLt; have := (y 2).isLt; simp at *; omega⟩ := by
    refine (dats m 0 c).arrAt_eq_of_covers 2 _ (by decide +kernel) fun t hf y => ?_
    obtain ⟨-, -, e2⟩ := idx t
    rw [after0_2]
    have hy0 : (y 0).val < 1 := (y 0).isLt
    have hy1 : (y 1).val < 256 := (y 1).isLt
    have hy2 : (y 2).val < 1024 := (y 2).isLt
    have ht : t.val < 4 := lt_of_lt_of_eq t.isLt N_0
    have key := out2 (X0 m c t) (X1 m c t) ⟨(y 1).val, hy1⟩ ⟨(y 2).val, hy2⟩
    refine Eq.trans ?_ (key.trans (?_ : _ = entry (A0 m c) (A1 m c) _ _))
    · blk_simp
      exact congrArg (out0_2 (iblk m c 0 t) (iblk m c 1 t)) (idx3 _ _ _ _ (by simp) rfl rfl)
    · unfold entry
      refine Finset.sum_congr rfl fun n _ => congr_arg₂ (· * ·) (iblk0 m c t n _ _ ?_) ((iblk1 m c t n _).trans ?_)
      · blk_simp [e2]; (try dsimp only); (try omega)
      · refine congrArg (fun q => A1 m c (ix2 n q)) (Fin.ext ?_)
        blk_simp [e2]; (try dsimp only); (try omega)
  rw [key]
  exact congr_arg₂ (entry (A0 m c) (A1 m c)) (Fin.ext (by simpa using hP.symm)) (Fin.ext rfl)

/-- The kernel's result, the chips' parts laid under one another. -/
theorem laid : shapeCast _ (Value.reg_main_v0 m c) shapeCasts_S4x256x1024_S1024x1024 = wgrad (A0 m c) (A1 m c) := by
  funext y
  obtain ⟨P, j, rfl⟩ : ∃ (P j : Fin 1024), y = ix2 P j := ⟨y 0, y 1, Loads.idx2 _ _ _ rfl rfl⟩
  unfold wgrad
  have hP := P.isLt
  refine Eq.trans ?_ (out_w m c ⟨P.val / 256, by omega⟩ ⟨P.val % 256, by omega⟩ j P (by dsimp only; omega))
  exact Loads.castRows (a := 4) (b := 256) _ _ P j _ _ (by dsimp only; omega)

/-- The kernel runs and ends with that gradient, its arguments unchanged. -/
theorem run (g : Dev nD → PrngReg) :
    θ_run defs (onTc (τ := τ) (main (F := Ideal))) ⟨m, fun _ => 0, g⟩ fun r => ∀ c : Dev nD,
      r.2.mem ((c.tc : Thread nD τ).loc main_v1) = wgrad (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (laid m c), (h c).2⟩) (Value.run m g)

end Kernel

/-- The reference runs and leaves its arguments as they were. -/
theorem frame_reference : quiescent_Reference21Ideal := fun m g _ =>
  (θ_run _ _ _).mono (fun r h => ⟨fun c => (h c).2, sem_eq_zero_of_no_sems (by decide) r.2⟩)
    (Cert.Reference21Ideal.Value.run m g)

/-- Kernel and reference end with equal results. -/
theorem value : algebraic_Kernel21Ideal_Reference21Ideal := by
  pair_intro
  · run_from run m g
  · refine θ_run_mono (Cert.Reference21Ideal.Value.run m' g') fun r hr c => ?_
    obtain ⟨h0, h1⟩ := hr c
    obtain ⟨a0, a1⟩ := hagree c
    refine ⟨h0.trans ?_, h1⟩
    rw [a0, a1, Cert.Reference21Ideal.Read.val_main_v5_eq]
    exact ref_result _ _

end Cert.Kvw

end
-- ==== Proof.KvdClaim.lean ====
/- The gradient of the normed memory through the product with the memory's weight: entry `(i, p)` is `∑ j, D i j * W p j`. Kernel
   and reference end with the same array, with no condition on the arguments. -/
module

public import proofs.«01_k».proof.Defs
public import proofs.«01_k».proof.Proof.Gen.Kernel22Ideal.Value
public import proofs.«01_k».proof.Proof.Gen.Reference22Ideal.Read
public import proofs.«01_k».proof.Proof.Gen.Reference22Ideal.Run
public import proofs.«01_k».proof.Proof.Loads
public import proofs.«01_k».proof.Proof.RmsMath
public import Idealize.ShloMosaic.Lib.Pipeline.ValueKit
public import Idealize.ShloMosaic.Lib.Pointwise
public import Idealize.ShloMosaic.Adequacy
public import Idealize.ShloMosaic.Init

@[expose] public section

noncomputable section

namespace Cert.Kvd

open Cert.Loads Idealize.ShloMosaic

/-- The result as a function of the two arrays. -/
def result (X W : (⟨2, ![1024, 1024]⟩ : Shape).Idx → EReal) : (⟨2, ![1024, 1024]⟩ : Shape).Idx → EReal := fun i => ∑ j : Fin 1024, X (ix2 (i 0) j) * W (ix2 (i 1) j)

section Ref

open Cert.Reference22Ideal Cert.Reference22Ideal.Read

variable (x0 x1 : (⟨S1024x1024, .f32⟩ : BufTy).Contents (Elt Ideal))

/-- The reference's result. -/
theorem ref_result : val_main_v2 x0 x1 = result x0 x1 := by
  funext i
  obtain ⟨r, e, rfl⟩ : ∃ (r e : Fin 1024), i = ix2 r e := ⟨i 0, i 1, idx2 _ _ _ rfl rfl⟩
  unfold result val_main_v2
  pointwise
  (try rfl)

end Ref

section Kernel

open Idealize.ShloMosaic.TcCoe Idealize.SL.Sem Cert.Kernel22Ideal Cert.Kernel22Ideal.Gen

/-- One block's product. -/
theorem prod_apply (x : Vec Ideal S512x1024 .f32) (w : Vec Ideal S1x256x1024 .bf16) (r : Fin 512) (p : Fin 256) :
    k0_pay1 x w (ix2 r p) = ∑ j : Fin 1024, x (ix2 r j) * w (ix3 0 p j) := by
  unfold k0_pay1
  pointwise
  (try rfl)

theorem out2 (x0 : Vec Ideal S512x1024 .f32) (x1 : Vec Ideal S1x256x1024 .bf16) (r : Fin 512) (p : Fin 256) :
    out0_2 x0 x1 (ix2 r p) = ∑ j : Fin 1024, x0 (ix2 r j) * x1 (ix3 0 p j) := by
  unfold out0_2
  canon_tiles x w
  rw [idx2 x r p (by simpa using w0.symm) (by simpa using w1.symm), prod_apply]
  exact Finset.sum_congr rfl fun j _ => congr_arg₂ (· * ·) (ld2 x0 0 0 _ r j r j (by simp) (by simp))
    (ld3 x1 0 0 0 _ 0 p j 0 p j (by simp) (by simp) (by simp))

variable (m : (ℓ : Loc nD τ sig) → Buf (Elt Ideal) ℓ) (c : Dev nD)

/-- The argument arrays as launched. -/
abbrev A0 : (⟨2, ![1024, 1024]⟩ : Shape).Idx → EReal := m ((c : Thread nD τ).loc main_arg0)
abbrev A1 : (⟨2, ![1024, 1024]⟩ : Shape).Idx → EReal := m ((c : Thread nD τ).loc main_arg1)

/-- The weight as the host lays it out: chip `k` holds rows `256 k` to `256 k + 255`. -/
theorem entry_w (k : Fin 4) (p : Fin 256) (j P : Fin 1024) (hP : P.val = 256 * k.val + p.val) :
    V m c main_v1 (ix3 k p j) = A1 m c (ix2 P j) := by
  unfold V
  after_results
  dsimp only
  pointwise
  blk_ext

theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, win0_0.index t = ![t.val / 4, 0] ∧ win0_1.index t = ![t.val % 4, 0, 0] ∧ win0_2.index t = ![t.val / 4, t.val % 4])

/-- The blocks a point holds. -/
abbrev X0 (t : Fin cfg0.N) : Vec Ideal S512x1024 .f32 := iblk m c 0 t
abbrev X1 (t : Fin cfg0.N) : Vec Ideal S1x256x1024 .bf16 := iblk m c 1 t

theorem iblk0 (t : Fin cfg0.N) (r : Fin 512) (j : Fin 1024) (R : Fin 1024) (hR : R.val = 512 * (t.val / 4) + r.val) :
    X0 m c t (ix2 r j) = A0 m c (ix2 R j) := by
  obtain ⟨e0, -⟩ := idx t
  blk_ext [iblk, V, e0]

theorem iblk1 (t : Fin cfg0.N) (p : Fin 256) (j P : Fin 1024) (hP : P.val = 256 * (t.val % 4) + p.val) :
    X1 m c t (ix3 0 p j) = A1 m c (ix2 P j) := by
  obtain ⟨-, e0, -⟩ := idx t
  rw [← entry_w m c ⟨t.val % 4, by omega⟩ p j P hP]
  blk_ext [iblk, e0]

/-- The result array after the run. -/
theorem out_result : (dats m 0 c).arrAt 2 cfg0.N = result (A0 m c) (A1 m c) := by
  refine (dats m 0 c).arrAt_eq_of_covers 2 _ (by decide +kernel) fun t hf y => ?_
  obtain ⟨-, -, e2⟩ := idx t
  rw [after0_2]
  have hy0 : (y 0).val < 512 := (y 0).isLt
  have hy1 : (y 1).val < 256 := (y 1).isLt
  have ht : t.val < 8 := lt_of_lt_of_eq t.isLt N_0
  have key := out2 (X0 m c t) (X1 m c t) ⟨(y 0).val, hy0⟩ ⟨(y 1).val, hy1⟩
  have hi : (((cfg0.win 2).blk t).view.emb y) = ix2 (⟨512 * (t.val / 4) + (y 0).val, by omega⟩ : Fin 1024)
      (⟨256 * (t.val % 4) + (y 1).val, by omega⟩ : Fin 1024) := by
    refine idx2 _ _ _ ?_ ?_ <;> blk_simp [e2] <;> (try dsimp only) <;> omega
  rw [hi, result]
  refine Eq.trans ?_ (key.trans ?_)
  · blk_simp
    exact congrArg (out0_2 (iblk m c 0 t) (iblk m c 1 t)) (idx2 _ _ _ rfl rfl)
  · exact Finset.sum_congr rfl fun j _ => congr_arg₂ (· * ·) (iblk0 m c t _ j _ rfl) (iblk1 m c t _ j _ rfl)

end Kernel

/-- The reference runs and leaves its arguments as they were. -/
theorem frame_reference : quiescent_Reference22Ideal := fun m g _ =>
  (θ_run _ _ _).mono (fun r h => ⟨fun c => (h c).2, sem_eq_zero_of_no_sems (by decide) r.2⟩)
    (Cert.Reference22Ideal.Value.run m g)

/-- Kernel and reference end with equal results. -/
theorem value : algebraic_Kernel22Ideal_Reference22Ideal := by
  pair_intro
  · run_from Cert.Kernel22Ideal.Value.run_blocks m g
  · refine θ_run_mono (Cert.Reference22Ideal.Value.run m' g') fun r hr c => ?_
    obtain ⟨h0, h1⟩ := hr c
    obtain ⟨a0, a1⟩ := hagree c
    refine ⟨h0.trans ?_, h1⟩
    rw [a0, a1, Cert.Reference22Ideal.Read.val_main_v2_eq]
    exact (ref_result _ _).trans (out_result m c).symm

end Cert.Kvd

end
-- ==== Proof.MemgClaim.lean ====
/- The gradient of the memory norm's scale: entry `e` is `∑ R, D R e * (X R e * rstd (X R))` over the memory's rows. The grid walks two
   tiles of 512 rows and adds their parts in its block. Kernel and reference end with the same array, with no condition on the
   arguments. -/
module

public import proofs.«01_k».proof.Defs
public import proofs.«01_k».proof.Proof.Gen.Kernel23Ideal.Run
public import proofs.«01_k».proof.Proof.Gen.Reference23Ideal.Read
public import proofs.«01_k».proof.Proof.Gen.Reference23Ideal.Run
public import proofs.«01_k».proof.Proof.Loads
public import proofs.«01_k».proof.Proof.RmsMath
public import Idealize.ShloMosaic.Lib.Pipeline.ValueKit
public import Idealize.ShloMosaic.Lib.Pointwise
public import Idealize.ShloMosaic.Adequacy
public import Idealize.ShloMosaic.Init

@[expose] public section

noncomputable section

namespace Cert.Memg

open Cert.Loads Cert.Rms Idealize.ShloMosaic

/-- One entry, and the result as a function of the two arrays. -/
def entry (X D : (⟨2, ![1024, 1024]⟩ : Shape).Idx → EReal) (e : Fin 1024) : EReal := ∑ R : Fin 1024, D (ix2 R e) * (X (ix2 R e) * rstd fun e => X (ix2 R e))
@[irreducible] def dg (X D : (⟨2, ![1024, 1024]⟩ : Shape).Idx → EReal) : (⟨1, ![1024]⟩ : Shape).Idx → EReal := fun y => entry X D (y 0)

section Ref

open Cert.Reference23Ideal Cert.Reference23Ideal.Read

variable (x0 x1 : (⟨S1024x1024, .f32⟩ : BufTy).Contents (Elt Ideal))

theorem ref_rstd (R : Fin 1024) : val_main_v8 x0 (ix2 R 0) = rstd fun e => x0 (ix2 R e) := by
  unfold rstd var val_main_v8 val_main_v7 val_main_v6 val_main_cst_2 val_main_v5 val_main_v4 val_main_cst_1 val_main_v3 val_main_v2
    val_main_cst_0 val_main_v1
  pointwise

theorem ref_entry (e : Fin 1024) : val_main_v17 x0 x1 (ix1 e) = entry x0 x1 e := by
  unfold entry
  simp only [← ref_rstd]
  unfold val_main_v17 val_main_cst_4 val_main_v16 val_main_v15 val_main_cst_3 val_main_v14 val_main_v10 val_main_v9
  pointwise
  rw [Fin.sum_univ_one]
  exact Finset.sum_congr rfl fun R _ => mul_comm _ _

/-- The reference's result. -/
theorem ref_result : val_main_v17 x0 x1 = dg x0 x1 := by
  funext y
  obtain ⟨e, rfl⟩ : ∃ e : Fin 1024, y = ix1 e := ⟨y 0, by funext q; obtain rfl : q = 0 := Subsingleton.elim _ _; rfl⟩
  unfold dg
  exact ref_entry x0 x1 e

end Ref

section Kernel

open Idealize.ShloMosaic.TcCoe Idealize.SL.Sem Cert.Kernel23Ideal Cert.Kernel23Ideal.Gen

/-- A tile's part. -/
theorem part_apply (x d : Vec Ideal S512x1024 .f32) (e : Fin 1024) :
    k0_pay1 x d (ix2 0 e) = ∑ r : Fin 512, d (ix2 r e) * (x (ix2 r e) * rstd fun e => x (ix2 r e)) := by
  unfold k0_pay1 rstd var
  pointwise

theorem next_apply (x d : Vec Ideal S512x1024 .f32) (a : Vec Ideal S1x1024 .f32) (e : Fin 1024) :
    k0_pay2 x d a (ix2 0 e) = a (ix2 0 e) + k0_pay1 x d (ix2 0 e) := by
  unfold k0_pay2
  pointwise

variable (m : (ℓ : Loc nD τ sig) → Buf (Elt Ideal) ℓ) (c : Dev nD)

/-- The argument arrays as launched. -/
abbrev A0 : (⟨2, ![1024, 1024]⟩ : Shape).Idx → EReal := m ((c : Thread nD τ).loc main_arg0)
abbrev A1 : (⟨2, ![1024, 1024]⟩ : Shape).Idx → EReal := m ((c : Thread nD τ).loc main_arg1)

theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

/-- The blocks a point holds. -/
abbrev X0 (t : Fin cfg0.N) : Vec Ideal S512x1024 .f32 := iblk m c 0 t
abbrev X1 (t : Fin cfg0.N) : Vec Ideal S512x1024 .f32 := iblk m c 1 t

theorem iblk0 (t : Fin cfg0.N) (r : Fin 512) (e R : Fin 1024) (hR : R.val = 512 * t.val + r.val) :
    X0 m c t (ix2 r e) = A0 m c (ix2 R e) := by
  obtain ⟨e0, -⟩ := idx t
  blk_ext [iblk, V, e0]

theorem iblk1 (t : Fin cfg0.N) (r : Fin 512) (e R : Fin 1024) (hR : R.val = 512 * t.val + r.val) :
    X1 m c t (ix2 r e) = A1 m c (ix2 R e) := by
  obtain ⟨-, e0, -⟩ := idx t
  blk_ext [iblk, V, e0]

/-- The first tile sets the block, -/
theorem block_A (t : Fin cfg0.N) (h0 : t.val % 2 = 0) (e : Fin 1024) :
    outsAt0 m c t.val t.isLt (ix2 0 e) = k0_pay1 (X0 m c t) (X1 m c t) (ix2 0 e) := by
  rw [outsAt0_A m c t h0 (by omega)]
  (try dsimp only)
  frame_out

/-- a later one adds to it. -/
theorem block_S (t : Fin cfg0.N) (h0 : ¬t.val % 2 = 0) (e : Fin 1024) : outsAt0 m c t.val t.isLt (ix2 0 e)
    = outsAt0 m c (t.val - 1) (Nat.lt_of_le_of_lt (Nat.sub_le _ _) t.isLt) (ix2 0 e) + k0_pay1 (X0 m c t) (X1 m c t) (ix2 0 e) := by
  rw [outsAt0_B m c t h0 (by omega), ← next_apply]
  (try dsimp only)
  frame_out

theorem block_entry (t : Fin cfg0.N) (h2 : t.val % 2 = 1) (e : Fin 1024) :
    outsAt0 m c t.val t.isLt (ix2 0 e) = entry (A0 m c) (A1 m c) e := by
  have ht : t.val < 2 := lt_of_lt_of_eq t.isLt N_0
  rw [Pipeline.eq_sum_fin_of_reset_step_of_flush (fun n h => outsAt0 m c n h (ix2 0 e)) 2 0
    (fun t => k0_pay1 (X0 m c t) (X1 m c t) (ix2 0 e)) (fun t h => by rw [zero_add]; exact block_A m c t h e)
    (fun t h => block_S m c t h e) t h2, zero_add]
  simp only [part_apply]
  unfold entry
  refine Fin.sum_mul_add_congr fun s r h => ?_
  refine congr_arg₂ (· * ·) (iblk1 m c _ r e _ ?_) (congr_arg₂ (· * ·) (iblk0 m c _ r e _ ?_) (congrArg rstd (funext fun e =>
    iblk0 m c _ r e _ ?_))) <;> (try dsimp only) <;> omega

/-- The result array after the run. -/
theorem out_dg : (dats m 0 c).arrAt 2 cfg0.N = fun y => entry (A0 m c) (A1 m c) (y 1) := by
  refine (dats m 0 c).arrAt_eq_of_covers 2 _ (by decide +kernel) fun t hf y => ?_
  obtain ⟨-, -, e2⟩ := idx t
  rw [after0_2]
  have hy0 : (y 0).val < 1 := (y 0).isLt
  have hy1 : (y 1).val < 1024 := (y 1).isLt
  have hi : (((cfg0.win 2).blk t).view.emb y) = ix2 (0 : Fin 1) (⟨(y 1).val, hy1⟩ : Fin 1024) := by
    refine idx2 _ _ _ ?_ ?_ <;> blk_simp [e2] <;> (try dsimp only) <;> omega
  rw [hi]
  refine Eq.trans ?_ (block_entry m c t ((flush0_2 t).mp hf) ⟨(y 1).val, hy1⟩)
  blk_simp
  blk_ext

theorem laid : shapeCast _ (Value.reg_main_v0 m c) shapeCasts_S1x1024_S1024 = dg (A0 m c) (A1 m c) := by
  funext y
  obtain ⟨e, rfl⟩ : ∃ e : Fin 1024, y = ix1 e := ⟨y 0, by funext q; obtain rfl : q = 0 := Subsingleton.elim _ _; rfl⟩
  unfold dg
  refine Eq.trans ?_ (congrFun (out_dg m c) (ix2 0 e))
  unfold Value.reg_main_v0
  pointwise
  all_goals blk_ext

/-- The kernel runs and ends with that gradient, its arguments unchanged. -/
theorem run (g : Dev nD → PrngReg) :
    θ_run defs (onTc (τ := τ) (main (F := Ideal))) ⟨m, fun _ => 0, g⟩ fun r => ∀ c : Dev nD,
      r.2.mem ((c.tc : Thread nD τ).loc main_v1) = dg (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (laid m c), (h c).2⟩) (Value.run m g)

end Kernel

/-- The reference runs and leaves its arguments as they were. -/
theorem frame_reference : quiescent_Reference23Ideal := fun m g _ =>
  (θ_run _ _ _).mono (fun r h => ⟨fun c => (h c).2, sem_eq_zero_of_no_sems (by decide) r.2⟩)
    (Cert.Reference23Ideal.Value.run m g)

/-- Kernel and reference end with equal results. -/
theorem value : algebraic_Kernel23Ideal_Reference23Ideal := by
  pair_intro
  · run_from run m g
  · refine θ_run_mono (Cert.Reference23Ideal.Value.run m' g') fun r hr c => ?_
    obtain ⟨h0, h1⟩ := hr c
    obtain ⟨a0, a1⟩ := hagree c
    refine ⟨h0.trans ?_, h1⟩
    rw [a0, a1, Cert.Reference23Ideal.Read.val_main_v17_eq]
    exact ref_result _ _

end Cert.Memg

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel2Ideal.Run
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Run
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Run
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Run
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Run
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Run
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Run
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Run
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Run
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Run
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Run
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Run
public import proofs.«01_k».proof.Proof.Gen.Reference23Ideal.Run
public import proofs.«01_k».proof.Proof.Gen.Reference23Ideal.Read
public import proofs.«01_k».proof.Proof.MemClaim
public import proofs.«01_k».proof.Proof.Ff1Claim
public import proofs.«01_k».proof.Proof.Ff2Claim
public import proofs.«01_k».proof.Proof.Ff2wClaim
public import proofs.«01_k».proof.Proof.Ff1wClaim
public import proofs.«01_k».proof.Proof.InwClaim
public import proofs.«01_k».proof.Proof.MergeClaim
public import proofs.«01_k».proof.Proof.MixClaim
public import proofs.«01_k».proof.Proof.InpClaim
public import proofs.«01_k».proof.Proof.FfpClaim
public import proofs.«01_k».proof.Proof.FfoClaim
public import proofs.«01_k».proof.Proof.MergefClaim
public import proofs.«01_k».proof.Proof.MemfClaim
public import proofs.«01_k».proof.Proof.AdinClaim
public import proofs.«01_k».proof.Proof.AdffClaim
public import proofs.«01_k».proof.Proof.AdroClaim
public import proofs.«01_k».proof.Proof.AdcoClaim
public import proofs.«01_k».proof.Proof.LossClaim
public import proofs.«01_k».proof.Proof.MemnClaim
public import proofs.«01_k».proof.Proof.KvfClaim
public import proofs.«01_k».proof.Proof.KvwClaim
public import proofs.«01_k».proof.Proof.KvdClaim
public import proofs.«01_k».proof.Proof.MemgClaim

@[expose] public section

noncomputable section

namespace Cert.Proof

open Idealize.ShloMosaic

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Mem.pre_facts,
    fun m g _ => Cert.Kernel.Gen.frame m g,
    fun m g _ => Cert.KernelIdeal.Gen.frame m g,
    fun m g _ => Cert.KernelIdeal.Gen.frame m g,
    Cert.Mem.frame_reference,
    fun m g _ => Cert.Mem.frame_reference m g trivial,
    fun m g _ => Cert.Kernel2.Gen.frame m g, fun m g _ => Cert.Kernel2Ideal.Gen.frame m g, Cert.Ff1.frame_reference,
    fun m g _ => Cert.Kernel3.Gen.frame m g, fun m g _ => Cert.Kernel3Ideal.Gen.frame m g, Cert.Ff2.frame_reference,
    fun m g _ => Cert.Kernel4.Gen.frame m g, fun m g _ => Cert.Kernel4Ideal.Gen.frame m g, Cert.Ff2w.frame_reference,
    fun m g _ => Cert.Kernel5.Gen.frame m g, fun m g _ => Cert.Kernel5Ideal.Gen.frame m g, Cert.Ff1w.frame_reference,
    fun m g _ => Cert.Kernel6.Gen.frame m g, fun m g _ => Cert.Kernel6Ideal.Gen.frame m g, Cert.Inw.frame_reference,
    fun m g _ => Cert.Kernel7.Gen.frame m g, fun m g _ => Cert.Kernel7Ideal.Gen.frame m g, Cert.Merge.frame_reference,
    fun m g _ => Cert.Kernel8.Gen.frame m g, fun m g _ => Cert.Kernel8Ideal.Gen.frame m g, Cert.Mix.frame_reference,
    fun m g _ => Cert.Kernel9.Gen.frame m g, fun m g _ => Cert.Kernel9Ideal.Gen.frame m g, Cert.Inp.frame_reference,
    fun m g _ => Cert.Kernel10.Gen.frame m g, fun m g _ => Cert.Kernel10Ideal.Gen.frame m g, Cert.Ffp.frame_reference,
    fun m g _ => Cert.Kernel11.Gen.frame m g, fun m g _ => Cert.Kernel11Ideal.Gen.frame m g, Cert.Ffo.frame_reference,
    fun m g _ => Cert.Kernel12.Gen.frame m g, fun m g _ => Cert.Kernel12Ideal.Gen.frame m g, Cert.Mergef.frame_reference,
    fun m g _ => Cert.Kernel13.Gen.frame m g, fun m g _ => Cert.Kernel13Ideal.Gen.frame m g, Cert.Memf.frame_reference,
    fun m g _ => Cert.Kernel14.Gen.frame m g, fun m g _ => Cert.Kernel14Ideal.Gen.frame m g, Cert.Adin.frame_reference,
    fun m g _ => Cert.Kernel15.Gen.frame m g, fun m g _ => Cert.Kernel15Ideal.Gen.frame m g, Cert.Adff.frame_reference,
    fun m g _ => Cert.Kernel16.Gen.frame m g, fun m g _ => Cert.Kernel16Ideal.Gen.frame m g, Cert.Adro.frame_reference,
    fun m g _ => Cert.Kernel17.Gen.frame m g, fun m g _ => Cert.Kernel17Ideal.Gen.frame m g, Cert.Adco.frame_reference,
    fun m g _ => Cert.Kernel18.Gen.frame m g, fun m g _ => Cert.Kernel18Ideal.Gen.frame m g, Cert.Loss.frame_reference,
    fun m g _ => Cert.Kernel19.Gen.frame m g, fun m g _ => Cert.Kernel19Ideal.Gen.frame m g, Cert.Memn.frame_reference,
    fun m g _ => Cert.Kernel20.Gen.frame m g, fun m g _ => Cert.Kernel20Ideal.Gen.frame m g, Cert.Kvf.frame_reference,
    fun m g _ => Cert.Kernel21.Gen.frame m g, fun m g _ => Cert.Kernel21Ideal.Gen.frame m g, Cert.Kvw.frame_reference,
    fun m g _ => Cert.Kernel22.Gen.frame m g, fun m g _ => Cert.Kernel22Ideal.Gen.frame m g, Cert.Kvd.frame_reference,
    fun m g _ => Cert.Kernel23.Gen.frame m g, fun m g _ => Cert.Kernel23Ideal.Gen.frame m g, Cert.Memg.frame_reference,
    trivial, Cert.Mem.value,
    trivial, Cert.Ff1.value,
    trivial, Cert.Ff2.value,
    trivial, Cert.Ff2w.value,
    trivial, Cert.Ff1w.value,
    trivial, Cert.Inw.value,
    trivial, Cert.Merge.value,
    trivial, Cert.Mix.value,
    trivial, Cert.Inp.value,
    trivial, Cert.Ffp.value,
    trivial, Cert.Ffo.value,
    trivial, Cert.Mergef.value,
    trivial, Cert.Memf.value,
    trivial, Cert.Adin.value,
    trivial, Cert.Adff.value,
    trivial, Cert.Adro.value,
    trivial, Cert.Adco.value,
    trivial, Cert.Loss.value,
    trivial, Cert.Memn.value,
    trivial, Cert.Kvf.value,
    trivial, Cert.Kvw.value,
    trivial, Cert.Kvd.value,
    trivial, Cert.Memg.value⟩

end Cert.Proof

end
